-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_WupGrad (m : (ℓ : Loc Cert.WupGrad.nD Cert.WupGrad.τ Cert.WupGrad.sig) → Buf (Elt Bits) ℓ) : Prop :=
  True

def Pre_WupGradIdeal (m : (ℓ : Loc Cert.WupGradIdeal.nD Cert.WupGradIdeal.τ Cert.WupGradIdeal.sig) → Buf (Elt Ideal) ℓ) : Prop :=
  True

def Pre_WupGradRefIdeal (m : (ℓ : Loc Cert.WupGradRefIdeal.nD Cert.WupGradRefIdeal.τ Cert.WupGradRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_WdownGrad (m : (ℓ : Loc Cert.WdownGrad.nD Cert.WdownGrad.τ Cert.WdownGrad.sig) → Buf (Elt Bits) ℓ) : Prop :=
  True

def Pre_WdownGradIdeal (m : (ℓ : Loc Cert.WdownGradIdeal.nD Cert.WdownGradIdeal.τ Cert.WdownGradIdeal.sig) → Buf (Elt Ideal) ℓ) : Prop :=
  True

def Pre_WdownGradRefIdeal (m : (ℓ : Loc Cert.WdownGradRefIdeal.nD Cert.WdownGradRefIdeal.τ Cert.WdownGradRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdIdeal_finite_product [hPre_finite_product : Cert.Pre_finite_product.Facts] (m : (ℓ : Loc Cert.DownBwdIdeal.nD Cert.DownBwdIdeal.τ Cert.DownBwdIdeal.sig) → Buf (Elt Ideal) ℓ) : Prop :=
  ∀ c : Dev Cert.DownBwdIdeal.nD,
    (Cert.Pre_finite_product.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3))) = (fun _ => 1#1)

def Pre_DownBwdRefIdeal (m : (ℓ : Loc Cert.DownBwdRefIdeal.nD Cert.DownBwdRefIdeal.τ Cert.DownBwdRefIdeal.sig) → Buf (Elt Ideal) ℓ) : Prop :=
  True

def Pre_DownBwdRefIdeal_finite_product [hPre_finite_product : Cert.Pre_finite_product.Facts] (m : (ℓ : Loc Cert.DownBwdRefIdeal.nD Cert.DownBwdRefIdeal.τ Cert.DownBwdRefIdeal.sig) → Buf (Elt Ideal) ℓ) : Prop :=
  ∀ c : Dev Cert.DownBwdRefIdeal.nD,
    (Cert.Pre_finite_product.fn (F := Ideal) (m ((c.tc : Thread Cert.DownBwdRefIdeal.nD Cert.DownBwdRefIdeal.τ).loc Cert.DownBwdRefIdeal.main_arg0)) (m ((c.tc : Thread Cert.DownBwdRefIdeal.nD Cert.DownBwdRefIdeal.τ).loc Cert.DownBwdRefIdeal.main_arg1)) (m ((c.tc : Thread Cert.DownBwdRefIdeal.nD Cert.DownBwdRefIdeal.τ).loc Cert.DownBwdRefIdeal.main_arg2)) (m ((c.tc : Thread Cert.DownBwdRefIdeal.nD Cert.DownBwdRefIdeal.τ).loc Cert.DownBwdRefIdeal.main_arg3))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_WoutGrad (m : (ℓ : Loc Cert.WoutGrad.nD Cert.WoutGrad.τ Cert.WoutGrad.sig) → Buf (Elt Bits) ℓ) : Prop :=
  True

def Pre_WoutGradIdeal (m : (ℓ : Loc Cert.WoutGradIdeal.nD Cert.WoutGradIdeal.τ Cert.WoutGradIdeal.sig) → Buf (Elt Ideal) ℓ) : Prop :=
  True

def Pre_WoutGradRefIdeal (m : (ℓ : Loc Cert.WoutGradRefIdeal.nD Cert.WoutGradRefIdeal.τ Cert.WoutGradRefIdeal.sig) → Buf (Elt Ideal) ℓ) : Prop :=
  True

def Pre_WqkvGrad (m : (ℓ : Loc Cert.WqkvGrad.nD Cert.WqkvGrad.τ Cert.WqkvGrad.sig) → Buf (Elt Bits) ℓ) : Prop :=
  True

def Pre_WqkvGradIdeal (m : (ℓ : Loc Cert.WqkvGradIdeal.nD Cert.WqkvGradIdeal.τ Cert.WqkvGradIdeal.sig) → Buf (Elt Ideal) ℓ) : Prop :=
  True

def Pre_WqkvGradRefIdeal (m : (ℓ : Loc Cert.WqkvGradRefIdeal.nD Cert.WqkvGradRefIdeal.τ Cert.WqkvGradRefIdeal.sig) → Buf (Elt Ideal) ℓ) : Prop :=
  True

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_QkvBwdRefIdeal (m : (ℓ : Loc Cert.QkvBwdRefIdeal.nD Cert.QkvBwdRefIdeal.τ Cert.QkvBwdRefIdeal.sig) → Buf (Elt Ideal) ℓ) : Prop :=
  True

def Pre_SguIn (m : (ℓ : Loc Cert.SguIn.nD Cert.SguIn.τ Cert.SguIn.sig) → Buf (Elt Bits) ℓ) : Prop :=
  True

def Pre_SguInIdeal (m : (ℓ : Loc Cert.SguInIdeal.nD Cert.SguInIdeal.τ Cert.SguInIdeal.sig) → Buf (Elt Ideal) ℓ) : Prop :=
  True

def Pre_SguInRefIdeal (m : (ℓ : Loc Cert.SguInRefIdeal.nD Cert.SguInRefIdeal.τ Cert.SguInRefIdeal.sig) → Buf (Elt Ideal) ℓ) : Prop :=
  True

def Pre_SguInBwd (m : (ℓ : Loc Cert.SguInBwd.nD Cert.SguInBwd.τ Cert.SguInBwd.sig) → Buf (Elt Bits) ℓ) : Prop :=
  True

def Pre_SguInBwdIdeal (m : (ℓ : Loc Cert.SguInBwdIdeal.nD Cert.SguInBwdIdeal.τ Cert.SguInBwdIdeal.sig) → Buf (Elt Ideal) ℓ) : Prop :=
  True

def Pre_SguInBwdRefIdeal (m : (ℓ : Loc Cert.SguInBwdRefIdeal.nD Cert.SguInBwdRefIdeal.τ Cert.SguInBwdRefIdeal.sig) → Buf (Elt Ideal) ℓ) : Prop :=
  True

def Pre_SguOutBwd (m : (ℓ : Loc Cert.SguOutBwd.nD Cert.SguOutBwd.τ Cert.SguOutBwd.sig) → Buf (Elt Bits) ℓ) : Prop :=
  True

def Pre_SguOutBwdIdeal (m : (ℓ : Loc Cert.SguOutBwdIdeal.nD Cert.SguOutBwdIdeal.τ Cert.SguOutBwdIdeal.sig) → Buf (Elt Ideal) ℓ) : Prop :=
  True

def Pre_SguOutBwdRefIdeal (m : (ℓ : Loc Cert.SguOutBwdRefIdeal.nD Cert.SguOutBwdRefIdeal.τ Cert.SguOutBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WupGrad [hWupGrad : Cert.WupGrad.Facts] : Prop :=
  ∀ (m : (ℓ : Loc Cert.WupGrad.nD Cert.WupGrad.τ Cert.WupGrad.sig) → Buf (Elt Bits) ℓ) (g : Dev Cert.WupGrad.nD → PrngReg), Pre_WupGrad m →
    θ_run (Cert.WupGrad.defs (F := Bits)) (onTc (τ := Cert.WupGrad.τ) (Cert.WupGrad.main (F := Bits))) ⟨m, fun _ => 0, g⟩ (fun r => (∀ c : Dev Cert.WupGrad.nD,
      r.2.mem ((c.tc : Thread Cert.WupGrad.nD Cert.WupGrad.τ).loc Cert.WupGrad.main_arg0) = m ((c.tc : Thread Cert.WupGrad.nD Cert.WupGrad.τ).loc Cert.WupGrad.main_arg0)
      ∧ r.2.mem ((c.tc : Thread Cert.WupGrad.nD Cert.WupGrad.τ).loc Cert.WupGrad.main_arg1) = m ((c.tc : Thread Cert.WupGrad.nD Cert.WupGrad.τ).loc Cert.WupGrad.main_arg1)
      ∧ r.2.mem ((c.tc : Thread Cert.WupGrad.nD Cert.WupGrad.τ).loc Cert.WupGrad.main_arg2) = m ((c.tc : Thread Cert.WupGrad.nD Cert.WupGrad.τ).loc Cert.WupGrad.main_arg2))
      ∧ r.2.sem = fun _ => 0)

def quiescent_WupGradIdeal [hWupGradIdeal : Cert.WupGradIdeal.Facts] : Prop :=
  ∀ (m : (ℓ : Loc Cert.WupGradIdeal.nD Cert.WupGradIdeal.τ Cert.WupGradIdeal.sig) → Buf (Elt Ideal) ℓ) (g : Dev Cert.WupGradIdeal.nD → PrngReg), Pre_WupGradIdeal m →
    θ_run (Cert.WupGradIdeal.defs (F := Ideal)) (onTc (τ := Cert.WupGradIdeal.τ) (Cert.WupGradIdeal.main (F := Ideal))) ⟨m, fun _ => 0, g⟩ (fun r => (∀ c : Dev Cert.WupGradIdeal.nD,
      r.2.mem ((c.tc : Thread Cert.WupGradIdeal.nD Cert.WupGradIdeal.τ).loc Cert.WupGradIdeal.main_arg0) = m ((c.tc : Thread Cert.WupGradIdeal.nD Cert.WupGradIdeal.τ).loc Cert.WupGradIdeal.main_arg0)
      ∧ r.2.mem ((c.tc : Thread Cert.WupGradIdeal.nD Cert.WupGradIdeal.τ).loc Cert.WupGradIdeal.main_arg1) = m ((c.tc : Thread Cert.WupGradIdeal.nD Cert.WupGradIdeal.τ).loc Cert.WupGradIdeal.main_arg1)
      ∧ r.2.mem ((c.tc : Thread Cert.WupGradIdeal.nD Cert.WupGradIdeal.τ).loc Cert.WupGradIdeal.main_arg2) = m ((c.tc : Thread Cert.WupGradIdeal.nD Cert.WupGradIdeal.τ).loc Cert.WupGradIdeal.main_arg2))
      ∧ r.2.sem = fun _ => 0)

def quiescent_WupGradRefIdeal [hWupGradRefIdeal : Cert.WupGradRefIdeal.Facts] : Prop :=
  ∀ (m : (ℓ : Loc Cert.WupGradRefIdeal.nD Cert.WupGradRefIdeal.τ Cert.WupGradRefIdeal.sig) → Buf (Elt Ideal) ℓ) (g : Dev Cert.WupGradRefIdeal.nD → PrngReg), Pre_WupGradRefIdeal m →
    θ_run (Cert.WupGradRefIdeal.defs (F := Ideal)) (onTc (τ := Cert.WupGradRefIdeal.τ) (Cert.WupGradRefIdeal.main (F := Ideal))) ⟨m, fun _ => 0, g⟩ (fun r => (∀ c : Dev Cert.WupGradRefIdeal.nD,
      r.2.mem ((c.tc : Thread Cert.WupGradRefIdeal.nD Cert.WupGradRefIdeal.τ).loc Cert.WupGradRefIdeal.main_arg0) = m ((c.tc : Thread Cert.WupGradRefIdeal.nD Cert.WupGradRefIdeal.τ).loc Cert.WupGradRefIdeal.main_arg0)
      ∧ r.2.mem ((c.tc : Thread Cert.WupGradRefIdeal.nD Cert.WupGradRefIdeal.τ).loc Cert.WupGradRefIdeal.main_arg1) = m ((c.tc : Thread Cert.WupGradRefIdeal.nD Cert.WupGradRefIdeal.τ).loc Cert.WupGradRefIdeal.main_arg1)
      ∧ r.2.mem ((c.tc : Thread Cert.WupGradRefIdeal.nD Cert.WupGradRefIdeal.τ).loc Cert.WupGradRefIdeal.main_arg2) = m ((c.tc : Thread Cert.WupGradRefIdeal.nD Cert.WupGradRefIdeal.τ).loc Cert.WupGradRefIdeal.main_arg2))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3))
      ∧ r.2.sem = fun _ => 0)

def quiescent_WdownGrad [hWdownGrad : Cert.WdownGrad.Facts] : Prop :=
  ∀ (m : (ℓ : Loc Cert.WdownGrad.nD Cert.WdownGrad.τ Cert.WdownGrad.sig) → Buf (Elt Bits) ℓ) (g : Dev Cert.WdownGrad.nD → PrngReg), Pre_WdownGrad m →
    θ_run (Cert.WdownGrad.defs (F := Bits)) (onTc (τ := Cert.WdownGrad.τ) (Cert.WdownGrad.main (F := Bits))) ⟨m, fun _ => 0, g⟩ (fun r => (∀ c : Dev Cert.WdownGrad.nD,
      r.2.mem ((c.tc : Thread Cert.WdownGrad.nD Cert.WdownGrad.τ).loc Cert.WdownGrad.main_arg0) = m ((c.tc : Thread Cert.WdownGrad.nD Cert.WdownGrad.τ).loc Cert.WdownGrad.main_arg0)
      ∧ r.2.mem ((c.tc : Thread Cert.WdownGrad.nD Cert.WdownGrad.τ).loc Cert.WdownGrad.main_arg1) = m ((c.tc : Thread Cert.WdownGrad.nD Cert.WdownGrad.τ).loc Cert.WdownGrad.main_arg1))
      ∧ r.2.sem = fun _ => 0)

def quiescent_WdownGradIdeal [hWdownGradIdeal : Cert.WdownGradIdeal.Facts] : Prop :=
  ∀ (m : (ℓ : Loc Cert.WdownGradIdeal.nD Cert.WdownGradIdeal.τ Cert.WdownGradIdeal.sig) → Buf (Elt Ideal) ℓ) (g : Dev Cert.WdownGradIdeal.nD → PrngReg), Pre_WdownGradIdeal m →
    θ_run (Cert.WdownGradIdeal.defs (F := Ideal)) (onTc (τ := Cert.WdownGradIdeal.τ) (Cert.WdownGradIdeal.main (F := Ideal))) ⟨m, fun _ => 0, g⟩ (fun r => (∀ c : Dev Cert.WdownGradIdeal.nD,
      r.2.mem ((c.tc : Thread Cert.WdownGradIdeal.nD Cert.WdownGradIdeal.τ).loc Cert.WdownGradIdeal.main_arg0) = m ((c.tc : Thread Cert.WdownGradIdeal.nD Cert.WdownGradIdeal.τ).loc Cert.WdownGradIdeal.main_arg0)
      ∧ r.2.mem ((c.tc : Thread Cert.WdownGradIdeal.nD Cert.WdownGradIdeal.τ).loc Cert.WdownGradIdeal.main_arg1) = m ((c.tc : Thread Cert.WdownGradIdeal.nD Cert.WdownGradIdeal.τ).loc Cert.WdownGradIdeal.main_arg1))
      ∧ r.2.sem = fun _ => 0)

def quiescent_WdownGradRefIdeal [hWdownGradRefIdeal : Cert.WdownGradRefIdeal.Facts] : Prop :=
  ∀ (m : (ℓ : Loc Cert.WdownGradRefIdeal.nD Cert.WdownGradRefIdeal.τ Cert.WdownGradRefIdeal.sig) → Buf (Elt Ideal) ℓ) (g : Dev Cert.WdownGradRefIdeal.nD → PrngReg), Pre_WdownGradRefIdeal m →
    θ_run (Cert.WdownGradRefIdeal.defs (F := Ideal)) (onTc (τ := Cert.WdownGradRefIdeal.τ) (Cert.WdownGradRefIdeal.main (F := Ideal))) ⟨m, fun _ => 0, g⟩ (fun r => (∀ c : Dev Cert.WdownGradRefIdeal.nD,
      r.2.mem ((c.tc : Thread Cert.WdownGradRefIdeal.nD Cert.WdownGradRefIdeal.τ).loc Cert.WdownGradRefIdeal.main_arg0) = m ((c.tc : Thread Cert.WdownGradRefIdeal.nD Cert.WdownGradRefIdeal.τ).loc Cert.WdownGradRefIdeal.main_arg0)
      ∧ r.2.mem ((c.tc : Thread Cert.WdownGradRefIdeal.nD Cert.WdownGradRefIdeal.τ).loc Cert.WdownGradRefIdeal.main_arg1) = m ((c.tc : Thread Cert.WdownGradRefIdeal.nD Cert.WdownGradRefIdeal.τ).loc Cert.WdownGradRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdIdeal_pre_finite_product [hDownBwdIdeal : Cert.DownBwdIdeal.Facts] [hPre_finite_product : Cert.Pre_finite_product.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal_finite_product m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_DownBwdRefIdeal_pre_finite_product [hDownBwdRefIdeal : Cert.DownBwdRefIdeal.Facts] [hPre_finite_product : Cert.Pre_finite_product.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal_finite_product m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_WoutGrad [hWoutGrad : Cert.WoutGrad.Facts] : Prop :=
  ∀ (m : (ℓ : Loc Cert.WoutGrad.nD Cert.WoutGrad.τ Cert.WoutGrad.sig) → Buf (Elt Bits) ℓ) (g : Dev Cert.WoutGrad.nD → PrngReg), Pre_WoutGrad m →
    θ_run (Cert.WoutGrad.defs (F := Bits)) (onTc (τ := Cert.WoutGrad.τ) (Cert.WoutGrad.main (F := Bits))) ⟨m, fun _ => 0, g⟩ (fun r => (∀ c : Dev Cert.WoutGrad.nD,
      r.2.mem ((c.tc : Thread Cert.WoutGrad.nD Cert.WoutGrad.τ).loc Cert.WoutGrad.main_arg0) = m ((c.tc : Thread Cert.WoutGrad.nD Cert.WoutGrad.τ).loc Cert.WoutGrad.main_arg0)
      ∧ r.2.mem ((c.tc : Thread Cert.WoutGrad.nD Cert.WoutGrad.τ).loc Cert.WoutGrad.main_arg1) = m ((c.tc : Thread Cert.WoutGrad.nD Cert.WoutGrad.τ).loc Cert.WoutGrad.main_arg1))
      ∧ r.2.sem = fun _ => 0)

def quiescent_WoutGradIdeal [hWoutGradIdeal : Cert.WoutGradIdeal.Facts] : Prop :=
  ∀ (m : (ℓ : Loc Cert.WoutGradIdeal.nD Cert.WoutGradIdeal.τ Cert.WoutGradIdeal.sig) → Buf (Elt Ideal) ℓ) (g : Dev Cert.WoutGradIdeal.nD → PrngReg), Pre_WoutGradIdeal m →
    θ_run (Cert.WoutGradIdeal.defs (F := Ideal)) (onTc (τ := Cert.WoutGradIdeal.τ) (Cert.WoutGradIdeal.main (F := Ideal))) ⟨m, fun _ => 0, g⟩ (fun r => (∀ c : Dev Cert.WoutGradIdeal.nD,
      r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
      ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1))
      ∧ r.2.sem = fun _ => 0)

def quiescent_WoutGradRefIdeal [hWoutGradRefIdeal : Cert.WoutGradRefIdeal.Facts] : Prop :=
  ∀ (m : (ℓ : Loc Cert.WoutGradRefIdeal.nD Cert.WoutGradRefIdeal.τ Cert.WoutGradRefIdeal.sig) → Buf (Elt Ideal) ℓ) (g : Dev Cert.WoutGradRefIdeal.nD → PrngReg), Pre_WoutGradRefIdeal m →
    θ_run (Cert.WoutGradRefIdeal.defs (F := Ideal)) (onTc (τ := Cert.WoutGradRefIdeal.τ) (Cert.WoutGradRefIdeal.main (F := Ideal))) ⟨m, fun _ => 0, g⟩ (fun r => (∀ c : Dev Cert.WoutGradRefIdeal.nD,
      r.2.mem ((c.tc : Thread Cert.WoutGradRefIdeal.nD Cert.WoutGradRefIdeal.τ).loc Cert.WoutGradRefIdeal.main_arg0) = m ((c.tc : Thread Cert.WoutGradRefIdeal.nD Cert.WoutGradRefIdeal.τ).loc Cert.WoutGradRefIdeal.main_arg0)
      ∧ r.2.mem ((c.tc : Thread Cert.WoutGradRefIdeal.nD Cert.WoutGradRefIdeal.τ).loc Cert.WoutGradRefIdeal.main_arg1) = m ((c.tc : Thread Cert.WoutGradRefIdeal.nD Cert.WoutGradRefIdeal.τ).loc Cert.WoutGradRefIdeal.main_arg1))
      ∧ r.2.sem = fun _ => 0)

def quiescent_WqkvGrad [hWqkvGrad : Cert.WqkvGrad.Facts] : Prop :=
  ∀ (m : (ℓ : Loc Cert.WqkvGrad.nD Cert.WqkvGrad.τ Cert.WqkvGrad.sig) → Buf (Elt Bits) ℓ) (g : Dev Cert.WqkvGrad.nD → PrngReg), Pre_WqkvGrad m →
    θ_run (Cert.WqkvGrad.defs (F := Bits)) (onTc (τ := Cert.WqkvGrad.τ) (Cert.WqkvGrad.main (F := Bits))) ⟨m, fun _ => 0, g⟩ (fun r => (∀ c : Dev Cert.WqkvGrad.nD,
      r.2.mem ((c.tc : Thread Cert.WqkvGrad.nD Cert.WqkvGrad.τ).loc Cert.WqkvGrad.main_arg0) = m ((c.tc : Thread Cert.WqkvGrad.nD Cert.WqkvGrad.τ).loc Cert.WqkvGrad.main_arg0)
      ∧ r.2.mem ((c.tc : Thread Cert.WqkvGrad.nD Cert.WqkvGrad.τ).loc Cert.WqkvGrad.main_arg1) = m ((c.tc : Thread Cert.WqkvGrad.nD Cert.WqkvGrad.τ).loc Cert.WqkvGrad.main_arg1)
      ∧ r.2.mem ((c.tc : Thread Cert.WqkvGrad.nD Cert.WqkvGrad.τ).loc Cert.WqkvGrad.main_arg2) = m ((c.tc : Thread Cert.WqkvGrad.nD Cert.WqkvGrad.τ).loc Cert.WqkvGrad.main_arg2)
      ∧ r.2.mem ((c.tc : Thread Cert.WqkvGrad.nD Cert.WqkvGrad.τ).loc Cert.WqkvGrad.main_arg3) = m ((c.tc : Thread Cert.WqkvGrad.nD Cert.WqkvGrad.τ).loc Cert.WqkvGrad.main_arg3))
      ∧ r.2.sem = fun _ => 0)

def quiescent_WqkvGradIdeal [hWqkvGradIdeal : Cert.WqkvGradIdeal.Facts] : Prop :=
  ∀ (m : (ℓ : Loc Cert.WqkvGradIdeal.nD Cert.WqkvGradIdeal.τ Cert.WqkvGradIdeal.sig) → Buf (Elt Ideal) ℓ) (g : Dev Cert.WqkvGradIdeal.nD → PrngReg), Pre_WqkvGradIdeal m →
    θ_run (Cert.WqkvGradIdeal.defs (F := Ideal)) (onTc (τ := Cert.WqkvGradIdeal.τ) (Cert.WqkvGradIdeal.main (F := Ideal))) ⟨m, fun _ => 0, g⟩ (fun r => (∀ c : Dev Cert.WqkvGradIdeal.nD,
      r.2.mem ((c.tc : Thread Cert.WqkvGradIdeal.nD Cert.WqkvGradIdeal.τ).loc Cert.WqkvGradIdeal.main_arg0) = m ((c.tc : Thread Cert.WqkvGradIdeal.nD Cert.WqkvGradIdeal.τ).loc Cert.WqkvGradIdeal.main_arg0)
      ∧ r.2.mem ((c.tc : Thread Cert.WqkvGradIdeal.nD Cert.WqkvGradIdeal.τ).loc Cert.WqkvGradIdeal.main_arg1) = m ((c.tc : Thread Cert.WqkvGradIdeal.nD Cert.WqkvGradIdeal.τ).loc Cert.WqkvGradIdeal.main_arg1)
      ∧ r.2.mem ((c.tc : Thread Cert.WqkvGradIdeal.nD Cert.WqkvGradIdeal.τ).loc Cert.WqkvGradIdeal.main_arg2) = m ((c.tc : Thread Cert.WqkvGradIdeal.nD Cert.WqkvGradIdeal.τ).loc Cert.WqkvGradIdeal.main_arg2)
      ∧ r.2.mem ((c.tc : Thread Cert.WqkvGradIdeal.nD Cert.WqkvGradIdeal.τ).loc Cert.WqkvGradIdeal.main_arg3) = m ((c.tc : Thread Cert.WqkvGradIdeal.nD Cert.WqkvGradIdeal.τ).loc Cert.WqkvGradIdeal.main_arg3))
      ∧ r.2.sem = fun _ => 0)

def quiescent_WqkvGradRefIdeal [hWqkvGradRefIdeal : Cert.WqkvGradRefIdeal.Facts] : Prop :=
  ∀ (m : (ℓ : Loc Cert.WqkvGradRefIdeal.nD Cert.WqkvGradRefIdeal.τ Cert.WqkvGradRefIdeal.sig) → Buf (Elt Ideal) ℓ) (g : Dev Cert.WqkvGradRefIdeal.nD → PrngReg), Pre_WqkvGradRefIdeal m →
    θ_run (Cert.WqkvGradRefIdeal.defs (F := Ideal)) (onTc (τ := Cert.WqkvGradRefIdeal.τ) (Cert.WqkvGradRefIdeal.main (F := Ideal))) ⟨m, fun _ => 0, g⟩ (fun r => (∀ c : Dev Cert.WqkvGradRefIdeal.nD,
      r.2.mem ((c.tc : Thread Cert.WqkvGradRefIdeal.nD Cert.WqkvGradRefIdeal.τ).loc Cert.WqkvGradRefIdeal.main_arg0) = m ((c.tc : Thread Cert.WqkvGradRefIdeal.nD Cert.WqkvGradRefIdeal.τ).loc Cert.WqkvGradRefIdeal.main_arg0)
      ∧ r.2.mem ((c.tc : Thread Cert.WqkvGradRefIdeal.nD Cert.WqkvGradRefIdeal.τ).loc Cert.WqkvGradRefIdeal.main_arg1) = m ((c.tc : Thread Cert.WqkvGradRefIdeal.nD Cert.WqkvGradRefIdeal.τ).loc Cert.WqkvGradRefIdeal.main_arg1)
      ∧ r.2.mem ((c.tc : Thread Cert.WqkvGradRefIdeal.nD Cert.WqkvGradRefIdeal.τ).loc Cert.WqkvGradRefIdeal.main_arg2) = m ((c.tc : Thread Cert.WqkvGradRefIdeal.nD Cert.WqkvGradRefIdeal.τ).loc Cert.WqkvGradRefIdeal.main_arg2)
      ∧ r.2.mem ((c.tc : Thread Cert.WqkvGradRefIdeal.nD Cert.WqkvGradRefIdeal.τ).loc Cert.WqkvGradRefIdeal.main_arg3) = m ((c.tc : Thread Cert.WqkvGradRefIdeal.nD Cert.WqkvGradRefIdeal.τ).loc Cert.WqkvGradRefIdeal.main_arg3))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2)
      ∧ r.2.mem ((c.tc : Thread Cert.QkvBwd.nD Cert.QkvBwd.τ).loc Cert.QkvBwd.main_arg3) = m ((c.tc : Thread Cert.QkvBwd.nD Cert.QkvBwd.τ).loc Cert.QkvBwd.main_arg3)
      ∧ r.2.mem ((c.tc : Thread Cert.QkvBwd.nD Cert.QkvBwd.τ).loc Cert.QkvBwd.main_arg4) = m ((c.tc : Thread Cert.QkvBwd.nD Cert.QkvBwd.τ).loc Cert.QkvBwd.main_arg4)
      ∧ r.2.mem ((c.tc : Thread Cert.QkvBwd.nD Cert.QkvBwd.τ).loc Cert.QkvBwd.main_arg5) = m ((c.tc : Thread Cert.QkvBwd.nD Cert.QkvBwd.τ).loc Cert.QkvBwd.main_arg5))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5))
      ∧ r.2.sem = fun _ => 0)

def quiescent_QkvBwdRefIdeal [hQkvBwdRefIdeal : Cert.QkvBwdRefIdeal.Facts] : Prop :=
  ∀ (m : (ℓ : Loc Cert.QkvBwdRefIdeal.nD Cert.QkvBwdRefIdeal.τ Cert.QkvBwdRefIdeal.sig) → Buf (Elt Ideal) ℓ) (g : Dev Cert.QkvBwdRefIdeal.nD → PrngReg), Pre_QkvBwdRefIdeal m →
    θ_run (Cert.QkvBwdRefIdeal.defs (F := Ideal)) (onTc (τ := Cert.QkvBwdRefIdeal.τ) (Cert.QkvBwdRefIdeal.main (F := Ideal))) ⟨m, fun _ => 0, g⟩ (fun r => (∀ c : Dev Cert.QkvBwdRefIdeal.nD,
      r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
      ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
      ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2)
      ∧ r.2.mem ((c.tc : Thread Cert.QkvBwdRefIdeal.nD Cert.QkvBwdRefIdeal.τ).loc Cert.QkvBwdRefIdeal.main_arg3) = m ((c.tc : Thread Cert.QkvBwdRefIdeal.nD Cert.QkvBwdRefIdeal.τ).loc Cert.QkvBwdRefIdeal.main_arg3)
      ∧ r.2.mem ((c.tc : Thread Cert.QkvBwdRefIdeal.nD Cert.QkvBwdRefIdeal.τ).loc Cert.QkvBwdRefIdeal.main_arg4) = m ((c.tc : Thread Cert.QkvBwdRefIdeal.nD Cert.QkvBwdRefIdeal.τ).loc Cert.QkvBwdRefIdeal.main_arg4)
      ∧ r.2.mem ((c.tc : Thread Cert.QkvBwdRefIdeal.nD Cert.QkvBwdRefIdeal.τ).loc Cert.QkvBwdRefIdeal.main_arg5) = m ((c.tc : Thread Cert.QkvBwdRefIdeal.nD Cert.QkvBwdRefIdeal.τ).loc Cert.QkvBwdRefIdeal.main_arg5))
      ∧ r.2.sem = fun _ => 0)

def quiescent_SguIn [hSguIn : Cert.SguIn.Facts] : Prop :=
  ∀ (m : (ℓ : Loc Cert.SguIn.nD Cert.SguIn.τ Cert.SguIn.sig) → Buf (Elt Bits) ℓ) (g : Dev Cert.SguIn.nD → PrngReg), Pre_SguIn m →
    θ_run (Cert.SguIn.defs (F := Bits)) (onTc (τ := Cert.SguIn.τ) (Cert.SguIn.main (F := Bits))) ⟨m, fun _ => 0, g⟩ (fun r => (∀ c : Dev Cert.SguIn.nD,
      r.2.mem ((c.tc : Thread Cert.SguIn.nD Cert.SguIn.τ).loc Cert.SguIn.main_arg0) = m ((c.tc : Thread Cert.SguIn.nD Cert.SguIn.τ).loc Cert.SguIn.main_arg0)
      ∧ r.2.mem ((c.tc : Thread Cert.SguIn.nD Cert.SguIn.τ).loc Cert.SguIn.main_arg1) = m ((c.tc : Thread Cert.SguIn.nD Cert.SguIn.τ).loc Cert.SguIn.main_arg1)
      ∧ r.2.mem ((c.tc : Thread Cert.SguIn.nD Cert.SguIn.τ).loc Cert.SguIn.main_arg2) = m ((c.tc : Thread Cert.SguIn.nD Cert.SguIn.τ).loc Cert.SguIn.main_arg2))
      ∧ r.2.sem = fun _ => 0)

def quiescent_SguInIdeal [hSguInIdeal : Cert.SguInIdeal.Facts] : Prop :=
  ∀ (m : (ℓ : Loc Cert.SguInIdeal.nD Cert.SguInIdeal.τ Cert.SguInIdeal.sig) → Buf (Elt Ideal) ℓ) (g : Dev Cert.SguInIdeal.nD → PrngReg), Pre_SguInIdeal m →
    θ_run (Cert.SguInIdeal.defs (F := Ideal)) (onTc (τ := Cert.SguInIdeal.τ) (Cert.SguInIdeal.main (F := Ideal))) ⟨m, fun _ => 0, g⟩ (fun r => (∀ c : Dev Cert.SguInIdeal.nD,
      r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
      ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
      ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2))
      ∧ r.2.sem = fun _ => 0)

def quiescent_SguInRefIdeal [hSguInRefIdeal : Cert.SguInRefIdeal.Facts] : Prop :=
  ∀ (m : (ℓ : Loc Cert.SguInRefIdeal.nD Cert.SguInRefIdeal.τ Cert.SguInRefIdeal.sig) → Buf (Elt Ideal) ℓ) (g : Dev Cert.SguInRefIdeal.nD → PrngReg), Pre_SguInRefIdeal m →
    θ_run (Cert.SguInRefIdeal.defs (F := Ideal)) (onTc (τ := Cert.SguInRefIdeal.τ) (Cert.SguInRefIdeal.main (F := Ideal))) ⟨m, fun _ => 0, g⟩ (fun r => (∀ c : Dev Cert.SguInRefIdeal.nD,
      r.2.mem ((c.tc : Thread Cert.SguInRefIdeal.nD Cert.SguInRefIdeal.τ).loc Cert.SguInRefIdeal.main_arg0) = m ((c.tc : Thread Cert.SguInRefIdeal.nD Cert.SguInRefIdeal.τ).loc Cert.SguInRefIdeal.main_arg0)
      ∧ r.2.mem ((c.tc : Thread Cert.SguInRefIdeal.nD Cert.SguInRefIdeal.τ).loc Cert.SguInRefIdeal.main_arg1) = m ((c.tc : Thread Cert.SguInRefIdeal.nD Cert.SguInRefIdeal.τ).loc Cert.SguInRefIdeal.main_arg1)
      ∧ r.2.mem ((c.tc : Thread Cert.SguInRefIdeal.nD Cert.SguInRefIdeal.τ).loc Cert.SguInRefIdeal.main_arg2) = m ((c.tc : Thread Cert.SguInRefIdeal.nD Cert.SguInRefIdeal.τ).loc Cert.SguInRefIdeal.main_arg2))
      ∧ r.2.sem = fun _ => 0)

def quiescent_SguInBwd [hSguInBwd : Cert.SguInBwd.Facts] : Prop :=
  ∀ (m : (ℓ : Loc Cert.SguInBwd.nD Cert.SguInBwd.τ Cert.SguInBwd.sig) → Buf (Elt Bits) ℓ) (g : Dev Cert.SguInBwd.nD → PrngReg), Pre_SguInBwd m →
    θ_run (Cert.SguInBwd.defs (F := Bits)) (onTc (τ := Cert.SguInBwd.τ) (Cert.SguInBwd.main (F := Bits))) ⟨m, fun _ => 0, g⟩ (fun r => (∀ c : Dev Cert.SguInBwd.nD,
      r.2.mem ((c.tc : Thread Cert.SguInBwd.nD Cert.SguInBwd.τ).loc Cert.SguInBwd.main_arg0) = m ((c.tc : Thread Cert.SguInBwd.nD Cert.SguInBwd.τ).loc Cert.SguInBwd.main_arg0)
      ∧ r.2.mem ((c.tc : Thread Cert.SguInBwd.nD Cert.SguInBwd.τ).loc Cert.SguInBwd.main_arg1) = m ((c.tc : Thread Cert.SguInBwd.nD Cert.SguInBwd.τ).loc Cert.SguInBwd.main_arg1))
      ∧ r.2.sem = fun _ => 0)

def quiescent_SguInBwdIdeal [hSguInBwdIdeal : Cert.SguInBwdIdeal.Facts] : Prop :=
  ∀ (m : (ℓ : Loc Cert.SguInBwdIdeal.nD Cert.SguInBwdIdeal.τ Cert.SguInBwdIdeal.sig) → Buf (Elt Ideal) ℓ) (g : Dev Cert.SguInBwdIdeal.nD → PrngReg), Pre_SguInBwdIdeal m →
    θ_run (Cert.SguInBwdIdeal.defs (F := Ideal)) (onTc (τ := Cert.SguInBwdIdeal.τ) (Cert.SguInBwdIdeal.main (F := Ideal))) ⟨m, fun _ => 0, g⟩ (fun r => (∀ c : Dev Cert.SguInBwdIdeal.nD,
      r.2.mem ((c.tc : Thread Cert.SguInBwdIdeal.nD Cert.SguInBwdIdeal.τ).loc Cert.SguInBwdIdeal.main_arg0) = m ((c.tc : Thread Cert.SguInBwdIdeal.nD Cert.SguInBwdIdeal.τ).loc Cert.SguInBwdIdeal.main_arg0)
      ∧ r.2.mem ((c.tc : Thread Cert.SguInBwdIdeal.nD Cert.SguInBwdIdeal.τ).loc Cert.SguInBwdIdeal.main_arg1) = m ((c.tc : Thread Cert.SguInBwdIdeal.nD Cert.SguInBwdIdeal.τ).loc Cert.SguInBwdIdeal.main_arg1))
      ∧ r.2.sem = fun _ => 0)

def quiescent_SguInBwdRefIdeal [hSguInBwdRefIdeal : Cert.SguInBwdRefIdeal.Facts] : Prop :=
  ∀ (m : (ℓ : Loc Cert.SguInBwdRefIdeal.nD Cert.SguInBwdRefIdeal.τ Cert.SguInBwdRefIdeal.sig) → Buf (Elt Ideal) ℓ) (g : Dev Cert.SguInBwdRefIdeal.nD → PrngReg), Pre_SguInBwdRefIdeal m →
    θ_run (Cert.SguInBwdRefIdeal.defs (F := Ideal)) (onTc (τ := Cert.SguInBwdRefIdeal.τ) (Cert.SguInBwdRefIdeal.main (F := Ideal))) ⟨m, fun _ => 0, g⟩ (fun r => (∀ c : Dev Cert.SguInBwdRefIdeal.nD,
      r.2.mem ((c.tc : Thread Cert.SguInBwdRefIdeal.nD Cert.SguInBwdRefIdeal.τ).loc Cert.SguInBwdRefIdeal.main_arg0) = m ((c.tc : Thread Cert.SguInBwdRefIdeal.nD Cert.SguInBwdRefIdeal.τ).loc Cert.SguInBwdRefIdeal.main_arg0)
      ∧ r.2.mem ((c.tc : Thread Cert.SguInBwdRefIdeal.nD Cert.SguInBwdRefIdeal.τ).loc Cert.SguInBwdRefIdeal.main_arg1) = m ((c.tc : Thread Cert.SguInBwdRefIdeal.nD Cert.SguInBwdRefIdeal.τ).loc Cert.SguInBwdRefIdeal.main_arg1))
      ∧ r.2.sem = fun _ => 0)

def quiescent_SguOutBwd [hSguOutBwd : Cert.SguOutBwd.Facts] : Prop :=
  ∀ (m : (ℓ : Loc Cert.SguOutBwd.nD Cert.SguOutBwd.τ Cert.SguOutBwd.sig) → Buf (Elt Bits) ℓ) (g : Dev Cert.SguOutBwd.nD → PrngReg), Pre_SguOutBwd m →
    θ_run (Cert.SguOutBwd.defs (F := Bits)) (onTc (τ := Cert.SguOutBwd.τ) (Cert.SguOutBwd.main (F := Bits))) ⟨m, fun _ => 0, g⟩ (fun r => (∀ c : Dev Cert.SguOutBwd.nD,
      r.2.mem ((c.tc : Thread Cert.SguOutBwd.nD Cert.SguOutBwd.τ).loc Cert.SguOutBwd.main_arg0) = m ((c.tc : Thread Cert.SguOutBwd.nD Cert.SguOutBwd.τ).loc Cert.SguOutBwd.main_arg0)
      ∧ r.2.mem ((c.tc : Thread Cert.SguOutBwd.nD Cert.SguOutBwd.τ).loc Cert.SguOutBwd.main_arg1) = m ((c.tc : Thread Cert.SguOutBwd.nD Cert.SguOutBwd.τ).loc Cert.SguOutBwd.main_arg1))
      ∧ r.2.sem = fun _ => 0)

def quiescent_SguOutBwdIdeal [hSguOutBwdIdeal : Cert.SguOutBwdIdeal.Facts] : Prop :=
  ∀ (m : (ℓ : Loc Cert.SguOutBwdIdeal.nD Cert.SguOutBwdIdeal.τ Cert.SguOutBwdIdeal.sig) → Buf (Elt Ideal) ℓ) (g : Dev Cert.SguOutBwdIdeal.nD → PrngReg), Pre_SguOutBwdIdeal m →
    θ_run (Cert.SguOutBwdIdeal.defs (F := Ideal)) (onTc (τ := Cert.SguOutBwdIdeal.τ) (Cert.SguOutBwdIdeal.main (F := Ideal))) ⟨m, fun _ => 0, g⟩ (fun r => (∀ c : Dev Cert.SguOutBwdIdeal.nD,
      r.2.mem ((c.tc : Thread Cert.SguOutBwdIdeal.nD Cert.SguOutBwdIdeal.τ).loc Cert.SguOutBwdIdeal.main_arg0) = m ((c.tc : Thread Cert.SguOutBwdIdeal.nD Cert.SguOutBwdIdeal.τ).loc Cert.SguOutBwdIdeal.main_arg0)
      ∧ r.2.mem ((c.tc : Thread Cert.SguOutBwdIdeal.nD Cert.SguOutBwdIdeal.τ).loc Cert.SguOutBwdIdeal.main_arg1) = m ((c.tc : Thread Cert.SguOutBwdIdeal.nD Cert.SguOutBwdIdeal.τ).loc Cert.SguOutBwdIdeal.main_arg1))
      ∧ r.2.sem = fun _ => 0)

def quiescent_SguOutBwdRefIdeal [hSguOutBwdRefIdeal : Cert.SguOutBwdRefIdeal.Facts] : Prop :=
  ∀ (m : (ℓ : Loc Cert.SguOutBwdRefIdeal.nD Cert.SguOutBwdRefIdeal.τ Cert.SguOutBwdRefIdeal.sig) → Buf (Elt Ideal) ℓ) (g : Dev Cert.SguOutBwdRefIdeal.nD → PrngReg), Pre_SguOutBwdRefIdeal m →
    θ_run (Cert.SguOutBwdRefIdeal.defs (F := Ideal)) (onTc (τ := Cert.SguOutBwdRefIdeal.τ) (Cert.SguOutBwdRefIdeal.main (F := Ideal))) ⟨m, fun _ => 0, g⟩ (fun r => (∀ c : Dev Cert.SguOutBwdRefIdeal.nD,
      r.2.mem ((c.tc : Thread Cert.SguOutBwdRefIdeal.nD Cert.SguOutBwdRefIdeal.τ).loc Cert.SguOutBwdRefIdeal.main_arg0) = m ((c.tc : Thread Cert.SguOutBwdRefIdeal.nD Cert.SguOutBwdRefIdeal.τ).loc Cert.SguOutBwdRefIdeal.main_arg0)
      ∧ r.2.mem ((c.tc : Thread Cert.SguOutBwdRefIdeal.nD Cert.SguOutBwdRefIdeal.τ).loc Cert.SguOutBwdRefIdeal.main_arg1) = m ((c.tc : Thread Cert.SguOutBwdRefIdeal.nD Cert.SguOutBwdRefIdeal.τ).loc Cert.SguOutBwdRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)) (v3 : (c : Dev Cert.KernelIdeal.nD) → Buf (Elt Ideal) ((c.tc : Thread Cert.KernelIdeal.nD Cert.KernelIdeal.τ).loc Cert.KernelIdeal.main_v88_3)) (v4 : (c : Dev Cert.KernelIdeal.nD) → Buf (Elt Ideal) ((c.tc : Thread Cert.KernelIdeal.nD Cert.KernelIdeal.τ).loc Cert.KernelIdeal.main_v88_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_v88_3) = v3 c
          ∧ r.2.mem ((c.tc : Thread Cert.KernelIdeal.nD Cert.KernelIdeal.τ).loc Cert.KernelIdeal.main_v88_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_WupGrad_WupGradIdeal : Prop :=
  True

def algebraic_WupGradIdeal_WupGradRefIdeal [hWupGradIdeal : Cert.WupGradIdeal.Facts] [hWupGradRefIdeal : Cert.WupGradRefIdeal.Facts] : Prop :=
  ∀ (m : (ℓ : Loc Cert.WupGradIdeal.nD Cert.WupGradIdeal.τ Cert.WupGradIdeal.sig) → Buf (Elt Ideal) ℓ) (g : Dev Cert.WupGradIdeal.nD → PrngReg)
    (m' : (ℓ : Loc Cert.WupGradRefIdeal.nD Cert.WupGradRefIdeal.τ Cert.WupGradRefIdeal.sig) → Buf (Elt Ideal) ℓ) (g' : Dev Cert.WupGradRefIdeal.nD → PrngReg), Pre_WupGradIdeal m →
    (∀ c : Dev Cert.WupGradIdeal.nD,
      m' ((c.tc : Thread Cert.WupGradRefIdeal.nD Cert.WupGradRefIdeal.τ).loc Cert.WupGradRefIdeal.main_arg0) = m ((c.tc : Thread Cert.WupGradIdeal.nD Cert.WupGradIdeal.τ).loc Cert.WupGradIdeal.main_arg0)
      ∧ m' ((c.tc : Thread Cert.WupGradRefIdeal.nD Cert.WupGradRefIdeal.τ).loc Cert.WupGradRefIdeal.main_arg1) = m ((c.tc : Thread Cert.WupGradIdeal.nD Cert.WupGradIdeal.τ).loc Cert.WupGradIdeal.main_arg1)
      ∧ m' ((c.tc : Thread Cert.WupGradRefIdeal.nD Cert.WupGradRefIdeal.τ).loc Cert.WupGradRefIdeal.main_arg2) = m ((c.tc : Thread Cert.WupGradIdeal.nD Cert.WupGradIdeal.τ).loc Cert.WupGradIdeal.main_arg2)) →
    ∃ (v0 : (c : Dev Cert.WupGradIdeal.nD) → Buf (Elt Ideal) ((c.tc : Thread Cert.WupGradIdeal.nD Cert.WupGradIdeal.τ).loc Cert.WupGradIdeal.main_v0_0)) (v1 : (c : Dev Cert.WupGradIdeal.nD) → Buf (Elt Ideal) ((c.tc : Thread Cert.WupGradIdeal.nD Cert.WupGradIdeal.τ).loc Cert.WupGradIdeal.main_v0_1)),
      θ_run (Cert.WupGradIdeal.defs (F := Ideal)) (onTc (τ := Cert.WupGradIdeal.τ) (Cert.WupGradIdeal.main (F := Ideal))) ⟨m, fun _ => 0, g⟩ (fun r => ∀ c : Dev Cert.WupGradIdeal.nD,
          r.2.mem ((c.tc : Thread Cert.WupGradIdeal.nD Cert.WupGradIdeal.τ).loc Cert.WupGradIdeal.main_v0_0) = v0 c
          ∧ r.2.mem ((c.tc : Thread Cert.WupGradIdeal.nD Cert.WupGradIdeal.τ).loc Cert.WupGradIdeal.main_v0_1) = v1 c
          ∧ r.2.mem ((c.tc : Thread Cert.WupGradIdeal.nD Cert.WupGradIdeal.τ).loc Cert.WupGradIdeal.main_arg0) = m ((c.tc : Thread Cert.WupGradIdeal.nD Cert.WupGradIdeal.τ).loc Cert.WupGradIdeal.main_arg0)
          ∧ r.2.mem ((c.tc : Thread Cert.WupGradIdeal.nD Cert.WupGradIdeal.τ).loc Cert.WupGradIdeal.main_arg1) = m ((c.tc : Thread Cert.WupGradIdeal.nD Cert.WupGradIdeal.τ).loc Cert.WupGradIdeal.main_arg1)
          ∧ r.2.mem ((c.tc : Thread Cert.WupGradIdeal.nD Cert.WupGradIdeal.τ).loc Cert.WupGradIdeal.main_arg2) = m ((c.tc : Thread Cert.WupGradIdeal.nD Cert.WupGradIdeal.τ).loc Cert.WupGradIdeal.main_arg2))
      ∧ θ_run (Cert.WupGradRefIdeal.defs (F := Ideal)) (onTc (τ := Cert.WupGradRefIdeal.τ) (Cert.WupGradRefIdeal.main (F := Ideal))) ⟨m', fun _ => 0, g'⟩ (fun r => ∀ c : Dev Cert.WupGradRefIdeal.nD,
          r.2.mem ((c.tc : Thread Cert.WupGradRefIdeal.nD Cert.WupGradRefIdeal.τ).loc Cert.WupGradRefIdeal.main_v12) = v0 c
          ∧ r.2.mem ((c.tc : Thread Cert.WupGradRefIdeal.nD Cert.WupGradRefIdeal.τ).loc Cert.WupGradRefIdeal.main_v13) = v1 c
          ∧ r.2.mem ((c.tc : Thread Cert.WupGradRefIdeal.nD Cert.WupGradRefIdeal.τ).loc Cert.WupGradRefIdeal.main_arg0) = m' ((c.tc : Thread Cert.WupGradRefIdeal.nD Cert.WupGradRefIdeal.τ).loc Cert.WupGradRefIdeal.main_arg0)
          ∧ r.2.mem ((c.tc : Thread Cert.WupGradRefIdeal.nD Cert.WupGradRefIdeal.τ).loc Cert.WupGradRefIdeal.main_arg1) = m' ((c.tc : Thread Cert.WupGradRefIdeal.nD Cert.WupGradRefIdeal.τ).loc Cert.WupGradRefIdeal.main_arg1)
          ∧ r.2.mem ((c.tc : Thread Cert.WupGradRefIdeal.nD Cert.WupGradRefIdeal.τ).loc Cert.WupGradRefIdeal.main_arg2) = m' ((c.tc : Thread Cert.WupGradRefIdeal.nD Cert.WupGradRefIdeal.τ).loc Cert.WupGradRefIdeal.main_arg2))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)) →
    ∃ (v0 : (c : Dev Cert.UpBwdIdeal.nD) → Buf (Elt Ideal) ((c.tc : Thread Cert.UpBwdIdeal.nD Cert.UpBwdIdeal.τ).loc Cert.UpBwdIdeal.main_v0)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0) = v0 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v13) = v0 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3))

def preserves_WdownGrad_WdownGradIdeal : Prop :=
  True

def algebraic_WdownGradIdeal_WdownGradRefIdeal [hWdownGradIdeal : Cert.WdownGradIdeal.Facts] [hWdownGradRefIdeal : Cert.WdownGradRefIdeal.Facts] : Prop :=
  ∀ (m : (ℓ : Loc Cert.WdownGradIdeal.nD Cert.WdownGradIdeal.τ Cert.WdownGradIdeal.sig) → Buf (Elt Ideal) ℓ) (g : Dev Cert.WdownGradIdeal.nD → PrngReg)
    (m' : (ℓ : Loc Cert.WdownGradRefIdeal.nD Cert.WdownGradRefIdeal.τ Cert.WdownGradRefIdeal.sig) → Buf (Elt Ideal) ℓ) (g' : Dev Cert.WdownGradRefIdeal.nD → PrngReg), Pre_WdownGradIdeal m →
    (∀ c : Dev Cert.WdownGradIdeal.nD,
      m' ((c.tc : Thread Cert.WdownGradRefIdeal.nD Cert.WdownGradRefIdeal.τ).loc Cert.WdownGradRefIdeal.main_arg0) = m ((c.tc : Thread Cert.WdownGradIdeal.nD Cert.WdownGradIdeal.τ).loc Cert.WdownGradIdeal.main_arg0)
      ∧ m' ((c.tc : Thread Cert.WdownGradRefIdeal.nD Cert.WdownGradRefIdeal.τ).loc Cert.WdownGradRefIdeal.main_arg1) = m ((c.tc : Thread Cert.WdownGradIdeal.nD Cert.WdownGradIdeal.τ).loc Cert.WdownGradIdeal.main_arg1)) →
    ∃ (v0 : (c : Dev Cert.WdownGradIdeal.nD) → Buf (Elt Ideal) ((c.tc : Thread Cert.WdownGradIdeal.nD Cert.WdownGradIdeal.τ).loc Cert.WdownGradIdeal.main_v0)),
      θ_run (Cert.WdownGradIdeal.defs (F := Ideal)) (onTc (τ := Cert.WdownGradIdeal.τ) (Cert.WdownGradIdeal.main (F := Ideal))) ⟨m, fun _ => 0, g⟩ (fun r => ∀ c : Dev Cert.WdownGradIdeal.nD,
          r.2.mem ((c.tc : Thread Cert.WdownGradIdeal.nD Cert.WdownGradIdeal.τ).loc Cert.WdownGradIdeal.main_v0) = v0 c
          ∧ r.2.mem ((c.tc : Thread Cert.WdownGradIdeal.nD Cert.WdownGradIdeal.τ).loc Cert.WdownGradIdeal.main_arg0) = m ((c.tc : Thread Cert.WdownGradIdeal.nD Cert.WdownGradIdeal.τ).loc Cert.WdownGradIdeal.main_arg0)
          ∧ r.2.mem ((c.tc : Thread Cert.WdownGradIdeal.nD Cert.WdownGradIdeal.τ).loc Cert.WdownGradIdeal.main_arg1) = m ((c.tc : Thread Cert.WdownGradIdeal.nD Cert.WdownGradIdeal.τ).loc Cert.WdownGradIdeal.main_arg1))
      ∧ θ_run (Cert.WdownGradRefIdeal.defs (F := Ideal)) (onTc (τ := Cert.WdownGradRefIdeal.τ) (Cert.WdownGradRefIdeal.main (F := Ideal))) ⟨m', fun _ => 0, g'⟩ (fun r => ∀ c : Dev Cert.WdownGradRefIdeal.nD,
          r.2.mem ((c.tc : Thread Cert.WdownGradRefIdeal.nD Cert.WdownGradRefIdeal.τ).loc Cert.WdownGradRefIdeal.main_v6) = v0 c
          ∧ r.2.mem ((c.tc : Thread Cert.WdownGradRefIdeal.nD Cert.WdownGradRefIdeal.τ).loc Cert.WdownGradRefIdeal.main_arg0) = m' ((c.tc : Thread Cert.WdownGradRefIdeal.nD Cert.WdownGradRefIdeal.τ).loc Cert.WdownGradRefIdeal.main_arg0)
          ∧ r.2.mem ((c.tc : Thread Cert.WdownGradRefIdeal.nD Cert.WdownGradRefIdeal.τ).loc Cert.WdownGradRefIdeal.main_arg1) = m' ((c.tc : Thread Cert.WdownGradRefIdeal.nD Cert.WdownGradRefIdeal.τ).loc Cert.WdownGradRefIdeal.main_arg1))

def preserves_DownBwd_DownBwdIdeal : Prop :=
  True

def algebraic_DownBwdIdeal_DownBwdRefIdeal_pre_finite_product [hDownBwdIdeal : Cert.DownBwdIdeal.Facts] [hDownBwdRefIdeal : Cert.DownBwdRefIdeal.Facts] [hPre_finite_product : Cert.Pre_finite_product.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal_finite_product m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)) →
    ∃ (v0 : (c : Dev Cert.DownBwdIdeal.nD) → Buf (Elt Ideal) ((c.tc : Thread Cert.DownBwdIdeal.nD Cert.DownBwdIdeal.τ).loc Cert.DownBwdIdeal.main_v0_0)) (v1 : (c : Dev Cert.DownBwdIdeal.nD) → Buf (Elt Ideal) ((c.tc : Thread Cert.DownBwdIdeal.nD Cert.DownBwdIdeal.τ).loc Cert.DownBwdIdeal.main_v0_1)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0_0) = v0 c
          ∧ r.2.mem ((c.tc : Thread Cert.DownBwdIdeal.nD Cert.DownBwdIdeal.τ).loc Cert.DownBwdIdeal.main_v0_1) = v1 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v12) = v0 c
          ∧ r.2.mem ((c.tc : Thread Cert.DownBwdRefIdeal.nD Cert.DownBwdRefIdeal.τ).loc Cert.DownBwdRefIdeal.main_v13) = v1 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v8) = v1 c
          ∧ r.2.mem ((c.tc : Thread Cert.FfnUpRefIdeal.nD Cert.FfnUpRefIdeal.τ).loc Cert.FfnUpRefIdeal.main_v11) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_v6) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v6) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_WoutGrad_WoutGradIdeal : Prop :=
  True

def algebraic_WoutGradIdeal_WoutGradRefIdeal [hWoutGradIdeal : Cert.WoutGradIdeal.Facts] [hWoutGradRefIdeal : Cert.WoutGradRefIdeal.Facts] : Prop :=
  ∀ (m : (ℓ : Loc Cert.WoutGradIdeal.nD Cert.WoutGradIdeal.τ Cert.WoutGradIdeal.sig) → Buf (Elt Ideal) ℓ) (g : Dev Cert.WoutGradIdeal.nD → PrngReg)
    (m' : (ℓ : Loc Cert.WoutGradRefIdeal.nD Cert.WoutGradRefIdeal.τ Cert.WoutGradRefIdeal.sig) → Buf (Elt Ideal) ℓ) (g' : Dev Cert.WoutGradRefIdeal.nD → PrngReg), Pre_WoutGradIdeal m →
    (∀ c : Dev Cert.WoutGradIdeal.nD,
      m' ((c.tc : Thread Cert.WoutGradRefIdeal.nD Cert.WoutGradRefIdeal.τ).loc Cert.WoutGradRefIdeal.main_arg0) = m ((c.tc : Thread Cert.WoutGradIdeal.nD Cert.WoutGradIdeal.τ).loc Cert.WoutGradIdeal.main_arg0)
      ∧ m' ((c.tc : Thread Cert.WoutGradRefIdeal.nD Cert.WoutGradRefIdeal.τ).loc Cert.WoutGradRefIdeal.main_arg1) = m ((c.tc : Thread Cert.WoutGradIdeal.nD Cert.WoutGradIdeal.τ).loc Cert.WoutGradIdeal.main_arg1)) →
    ∃ (v0 : (c : Dev Cert.WoutGradIdeal.nD) → Buf (Elt Ideal) ((c.tc : Thread Cert.WoutGradIdeal.nD Cert.WoutGradIdeal.τ).loc Cert.WoutGradIdeal.main_v0)),
      θ_run (Cert.WoutGradIdeal.defs (F := Ideal)) (onTc (τ := Cert.WoutGradIdeal.τ) (Cert.WoutGradIdeal.main (F := Ideal))) ⟨m, fun _ => 0, g⟩ (fun r => ∀ c : Dev Cert.WoutGradIdeal.nD,
          r.2.mem ((c.tc : Thread Cert.WoutGradIdeal.nD Cert.WoutGradIdeal.τ).loc Cert.WoutGradIdeal.main_v0) = v0 c
          ∧ r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
          ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1))
      ∧ θ_run (Cert.WoutGradRefIdeal.defs (F := Ideal)) (onTc (τ := Cert.WoutGradRefIdeal.τ) (Cert.WoutGradRefIdeal.main (F := Ideal))) ⟨m', fun _ => 0, g'⟩ (fun r => ∀ c : Dev Cert.WoutGradRefIdeal.nD,
          r.2.mem ((c.tc : Thread Cert.WoutGradRefIdeal.nD Cert.WoutGradRefIdeal.τ).loc Cert.WoutGradRefIdeal.main_v6) = v0 c
          ∧ r.2.mem ((c.tc : Thread Cert.WoutGradRefIdeal.nD Cert.WoutGradRefIdeal.τ).loc Cert.WoutGradRefIdeal.main_arg0) = m' ((c.tc : Thread Cert.WoutGradRefIdeal.nD Cert.WoutGradRefIdeal.τ).loc Cert.WoutGradRefIdeal.main_arg0)
          ∧ r.2.mem ((c.tc : Thread Cert.WoutGradRefIdeal.nD Cert.WoutGradRefIdeal.τ).loc Cert.WoutGradRefIdeal.main_arg1) = m' ((c.tc : Thread Cert.WoutGradRefIdeal.nD Cert.WoutGradRefIdeal.τ).loc Cert.WoutGradRefIdeal.main_arg1))

def preserves_WqkvGrad_WqkvGradIdeal : Prop :=
  True

def algebraic_WqkvGradIdeal_WqkvGradRefIdeal [hWqkvGradIdeal : Cert.WqkvGradIdeal.Facts] [hWqkvGradRefIdeal : Cert.WqkvGradRefIdeal.Facts] : Prop :=
  ∀ (m : (ℓ : Loc Cert.WqkvGradIdeal.nD Cert.WqkvGradIdeal.τ Cert.WqkvGradIdeal.sig) → Buf (Elt Ideal) ℓ) (g : Dev Cert.WqkvGradIdeal.nD → PrngReg)
    (m' : (ℓ : Loc Cert.WqkvGradRefIdeal.nD Cert.WqkvGradRefIdeal.τ Cert.WqkvGradRefIdeal.sig) → Buf (Elt Ideal) ℓ) (g' : Dev Cert.WqkvGradRefIdeal.nD → PrngReg), Pre_WqkvGradIdeal m →
    (∀ c : Dev Cert.WqkvGradIdeal.nD,
      m' ((c.tc : Thread Cert.WqkvGradRefIdeal.nD Cert.WqkvGradRefIdeal.τ).loc Cert.WqkvGradRefIdeal.main_arg0) = m ((c.tc : Thread Cert.WqkvGradIdeal.nD Cert.WqkvGradIdeal.τ).loc Cert.WqkvGradIdeal.main_arg0)
      ∧ m' ((c.tc : Thread Cert.WqkvGradRefIdeal.nD Cert.WqkvGradRefIdeal.τ).loc Cert.WqkvGradRefIdeal.main_arg1) = m ((c.tc : Thread Cert.WqkvGradIdeal.nD Cert.WqkvGradIdeal.τ).loc Cert.WqkvGradIdeal.main_arg1)
      ∧ m' ((c.tc : Thread Cert.WqkvGradRefIdeal.nD Cert.WqkvGradRefIdeal.τ).loc Cert.WqkvGradRefIdeal.main_arg2) = m ((c.tc : Thread Cert.WqkvGradIdeal.nD Cert.WqkvGradIdeal.τ).loc Cert.WqkvGradIdeal.main_arg2)
      ∧ m' ((c.tc : Thread Cert.WqkvGradRefIdeal.nD Cert.WqkvGradRefIdeal.τ).loc Cert.WqkvGradRefIdeal.main_arg3) = m ((c.tc : Thread Cert.WqkvGradIdeal.nD Cert.WqkvGradIdeal.τ).loc Cert.WqkvGradIdeal.main_arg3)) →
    ∃ (v0 : (c : Dev Cert.WqkvGradIdeal.nD) → Buf (Elt Ideal) ((c.tc : Thread Cert.WqkvGradIdeal.nD Cert.WqkvGradIdeal.τ).loc Cert.WqkvGradIdeal.main_v0_0)) (v1 : (c : Dev Cert.WqkvGradIdeal.nD) → Buf (Elt Ideal) ((c.tc : Thread Cert.WqkvGradIdeal.nD Cert.WqkvGradIdeal.τ).loc Cert.WqkvGradIdeal.main_v0_1)) (v2 : (c : Dev Cert.WqkvGradIdeal.nD) → Buf (Elt Ideal) ((c.tc : Thread Cert.WqkvGradIdeal.nD Cert.WqkvGradIdeal.τ).loc Cert.WqkvGradIdeal.main_v0_2)),
      θ_run (Cert.WqkvGradIdeal.defs (F := Ideal)) (onTc (τ := Cert.WqkvGradIdeal.τ) (Cert.WqkvGradIdeal.main (F := Ideal))) ⟨m, fun _ => 0, g⟩ (fun r => ∀ c : Dev Cert.WqkvGradIdeal.nD,
          r.2.mem ((c.tc : Thread Cert.WqkvGradIdeal.nD Cert.WqkvGradIdeal.τ).loc Cert.WqkvGradIdeal.main_v0_0) = v0 c
          ∧ r.2.mem ((c.tc : Thread Cert.WqkvGradIdeal.nD Cert.WqkvGradIdeal.τ).loc Cert.WqkvGradIdeal.main_v0_1) = v1 c
          ∧ r.2.mem ((c.tc : Thread Cert.WqkvGradIdeal.nD Cert.WqkvGradIdeal.τ).loc Cert.WqkvGradIdeal.main_v0_2) = v2 c
          ∧ r.2.mem ((c.tc : Thread Cert.WqkvGradIdeal.nD Cert.WqkvGradIdeal.τ).loc Cert.WqkvGradIdeal.main_arg0) = m ((c.tc : Thread Cert.WqkvGradIdeal.nD Cert.WqkvGradIdeal.τ).loc Cert.WqkvGradIdeal.main_arg0)
          ∧ r.2.mem ((c.tc : Thread Cert.WqkvGradIdeal.nD Cert.WqkvGradIdeal.τ).loc Cert.WqkvGradIdeal.main_arg1) = m ((c.tc : Thread Cert.WqkvGradIdeal.nD Cert.WqkvGradIdeal.τ).loc Cert.WqkvGradIdeal.main_arg1)
          ∧ r.2.mem ((c.tc : Thread Cert.WqkvGradIdeal.nD Cert.WqkvGradIdeal.τ).loc Cert.WqkvGradIdeal.main_arg2) = m ((c.tc : Thread Cert.WqkvGradIdeal.nD Cert.WqkvGradIdeal.τ).loc Cert.WqkvGradIdeal.main_arg2)
          ∧ r.2.mem ((c.tc : Thread Cert.WqkvGradIdeal.nD Cert.WqkvGradIdeal.τ).loc Cert.WqkvGradIdeal.main_arg3) = m ((c.tc : Thread Cert.WqkvGradIdeal.nD Cert.WqkvGradIdeal.τ).loc Cert.WqkvGradIdeal.main_arg3))
      ∧ θ_run (Cert.WqkvGradRefIdeal.defs (F := Ideal)) (onTc (τ := Cert.WqkvGradRefIdeal.τ) (Cert.WqkvGradRefIdeal.main (F := Ideal))) ⟨m', fun _ => 0, g'⟩ (fun r => ∀ c : Dev Cert.WqkvGradRefIdeal.nD,
          r.2.mem ((c.tc : Thread Cert.WqkvGradRefIdeal.nD Cert.WqkvGradRefIdeal.τ).loc Cert.WqkvGradRefIdeal.main_v20) = v0 c
          ∧ r.2.mem ((c.tc : Thread Cert.WqkvGradRefIdeal.nD Cert.WqkvGradRefIdeal.τ).loc Cert.WqkvGradRefIdeal.main_v21) = v1 c
          ∧ r.2.mem ((c.tc : Thread Cert.WqkvGradRefIdeal.nD Cert.WqkvGradRefIdeal.τ).loc Cert.WqkvGradRefIdeal.main_v22) = v2 c
          ∧ r.2.mem ((c.tc : Thread Cert.WqkvGradRefIdeal.nD Cert.WqkvGradRefIdeal.τ).loc Cert.WqkvGradRefIdeal.main_arg0) = m' ((c.tc : Thread Cert.WqkvGradRefIdeal.nD Cert.WqkvGradRefIdeal.τ).loc Cert.WqkvGradRefIdeal.main_arg0)
          ∧ r.2.mem ((c.tc : Thread Cert.WqkvGradRefIdeal.nD Cert.WqkvGradRefIdeal.τ).loc Cert.WqkvGradRefIdeal.main_arg1) = m' ((c.tc : Thread Cert.WqkvGradRefIdeal.nD Cert.WqkvGradRefIdeal.τ).loc Cert.WqkvGradRefIdeal.main_arg1)
          ∧ r.2.mem ((c.tc : Thread Cert.WqkvGradRefIdeal.nD Cert.WqkvGradRefIdeal.τ).loc Cert.WqkvGradRefIdeal.main_arg2) = m' ((c.tc : Thread Cert.WqkvGradRefIdeal.nD Cert.WqkvGradRefIdeal.τ).loc Cert.WqkvGradRefIdeal.main_arg2)
          ∧ r.2.mem ((c.tc : Thread Cert.WqkvGradRefIdeal.nD Cert.WqkvGradRefIdeal.τ).loc Cert.WqkvGradRefIdeal.main_arg3) = m' ((c.tc : Thread Cert.WqkvGradRefIdeal.nD Cert.WqkvGradRefIdeal.τ).loc Cert.WqkvGradRefIdeal.main_arg3))

def preserves_QkvBwd_QkvBwdIdeal : Prop :=
  True

def algebraic_QkvBwdIdeal_QkvBwdRefIdeal [hQkvBwdIdeal : Cert.QkvBwdIdeal.Facts] [hQkvBwdRefIdeal : Cert.QkvBwdRefIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg)
    (m' : (ℓ : Loc Cert.QkvBwdRefIdeal.nD Cert.QkvBwdRefIdeal.τ Cert.QkvBwdRefIdeal.sig) → Buf (Elt Ideal) ℓ) (g' : Dev Cert.QkvBwdRefIdeal.nD → PrngReg), Pre_QkvBwdIdeal m →
    (∀ c : Dev Cert.QkvBwdIdeal.nD,
      m' ((c.tc : Thread Cert.QkvBwdRefIdeal.nD Cert.QkvBwdRefIdeal.τ).loc Cert.QkvBwdRefIdeal.main_arg0) = m ((c.tc : Thread Cert.QkvBwdIdeal.nD Cert.QkvBwdIdeal.τ).loc Cert.QkvBwdIdeal.main_arg0)
      ∧ m' ((c.tc : Thread Cert.QkvBwdRefIdeal.nD Cert.QkvBwdRefIdeal.τ).loc Cert.QkvBwdRefIdeal.main_arg1) = m ((c.tc : Thread Cert.QkvBwdIdeal.nD Cert.QkvBwdIdeal.τ).loc Cert.QkvBwdIdeal.main_arg1)
      ∧ m' ((c.tc : Thread Cert.QkvBwdRefIdeal.nD Cert.QkvBwdRefIdeal.τ).loc Cert.QkvBwdRefIdeal.main_arg2) = m ((c.tc : Thread Cert.QkvBwdIdeal.nD Cert.QkvBwdIdeal.τ).loc Cert.QkvBwdIdeal.main_arg2)
      ∧ m' ((c.tc : Thread Cert.QkvBwdRefIdeal.nD Cert.QkvBwdRefIdeal.τ).loc Cert.QkvBwdRefIdeal.main_arg3) = m ((c.tc : Thread Cert.QkvBwdIdeal.nD Cert.QkvBwdIdeal.τ).loc Cert.QkvBwdIdeal.main_arg3)
      ∧ m' ((c.tc : Thread Cert.QkvBwdRefIdeal.nD Cert.QkvBwdRefIdeal.τ).loc Cert.QkvBwdRefIdeal.main_arg4) = m ((c.tc : Thread Cert.QkvBwdIdeal.nD Cert.QkvBwdIdeal.τ).loc Cert.QkvBwdIdeal.main_arg4)
      ∧ m' ((c.tc : Thread Cert.QkvBwdRefIdeal.nD Cert.QkvBwdRefIdeal.τ).loc Cert.QkvBwdRefIdeal.main_arg5) = m ((c.tc : Thread Cert.QkvBwdIdeal.nD Cert.QkvBwdIdeal.τ).loc Cert.QkvBwdIdeal.main_arg5)) →
    ∃ (v0 : (c : Dev Cert.QkvBwdIdeal.nD) → Buf (Elt Ideal) ((c.tc : Thread Cert.QkvBwdIdeal.nD Cert.QkvBwdIdeal.τ).loc Cert.QkvBwdIdeal.main_v0)),
      θ_run (Cert.QkvBwdIdeal.defs (F := Ideal)) (onTc (τ := Cert.QkvBwdIdeal.τ) (Cert.QkvBwdIdeal.main (F := Ideal))) ⟨m, fun _ => 0, g⟩ (fun r => ∀ c : Dev Cert.QkvBwdIdeal.nD,
          r.2.mem ((c.tc : Thread Cert.QkvBwdIdeal.nD Cert.QkvBwdIdeal.τ).loc Cert.QkvBwdIdeal.main_v0) = v0 c
          ∧ r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
          ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
          ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
          ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
          ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
          ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5))
      ∧ θ_run (Cert.QkvBwdRefIdeal.defs (F := Ideal)) (onTc (τ := Cert.QkvBwdRefIdeal.τ) (Cert.QkvBwdRefIdeal.main (F := Ideal))) ⟨m', fun _ => 0, g'⟩ (fun r => ∀ c : Dev Cert.QkvBwdRefIdeal.nD,
          r.2.mem ((c.tc : Thread Cert.QkvBwdRefIdeal.nD Cert.QkvBwdRefIdeal.τ).loc Cert.QkvBwdRefIdeal.main_v26) = v0 c
          ∧ r.2.mem ((c.tc : Thread Cert.QkvBwdRefIdeal.nD Cert.QkvBwdRefIdeal.τ).loc Cert.QkvBwdRefIdeal.main_arg0) = m' ((c.tc : Thread Cert.QkvBwdRefIdeal.nD Cert.QkvBwdRefIdeal.τ).loc Cert.QkvBwdRefIdeal.main_arg0)
          ∧ r.2.mem ((c.tc : Thread Cert.QkvBwdRefIdeal.nD Cert.QkvBwdRefIdeal.τ).loc Cert.QkvBwdRefIdeal.main_arg1) = m' ((c.tc : Thread Cert.QkvBwdRefIdeal.nD Cert.QkvBwdRefIdeal.τ).loc Cert.QkvBwdRefIdeal.main_arg1)
          ∧ r.2.mem ((c.tc : Thread Cert.QkvBwdRefIdeal.nD Cert.QkvBwdRefIdeal.τ).loc Cert.QkvBwdRefIdeal.main_arg2) = m' ((c.tc : Thread Cert.QkvBwdRefIdeal.nD Cert.QkvBwdRefIdeal.τ).loc Cert.QkvBwdRefIdeal.main_arg2)
          ∧ r.2.mem ((c.tc : Thread Cert.QkvBwdRefIdeal.nD Cert.QkvBwdRefIdeal.τ).loc Cert.QkvBwdRefIdeal.main_arg3) = m' ((c.tc : Thread Cert.QkvBwdRefIdeal.nD Cert.QkvBwdRefIdeal.τ).loc Cert.QkvBwdRefIdeal.main_arg3)
          ∧ r.2.mem ((c.tc : Thread Cert.QkvBwdRefIdeal.nD Cert.QkvBwdRefIdeal.τ).loc Cert.QkvBwdRefIdeal.main_arg4) = m' ((c.tc : Thread Cert.QkvBwdRefIdeal.nD Cert.QkvBwdRefIdeal.τ).loc Cert.QkvBwdRefIdeal.main_arg4)
          ∧ r.2.mem ((c.tc : Thread Cert.QkvBwdRefIdeal.nD Cert.QkvBwdRefIdeal.τ).loc Cert.QkvBwdRefIdeal.main_arg5) = m' ((c.tc : Thread Cert.QkvBwdRefIdeal.nD Cert.QkvBwdRefIdeal.τ).loc Cert.QkvBwdRefIdeal.main_arg5))

def preserves_SguIn_SguInIdeal : Prop :=
  True

def algebraic_SguInIdeal_SguInRefIdeal [hSguInIdeal : Cert.SguInIdeal.Facts] [hSguInRefIdeal : Cert.SguInRefIdeal.Facts] : Prop :=
  ∀ (m : (ℓ : Loc Cert.SguInIdeal.nD Cert.SguInIdeal.τ Cert.SguInIdeal.sig) → Buf (Elt Ideal) ℓ) (g : Dev Cert.SguInIdeal.nD → PrngReg)
    (m' : (ℓ : Loc Cert.SguInRefIdeal.nD Cert.SguInRefIdeal.τ Cert.SguInRefIdeal.sig) → Buf (Elt Ideal) ℓ) (g' : Dev Cert.SguInRefIdeal.nD → PrngReg), Pre_SguInIdeal m →
    (∀ c : Dev Cert.SguInIdeal.nD,
      m' ((c.tc : Thread Cert.SguInRefIdeal.nD Cert.SguInRefIdeal.τ).loc Cert.SguInRefIdeal.main_arg0) = m ((c.tc : Thread Cert.SguInIdeal.nD Cert.SguInIdeal.τ).loc Cert.SguInIdeal.main_arg0)
      ∧ m' ((c.tc : Thread Cert.SguInRefIdeal.nD Cert.SguInRefIdeal.τ).loc Cert.SguInRefIdeal.main_arg1) = m ((c.tc : Thread Cert.SguInIdeal.nD Cert.SguInIdeal.τ).loc Cert.SguInIdeal.main_arg1)
      ∧ m' ((c.tc : Thread Cert.SguInRefIdeal.nD Cert.SguInRefIdeal.τ).loc Cert.SguInRefIdeal.main_arg2) = m ((c.tc : Thread Cert.SguInIdeal.nD Cert.SguInIdeal.τ).loc Cert.SguInIdeal.main_arg2)) →
    ∃ (v0 : (c : Dev Cert.SguInIdeal.nD) → Buf (Elt Ideal) ((c.tc : Thread Cert.SguInIdeal.nD Cert.SguInIdeal.τ).loc Cert.SguInIdeal.main_v0)),
      θ_run (Cert.SguInIdeal.defs (F := Ideal)) (onTc (τ := Cert.SguInIdeal.τ) (Cert.SguInIdeal.main (F := Ideal))) ⟨m, fun _ => 0, g⟩ (fun r => ∀ c : Dev Cert.SguInIdeal.nD,
          r.2.mem ((c.tc : Thread Cert.SguInIdeal.nD Cert.SguInIdeal.τ).loc Cert.SguInIdeal.main_v0) = v0 c
          ∧ r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
          ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
          ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2))
      ∧ θ_run (Cert.SguInRefIdeal.defs (F := Ideal)) (onTc (τ := Cert.SguInRefIdeal.τ) (Cert.SguInRefIdeal.main (F := Ideal))) ⟨m', fun _ => 0, g'⟩ (fun r => ∀ c : Dev Cert.SguInRefIdeal.nD,
          r.2.mem ((c.tc : Thread Cert.SguInRefIdeal.nD Cert.SguInRefIdeal.τ).loc Cert.SguInRefIdeal.main_v4) = v0 c
          ∧ r.2.mem ((c.tc : Thread Cert.SguInRefIdeal.nD Cert.SguInRefIdeal.τ).loc Cert.SguInRefIdeal.main_arg0) = m' ((c.tc : Thread Cert.SguInRefIdeal.nD Cert.SguInRefIdeal.τ).loc Cert.SguInRefIdeal.main_arg0)
          ∧ r.2.mem ((c.tc : Thread Cert.SguInRefIdeal.nD Cert.SguInRefIdeal.τ).loc Cert.SguInRefIdeal.main_arg1) = m' ((c.tc : Thread Cert.SguInRefIdeal.nD Cert.SguInRefIdeal.τ).loc Cert.SguInRefIdeal.main_arg1)
          ∧ r.2.mem ((c.tc : Thread Cert.SguInRefIdeal.nD Cert.SguInRefIdeal.τ).loc Cert.SguInRefIdeal.main_arg2) = m' ((c.tc : Thread Cert.SguInRefIdeal.nD Cert.SguInRefIdeal.τ).loc Cert.SguInRefIdeal.main_arg2))

def preserves_SguInBwd_SguInBwdIdeal : Prop :=
  True

def algebraic_SguInBwdIdeal_SguInBwdRefIdeal [hSguInBwdIdeal : Cert.SguInBwdIdeal.Facts] [hSguInBwdRefIdeal : Cert.SguInBwdRefIdeal.Facts] : Prop :=
  ∀ (m : (ℓ : Loc Cert.SguInBwdIdeal.nD Cert.SguInBwdIdeal.τ Cert.SguInBwdIdeal.sig) → Buf (Elt Ideal) ℓ) (g : Dev Cert.SguInBwdIdeal.nD → PrngReg)
    (m' : (ℓ : Loc Cert.SguInBwdRefIdeal.nD Cert.SguInBwdRefIdeal.τ Cert.SguInBwdRefIdeal.sig) → Buf (Elt Ideal) ℓ) (g' : Dev Cert.SguInBwdRefIdeal.nD → PrngReg), Pre_SguInBwdIdeal m →
    (∀ c : Dev Cert.SguInBwdIdeal.nD,
      m' ((c.tc : Thread Cert.SguInBwdRefIdeal.nD Cert.SguInBwdRefIdeal.τ).loc Cert.SguInBwdRefIdeal.main_arg0) = m ((c.tc : Thread Cert.SguInBwdIdeal.nD Cert.SguInBwdIdeal.τ).loc Cert.SguInBwdIdeal.main_arg0)
      ∧ m' ((c.tc : Thread Cert.SguInBwdRefIdeal.nD Cert.SguInBwdRefIdeal.τ).loc Cert.SguInBwdRefIdeal.main_arg1) = m ((c.tc : Thread Cert.SguInBwdIdeal.nD Cert.SguInBwdIdeal.τ).loc Cert.SguInBwdIdeal.main_arg1)) →
    ∃ (v0 : (c : Dev Cert.SguInBwdIdeal.nD) → Buf (Elt Ideal) ((c.tc : Thread Cert.SguInBwdIdeal.nD Cert.SguInBwdIdeal.τ).loc Cert.SguInBwdIdeal.main_v0)),
      θ_run (Cert.SguInBwdIdeal.defs (F := Ideal)) (onTc (τ := Cert.SguInBwdIdeal.τ) (Cert.SguInBwdIdeal.main (F := Ideal))) ⟨m, fun _ => 0, g⟩ (fun r => ∀ c : Dev Cert.SguInBwdIdeal.nD,
          r.2.mem ((c.tc : Thread Cert.SguInBwdIdeal.nD Cert.SguInBwdIdeal.τ).loc Cert.SguInBwdIdeal.main_v0) = v0 c
          ∧ r.2.mem ((c.tc : Thread Cert.SguInBwdIdeal.nD Cert.SguInBwdIdeal.τ).loc Cert.SguInBwdIdeal.main_arg0) = m ((c.tc : Thread Cert.SguInBwdIdeal.nD Cert.SguInBwdIdeal.τ).loc Cert.SguInBwdIdeal.main_arg0)
          ∧ r.2.mem ((c.tc : Thread Cert.SguInBwdIdeal.nD Cert.SguInBwdIdeal.τ).loc Cert.SguInBwdIdeal.main_arg1) = m ((c.tc : Thread Cert.SguInBwdIdeal.nD Cert.SguInBwdIdeal.τ).loc Cert.SguInBwdIdeal.main_arg1))
      ∧ θ_run (Cert.SguInBwdRefIdeal.defs (F := Ideal)) (onTc (τ := Cert.SguInBwdRefIdeal.τ) (Cert.SguInBwdRefIdeal.main (F := Ideal))) ⟨m', fun _ => 0, g'⟩ (fun r => ∀ c : Dev Cert.SguInBwdRefIdeal.nD,
          r.2.mem ((c.tc : Thread Cert.SguInBwdRefIdeal.nD Cert.SguInBwdRefIdeal.τ).loc Cert.SguInBwdRefIdeal.main_v4) = v0 c
          ∧ r.2.mem ((c.tc : Thread Cert.SguInBwdRefIdeal.nD Cert.SguInBwdRefIdeal.τ).loc Cert.SguInBwdRefIdeal.main_arg0) = m' ((c.tc : Thread Cert.SguInBwdRefIdeal.nD Cert.SguInBwdRefIdeal.τ).loc Cert.SguInBwdRefIdeal.main_arg0)
          ∧ r.2.mem ((c.tc : Thread Cert.SguInBwdRefIdeal.nD Cert.SguInBwdRefIdeal.τ).loc Cert.SguInBwdRefIdeal.main_arg1) = m' ((c.tc : Thread Cert.SguInBwdRefIdeal.nD Cert.SguInBwdRefIdeal.τ).loc Cert.SguInBwdRefIdeal.main_arg1))

def preserves_SguOutBwd_SguOutBwdIdeal : Prop :=
  True

def algebraic_SguOutBwdIdeal_SguOutBwdRefIdeal [hSguOutBwdIdeal : Cert.SguOutBwdIdeal.Facts] [hSguOutBwdRefIdeal : Cert.SguOutBwdRefIdeal.Facts] : Prop :=
  ∀ (m : (ℓ : Loc Cert.SguOutBwdIdeal.nD Cert.SguOutBwdIdeal.τ Cert.SguOutBwdIdeal.sig) → Buf (Elt Ideal) ℓ) (g : Dev Cert.SguOutBwdIdeal.nD → PrngReg)
    (m' : (ℓ : Loc Cert.SguOutBwdRefIdeal.nD Cert.SguOutBwdRefIdeal.τ Cert.SguOutBwdRefIdeal.sig) → Buf (Elt Ideal) ℓ) (g' : Dev Cert.SguOutBwdRefIdeal.nD → PrngReg), Pre_SguOutBwdIdeal m →
    (∀ c : Dev Cert.SguOutBwdIdeal.nD,
      m' ((c.tc : Thread Cert.SguOutBwdRefIdeal.nD Cert.SguOutBwdRefIdeal.τ).loc Cert.SguOutBwdRefIdeal.main_arg0) = m ((c.tc : Thread Cert.SguOutBwdIdeal.nD Cert.SguOutBwdIdeal.τ).loc Cert.SguOutBwdIdeal.main_arg0)
      ∧ m' ((c.tc : Thread Cert.SguOutBwdRefIdeal.nD Cert.SguOutBwdRefIdeal.τ).loc Cert.SguOutBwdRefIdeal.main_arg1) = m ((c.tc : Thread Cert.SguOutBwdIdeal.nD Cert.SguOutBwdIdeal.τ).loc Cert.SguOutBwdIdeal.main_arg1)) →
    ∃ (v0 : (c : Dev Cert.SguOutBwdIdeal.nD) → Buf (Elt Ideal) ((c.tc : Thread Cert.SguOutBwdIdeal.nD Cert.SguOutBwdIdeal.τ).loc Cert.SguOutBwdIdeal.main_v0)),
      θ_run (Cert.SguOutBwdIdeal.defs (F := Ideal)) (onTc (τ := Cert.SguOutBwdIdeal.τ) (Cert.SguOutBwdIdeal.main (F := Ideal))) ⟨m, fun _ => 0, g⟩ (fun r => ∀ c : Dev Cert.SguOutBwdIdeal.nD,
          r.2.mem ((c.tc : Thread Cert.SguOutBwdIdeal.nD Cert.SguOutBwdIdeal.τ).loc Cert.SguOutBwdIdeal.main_v0) = v0 c
          ∧ r.2.mem ((c.tc : Thread Cert.SguOutBwdIdeal.nD Cert.SguOutBwdIdeal.τ).loc Cert.SguOutBwdIdeal.main_arg0) = m ((c.tc : Thread Cert.SguOutBwdIdeal.nD Cert.SguOutBwdIdeal.τ).loc Cert.SguOutBwdIdeal.main_arg0)
          ∧ r.2.mem ((c.tc : Thread Cert.SguOutBwdIdeal.nD Cert.SguOutBwdIdeal.τ).loc Cert.SguOutBwdIdeal.main_arg1) = m ((c.tc : Thread Cert.SguOutBwdIdeal.nD Cert.SguOutBwdIdeal.τ).loc Cert.SguOutBwdIdeal.main_arg1))
      ∧ θ_run (Cert.SguOutBwdRefIdeal.defs (F := Ideal)) (onTc (τ := Cert.SguOutBwdRefIdeal.τ) (Cert.SguOutBwdRefIdeal.main (F := Ideal))) ⟨m', fun _ => 0, g'⟩ (fun r => ∀ c : Dev Cert.SguOutBwdRefIdeal.nD,
          r.2.mem ((c.tc : Thread Cert.SguOutBwdRefIdeal.nD Cert.SguOutBwdRefIdeal.τ).loc Cert.SguOutBwdRefIdeal.main_v4) = v0 c
          ∧ r.2.mem ((c.tc : Thread Cert.SguOutBwdRefIdeal.nD Cert.SguOutBwdRefIdeal.τ).loc Cert.SguOutBwdRefIdeal.main_arg0) = m' ((c.tc : Thread Cert.SguOutBwdRefIdeal.nD Cert.SguOutBwdRefIdeal.τ).loc Cert.SguOutBwdRefIdeal.main_arg0)
          ∧ r.2.mem ((c.tc : Thread Cert.SguOutBwdRefIdeal.nD Cert.SguOutBwdRefIdeal.τ).loc Cert.SguOutBwdRefIdeal.main_arg1) = m' ((c.tc : Thread Cert.SguOutBwdRefIdeal.nD Cert.SguOutBwdRefIdeal.τ).loc Cert.SguOutBwdRefIdeal.main_arg1))

def Claim : Prop :=
  ∃ (hKernel : Cert.Kernel.Facts) (hKernelIdeal : Cert.KernelIdeal.Facts) (hReferenceIdeal : Cert.ReferenceIdeal.Facts) (hWupGrad : Cert.WupGrad.Facts) (hWupGradIdeal : Cert.WupGradIdeal.Facts) (hWupGradRefIdeal : Cert.WupGradRefIdeal.Facts) (hUpBwd : Cert.UpBwd.Facts) (hUpBwdIdeal : Cert.UpBwdIdeal.Facts) (hUpBwdRefIdeal : Cert.UpBwdRefIdeal.Facts) (hWdownGrad : Cert.WdownGrad.Facts) (hWdownGradIdeal : Cert.WdownGradIdeal.Facts) (hWdownGradRefIdeal : Cert.WdownGradRefIdeal.Facts) (hDownBwd : Cert.DownBwd.Facts) (hDownBwdIdeal : Cert.DownBwdIdeal.Facts) (hDownBwdRefIdeal : Cert.DownBwdRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hQkv : Cert.Qkv.Facts) (hQkvIdeal : Cert.QkvIdeal.Facts) (hQkvRefIdeal : Cert.QkvRefIdeal.Facts) (hOutProj : Cert.OutProj.Facts) (hOutProjIdeal : Cert.OutProjIdeal.Facts) (hOutProjRefIdeal : Cert.OutProjRefIdeal.Facts) (hWoutGrad : Cert.WoutGrad.Facts) (hWoutGradIdeal : Cert.WoutGradIdeal.Facts) (hWoutGradRefIdeal : Cert.WoutGradRefIdeal.Facts) (hWqkvGrad : Cert.WqkvGrad.Facts) (hWqkvGradIdeal : Cert.WqkvGradIdeal.Facts) (hWqkvGradRefIdeal : Cert.WqkvGradRefIdeal.Facts) (hQkvBwd : Cert.QkvBwd.Facts) (hQkvBwdIdeal : Cert.QkvBwdIdeal.Facts) (hQkvBwdRefIdeal : Cert.QkvBwdRefIdeal.Facts) (hSguIn : Cert.SguIn.Facts) (hSguInIdeal : Cert.SguInIdeal.Facts) (hSguInRefIdeal : Cert.SguInRefIdeal.Facts) (hSguInBwd : Cert.SguInBwd.Facts) (hSguInBwdIdeal : Cert.SguInBwdIdeal.Facts) (hSguInBwdRefIdeal : Cert.SguInBwdRefIdeal.Facts) (hSguOutBwd : Cert.SguOutBwd.Facts) (hSguOutBwdIdeal : Cert.SguOutBwdIdeal.Facts) (hSguOutBwdRefIdeal : Cert.SguOutBwdRefIdeal.Facts) (hPre_finite : Cert.Pre_finite.Facts) (hPre_finite_product : Cert.Pre_finite_product.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WupGrad (hWupGrad := hWupGrad)
    ∧ quiescent_WupGradIdeal (hWupGradIdeal := hWupGradIdeal)
    ∧ quiescent_WupGradRefIdeal (hWupGradRefIdeal := hWupGradRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_WdownGrad (hWdownGrad := hWdownGrad)
    ∧ quiescent_WdownGradIdeal (hWdownGradIdeal := hWdownGradIdeal)
    ∧ quiescent_WdownGradRefIdeal (hWdownGradRefIdeal := hWdownGradRefIdeal)
    ∧ quiescent_DownBwd (hDownBwd := hDownBwd)
    ∧ quiescent_DownBwdIdeal (hDownBwdIdeal := hDownBwdIdeal)
    ∧ quiescent_DownBwdIdeal_pre_finite_product (hDownBwdIdeal := hDownBwdIdeal) (hPre_finite_product := hPre_finite_product)
    ∧ quiescent_DownBwdRefIdeal (hDownBwdRefIdeal := hDownBwdRefIdeal)
    ∧ quiescent_DownBwdRefIdeal_pre_finite_product (hDownBwdRefIdeal := hDownBwdRefIdeal) (hPre_finite_product := hPre_finite_product)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_WoutGrad (hWoutGrad := hWoutGrad)
    ∧ quiescent_WoutGradIdeal (hWoutGradIdeal := hWoutGradIdeal)
    ∧ quiescent_WoutGradRefIdeal (hWoutGradRefIdeal := hWoutGradRefIdeal)
    ∧ quiescent_WqkvGrad (hWqkvGrad := hWqkvGrad)
    ∧ quiescent_WqkvGradIdeal (hWqkvGradIdeal := hWqkvGradIdeal)
    ∧ quiescent_WqkvGradRefIdeal (hWqkvGradRefIdeal := hWqkvGradRefIdeal)
    ∧ quiescent_QkvBwd (hQkvBwd := hQkvBwd)
    ∧ quiescent_QkvBwdIdeal (hQkvBwdIdeal := hQkvBwdIdeal)
    ∧ quiescent_QkvBwdRefIdeal (hQkvBwdRefIdeal := hQkvBwdRefIdeal)
    ∧ quiescent_SguIn (hSguIn := hSguIn)
    ∧ quiescent_SguInIdeal (hSguInIdeal := hSguInIdeal)
    ∧ quiescent_SguInRefIdeal (hSguInRefIdeal := hSguInRefIdeal)
    ∧ quiescent_SguInBwd (hSguInBwd := hSguInBwd)
    ∧ quiescent_SguInBwdIdeal (hSguInBwdIdeal := hSguInBwdIdeal)
    ∧ quiescent_SguInBwdRefIdeal (hSguInBwdRefIdeal := hSguInBwdRefIdeal)
    ∧ quiescent_SguOutBwd (hSguOutBwd := hSguOutBwd)
    ∧ quiescent_SguOutBwdIdeal (hSguOutBwdIdeal := hSguOutBwdIdeal)
    ∧ quiescent_SguOutBwdRefIdeal (hSguOutBwdRefIdeal := hSguOutBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WupGrad_WupGradIdeal
    ∧ algebraic_WupGradIdeal_WupGradRefIdeal (hWupGradIdeal := hWupGradIdeal) (hWupGradRefIdeal := hWupGradRefIdeal)
    ∧ preserves_UpBwd_UpBwdIdeal
    ∧ algebraic_UpBwdIdeal_UpBwdRefIdeal (hUpBwdIdeal := hUpBwdIdeal) (hUpBwdRefIdeal := hUpBwdRefIdeal)
    ∧ preserves_WdownGrad_WdownGradIdeal
    ∧ algebraic_WdownGradIdeal_WdownGradRefIdeal (hWdownGradIdeal := hWdownGradIdeal) (hWdownGradRefIdeal := hWdownGradRefIdeal)
    ∧ preserves_DownBwd_DownBwdIdeal
    ∧ algebraic_DownBwdIdeal_DownBwdRefIdeal_pre_finite_product (hDownBwdIdeal := hDownBwdIdeal) (hDownBwdRefIdeal := hDownBwdRefIdeal) (hPre_finite_product := hPre_finite_product)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Qkv_QkvIdeal
    ∧ algebraic_QkvIdeal_QkvRefIdeal (hQkvIdeal := hQkvIdeal) (hQkvRefIdeal := hQkvRefIdeal)
    ∧ preserves_OutProj_OutProjIdeal
    ∧ algebraic_OutProjIdeal_OutProjRefIdeal (hOutProjIdeal := hOutProjIdeal) (hOutProjRefIdeal := hOutProjRefIdeal)
    ∧ preserves_WoutGrad_WoutGradIdeal
    ∧ algebraic_WoutGradIdeal_WoutGradRefIdeal (hWoutGradIdeal := hWoutGradIdeal) (hWoutGradRefIdeal := hWoutGradRefIdeal)
    ∧ preserves_WqkvGrad_WqkvGradIdeal
    ∧ algebraic_WqkvGradIdeal_WqkvGradRefIdeal (hWqkvGradIdeal := hWqkvGradIdeal) (hWqkvGradRefIdeal := hWqkvGradRefIdeal)
    ∧ preserves_QkvBwd_QkvBwdIdeal
    ∧ algebraic_QkvBwdIdeal_QkvBwdRefIdeal (hQkvBwdIdeal := hQkvBwdIdeal) (hQkvBwdRefIdeal := hQkvBwdRefIdeal)
    ∧ preserves_SguIn_SguInIdeal
    ∧ algebraic_SguInIdeal_SguInRefIdeal (hSguInIdeal := hSguInIdeal) (hSguInRefIdeal := hSguInRefIdeal)
    ∧ preserves_SguInBwd_SguInBwdIdeal
    ∧ algebraic_SguInBwdIdeal_SguInBwdRefIdeal (hSguInBwdIdeal := hSguInBwdIdeal) (hSguInBwdRefIdeal := hSguInBwdRefIdeal)
    ∧ preserves_SguOutBwd_SguOutBwdIdeal
    ∧ algebraic_SguOutBwdIdeal_SguOutBwdRefIdeal (hSguOutBwdIdeal := hSguOutBwdIdeal) (hSguOutBwdRefIdeal := hSguOutBwdRefIdeal)
-- ==== Pre_finite.lean ====
abbrev S4096x6144 : Shape := ⟨2, ![4096, 6144]⟩
abbrev S4096x2048 : Shape := ⟨2, ![4096, 2048]⟩
abbrev S4096x16 : Shape := ⟨2, ![4096, 16]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4096x6144 .bf16) (main_arg1 : FVec F S4096x2048 .bf16) (main_arg2 : FVec F S4096x16 .f32) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x16 .f32 := Host.absf main_arg2
  let main_cst_2 : FVec F S_ .f32 := constant S_ .f32 0x7F800000#32
  let main_v12 : FVec F S4096x16 .f32 := broadcastInDim S4096x16 ![] bcast_S_S4096x16 main_cst_2
  let main_v13 : IVec S4096x16 1 := cmpf .olt main_v11 main_v12
  let main_c_3 : IVec S_ 1 := constantI S_ 1 1#1
  let main_v14 : IVec S_ 1 := (fun x v => Host.reduce IntOp.andi x v reducesTo_S4096x16_S_d0_1 h_S_) main_v13 main_c_3
  let main_v15 : IVec S_ 1 := andi main_v10 main_v14
  main_v15
-- ==== Pre_finite_product.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_
  bcast_S_S8x4096x704 : S_.BroadcastsInDim S8x4096x704 (![] : Fin 0 → Fin S8x4096x704.rank)
  reducesTo_S8x4096x704_S_d0_1_2 : S8x4096x704.ReducesTo [0, 1, 2] S_

variable [Facts]

def fn {F : FTy → Type} [FloatOps F] (main_arg0 : FVec F S4096x2048 .bf16) (main_arg1 : FVec F S8x704x2048 .bf16) (main_arg2 : FVec F S8x4096x704 .bf16) (main_arg3 : FVec F S8x4096x704 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S8x704x2048 .f32 := (extf .f32 · bitsLt_bf16_f32) main_arg1
  let main_v6 : FVec F S8x704x2048 .f32 := Host.absf main_v5
  let main_cst_0 : FVec F S_ .f32 := constant S_ .f32 0x7F800000#32
  let main_v7 : FVec F S8x704x2048 .f32 := broadcastInDim S8x704x2048 ![] bcast_S_S8x704x2048 main_cst_0
  let main_v8 : IVec S8x704x2048 1 := cmpf .olt main_v6 main_v7
  let main_c_1 : IVec S_ 1 := constantI S_ 1 1#1
  let main_v9 : IVec S_ 1 := (fun x v => Host.reduce IntOp.andi x v reducesTo_S8x704x2048_S_d0_1_2 h_S_) main_v8 main_c_1
  let main_v10 : IVec S_ 1 := andi main_v4 main_v9
  let main_v11 : FVec F S8x4096x704 .f32 := (extf .f32 · bitsLt_bf16_f32) main_arg3
  let main_v12 : FVec F S8x4096x704 .f32 := Host.absf main_v11
  let main_cst_2 : FVec F S_ .f32 := constant S_ .f32 0x7F800000#32
  let main_v13 : FVec F S8x4096x704 .f32 := broadcastInDim S8x4096x704 ![] bcast_S_S8x4096x704 main_cst_2
  let main_v14 : IVec S8x4096x704 1 := cmpf .olt main_v12 main_v13
  let main_c_3 : IVec S_ 1 := constantI S_ 1 1#1
  let main_v15 : IVec S_ 1 := (fun x v => Host.reduce IntOp.andi x v reducesTo_S8x4096x704_S_d0_1_2 h_S_) main_v14 main_c_3
  let main_v16 : IVec S_ 1 := andi main_v10 main_v15
  main_v16
-- ==== Kernel.lean ====
abbrev S4096x6144 : Shape := ⟨2, ![4096, 6144]⟩
abbrev S4096x2048 : Shape := ⟨2, ![4096, 2048]⟩
abbrev S4096x16 : Shape := ⟨2, ![4096, 16]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4096x128 : Shape := ⟨2, ![4096, 128]⟩
abbrev S256x128 : Shape := ⟨2, ![256, 128]⟩
abbrev S1x1x256 : Shape := ⟨3, ![1, 1, 256]⟩
abbrev S1x4096x128 : Shape := ⟨3, ![1, 4096, 128]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩

abbrev nBuf : Space → Nat
  | .hbm => 114
  | .vmem => 25
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S4096x16, .f32⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x16x128, .f32⟩
  | .hbm, ⟨8, _⟩ => ⟨S16x4096x128, .f32⟩
  | .hbm, ⟨9, _⟩ => ⟨S4096x16x128, .f32⟩
  | .hbm, ⟨10, _⟩ => ⟨S16x4096x128, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096, .f32⟩
  | .hbm, ⟨16, _⟩ => ⟨S16x4096x1, .f32⟩
  | .hbm, ⟨17, _⟩ => ⟨S16x4096x4096, .f32⟩
  | .hbm, ⟨18, _⟩ => ⟨S16x4096x4096, .f32⟩
  | .hbm, ⟨19, _⟩ => ⟨S16x4096, .f32⟩
  | .hbm, ⟨20, _⟩ => ⟨S16x1x4096, .f32⟩
  | .hbm, ⟨21, _⟩ => ⟨S16x4096x4096, .f32⟩
  | .hbm, ⟨22, _⟩ => ⟨S16x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x4096x4096, .i1⟩
  | .hbm, ⟨30, _⟩ => ⟨S_, .f32⟩
  | .hbm, ⟨31, _⟩ => ⟨S_, .f32⟩
  | .hbm, ⟨32, _⟩ => ⟨S16x4096x4096, .i1⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S16x4096x4096, .f32⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S16x4096x1, .f32⟩
  | .hbm, ⟨44, _⟩ => ⟨S16x4096x1, .f32⟩
  | .hbm, ⟨45, _⟩ => ⟨S16x4096x1, .f32⟩
  | .hbm, ⟨46, _⟩ => ⟨S4096x16x128, .f32⟩
  | .hbm, ⟨47, _⟩ => ⟨S16x4096x128, .f32⟩
  | .hbm, ⟨48, _⟩ => ⟨S4096x16x128, .f32⟩
  | .hbm, ⟨49, _⟩ => ⟨S16x4096x128, .f32⟩
  | .hbm, ⟨50, _⟩ => ⟨S16x4096x4096, .f32⟩
  | .hbm, ⟨51, _⟩ => ⟨S_, .f32⟩
  | .hbm, ⟨52, _⟩ => ⟨S16x4096x4096, .f32⟩
  | .hbm, ⟨53, _⟩ => ⟨S16x4096x4096, .f32⟩
  | .hbm, ⟨54, _⟩ => ⟨S16x4096, .f32⟩
  | .hbm, ⟨55, _⟩ => ⟨S16x4096x1, .f32⟩
  | .hbm, ⟨56, _⟩ => ⟨S16x4096x4096, .f32⟩
  | .hbm, ⟨57, _⟩ => ⟨S16x4096x4096, .f32⟩
  | .hbm, ⟨58, _⟩ => ⟨S16x4096, .f32⟩
  | .hbm, ⟨59, _⟩ => ⟨S16x1x4096, .f32⟩
  | .hbm, ⟨60, _⟩ => ⟨S16x4096x4096, .f32⟩
  | .hbm, ⟨61, _⟩ => ⟨S16x4096x4096, .f32⟩
  | .hbm, ⟨62, _⟩ => ⟨S4096, .i32⟩
  | .hbm, ⟨63, _⟩ => ⟨S1x4096, .i32⟩
  | .hbm, ⟨64, _⟩ => ⟨S4096x1, .i32⟩
  | .hbm, ⟨65, _⟩ => ⟨S4096x4096, .i32⟩
  | .hbm, ⟨66, _⟩ => ⟨S4096x4096, .i32⟩
  | .hbm, ⟨67, _⟩ => ⟨S4096x4096, .i1⟩
  | .hbm, ⟨68, _⟩ => ⟨S1x4096x4096, .i1⟩
  | .hbm, ⟨69, _⟩ => ⟨S_, .f32⟩
  | .hbm, ⟨70, _⟩ => ⟨S_, .f32⟩
  | .hbm, ⟨71, _⟩ => ⟨S16x4096x4096, .i1⟩
  | .hbm, ⟨72, _⟩ => ⟨S16x4096x4096, .f32⟩
  | .hbm, ⟨73, _⟩ => ⟨S16x4096x4096, .f32⟩
  | .hbm, ⟨74, _⟩ => ⟨S_, .f32⟩
  | .hbm, ⟨75, _⟩ => ⟨S16x4096, .f32⟩
  | .hbm, ⟨76, _⟩ => ⟨S_, .f32⟩
  | .hbm, ⟨77, _⟩ => ⟨S16x4096, .f32⟩
  | .hbm, ⟨78, _⟩ => ⟨S16x4096, .f32⟩
  | .hbm, ⟨79, _⟩ => ⟨S16x4096x1, .f32⟩
  | .hbm, ⟨80, _⟩ => ⟨S16x4096x4096, .f32⟩
  | .hbm, ⟨81, _⟩ => ⟨S16x4096x4096, .f32⟩
  | .hbm, ⟨82, _⟩ => ⟨S16x4096x4096, .f32⟩
  | .hbm, ⟨83, _⟩ => ⟨S_, .f32⟩
  | .hbm, ⟨84, _⟩ => ⟨S16x4096, .f32⟩
  | .hbm, ⟨85, _⟩ => ⟨S16x4096x1, .f32⟩
  | .hbm, ⟨86, _⟩ => ⟨S16x4096x4096, .f32⟩
  | .hbm, ⟨87, _⟩ => ⟨S16x4096x4096, .f32⟩
  | .hbm, ⟨88, _⟩ => ⟨S4096x16x128, .f32⟩
  | .hbm, ⟨89, _⟩ => ⟨S16x4096x128, .f32⟩
  | .hbm, ⟨90, _⟩ => ⟨S16x4096x128, .f32⟩
  | .hbm, ⟨91, _⟩ => ⟨S4096x16x128, .f32⟩
  | .hbm, ⟨92, _⟩ => ⟨S4096x2048, .f32⟩
  | .hbm, ⟨93, _⟩ => ⟨S4096x2048, .bf16⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x16x128, .f32⟩
  | .hbm, ⟨98, _⟩ => ⟨S16x4096x128, .f32⟩
  | .hbm, ⟨99, _⟩ => ⟨S_, .f32⟩
  | .hbm, ⟨100, _⟩ => ⟨S16x4096, .f32⟩
  | .hbm, ⟨101, _⟩ => ⟨S16x4096x1, .f32⟩
  | .hbm, ⟨102, _⟩ => ⟨S16x4096x128, .f32⟩
  | .hbm, ⟨103, _⟩ => ⟨S16x4096x128, .f32⟩
  | .hbm, ⟨104, _⟩ => ⟨S_, .i32⟩
  | .hbm, ⟨105, _⟩ => ⟨S_, .f32⟩
  | .hbm, ⟨106, _⟩ => ⟨S4096x128, .f32⟩
  | .hbm, ⟨107, _⟩ => ⟨S16x4096, .f32⟩
  | .hbm, ⟨108, _⟩ => ⟨S16x1x4096, .f32⟩
  | .hbm, ⟨109, _⟩ => ⟨S4096x2048, .bf16⟩
  | .hbm, ⟨110, _⟩ => ⟨S4096x2048, .bf16⟩
  | .hbm, ⟨111, _⟩ => ⟨S4096x2048, .bf16⟩
  | .hbm, ⟨112, _⟩ => ⟨S4096x128, .f32⟩
  | .hbm, ⟨113, _⟩ => ⟨S16x1x4096, .f32⟩
  | .local _ .vmem, ⟨0, _⟩ => ⟨S4096x128, .bf16⟩
  | .local _ .vmem, ⟨1, _⟩ => ⟨S4096x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S1x1x256, .f32⟩
  | .local _ .vmem, ⟨10, _⟩ => ⟨S1x1x256, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S4096x128, .bf16⟩
  | .local _ .vmem, ⟨16, _⟩ => ⟨S4096x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S4096x128, .f32⟩
  | .local _ .vmem, ⟨22, _⟩ => ⟨S1x1x256, .f32⟩
  | .local _ .vmem, ⟨23, _⟩ => ⟨S1x1x256, .f32⟩
  | .local _ .vmem, ⟨24, _⟩ => ⟨S4096x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_4 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_c : Ref sig .tc := ⟨.hbm, 104, rfl⟩
abbrev main_call2_v0 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88_0 : Ref sig .tc := ⟨.hbm, 109, rfl⟩
abbrev main_v88_1 : Ref sig .tc := ⟨.hbm, 110, rfl⟩
abbrev main_v88_2 : Ref sig .tc := ⟨.hbm, 111, rfl⟩
abbrev main_v88_3 : Ref sig .tc := ⟨.hbm, 112, rfl⟩
abbrev main_v88_4 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c256_i32 : BitVec 32 := 256#32
  let v16 : BitVec 32 := Scalar.muli arg1 c256_i32
  v16
def k0_off1 (i : grid0.Coords) : Fin 2 → Nat :=
  let arg1 : BitVec 32 := BitVec.ofNat 32 (i 1).val
  let c256_i32 : BitVec 32 := 256#32
  let v16 : BitVec 32 := Scalar.muli arg1 c256_i32
  let v17 : BitVec 32 := v16
  let v18 : Index := Scalar.indexCast v17
  let c0_10 : Index := 0#32
  ![v18.toNat, 0]
def k0_mult2 (i : grid0.Coords) : BitVec 32 :=
  let arg1 : BitVec 32 := BitVec.ofNat 32 (i 1).val
  let c256_i32_13 : BitVec 32 := 256#32
  let v24 : BitVec 32 := Scalar.muli arg1 c256_i32_13
  v24
def k0_off2 (i : grid0.Coords) : Fin 3 → Nat :=
  let c0_19 : Index := 0#32
  let arg1 : BitVec 32 := BitVec.ofNat 32 (i 1).val
  let c256_i32_13 : BitVec 32 := 256#32
  let v24 : BitVec 32 := Scalar.muli arg1 c256_i32_13
  let v25 : BitVec 32 := v24
  let v44 : Index := Scalar.indexCast v25
  let c0_20 : Index := 0#32
  ![0, v44.toNat, 0]
@[reducible] def k0_t1_loop (i : grid0.Coords) : Scf.Loop 32 :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_29 : BitVec 32 := 1#32
  let v80 : BitVec 32 := Scalar.divsi v78 c1_i32_29
  let v81 : BitVec 32 := Scalar.muli v80 c1_i32_29
  let v82 : BitVec 32 := Scalar.addi v77 v81
  let c1_i32_30 : BitVec 32 := 1#32
  ⟨v77, v82, c1_i32_30⟩
def k0_mult3 (i : grid0.Coords) (k0_t1 : Fin (k0_t1_loop i).trips) : BitVec 32 :=
  let arg1 : BitVec 32 := BitVec.ofNat 32 (i 1).val
  let c1_i32 : BitVec 32 := 1#32
  let v77 : BitVec 32 := Scalar.addi arg1 c1_i32
  let c1_i32_30 : BitVec 32 := 1#32
  let arg16 : BitVec 32 := Scf.iv v77 c1_i32_30 k0_t1
  let c256_i32_48 : BitVec 32 := 256#32
  let v114 : BitVec 32 := Scalar.muli arg16 c256_i32_48
  v114
def k0_off3 (i : grid0.Coords) (k0_t1 : Fin (k0_t1_loop i).trips) : Fin 2 → Nat :=
  let arg1 : BitVec 32 := BitVec.ofNat 32 (i 1).val
  let c1_i32 : BitVec 32 := 1#32
  let v77 : BitVec 32 := Scalar.addi arg1 c1_i32
  let c1_i32_30 : BitVec 32 := 1#32
  let arg16 : BitVec 32 := Scf.iv v77 c1_i32_30 k0_t1
  let c256_i32_48 : BitVec 32 := 256#32
  let v114 : BitVec 32 := Scalar.muli arg16 c256_i32_48
  let v115 : BitVec 32 := v114
  let v116 : Index := Scalar.indexCast v115
  let c0_49 : Index := 0#32
  ![v116.toNat, 0]
def k0_mult4 (i : grid0.Coords) (k0_t1 : Fin (k0_t1_loop i).trips) : BitVec 32 :=
  let arg1 : BitVec 32 := BitVec.ofNat 32 (i 1).val
  let c1_i32 : BitVec 32 := 1#32
  let v77 : BitVec 32 := Scalar.addi arg1 c1_i32
  let c1_i32_30 : BitVec 32 := 1#32
  let arg16 : BitVec 32 := Scf.iv v77 c1_i32_30 k0_t1
  let c1_i32_53 : BitVec 32 := 1#32
  let v122 : BitVec 32 := Scalar.subi arg16 c1_i32_53
  let c256_i32_54 : BitVec 32 := 256#32
  let v123 : BitVec 32 := Scalar.muli v122 c256_i32_54
  v123
def k0_off4 (i : grid0.Coords) (k0_t1 : Fin (k0_t1_loop i).trips) : Fin 2 → Nat :=
  let arg1 : BitVec 32 := BitVec.ofNat 32 (i 1).val
  let c1_i32 : BitVec 32 := 1#32
  let v77 : BitVec 32 := Scalar.addi arg1 c1_i32
  let c1_i32_30 : BitVec 32 := 1#32
  let arg16 : BitVec 32 := Scf.iv v77 c1_i32_30 k0_t1
  let c1_i32_53 : BitVec 32 := 1#32
  let v122 : BitVec 32 := Scalar.subi arg16 c1_i32_53
  let c256_i32_54 : BitVec 32 := 256#32
  let v123 : BitVec 32 := Scalar.muli v122 c256_i32_54
  let v124 : BitVec 32 := v123
  let v125 : Index := Scalar.indexCast v124
  let c0_55 : Index := 0#32
  ![v125.toNat, 0]
def k0_mult5 (i : grid0.Coords) (k0_t1 : Fin (k0_t1_loop i).trips) : BitVec 32 :=
  let arg1 : BitVec 32 := BitVec.ofNat 32 (i 1).val
  let c1_i32 : BitVec 32 := 1#32
  let v77 : BitVec 32 := Scalar.addi arg1 c1_i32
  let c1_i32_30 : BitVec 32 := 1#32
  let arg16 : BitVec 32 := Scf.iv v77 c1_i32_30 k0_t1
  let c256_i32_62 : BitVec 32 := 256#32
  let v141 : BitVec 32 := Scalar.muli arg16 c256_i32_62
  v141
def k0_off5 (i : grid0.Coords) (k0_t1 : Fin (k0_t1_loop i).trips) : Fin 3 → Nat :=
  let c0_67 : Index := 0#32
  let arg1 : BitVec 32 := BitVec.ofNat 32 (i 1).val
  let c1_i32 : BitVec 32 := 1#32
  let v77 : BitVec 32 := Scalar.addi arg1 c1_i32
  let c1_i32_30 : BitVec 32 := 1#32
  let arg16 : BitVec 32 := Scf.iv v77 c1_i32_30 k0_t1
  let c256_i32_62 : BitVec 32 := 256#32
  let v141 : BitVec 32 := Scalar.muli arg16 c256_i32_62
  let v142 : BitVec 32 := v141
  let v159 : Index := Scalar.indexCast v142
  let c0_68 : Index := 0#32
  ![0, v159.toNat, 0]
@[reducible] def k0_t2_loop (i : grid0.Coords) : Scf.Loop 32 :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_29 : BitVec 32 := 1#32
  let v80 : BitVec 32 := Scalar.divsi v78 c1_i32_29
  let v81 : BitVec 32 := Scalar.muli v80 c1_i32_29
  let v82 : BitVec 32 := Scalar.addi v77 v81
  let v79 : BitVec 32 := Scalar.addi v77 v78
  let c1_i32_31 : BitVec 32 := 1#32
  ⟨v82, v79, c1_i32_31⟩
def k0_mult6 (i : grid0.Coords) (k0_t2 : Fin (k0_t2_loop i).trips) : BitVec 32 :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_29 : BitVec 32 := 1#32
  let v80 : BitVec 32 := Scalar.divsi v78 c1_i32_29
  let v81 : BitVec 32 := Scalar.muli v80 c1_i32_29
  let v82 : BitVec 32 := Scalar.addi v77 v81
  let c1_i32_31 : BitVec 32 := 1#32
  let arg16 : BitVec 32 := Scf.iv v82 c1_i32_31 k0_t2
  let c256_i32_48 : BitVec 32 := 256#32
  let v114 : BitVec 32 := Scalar.muli arg16 c256_i32_48
  v114
def k0_off6 (i : grid0.Coords) (k0_t2 : Fin (k0_t2_loop i).trips) : Fin 2 → Nat :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_29 : BitVec 32 := 1#32
  let v80 : BitVec 32 := Scalar.divsi v78 c1_i32_29
  let v81 : BitVec 32 := Scalar.muli v80 c1_i32_29
  let v82 : BitVec 32 := Scalar.addi v77 v81
  let c1_i32_31 : BitVec 32 := 1#32
  let arg16 : BitVec 32 := Scf.iv v82 c1_i32_31 k0_t2
  let c256_i32_48 : BitVec 32 := 256#32
  let v114 : BitVec 32 := Scalar.muli arg16 c256_i32_48
  let v115 : BitVec 32 := v114
  let v116 : Index := Scalar.indexCast v115
  let c0_49 : Index := 0#32
  ![v116.toNat, 0]
def k0_mult7 (i : grid0.Coords) (k0_t2 : Fin (k0_t2_loop i).trips) : BitVec 32 :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_29 : BitVec 32 := 1#32
  let v80 : BitVec 32 := Scalar.divsi v78 c1_i32_29
  let v81 : BitVec 32 := Scalar.muli v80 c1_i32_29
  let v82 : BitVec 32 := Scalar.addi v77 v81
  let c1_i32_31 : BitVec 32 := 1#32
  let arg16 : BitVec 32 := Scf.iv v82 c1_i32_31 k0_t2
  let c1_i32_53 : BitVec 32 := 1#32
  let v122 : BitVec 32 := Scalar.subi arg16 c1_i32_53
  let c256_i32_54 : BitVec 32 := 256#32
  let v123 : BitVec 32 := Scalar.muli v122 c256_i32_54
  v123
def k0_off7 (i : grid0.Coords) (k0_t2 : Fin (k0_t2_loop i).trips) : Fin 2 → Nat :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_29 : BitVec 32 := 1#32
  let v80 : BitVec 32 := Scalar.divsi v78 c1_i32_29
  let v81 : BitVec 32 := Scalar.muli v80 c1_i32_29
  let v82 : BitVec 32 := Scalar.addi v77 v81
  let c1_i32_31 : BitVec 32 := 1#32
  let arg16 : BitVec 32 := Scf.iv v82 c1_i32_31 k0_t2
  let c1_i32_53 : BitVec 32 := 1#32
  let v122 : BitVec 32 := Scalar.subi arg16 c1_i32_53
  let c256_i32_54 : BitVec 32 := 256#32
  let v123 : BitVec 32 := Scalar.muli v122 c256_i32_54
  let v124 : BitVec 32 := v123
  let v125 : Index := Scalar.indexCast v124
  let c0_55 : Index := 0#32
  ![v125.toNat, 0]
def k0_mult8 (i : grid0.Coords) (k0_t2 : Fin (k0_t2_loop i).trips) : BitVec 32 :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_29 : BitVec 32 := 1#32
  let v80 : BitVec 32 := Scalar.divsi v78 c1_i32_29
  let v81 : BitVec 32 := Scalar.muli v80 c1_i32_29
  let v82 : BitVec 32 := Scalar.addi v77 v81
  let c1_i32_31 : BitVec 32 := 1#32
  let arg16 : BitVec 32 := Scf.iv v82 c1_i32_31 k0_t2
  let c256_i32_62 : BitVec 32 := 256#32
  let v141 : BitVec 32 := Scalar.muli arg16 c256_i32_62
  v141
def k0_off8 (i : grid0.Coords) (k0_t2 : Fin (k0_t2_loop i).trips) : Fin 3 → Nat :=
  let c0_67 : Index := 0#32
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_29 : BitVec 32 := 1#32
  let v80 : BitVec 32 := Scalar.divsi v78 c1_i32_29
  let v81 : BitVec 32 := Scalar.muli v80 c1_i32_29
  let v82 : BitVec 32 := Scalar.addi v77 v81
  let c1_i32_31 : BitVec 32 := 1#32
  let arg16 : BitVec 32 := Scf.iv v82 c1_i32_31 k0_t2
  let c256_i32_62 : BitVec 32 := 256#32
  let v141 : BitVec 32 := Scalar.muli arg16 c256_i32_62
  let v142 : BitVec 32 := v141
  let v159 : Index := Scalar.indexCast v142
  let c0_68 : Index := 0#32
  ![0, v159.toNat, 0]
def k0_mult9 : BitVec 32 :=
  let c3840_i32 : BitVec 32 := 3840#32
  c3840_i32
def k0_cond3 (i : grid0.Coords) : BitVec 1 :=
  let arg1 : BitVec 32 := BitVec.ofNat 32 (i 1).val
  let c15_i32 : BitVec 32 := 15#32
  let v111 : BitVec 1 := Scalar.cmpi .eq arg1 c15_i32
  let v112 : BitVec 32 := Scalar.extui v111
  let c0_i32_47 : BitVec 32 := 0#32
  let v113 : BitVec 1 := Scalar.cmpi .ne v112 c0_i32_47
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x6144 : Shape := ⟨2, ![4096, 6144]⟩
abbrev S4096x2048 : Shape := ⟨2, ![4096, 2048]⟩
abbrev S4096x16 : Shape := ⟨2, ![4096, 16]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x128x4096 : Shape := ⟨3, ![16, 128, 4096]⟩
abbrev S4096x128 : Shape := ⟨2, ![4096, 128]⟩

abbrev nBuf : Space → Nat
  | .hbm => 136
  | .vmem => 0
  | .smem => 0
  | _ => 0

abbrev hbmTy0_0 (i : Nat) : BufTy := match i % 128 with
  | 0 => ⟨S4096x6144, .bf16⟩
  | 1 => ⟨S4096x2048, .bf16⟩
  | 2 => ⟨S4096x16, .f32⟩
  | 3 => ⟨S4096x6144, .f32⟩
  | 4 => ⟨S4096x2048, .f32⟩
  | 5 => ⟨S4096x2048, .f32⟩
  | 6 => ⟨S4096x2048, .f32⟩
  | 7 => ⟨S4096x16x128, .f32⟩
  | 8 => ⟨S16x4096x128, .f32⟩
  | 9 => ⟨S4096x16x128, .f32⟩
  | 10 => ⟨S16x4096x128, .f32⟩
  | 11 => ⟨S16x4096x4096, .f32⟩
  | 12 => ⟨S_, .f32⟩
  | 13 => ⟨S16x4096x4096, .f32⟩
  | 14 => ⟨S16x4096x4096, .f32⟩
  | 15 => ⟨S16x4096, .f32⟩
  | 16 => ⟨S16x4096x1, .f32⟩
  | 17 => ⟨S16x4096x4096, .f32⟩
  | 18 => ⟨S16x4096x4096, .f32⟩
  | 19 => ⟨S16x4096, .f32⟩
  | 20 => ⟨S16x1x4096, .f32⟩
  | 21 => ⟨S16x4096x4096, .f32⟩
  | 22 => ⟨S16x4096x4096, .f32⟩
  | 23 => ⟨S4096, .i32⟩
  | 24 => ⟨S1x4096, .i32⟩
  | 25 => ⟨S4096x1, .i32⟩
  | 26 => ⟨S4096x4096, .i32⟩
  | 27 => ⟨S4096x4096, .i32⟩
  | 28 => ⟨S4096x4096, .i1⟩
  | 29 => ⟨S1x4096x4096, .i1⟩
  | 30 => ⟨S_, .f32⟩
  | 31 => ⟨S_, .f32⟩
  | 32 => ⟨S16x4096x4096, .i1⟩
  | 33 => ⟨S16x4096x4096, .f32⟩
  | 34 => ⟨S16x4096x4096, .f32⟩
  | 35 => ⟨S_, .f32⟩
  | 36 => ⟨S16x4096x4096, .f32⟩
  | 37 => ⟨S_, .f32⟩
  | 38 => ⟨S16x4096, .f32⟩
  | 39 => ⟨S16x4096x1, .f32⟩
  | 40 => ⟨S16x4096x4096, .f32⟩
  | 41 => ⟨S16x4096x4096, .i1⟩
  | 42 => ⟨S16x4096x4096, .f32⟩
  | 43 => ⟨S_, .f32⟩
  | 44 => ⟨S16x4096, .f32⟩
  | 45 => ⟨S_, .f32⟩
  | 46 => ⟨S16x4096, .f32⟩
  | 47 => ⟨S16x4096, .f32⟩
  | 48 => ⟨S_, .f32⟩
  | 49 => ⟨S16x4096, .f32⟩
  | 50 => ⟨S16x4096, .i1⟩
  | 51 => ⟨S_, .f32⟩
  | 52 => ⟨S16x4096, .f32⟩
  | 53 => ⟨S16x4096, .i1⟩
  | 54 => ⟨S_, .f32⟩
  | 55 => ⟨S16x4096, .f32⟩
  | 56 => ⟨S_, .f32⟩
  | 57 => ⟨S16x4096, .f32⟩
  | 58 => ⟨S_, .f32⟩
  | 59 => ⟨S16x4096, .f32⟩
  | 60 => ⟨S16x4096, .f32⟩
  | 61 => ⟨S16x4096, .f32⟩
  | 62 => ⟨S16x4096x1, .f32⟩
  | 63 => ⟨S16x4096x4096, .f32⟩
  | 64 => ⟨S16x4096x4096, .f32⟩
  | 65 => ⟨S16x4096x4096, .f32⟩
  | 66 => ⟨S_, .f32⟩
  | 67 => ⟨S16x4096, .f32⟩
  | 68 => ⟨S16x4096x1, .f32⟩
  | 69 => ⟨S16x4096x4096, .f32⟩
  | 70 => ⟨S16x4096x4096, .f32⟩
  | 71 => ⟨S16x4096x1, .f32⟩
  | 72 => ⟨S_, .f32⟩
  | 73 => ⟨S16x4096x1, .f32⟩
  | 74 => ⟨S16x4096x1, .f32⟩
  | 75 => ⟨S4096x16x128, .f32⟩
  | 76 => ⟨S16x4096x128, .f32⟩
  | 77 => ⟨S16x4096x128, .f32⟩
  | 78 => ⟨S4096x16x128, .f32⟩
  | 79 => ⟨S4096x2048, .f32⟩
  | 80 => ⟨S4096x2048, .f32⟩
  | 81 => ⟨S4096x16x128, .f32⟩
  | 82 => ⟨S16x4096x128, .f32⟩
  | 83 => ⟨S16x128x4096, .f32⟩
  | 84 => ⟨S16x4096x128, .f32⟩
  | 85 => ⟨S16x4096x4096, .f32⟩
  | 86 => ⟨S4096x16x128, .f32⟩
  | 87 => ⟨S4096x2048, .f32⟩
  | 88 => ⟨S16x4096x4096, .f32⟩
  | 89 => ⟨S16x4096x4096, .f32⟩
  | 90 => ⟨S16x4096x4096, .f32⟩
  | 91 => ⟨S_, .f32⟩
  | 92 => ⟨S16x4096, .f32⟩
  | 93 => ⟨S16x4096x1, .f32⟩
  | 94 => ⟨S16x4096x1, .f32⟩
  | 95 => ⟨S16x4096x4096, .f32⟩
  | 96 => ⟨S16x4096x4096, .f32⟩
  | 97 => ⟨S_, .f32⟩
  | 98 => ⟨S16x4096, .f32⟩
  | 99 => ⟨S16x4096x4096, .f32⟩
  | 100 => ⟨S16x4096x4096, .f32⟩
  | 101 => ⟨S16x4096x4096, .f32⟩
  | 102 => ⟨S_, .f32⟩
  | 103 => ⟨S16x4096x4096, .f32⟩
  | 104 => ⟨S16x4096x4096, .f32⟩
  | 105 => ⟨S16x4096x4096, .f32⟩
  | 106 => ⟨S_, .f32⟩
  | 107 => ⟨S16x4096, .f32⟩
  | 108 => ⟨S16x1x4096, .f32⟩
  | 109 => ⟨S_, .f32⟩
  | 110 => ⟨S16x4096, .f32⟩
  | 111 => ⟨S4096x16, .f32⟩
  | 112 => ⟨S_, .f32⟩
  | 113 => ⟨S16x4096, .f32⟩
  | 114 => ⟨S16x4096x1, .f32⟩
  | 115 => ⟨S_, .f32⟩
  | 116 => ⟨S16x4096, .f32⟩
  | 117 => ⟨S4096x16, .f32⟩
  | 118 => ⟨S_, .f32⟩
  | 119 => ⟨S16x4096x4096, .f32⟩
  | 120 => ⟨S16x4096x4096, .f32⟩
  | 121 => ⟨S16x4096x128, .f32⟩
  | 122 => ⟨S16x4096x128, .f32⟩
  | 123 => ⟨S4096x16x128, .f32⟩
  | 124 => ⟨S4096x2048, .f32⟩
  | 125 => ⟨S4096x16x128, .f32⟩
  | 126 => ⟨S4096x2048, .f32⟩
  | 127 => ⟨S4096x2048, .bf16⟩
  | _ => ⟨S4096x6144, .bf16⟩

abbrev hbmTy0_1 (i : Nat) : BufTy := match i % 128 with
  | 0 => ⟨S4096x2048, .bf16⟩
  | 1 => ⟨S4096x2048, .bf16⟩
  | 2 => ⟨S_, .i32⟩
  | 3 => ⟨S_, .f32⟩
  | 4 => ⟨S4096x128, .f32⟩
  | 5 => ⟨S16x4096, .f32⟩
  | 6 => ⟨S16x1x4096, .f32⟩
  | 7 => ⟨S16x1x4096, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call1_cst : Ref sig .tc := ⟨.hbm, 102, rfl⟩
abbrev main_call1_v0 : Ref sig .tc := ⟨.hbm, 103, rfl⟩
abbrev main_v80 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_c : Ref sig .tc := ⟨.hbm, 130, rfl⟩
abbrev main_call2_v0 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== WupGrad.lean ====
abbrev S8x4096x704 : Shape := ⟨3, ![8, 4096, 704]⟩
abbrev S4096x2048 : Shape := ⟨2, ![4096, 2048]⟩
abbrev S8x704x2048 : Shape := ⟨3, ![8, 704, 2048]⟩
abbrev S1x4096x704 : Shape := ⟨3, ![1, 4096, 704]⟩
abbrev S4096x512 : Shape := ⟨2, ![4096, 512]⟩
abbrev S1x704x512 : Shape := ⟨3, ![1, 704, 512]⟩
abbrev S4096x704 : Shape := ⟨2, ![4096, 704]⟩
abbrev S704x512 : Shape := ⟨2, ![704, 512]⟩

abbrev nBuf : Space → Nat
  | .hbm => 5
  | .vmem => 10
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S4096x2048, .bf16⟩
  | .hbm, ⟨3, _⟩ => ⟨S8x704x2048, .bf16⟩
  | .hbm, ⟨4, _⟩ => ⟨S8x704x2048, .bf16⟩
  | .local _ .vmem, ⟨0, _⟩ => ⟨S1x4096x704, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S4096x512, .bf16⟩
  | .local _ .vmem, ⟨5, _⟩ => ⟨S4096x512, .bf16⟩
  | .local _ .vmem, ⟨6, _⟩ => ⟨S1x704x512, .bf16⟩
  | .local _ .vmem, ⟨7, _⟩ => ⟨S1x704x512, .bf16⟩
  | .local _ .vmem, ⟨8, _⟩ => ⟨S1x704x512, .bf16⟩
  | .local _ .vmem, ⟨9, _⟩ => ⟨S1x704x512, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WupGradRefIdeal.lean ====
abbrev S8x4096x704 : Shape := ⟨3, ![8, 4096, 704]⟩
abbrev S4096x2048 : Shape := ⟨2, ![4096, 2048]⟩
abbrev S_ : Shape := ⟨0, ![]⟩
abbrev S8x704x2048 : Shape := ⟨3, ![8, 704, 2048]⟩
abbrev S8x704x4096 : Shape := ⟨3, ![8, 704, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S4096x2048, .bf16⟩
  | .hbm, ⟨3, _⟩ => ⟨S_, .f32⟩
  | .hbm, ⟨4, _⟩ => ⟨S8x704x2048, .f32⟩
  | .hbm, ⟨5, _⟩ => ⟨S4096x2048, .f32⟩
  | .hbm, ⟨6, _⟩ => ⟨S8x704x4096, .f32⟩
  | .hbm, ⟨7, _⟩ => ⟨S8x4096x704, .f32⟩
  | .hbm, ⟨8, _⟩ => ⟨S8x704x4096, .f32⟩
  | .hbm, ⟨9, _⟩ => ⟨S8x4096x704, .f32⟩
  | .hbm, ⟨10, _⟩ => ⟨S8x4096x704, .f32⟩
  | .hbm, ⟨11, _⟩ => ⟨S8x4096x704, .f32⟩
  | .hbm, ⟨12, _⟩ => ⟨S8x704x4096, .f32⟩
  | .hbm, ⟨13, _⟩ => ⟨S8x704x2048, .f32⟩
  | .hbm, ⟨14, _⟩ => ⟨S8x704x4096, .f32⟩
  | .hbm, ⟨15, _⟩ => ⟨S8x704x2048, .f32⟩
  | .hbm, ⟨16, _⟩ => ⟨S8x704x2048, .bf16⟩
  | .hbm, ⟨17, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== UpBwd.lean ====
abbrev S8x4096x704 : Shape := ⟨3, ![8, 4096, 704]⟩
abbrev S8x704x2048 : Shape := ⟨3, ![8, 704, 2048]⟩
abbrev S4096x2048 : Shape := ⟨2, ![4096, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩

abbrev nBuf : Space → Nat
  | .hbm => 5
  | .vmem => 19
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x704x2048, .bf16⟩
  | .hbm, ⟨3, _⟩ => ⟨S8x704x2048, .bf16⟩
  | .hbm, ⟨4, _⟩ => ⟨S4096x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x704x2048, .bf16⟩
  | .local _ .vmem, ⟨9, _⟩ => ⟨S1x704x2048, .bf16⟩
  | .local _ .vmem, ⟨10, _⟩ => ⟨S1x704x2048, .bf16⟩
  | .local _ .vmem, ⟨11, _⟩ => ⟨S1x704x2048, .bf16⟩
  | .local _ .vmem, ⟨12, _⟩ => ⟨S1x704x2048, .bf16⟩
  | .local _ .vmem, ⟨13, _⟩ => ⟨S1x704x2048, .bf16⟩
  | .local _ .vmem, ⟨14, _⟩ => ⟨S1x704x2048, .bf16⟩
  | .local _ .vmem, ⟨15, _⟩ => ⟨S1x704x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_31 : BitVec 32 := 0#32
  let v33 : BitVec 1 := Scalar.cmpi .ne v32 c0_i32_31
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x704x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x704x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x704x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== UpBwdRefIdeal.lean ====
abbrev S8x4096x704 : Shape := ⟨3, ![8, 4096, 704]⟩
abbrev S8x704x2048 : Shape := ⟨3, ![8, 704, 2048]⟩
abbrev S_ : Shape := ⟨0, ![]⟩
abbrev S4096x2048 : Shape := ⟨2, ![4096, 2048]⟩
abbrev S8x704x4096 : Shape := ⟨3, ![8, 704, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x704x2048, .bf16⟩
  | .hbm, ⟨3, _⟩ => ⟨S8x704x2048, .bf16⟩
  | .hbm, ⟨4, _⟩ => ⟨S_, .f32⟩
  | .hbm, ⟨5, _⟩ => ⟨S4096x2048, .f32⟩
  | .hbm, ⟨6, _⟩ => ⟨S8x704x2048, .f32⟩
  | .hbm, ⟨7, _⟩ => ⟨S8x704x2048, .f32⟩
  | .hbm, ⟨8, _⟩ => ⟨S8x704x4096, .f32⟩
  | .hbm, ⟨9, _⟩ => ⟨S8x4096x704, .f32⟩
  | .hbm, ⟨10, _⟩ => ⟨S8x704x4096, .f32⟩
  | .hbm, ⟨11, _⟩ => ⟨S8x4096x704, .f32⟩
  | .hbm, ⟨12, _⟩ => ⟨S8x4096x704, .f32⟩
  | .hbm, ⟨13, _⟩ => ⟨S8x4096x704, .f32⟩
  | .hbm, ⟨14, _⟩ => ⟨S8x704x4096, .f32⟩
  | .hbm, ⟨15, _⟩ => ⟨S4096x2048, .f32⟩
  | .hbm, ⟨16, _⟩ => ⟨S8x704x4096, .f32⟩
  | .hbm, ⟨17, _⟩ => ⟨S4096x2048, .f32⟩
  | .hbm, ⟨18, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== WdownGrad.lean ====
abbrev S8x4096x704 : Shape := ⟨3, ![8, 4096, 704]⟩
abbrev S4096x2048 : Shape := ⟨2, ![4096, 2048]⟩
abbrev S8x704x2048 : Shape := ⟨3, ![8, 704, 2048]⟩
abbrev S1x4096x704 : Shape := ⟨3, ![1, 4096, 704]⟩
abbrev S4096x512 : Shape := ⟨2, ![4096, 512]⟩
abbrev S1x704x512 : Shape := ⟨3, ![1, 704, 512]⟩
abbrev S4096x704 : Shape := ⟨2, ![4096, 704]⟩
abbrev S704x512 : Shape := ⟨2, ![704, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x704x2048, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x512, .bf16⟩
  | .local _ .vmem, ⟨3, _⟩ => ⟨S4096x512, .bf16⟩
  | .local _ .vmem, ⟨4, _⟩ => ⟨S1x704x512, .bf16⟩
  | .local _ .vmem, ⟨5, _⟩ => ⟨S1x704x512, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WdownGradRefIdeal.lean ====
abbrev S8x4096x704 : Shape := ⟨3, ![8, 4096, 704]⟩
abbrev S4096x2048 : Shape := ⟨2, ![4096, 2048]⟩
abbrev S_ : Shape := ⟨0, ![]⟩
abbrev S8x704x2048 : Shape := ⟨3, ![8, 704, 2048]⟩
abbrev S2048x8x704 : Shape := ⟨3, ![2048, 8, 704]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S_, .f32⟩
  | .hbm, ⟨3, _⟩ => ⟨S8x704x2048, .f32⟩
  | .hbm, ⟨4, _⟩ => ⟨S8x4096x704, .f32⟩
  | .hbm, ⟨5, _⟩ => ⟨S4096x2048, .f32⟩
  | .hbm, ⟨6, _⟩ => ⟨S4096x2048, .f32⟩
  | .hbm, ⟨7, _⟩ => ⟨S2048x8x704, .f32⟩
  | .hbm, ⟨8, _⟩ => ⟨S8x704x2048, .f32⟩
  | .hbm, ⟨9, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownBwd.lean ====
abbrev S4096x2048 : Shape := ⟨2, ![4096, 2048]⟩
abbrev S8x704x2048 : Shape := ⟨3, ![8, 704, 2048]⟩
abbrev S8x4096x704 : Shape := ⟨3, ![8, 4096, 704]⟩
abbrev S512x2048 : Shape := ⟨2, ![512, 2048]⟩
abbrev S1x704x2048 : Shape := ⟨3, ![1, 704, 2048]⟩
abbrev S1x512x704 : Shape := ⟨3, ![1, 512, 704]⟩
abbrev S704x2048 : Shape := ⟨2, ![704, 2048]⟩
abbrev S512x704 : Shape := ⟨2, ![512, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S512x2048, .bf16⟩
  | .local _ .vmem, ⟨1, _⟩ => ⟨S512x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownBwdRefIdeal.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩
abbrev S4096x8x704 : Shape := ⟨3, ![4096, 8, 704]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x4096x704, .f32⟩
  | .hbm, ⟨5, _⟩ => ⟨S8x4096x704, .f32⟩
  | .hbm, ⟨6, _⟩ => ⟨S8x704x2048, .f32⟩
  | .hbm, ⟨7, _⟩ => ⟨S8x4096x704, .f32⟩
  | .hbm, ⟨8, _⟩ => ⟨S8x4096x704, .f32⟩
  | .hbm, ⟨9, _⟩ => ⟨S_, .f32⟩
  | .hbm, ⟨10, _⟩ => ⟨S8x4096x704, .f32⟩
  | .hbm, ⟨11, _⟩ => ⟨S8x4096x704, .f32⟩
  | .hbm, ⟨12, _⟩ => ⟨S_, .f32⟩
  | .hbm, ⟨13, _⟩ => ⟨S8x4096x704, .f32⟩
  | .hbm, ⟨14, _⟩ => ⟨S8x4096x704, .f32⟩
  | .hbm, ⟨15, _⟩ => ⟨S_, .f32⟩
  | .hbm, ⟨16, _⟩ => ⟨S8x4096x704, .f32⟩
  | .hbm, ⟨17, _⟩ => ⟨S8x4096x704, .f32⟩
  | .hbm, ⟨18, _⟩ => ⟨S8x4096x704, .f32⟩
  | .hbm, ⟨19, _⟩ => ⟨S8x4096x704, .f32⟩
  | .hbm, ⟨20, _⟩ => ⟨S8x4096x704, .f32⟩
  | .hbm, ⟨21, _⟩ => ⟨S4096x2048, .f32⟩
  | .hbm, ⟨22, _⟩ => ⟨S4096x2048, .f32⟩
  | .hbm, ⟨23, _⟩ => ⟨S4096x8x704, .f32⟩
  | .hbm, ⟨24, _⟩ => ⟨S8x4096x704, .f32⟩
  | .hbm, ⟨25, _⟩ => ⟨S8x4096x704, .f32⟩
  | .hbm, ⟨26, _⟩ => ⟨S8x4096x704, .f32⟩
  | .hbm, ⟨27, _⟩ => ⟨S8x4096x704, .f32⟩
  | .hbm, ⟨28, _⟩ => ⟨S8x4096x704, .f32⟩
  | .hbm, ⟨29, _⟩ => ⟨S8x4096x704, .f32⟩
  | .hbm, ⟨30, _⟩ => ⟨S8x4096x704, .f32⟩
  | .hbm, ⟨31, _⟩ => ⟨S8x4096x704, .bf16⟩
  | .hbm, ⟨32, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== FfnUp.lean ====
abbrev S4096x2048 : Shape := ⟨2, ![4096, 2048]⟩
abbrev S8x704x2048 : Shape := ⟨3, ![8, 704, 2048]⟩
abbrev S8x4096x704 : Shape := ⟨3, ![8, 4096, 704]⟩
abbrev S512x2048 : Shape := ⟨2, ![512, 2048]⟩
abbrev S1x704x2048 : Shape := ⟨3, ![1, 704, 2048]⟩
abbrev S1x512x704 : Shape := ⟨3, ![1, 512, 704]⟩
abbrev S704x2048 : Shape := ⟨2, ![704, 2048]⟩
abbrev S512x704 : Shape := ⟨2, ![512, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S512x2048, .bf16⟩
  | .local _ .vmem, ⟨1, _⟩ => ⟨S512x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x2048 : Shape := ⟨2, ![4096, 2048]⟩
abbrev S8x704x2048 : Shape := ⟨3, ![8, 704, 2048]⟩
abbrev S8x704x4096 : Shape := ⟨3, ![8, 704, 4096]⟩
abbrev S8x4096x704 : Shape := ⟨3, ![8, 4096, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S4096x2048, .f32⟩
  | .hbm, ⟨4, _⟩ => ⟨S8x704x2048, .f32⟩
  | .hbm, ⟨5, _⟩ => ⟨S8x704x2048, .f32⟩
  | .hbm, ⟨6, _⟩ => ⟨S8x704x4096, .f32⟩
  | .hbm, ⟨7, _⟩ => ⟨S8x4096x704, .f32⟩
  | .hbm, ⟨8, _⟩ => ⟨S8x704x4096, .f32⟩
  | .hbm, ⟨9, _⟩ => ⟨S8x4096x704, .f32⟩
  | .hbm, ⟨10, _⟩ => ⟨S8x4096x704, .bf16⟩
  | .hbm, ⟨11, _⟩ => ⟨S8x4096x704, .bf16⟩
  | .hbm, ⟨12, _⟩ => ⟨S8x4096x704, .f32⟩
  | .hbm, ⟨13, _⟩ => ⟨S8x4096x704, .f32⟩
  | .hbm, ⟨14, _⟩ => ⟨S_, .f32⟩
  | .hbm, ⟨15, _⟩ => ⟨S8x4096x704, .f32⟩
  | .hbm, ⟨16, _⟩ => ⟨S8x4096x704, .f32⟩
  | .hbm, ⟨17, _⟩ => ⟨S_, .f32⟩
  | .hbm, ⟨18, _⟩ => ⟨S8x4096x704, .f32⟩
  | .hbm, ⟨19, _⟩ => ⟨S8x4096x704, .f32⟩
  | .hbm, ⟨20, _⟩ => ⟨S8x4096x704, .f32⟩
  | .hbm, ⟨21, _⟩ => ⟨S8x4096x704, .f32⟩
  | .hbm, ⟨22, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== FfnDown.lean ====
abbrev S8x4096x704 : Shape := ⟨3, ![8, 4096, 704]⟩
abbrev S8x704x2048 : Shape := ⟨3, ![8, 704, 2048]⟩
abbrev S4096x2048 : Shape := ⟨2, ![4096, 2048]⟩
abbrev S1x2048 : Shape := ⟨2, ![1, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩

abbrev nBuf : Space → Nat
  | .hbm => 6
  | .vmem => 16
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== FfnDownRefIdeal.lean ====
abbrev S8x4096x704 : Shape := ⟨3, ![8, 4096, 704]⟩
abbrev S8x704x2048 : Shape := ⟨3, ![8, 704, 2048]⟩
abbrev S4096x2048 : Shape := ⟨2, ![4096, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S1x2048, .f32⟩
  | .hbm, ⟨4, _⟩ => ⟨S8x4096x704, .f32⟩
  | .hbm, ⟨5, _⟩ => ⟨S8x704x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Qkv.lean ====
abbrev S4096x2048 : Shape := ⟨2, ![4096, 2048]⟩
abbrev S6160x2048 : Shape := ⟨2, ![6160, 2048]⟩
abbrev S4096x6144 : Shape := ⟨2, ![4096, 6144]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S6160x2048, .bf16⟩
  | .hbm, ⟨2, _⟩ => ⟨S4096x6144, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S4096x2048 : Shape := ⟨2, ![4096, 2048]⟩
abbrev S6160x2048 : Shape := ⟨2, ![6160, 2048]⟩
abbrev S6144x2048 : Shape := ⟨2, ![6144, 2048]⟩
abbrev S2048x6144 : Shape := ⟨2, ![2048, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6160x2048, .bf16⟩
  | .hbm, ⟨2, _⟩ => ⟨S4096x2048, .f32⟩
  | .hbm, ⟨3, _⟩ => ⟨S6144x2048, .bf16⟩
  | .hbm, ⟨4, _⟩ => ⟨S6144x2048, .f32⟩
  | .hbm, ⟨5, _⟩ => ⟨S2048x6144, .f32⟩
  | .hbm, ⟨6, _⟩ => ⟨S4096x6144, .f32⟩
  | .hbm, ⟨7, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S2048x1024 : Shape := ⟨2, ![2048, 1024]⟩
abbrev S512x1024 : Shape := ⟨2, ![512, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== WoutGrad.lean ====
abbrev S4096x2048 : Shape := ⟨2, ![4096, 2048]⟩
abbrev S2048x2048 : Shape := ⟨2, ![2048, 2048]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WoutGradRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WqkvGrad.lean ====
abbrev S4096x2048 : Shape := ⟨2, ![4096, 2048]⟩
abbrev S2048x2048 : Shape := ⟨2, ![2048, 2048]⟩
abbrev S4096x512 : Shape := ⟨2, ![4096, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WqkvGradRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S2048x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S2048x2048, .bf16⟩
  | .hbm, ⟨27, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== QkvBwd.lean ====
abbrev S4096x2048 : Shape := ⟨2, ![4096, 2048]⟩
abbrev S4096x128 : Shape := ⟨2, ![4096, 128]⟩
abbrev S6160x2048 : Shape := ⟨2, ![6160, 2048]⟩
abbrev S128x2048 : Shape := ⟨2, ![128, 2048]⟩
abbrev S512x2048 : Shape := ⟨2, ![512, 2048]⟩
abbrev S512x128 : Shape := ⟨2, ![512, 128]⟩
abbrev S2048x512 : Shape := ⟨2, ![2048, 512]⟩
abbrev S128x512 : Shape := ⟨2, ![128, 512]⟩
abbrev S512x512 : Shape := ⟨2, ![512, 512]⟩

abbrev nBuf : Space → Nat
  | .hbm => 7
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x128, .bf16⟩
  | .hbm, ⟨4, _⟩ => ⟨S6160x2048, .bf16⟩
  | .hbm, ⟨5, _⟩ => ⟨S128x2048, .bf16⟩
  | .hbm, ⟨6, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .bf16⟩
  | .local _ .vmem, ⟨7, _⟩ => ⟨S512x128, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S128x512, .bf16⟩
  | .local _ .vmem, ⟨15, _⟩ => ⟨S128x512, .bf16⟩
  | .local _ .vmem, ⟨16, _⟩ => ⟨S512x512, .f32⟩
  | .local _ .vmem, ⟨17, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvBwdRefIdeal.lean ====
abbrev S4096x2048 : Shape := ⟨2, ![4096, 2048]⟩
abbrev S4096x128 : Shape := ⟨2, ![4096, 128]⟩
abbrev S6160x2048 : Shape := ⟨2, ![6160, 2048]⟩
abbrev S128x2048 : Shape := ⟨2, ![128, 2048]⟩
abbrev S2048x2048 : Shape := ⟨2, ![2048, 2048]⟩
abbrev S_ : Shape := ⟨0, ![]⟩
abbrev S2048x128 : Shape := ⟨2, ![2048, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x128, .bf16⟩
  | .hbm, ⟨4, _⟩ => ⟨S6160x2048, .bf16⟩
  | .hbm, ⟨5, _⟩ => ⟨S128x2048, .bf16⟩
  | .hbm, ⟨6, _⟩ => ⟨S2048x2048, .bf16⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S_, .f32⟩
  | .hbm, ⟨13, _⟩ => ⟨S4096x2048, .f32⟩
  | .hbm, ⟨14, _⟩ => ⟨S2048x2048, .f32⟩
  | .hbm, ⟨15, _⟩ => ⟨S4096x2048, .f32⟩
  | .hbm, ⟨16, _⟩ => ⟨S2048x2048, .f32⟩
  | .hbm, ⟨17, _⟩ => ⟨S4096x2048, .f32⟩
  | .hbm, ⟨18, _⟩ => ⟨S2048x2048, .f32⟩
  | .hbm, ⟨19, _⟩ => ⟨S4096x2048, .f32⟩
  | .hbm, ⟨20, _⟩ => ⟨S128x2048, .f32⟩
  | .hbm, ⟨21, _⟩ => ⟨S2048x128, .f32⟩
  | .hbm, ⟨22, _⟩ => ⟨S4096x128, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x128, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== SguIn.lean ====
abbrev S4096x2048 : Shape := ⟨2, ![4096, 2048]⟩
abbrev S2048x4096 : Shape := ⟨2, ![2048, 4096]⟩
abbrev S1x4096 : Shape := ⟨2, ![1, 4096]⟩
abbrev S4096x4096 : Shape := ⟨2, ![4096, 4096]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S1x4096, .f32⟩
  | .hbm, ⟨3, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SguInRefIdeal.lean ====
abbrev S4096x2048 : Shape := ⟨2, ![4096, 2048]⟩
abbrev S2048x4096 : Shape := ⟨2, ![2048, 4096]⟩
abbrev S1x4096 : Shape := ⟨2, ![1, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S1x4096, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SguInBwd.lean ====
abbrev S4096x4096 : Shape := ⟨2, ![4096, 4096]⟩
abbrev S2048x4096 : Shape := ⟨2, ![2048, 4096]⟩
abbrev S4096x2048 : Shape := ⟨2, ![4096, 2048]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SguInBwdRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SguOutBwd.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SguOutBwdRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.AttnStep.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow
public import Idealize.ShloMosaic.Lib.Pipeline.ValueKit

@[expose] public section

set_option maxRecDepth 16384

noncomputable section

/-! # What one grid point computes

The kernel's grid is a head `h` and a block `j` of 256 keys. At a point it goes through the blocks of 256 query rows
from `j` on: the diagonal block first, then one trip of a loop per later block. This module writes what the point
computes as functions of the blocks it reads (`Blocks`): the values carried from trip to trip (`carryAt`), the running
sums over the queries' forget terms (`fsumAt`) and over the query gradient (`qsumAt`), and shows that the loop's
generated state holds exactly those. -/

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-! ## Blocks of 256 rows -/

/-- Row `a` of the `r`-th block of 256 rows. -/
def rowIx (r : ℕ) (a : Fin 256) : Fin 4096 := ⟨(256 * r + a.val) % 4096, Nat.mod_lt _ (by decide)⟩

theorem rowIx_val (r : ℕ) (hr : r < 16) (a : Fin 256) : (rowIx r a).val = 256 * r + a.val :=
  Nat.mod_eq_of_lt (by have := a.isLt; omega)

/-- The `r`-th block of 256 rows of a whole head. -/
def rowsOf {α : Type} (r : ℕ) (x : S4096x128.Idx → α) : S256x128.Idx → α := fun y => x (ix2 (rowIx r (y 0)) (y 1))

/-- The same of an array with a leading axis of one. -/
def rowsOf1 {α : Type} (r : ℕ) (x : S1x4096x128.Idx → α) : S1x256x128.Idx → α :=
  fun y => x (ix3 (y 0) (rowIx r (y 1)) (y 2))

/-- A whole head with its `r`-th block of 256 rows replaced. -/
def putRows {α : Type} (r : ℕ) (w : S256x128.Idx → α) (x : S4096x128.Idx → α) : S4096x128.Idx → α := fun y =>
  if (y 0).val / 256 = r then w (ix2 ⟨(y 0).val % 256, Nat.mod_lt _ (by decide)⟩ (y 1)) else x y

theorem window_rows {α : Type} (x : S4096x128.Idx → α) {off : Fin 2 → ℕ} (inb : ∀ a, off a + S256x128.size a ≤ S4096x128.size a)
    (r : ℕ) (hr : r < 16) (h : off = ![256 * r, 0]) : VecWindow.window x off S256x128.size inb = rowsOf r x := by
  subst h
  funext y
  refine congrArg x (funext fun a => Fin.ext ?_)
  match a with
  | ⟨0, _⟩ => exact (by
      show 256 * r + 1 * (y 0).val = (rowIx r (y 0)).val
      rw [Nat.one_mul]
      exact (rowIx_val r hr (y 0)).symm)
  | ⟨1, _⟩ => exact (by
      show 0 + 1 * (y 1).val = (y 1).val
      omega)

theorem window_rows1 {α : Type} (x : S1x4096x128.Idx → α) {off : Fin 3 → ℕ}
    (inb : ∀ a, off a + S1x256x128.size a ≤ S1x4096x128.size a) (r : ℕ) (hr : r < 16) (h : off = ![0, 256 * r, 0]) :
    VecWindow.window x off S1x256x128.size inb = rowsOf1 r x := by
  subst h
  funext y
  refine congrArg x (funext fun a => Fin.ext ?_)
  match a with
  | ⟨0, _⟩ => exact (by
      show 0 + 1 * (y 0).val = (y 0).val
      omega)
  | ⟨1, _⟩ => exact (by
      show 256 * r + 1 * (y 1).val = (rowIx r (y 1)).val
      rw [Nat.one_mul]
      exact (rowIx_val r hr (y 1)).symm)
  | ⟨2, _⟩ => exact (by
      show 0 + 1 * (y 2).val = (y 2).val
      omega)

theorem put_rows {α : Type} (x : S4096x128.Idx → α) (off : Fin 2 → ℕ) (w : S256x128.Idx → α) (r : ℕ)
    (h : off = ![256 * r, 0]) : VecWindow.put x off S256x128.size w = putRows r w x := by
  subst h
  funext y
  have h1 : (y 1).val < 128 := (y 1).isLt
  unfold VecWindow.put putRows
  by_cases e : (y 0).val / 256 = r
  · have hm : ∀ a : Fin 2, (![256 * r, 0] : Fin 2 → ℕ) a ≤ (y a).val ∧ (y a).val < (![256 * r, 0] : Fin 2 → ℕ) a + S256x128.size a :=
      Fin.forall_fin_two.mpr ⟨by
        show 256 * r ≤ (y 0).val ∧ (y 0).val < 256 * r + 256
        omega, by
        show 0 ≤ (y 1).val ∧ (y 1).val < 0 + 128
        omega⟩
    rw [dif_pos hm, if_pos e]
    refine congrArg w (funext fun a => Fin.ext ?_)
    match a with
    | ⟨0, _⟩ => exact (by
        show (y 0).val - 256 * r = (y 0).val % 256
        omega)
    | ⟨1, _⟩ => exact (by
        show (y 1).val - 0 = (y 1).val
        omega)
  · rw [dif_neg (fun hm => e (by
      have h0 : 256 * r ≤ (y 0).val ∧ (y 0).val < 256 * r + 256 := hm 0
      omega)), if_neg e]

/-! ## The offsets and the trip counts, closed -/

theorem off1_eq (i : grid0.Coords) : k0_off1 i = ![256 * (i 1).val, 0] := by
  have h : ∀ j : Fin 16, (Scalar.indexCast (Scalar.muli (BitVec.ofNat 32 j.val) 256#32)).toNat = 256 * j.val := by
    decide +kernel
  exact congrArg (fun n : ℕ => (![n, 0] : Fin 2 → ℕ)) (h (i 1))

theorem off2_eq (i : grid0.Coords) : k0_off2 i = ![0, 256 * (i 1).val, 0] := by
  have h : ∀ j : Fin 16, (Scalar.indexCast (Scalar.muli (BitVec.ofNat 32 j.val) 256#32)).toNat = 256 * j.val := by
    decide +kernel
  exact congrArg (fun n : ℕ => (![0, n, 0] : Fin 3 → ℕ)) (h (i 1))

/-- The loop makes one trip per block of query rows after the diagonal one. -/
theorem trips1 (i : grid0.Coords) : (k0_t1_loop i).trips = 15 - (i 1).val := by
  have h : ∀ j : Fin 16, (⟨Scalar.addi (BitVec.ofNat 32 j.val) 1#32,
      Scalar.addi (Scalar.addi (BitVec.ofNat 32 j.val) 1#32)
        (Scalar.muli (Scalar.divsi (Scalar.subi 16#32 (Scalar.addi (BitVec.ofNat 32 j.val) 1#32)) 1#32) 1#32),
      1#32⟩ : Scf.Loop 32).trips = 15 - j.val := by
    decide +kernel
  exact h (i 1)

/-- The loop for what a step of more than one would leave over makes no trip. -/
theorem trips2 (i : grid0.Coords) : (k0_t2_loop i).trips = 0 := by
  have h : ∀ j : Fin 16, (⟨Scalar.addi (Scalar.addi (BitVec.ofNat 32 j.val) 1#32)
        (Scalar.muli (Scalar.divsi (Scalar.subi 16#32 (Scalar.addi (BitVec.ofNat 32 j.val) 1#32)) 1#32) 1#32),
      Scalar.addi (Scalar.addi (BitVec.ofNat 32 j.val) 1#32) (Scalar.subi 16#32 (Scalar.addi (BitVec.ofNat 32 j.val) 1#32)),
      1#32⟩ : Scf.Loop 32).trips = 0 := by
    decide +kernel
  exact h (i 1)

theorem trip_row (i : grid0.Coords) (k : Fin (k0_t1_loop i).trips) : (i 1).val + 1 + k.val < 16 := by
  have := lt_of_lt_of_eq k.isLt (trips1 i)
  omega

theorem off3_eq (i : grid0.Coords) (k : Fin (k0_t1_loop i).trips) : k0_off3 i k = ![256 * ((i 1).val + 1 + k.val), 0] := by
  have h : ∀ j k : Fin 16, j.val + 1 + k.val < 16 → (Scalar.indexCast (Scalar.muli
      (Scf.iv (Scalar.addi (BitVec.ofNat 32 j.val) 1#32) 1#32 k.val) 256#32)).toNat = 256 * (j.val + 1 + k.val) := by
    decide +kernel
  have hk := trip_row i k
  exact congrArg (fun n : ℕ => (![n, 0] : Fin 2 → ℕ)) (h (i 1) ⟨k.val, by omega⟩ hk)

theorem off4_eq (i : grid0.Coords) (k : Fin (k0_t1_loop i).trips) : k0_off4 i k = ![256 * ((i 1).val + k.val), 0] := by
  have h : ∀ j k : Fin 16, j.val + 1 + k.val < 16 → (Scalar.indexCast (Scalar.muli
      (Scalar.subi (Scf.iv (Scalar.addi (BitVec.ofNat 32 j.val) 1#32) 1#32 k.val) 1#32) 256#32)).toNat
        = 256 * (j.val + k.val) := by
    decide +kernel
  have hk := trip_row i k
  exact congrArg (fun n : ℕ => (![n, 0] : Fin 2 → ℕ)) (h (i 1) ⟨k.val, by omega⟩ hk)

theorem off5_eq (i : grid0.Coords) (k : Fin (k0_t1_loop i).trips) : k0_off5 i k = ![0, 256 * ((i 1).val + 1 + k.val), 0] := by
  have h : ∀ j k : Fin 16, j.val + 1 + k.val < 16 → (Scalar.indexCast (Scalar.muli
      (Scf.iv (Scalar.addi (BitVec.ofNat 32 j.val) 1#32) 1#32 k.val) 256#32)).toNat = 256 * (j.val + 1 + k.val) := by
    decide +kernel
  have hk := trip_row i k
  exact congrArg (fun n : ℕ => (![0, n, 0] : Fin 3 → ℕ)) (h (i 1) ⟨k.val, by omega⟩ hk)

/-! ## The point's values -/

/-- The blocks a point reads: the head's queries, the point's keys and values, the head's output gradients, the forget
sums by query (a lane per head) and by key, and the log-sums and deltas of the head's rows. -/
structure Blocks (F : FTy → Type) where
  q : Vec F S4096x128 .bf16
  k : Vec F S256x128 .bf16
  v : Vec F S256x128 .bf16
  dOut : Vec F S4096x128 .bf16
  f : Vec F S4096x128 .f32
  fk : Vec F S1x1x256 .f32
  lse : Vec F S1x4096x128 .f32
  dl : Vec F S1x4096x128 .f32

/-- What a trip hands to the next: the sums for the keys' and the values' gradients and for the keys' forget terms, and
the logit gradients and the probabilities of the block of rows just done, whose products wait for the next trip. -/
abbrev Carry (F : FTy → Type) : Type :=
  FVec F S256x128 .f32 × FVec F S256x128 .f32 × FVec F S1x256 .f32 × FVec F S256x256 .bf16 × FVec F S256x256 .bf16

/-- The head of a point, as a word. -/
def headW (i : grid0.Coords) : BitVec 32 := BitVec.ofNat 32 (i 0).val

/-- The lane numbers of a block of rows. -/
def laneW : IVec S256x128 32 := iota .tc S256x128 32 [1] iota_S256x128_d1_w32

variable (i : grid0.Coords) (b : Blocks F)

/-- What the diagonal block leaves for the first trip. -/
def carry0 : Carry F :=
  (k0_pay28, k0_pay28,
    k0_pay27 (k0_pay15 b.fk) k0_pay16 (k0_pay17 b.v (rowsOf (i 1).val b.dOut)) (k0_pay18 b.k (rowsOf (i 1).val b.q))
      (k0_pay19 (rowsOf (i 1).val b.f)) (k0_pay20 i) k0_pay21 (rowsOf1 (i 1).val b.lse) (rowsOf1 (i 1).val b.dl),
    k0_pay25 (k0_pay15 b.fk) k0_pay16 (k0_pay17 b.v (rowsOf (i 1).val b.dOut)) (k0_pay18 b.k (rowsOf (i 1).val b.q))
      (k0_pay19 (rowsOf (i 1).val b.f)) (k0_pay20 i) k0_pay21 (rowsOf1 (i 1).val b.lse) (rowsOf1 (i 1).val b.dl),
    k0_pay26 (k0_pay15 b.fk) k0_pay16 (k0_pay18 b.k (rowsOf (i 1).val b.q))
      (k0_pay19 (rowsOf (i 1).val b.f)) (k0_pay20 i) k0_pay21 (rowsOf1 (i 1).val b.lse))

/-- The diagonal block's rows of the queries' forget sums. -/
def fsum0 (A : Vec F S4096x128 .f32) : Vec F S4096x128 .f32 :=
  putRows (i 1).val (k0_pay24 (headW i) (k0_pay15 b.fk) laneW k0_pay16 (k0_pay17 b.v (rowsOf (i 1).val b.dOut))
    (k0_pay18 b.k (rowsOf (i 1).val b.q)) (k0_pay19 (rowsOf (i 1).val b.f)) (k0_pay20 i) k0_pay21
    (rowsOf1 (i 1).val b.lse) (rowsOf1 (i 1).val b.dl) (rowsOf (i 1).val A)) A

/-- The trip over the `r`-th block of query rows: the products of the block before are added, then the block's own
logit gradients and probabilities computed. -/
def carryStep (r r' : ℕ) (a : Carry F) : Carry F :=
  (k0_pay3 a.1 a.2.2.2.1 (rowsOf r' b.q), k0_pay4 a.2.1 a.2.2.2.2 (rowsOf r' b.dOut),
    k0_pay34 (k0_pay15 b.fk) a.2.2.1 (k0_pay1 b.v (rowsOf r b.dOut)) (k0_pay5 b.k (rowsOf r b.q))
      (k0_pay6 (headW i) (rowsOf r b.f)) (rowsOf1 r b.lse) (rowsOf1 r b.dl),
    k0_pay32 (k0_pay15 b.fk) (k0_pay1 b.v (rowsOf r b.dOut)) (k0_pay5 b.k (rowsOf r b.q))
      (k0_pay6 (headW i) (rowsOf r b.f)) (rowsOf1 r b.lse) (rowsOf1 r b.dl),
    k0_pay33 (k0_pay15 b.fk) (k0_pay5 b.k (rowsOf r b.q)) (k0_pay6 (headW i) (rowsOf r b.f)) (rowsOf1 r b.lse))

/-- The trip's rows of the queries' forget sums. -/
def fsumStep (r : ℕ) (A : Vec F S4096x128 .f32) : Vec F S4096x128 .f32 :=
  putRows r (k0_pay31 (headW i) (k0_pay15 b.fk) laneW (k0_pay1 b.v (rowsOf r b.dOut)) (k0_pay5 b.k (rowsOf r b.q))
    (k0_pay6 (headW i) (rowsOf r b.f)) (rowsOf1 r b.lse) (rowsOf1 r b.dl) (rowsOf r A)) A

/-- The query gradient's rows of the block before. -/
def qsumStep (r' : ℕ) (a : Carry F) (A : Vec F S4096x128 .f32) : Vec F S4096x128 .f32 :=
  putRows r' (k0_pay2 b.k a.2.2.2.1 (rowsOf r' A)) A

/-- What is carried before trip `n`. -/
def carryAt : ℕ → Carry F
  | 0 => carry0 i b
  | n + 1 => carryStep i b ((i 1).val + 1 + n) ((i 1).val + n) (carryAt n)

/-- The queries' forget sums before trip `n`, from `A` before the point. -/
def fsumAt (A : Vec F S4096x128 .f32) : ℕ → Vec F S4096x128 .f32
  | 0 => fsum0 i b A
  | n + 1 => fsumStep i b ((i 1).val + 1 + n) (fsumAt A n)

/-- The query gradient's sums before trip `n`, from `A` before the point. -/
def qsumAt (A : Vec F S4096x128 .f32) : ℕ → Vec F S4096x128 .f32
  | 0 => A
  | n + 1 => qsumStep b ((i 1).val + n) (carryAt i b n) (qsumAt A n)

/-- The trips of the point's loop. -/
def trips (i : grid0.Coords) : ℕ := 15 - (i 1).val

/-- The keys' gradient the point stores. -/
def dkOut : Vec F S256x128 .bf16 :=
  k0_pay42 (carryAt i b (trips i)).1 (carryAt i b (trips i)).2.2.2.1 (rowsOf 15 b.q)

/-- The values' gradient the point stores. -/
def dvOut : Vec F S256x128 .bf16 :=
  k0_pay43 (carryAt i b (trips i)).2.1 (carryAt i b (trips i)).2.2.2.2 (rowsOf 15 b.dOut)

/-- The keys' forget terms the point stores. -/
def dfkOut : Vec F S1x1x256 .f32 := k0_pay44 (carryAt i b (trips i)).2.2.1

/-- The queries' forget sums after the point, from `A` before it. -/
def fsumOut (A : Vec F S4096x128 .f32) : Vec F S4096x128 .f32 := fsumAt i b A (trips i)

/-- The query gradient's sums after the point, from `A` before it. -/
def qsumOut (A : Vec F S4096x128 .f32) : Vec F S4096x128 .f32 :=
  putRows 15 (k0_pay41 b.k (carryAt i b (trips i)).2.2.2.1 (rowsOf 15 (qsumAt i b A (trips i)))) (qsumAt i b A (trips i))

/-! ## The loop's state -/

section loop

variable (c : Dev nD)
  (arg2 : Memref sig .tc .vmem S4096x128 .bf16) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S1x1x256 .f32) (harg7 : arg7.IsWhole)
  (arg8 : Memref sig .tc .vmem S1x4096x128 .f32) (harg8 : arg8.IsWhole)
  (arg9 : Memref sig .tc .vmem S1x4096x128 .f32) (harg9 : arg9.IsWhole)
  (arg10 : Memref sig .tc .vmem S4096x128 .bf16) (harg10 : arg10.IsWhole)
  (arg11 : Memref sig .tc .vmem S256x128 .bf16) (harg11 : arg11.IsWhole)
  (arg12 : Memref sig .tc .vmem S256x128 .bf16) (harg12 : arg12.IsWhole)
  (arg13 : Memref sig .tc .vmem S4096x128 .f32) (harg13 : arg13.IsWhole)
  (arg14 : Memref sig .tc .vmem S1x1x256 .f32) (harg14 : arg14.IsWhole)
  (arg15 : Memref sig .tc .vmem S4096x128 .f32) (harg15 : arg15.IsWhole)

/-- One trip, from any values carried in and any contents of the two arrays it adds into. -/
theorem trip_eq (𝒱 : Variants) (bd : Option 𝒱.V) (arg1 : BitVec 32) (v72 v73 : FVec F S256x256 .bf16) (v75 : FVec F S1x256 .f32)
    (v76 : FVec F S256x128 .f32) (v77 v78 : BitVec 32) (k : Fin (k0_t1_loop i).trips)
    (X2 : BufTy.Contents (Elt F) arg2.view.ty) (h2 : arg2.view.read (Elt F) X2 = b.q)
    (X5 : BufTy.Contents (Elt F) arg5.view.ty) (h5 : arg5.view.read (Elt F) X5 = b.dOut)
    (X6 : BufTy.Contents (Elt F) arg6.view.ty) (h6 : arg6.view.read (Elt F) X6 = b.f)
    (X8 : BufTy.Contents (Elt F) arg8.view.ty) (h8 : arg8.view.read (Elt F) X8 = b.lse)
    (X9 : BufTy.Contents (Elt F) arg9.view.ty) (h9 : arg9.view.read (Elt F) X9 = b.dl)
    (acc : Carry F) (f13 : BufTy.Contents (Elt F) arg13.view.ty) (f15 : BufTy.Contents (Elt F) arg15.view.ty) :
    tripR_k0_t1 𝒱 c bd i arg2 harg2 arg3 harg3 arg4 harg4 arg5 harg5 arg6 harg6 arg7 harg7 arg8 harg8 arg9 harg9 arg10 harg10
        arg11 harg11 arg12 harg12 arg13 harg13 arg14 harg14 arg15 harg15 (headW i) arg1 b.k b.v (k0_pay15 b.fk) laneW v72 v73 v75 v76
        v77 v78 X2 X5 X6 X8 X9 k acc f13 f15
      = carryStep i b ((i 1).val + 1 + k.val) ((i 1).val + k.val) acc
    ∧ arg13.view.read (Elt F) (arg13.view.writes (Elt F) f13
        (tripL_k0_t1 𝒱 c bd i arg2 harg2 arg3 harg3 arg4 harg4 arg5 harg5 arg6 harg6 arg7 harg7 arg8 harg8 arg9 harg9 arg10 harg10
          arg11 harg11 arg12 harg12 arg13 harg13 arg14 harg14 arg15 harg15 (headW i) arg1 b.k b.v (k0_pay15 b.fk) laneW v72 v73 v75 v76
          v77 v78 X2 X5 X6 X8 X9 k acc f13 f15).1)
      = fsumStep i b ((i 1).val + 1 + k.val) (arg13.view.read (Elt F) f13)
    ∧ arg15.view.read (Elt F) (arg15.view.writes (Elt F) f15
        (tripL_k0_t1 𝒱 c bd i arg2 harg2 arg3 harg3 arg4 harg4 arg5 harg5 arg6 harg6 arg7 harg7 arg8 harg8 arg9 harg9 arg10 harg10
          arg11 harg11 arg12 harg12 arg13 harg13 arg14 harg14 arg15 harg15 (headW i) arg1 b.k b.v (k0_pay15 b.fk) laneW v72 v73 v75 v76
          v77 v78 X2 X5 X6 X8 X9 k acc f13 f15).2)
      = qsumStep b ((i 1).val + k.val) acc (arg15.view.read (Elt F) f15) := by
  have hk := trip_row i k
  have hk' : (i 1).val + k.val < 16 := by omega
  have rd3 : ∀ {e : EltTy} (v : View sig .tc .vmem S4096x128 e) (f : BufTy.Contents (Elt F) v.ty) (inb),
      v.readAt (Elt F) (Rect.unit (s := S4096x128) (k0_off3 i k) ![256, 128] inb).toLoadRect f
        = rowsOf ((i 1).val + 1 + k.val) (v.read (Elt F) f) := fun v f inb =>
    (View.readAt_unit v f inb rfl inb).trans (window_rows _ inb _ hk (off3_eq i k))
  have rd4 : ∀ {e : EltTy} (v : View sig .tc .vmem S4096x128 e) (f : BufTy.Contents (Elt F) v.ty) (inb),
      v.readAt (Elt F) (Rect.unit (s := S4096x128) (k0_off4 i k) ![256, 128] inb).toLoadRect f
        = rowsOf ((i 1).val + k.val) (v.read (Elt F) f) := fun v f inb =>
    (View.readAt_unit v f inb rfl inb).trans (window_rows _ inb _ hk' (off4_eq i k))
  have rd5 : ∀ {e : EltTy} (v : View sig .tc .vmem S1x4096x128 e) (f : BufTy.Contents (Elt F) v.ty) (inb),
      v.readAt (Elt F) (Rect.unit (s := S1x4096x128) (k0_off5 i k) ![1, 256, 128] inb).toLoadRect f
        = rowsOf1 ((i 1).val + 1 + k.val) (v.read (Elt F) f) := fun v f inb =>
    (View.readAt_unit v f inb rfl inb).trans (window_rows1 _ inb _ hk (off5_eq i k))
  unfold tripR_k0_t1 tripL_k0_t1 trip_k0_t1
  dsimp only
  simp only [trip_k0_t1.sl.v118, trip_k0_t1.sl.v121, trip_k0_t1.sl.v127, trip_k0_t1.sl.v128, trip_k0_t1.sl.v132, trip_k0_t1.sl.v135,
    trip_k0_t1.sl.v136, trip_k0_t1.sl.v139, trip_k0_t1.sl.v140, trip_k0_t1.sl.v144, trip_k0_t1.sl.v147, trip_k0_t1.sl.v152]
  simp only [rd3, rd4, rd5, h2, h5, h6, h8, h9]
  refine ⟨rfl, ?_, ?_⟩
  · exact (View.read_writes_cons_put _ _ _ _ [] (off3_eq i k)).trans (put_rows _ _ _ _ rfl)
  · exact (View.read_writes_cons_put _ _ _ _ [] (off4_eq i k)).trans (put_rows _ _ _ _ rfl)

/-- The loop's state before trip `n`, from contents of the two arrays that read `A13` and `A15`. -/
theorem state_eq (𝒱 : Variants) (bd : Option 𝒱.V) (arg1 : BitVec 32) (v72 v73 : FVec F S256x256 .bf16) (v75 : FVec F S1x256 .f32)
    (v76 : FVec F S256x128 .f32) (v77 v78 : BitVec 32)
    (X2 : BufTy.Contents (Elt F) arg2.view.ty) (h2 : arg2.view.read (Elt F) X2 = b.q)
    (X5 : BufTy.Contents (Elt F) arg5.view.ty) (h5 : arg5.view.read (Elt F) X5 = b.dOut)
    (X6 : BufTy.Contents (Elt F) arg6.view.ty) (h6 : arg6.view.read (Elt F) X6 = b.f)
    (X8 : BufTy.Contents (Elt F) arg8.view.ty) (h8 : arg8.view.read (Elt F) X8 = b.lse)
    (X9 : BufTy.Contents (Elt F) arg9.view.ty) (h9 : arg9.view.read (Elt F) X9 = b.dl)
    (G13 : BufTy.Contents (Elt F) arg13.view.ty) (G15 : BufTy.Contents (Elt F) arg15.view.ty)
    (A13 A15 : Vec F S4096x128 .f32) (h13 : arg13.view.read (Elt F) G13 = fsum0 i b A13)
    (h15 : arg15.view.read (Elt F) G15 = A15) (n : ℕ) (hn : n ≤ (k0_t1_loop i).trips) :
    (st_k0_t1 𝒱 c bd i arg2 harg2 arg3 harg3 arg4 harg4 arg5 harg5 arg6 harg6 arg7 harg7 arg8 harg8 arg9 harg9 arg10 harg10
        arg11 harg11 arg12 harg12 arg13 harg13 arg14 harg14 arg15 harg15 (headW i) arg1 b.k b.v (k0_pay15 b.fk) laneW v72 v73 v75 v76
        v77 v78 X2 X5 X6 X8 X9 G13 G15 (carry0 i b) n).1 = carryAt i b n
    ∧ arg13.view.read (Elt F) (arg13.view.writes (Elt F) G13
        (st_k0_t1 𝒱 c bd i arg2 harg2 arg3 harg3 arg4 harg4 arg5 harg5 arg6 harg6 arg7 harg7 arg8 harg8 arg9 harg9 arg10 harg10
        arg11 harg11 arg12 harg12 arg13 harg13 arg14 harg14 arg15 harg15 (headW i) arg1 b.k b.v (k0_pay15 b.fk) laneW v72 v73 v75 v76
        v77 v78 X2 X5 X6 X8 X9 G13 G15 (carry0 i b) n).2.1) = fsumAt i b A13 n
    ∧ arg15.view.read (Elt F) (arg15.view.writes (Elt F) G15
        (st_k0_t1 𝒱 c bd i arg2 harg2 arg3 harg3 arg4 harg4 arg5 harg5 arg6 harg6 arg7 harg7 arg8 harg8 arg9 harg9 arg10 harg10
        arg11 harg11 arg12 harg12 arg13 harg13 arg14 harg14 arg15 harg15 (headW i) arg1 b.k b.v (k0_pay15 b.fk) laneW v72 v73 v75 v76
        v77 v78 X2 X5 X6 X8 X9 G13 G15 (carry0 i b) n).2.2) = qsumAt i b A15 n := by
  induction n with
  | zero => exact ⟨rfl, h13, h15⟩
  | succ n ih =>
    obtain ⟨e1, e2, e3⟩ := ih (by omega)
    have ht := trip_eq i b c arg2 harg2 arg3 harg3 arg4 harg4 arg5 harg5 arg6 harg6 arg7 harg7 arg8 harg8 arg9 harg9 arg10 harg10
      arg11 harg11 arg12 harg12 arg13 harg13 arg14 harg14 arg15 harg15 𝒱 bd arg1 v72 v73 v75 v76 v77 v78 ⟨n, hn⟩ X2 h2 X5 h5 X6 h6
      X8 h8 X9 h9 (carryAt i b n)
    have hs := st_k0_t1_succ 𝒱 c bd i arg2 harg2 arg3 harg3 arg4 harg4 arg5 harg5 arg6 harg6 arg7 harg7 arg8 harg8 arg9 harg9
      arg10 harg10 arg11 harg11 arg12 harg12 arg13 harg13 arg14 harg14 arg15 harg15 (headW i) arg1 b.k b.v (k0_pay15 b.fk) laneW
      v72 v73 v75 v76 v77 v78 X2 X5 X6 X8 X9 G13 G15 (carry0 i b) ⟨n, hn⟩
    rw [show n + 1 = (⟨n, hn⟩ : Fin (k0_t1_loop i).trips).val + 1 from rfl, hs]
    dsimp only at e1 e2 e3 ⊢
    rw [e1]
    refine ⟨(ht _ _).1, ?_, ?_⟩
    · rw [View.writes_append]
      exact ((ht _ _).2.1).trans (congrArg (fsumStep i b ((i 1).val + 1 + n)) e2)
    · rw [View.writes_append]
      exact ((ht _ _).2.2).trans (congrArg (qsumStep b ((i 1).val + n) (carryAt i b n)) e3)

end loop

end Cert.KernelIdeal.Attn

end
-- ==== Proof.AttnEnds.lean ====
module

public import proofs.«01_k».proof.Proof.AttnStep

@[expose] public section

set_option maxRecDepth 16384

noncomputable section

/-! # What a point leaves, from the loop's state

The run of a point ends in terms of the loops' states. The first loop's state is `AttnStep`'s; the second loop makes no
trip. What is left in each array the point writes follows, whatever stood there before the stores. -/

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (b : Blocks F)
  (arg2 : Memref sig .tc .vmem S4096x128 .bf16) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S1x1x256 .f32) (harg7 : arg7.IsWhole)
  (arg8 : Memref sig .tc .vmem S1x4096x128 .f32) (harg8 : arg8.IsWhole)
  (arg9 : Memref sig .tc .vmem S1x4096x128 .f32) (harg9 : arg9.IsWhole)
  (arg10 : Memref sig .tc .vmem S4096x128 .bf16) (harg10 : arg10.IsWhole)
  (arg11 : Memref sig .tc .vmem S256x128 .bf16) (harg11 : arg11.IsWhole)
  (arg12 : Memref sig .tc .vmem S256x128 .bf16) (harg12 : arg12.IsWhole)
  (arg13 : Memref sig .tc .vmem S4096x128 .f32) (harg13 : arg13.IsWhole)
  (arg14 : Memref sig .tc .vmem S1x1x256 .f32) (harg14 : arg14.IsWhole)
  (arg15 : Memref sig .tc .vmem S4096x128 .f32) (harg15 : arg15.IsWhole)

/-- The second loop makes no trip. -/
theorem state2_eq (𝒱 : Variants) (bd : Option 𝒱.V) (arg0 arg1 : BitVec 32) (rk rv : Vec F S256x128 .bf16) (fk0 : FVec F S1x256 .f32)
    (ln : IVec S256x128 32) (v72 v73 : FVec F S256x256 .bf16) (v75 : FVec F S1x256 .f32)
    (v76 : FVec F S256x128 .f32) (v77 v78 v82 : BitVec 32) (X2 : BufTy.Contents (Elt F) arg2.view.ty)
    (X5 : BufTy.Contents (Elt F) arg5.view.ty) (X6 : BufTy.Contents (Elt F) arg6.view.ty)
    (X8 : BufTy.Contents (Elt F) arg8.view.ty) (X9 : BufTy.Contents (Elt F) arg9.view.ty)
    (G13 : BufTy.Contents (Elt F) arg13.view.ty) (G15 : BufTy.Contents (Elt F) arg15.view.ty) (a : Carry F) :
    st_k0_t2 𝒱 c bd i arg2 harg2 arg3 harg3 arg4 harg4 arg5 harg5 arg6 harg6 arg7 harg7 arg8 harg8 arg9 harg9 arg10 harg10
      arg11 harg11 arg12 harg12 arg13 harg13 arg14 harg14 arg15 harg15 arg0 arg1 rk rv fk0 ln v72 v73 v75 v76
        v77 v78 v82 X2 X5 X6 X8 X9 G13 G15 (a.1, a.2.1, a.2.2.1, a.2.2.2.1, a.2.2.2.2) (Scf.trips (k0_t2_loop i).lb (k0_t2_loop i).ub (k0_t2_loop i).st) = (a, [], []) := by
  rw [show Scf.trips (k0_t2_loop i).lb (k0_t2_loop i).ub (k0_t2_loop i).st = 0 from trips2 i]
  rfl

/-- The first loop's state at its end. -/
theorem state1_eq (𝒱 : Variants) (bd : Option 𝒱.V) (arg0 arg1 : BitVec 32) (rk rv : Vec F S256x128 .bf16) (fk0 : FVec F S1x256 .f32)
    (ln : IVec S256x128 32) (v72 v73 : FVec F S256x256 .bf16) (v75 : FVec F S1x256 .f32)
    (v76 : FVec F S256x128 .f32) (v77 v78 : BitVec 32)
    (dp0 s0 : FVec F S256x256 .f32) (fr0 : FVec F S256x128 .f32) (l0 d0 : Vec F S1x256x128 .f32) (w0 : Vec F S256x128 .f32)
    (X2 : BufTy.Contents (Elt F) arg2.view.ty) (h2 : arg2.view.read (Elt F) X2 = b.q)
    (X5 : BufTy.Contents (Elt F) arg5.view.ty) (h5 : arg5.view.read (Elt F) X5 = b.dOut)
    (X6 : BufTy.Contents (Elt F) arg6.view.ty) (h6 : arg6.view.read (Elt F) X6 = b.f)
    (X8 : BufTy.Contents (Elt F) arg8.view.ty) (h8 : arg8.view.read (Elt F) X8 = b.lse)
    (X9 : BufTy.Contents (Elt F) arg9.view.ty) (h9 : arg9.view.read (Elt F) X9 = b.dl)
    (B13 : BufTy.Contents (Elt F) arg13.view.ty) (L13 : List (View.Piece (Elt F) S4096x128 .f32))
    (G15 : BufTy.Contents (Elt F) arg15.view.ty) (Z13 Z15 : Vec F S4096x128 .f32)
    (inb : ∀ a, k0_off1 i a + S256x128.size a ≤ S4096x128.size a) (r6 r7 : FVec F S256x256 .bf16) (r8 : FVec F S1x256 .f32)
    (h6' : r6 = k0_pay25 fk0 k0_pay16 dp0 s0 fr0 (k0_pay20 i) k0_pay21 l0 d0)
    (h7' : r7 = k0_pay26 fk0 k0_pay16 s0 fr0 (k0_pay20 i) k0_pay21 l0)
    (h8' : r8 = k0_pay27 fk0 k0_pay16 dp0 s0 fr0 (k0_pay20 i) k0_pay21 l0 d0)
    (hh : arg0 = headW i) (hk : rk = b.k) (hv : rv = b.v) (hfk : fk0 = k0_pay15 b.fk) (hln : ln = laneW)
    (hdp : dp0 = k0_pay17 b.v (rowsOf (i 1).val b.dOut)) (hs : s0 = k0_pay18 b.k (rowsOf (i 1).val b.q))
    (hfr : fr0 = k0_pay19 (rowsOf (i 1).val b.f)) (hl : l0 = rowsOf1 (i 1).val b.lse) (hd : d0 = rowsOf1 (i 1).val b.dl)
    (hw : w0 = rowsOf (i 1).val Z13) (h13 : arg13.view.read (Elt F) (arg13.view.writes (Elt F) B13 L13) = Z13)
    (h15 : arg15.view.read (Elt F) G15 = Z15)
    (S : Carry F × List (View.Piece (Elt F) S4096x128 .f32) × List (View.Piece (Elt F) S4096x128 .f32))
    (hS : S = st_k0_t1 𝒱 c bd i arg2 harg2 arg3 harg3 arg4 harg4 arg5 harg5 arg6 harg6 arg7 harg7 arg8 harg8 arg9 harg9 arg10 harg10
      arg11 harg11 arg12 harg12 arg13 harg13 arg14 harg14 arg15 harg15 arg0 arg1 rk rv fk0 ln v72 v73 v75 v76
        v77 v78 X2 X5 X6 X8 X9
        (arg13.view.writes (Elt F) B13 (⟨Rect.unit (s := S4096x128) (k0_off1 i) S256x128.size inb,
          k0_pay24 arg0 fk0 ln k0_pay16 dp0 s0 fr0 (k0_pay20 i) k0_pay21 l0 d0 w0⟩ :: L13)) G15
        (k0_pay28, k0_pay28, r8, r6, r7)
        (Scf.trips (k0_t1_loop i).lb (k0_t1_loop i).ub (k0_t1_loop i).st)) :
    S.1 = carryAt i b (trips i)
    ∧ arg13.view.read (Elt F) (arg13.view.writes (Elt F) B13 (S.2.1 ++ (⟨Rect.unit (s := S4096x128) (k0_off1 i) S256x128.size inb,
          k0_pay24 arg0 fk0 ln k0_pay16 dp0 s0 fr0 (k0_pay20 i) k0_pay21 l0 d0 w0⟩ :: L13))) = fsumOut i b Z13
    ∧ arg15.view.read (Elt F) (arg15.view.writes (Elt F) G15 S.2.2) = qsumAt i b Z15 (trips i) := by
  subst hS h6' h7' h8' hh hk hv hfk hln hdp hs hfr hl hd hw
  have hj : (i 1).val < 16 := (i 1).isLt
  have ht : Scf.trips (k0_t1_loop i).lb (k0_t1_loop i).ub (k0_t1_loop i).st = (k0_t1_loop i).trips := rfl
  have h0 : trips i = (k0_t1_loop i).trips := (trips1 i).symm
  have hG : arg13.view.read (Elt F) (arg13.view.writes (Elt F) B13 (⟨Rect.unit (s := S4096x128) (k0_off1 i) S256x128.size inb,
      k0_pay24 (headW i) (k0_pay15 b.fk) laneW k0_pay16 (k0_pay17 b.v (rowsOf (i 1).val b.dOut))
        (k0_pay18 b.k (rowsOf (i 1).val b.q)) (k0_pay19 (rowsOf (i 1).val b.f)) (k0_pay20 i) k0_pay21
        (rowsOf1 (i 1).val b.lse) (rowsOf1 (i 1).val b.dl) (rowsOf (i 1).val Z13)⟩ :: L13)) = fsum0 i b Z13 := by
    refine (View.read_writes_cons_put _ _ _ _ L13 (off1_eq i)).trans ?_
    rw [h13]
    exact put_rows _ _ _ _ rfl
  have hSt := state_eq i b c arg2 harg2 arg3 harg3 arg4 harg4 arg5 harg5 arg6 harg6 arg7 harg7 arg8 harg8 arg9 harg9 arg10 harg10
      arg11 harg11 arg12 harg12 arg13 harg13 arg14 harg14 arg15 harg15 𝒱 bd arg1 v72 v73 v75 v76 v77 v78 X2 h2 X5 h5 X6 h6 X8 h8 X9 h9 _ G15 Z13 Z15 hG h15
    (k0_t1_loop i).trips le_rfl
  rw [View.writes_append, ht, fsumOut, h0]
  exact hSt

/-- What a point leaves in the arrays it writes. -/
theorem point_eq (S S2 : Carry F × List (View.Piece (Elt F) S4096x128 .f32) × List (View.Piece (Elt F) S4096x128 .f32))
    (rk : Vec F S256x128 .bf16) (hk : rk = b.k)
    (X2 : BufTy.Contents (Elt F) arg2.view.ty) (h2 : arg2.view.read (Elt F) X2 = b.q)
    (X5 : BufTy.Contents (Elt F) arg5.view.ty) (h5 : arg5.view.read (Elt F) X5 = b.dOut)
    (B13 : BufTy.Contents (Elt F) arg13.view.ty) (M13 : List (View.Piece (Elt F) S4096x128 .f32))
    (B15 : BufTy.Contents (Elt F) arg15.view.ty) (M15 : List (View.Piece (Elt F) S4096x128 .f32)) (Z13 Z15 : Vec F S4096x128 .f32)
    (h1 : S.1 = carryAt i b (trips i))
    (h13 : arg13.view.read (Elt F) (arg13.view.writes (Elt F) B13 M13) = fsumOut i b Z13)
    (h15 : arg15.view.read (Elt F) (arg15.view.writes (Elt F) B15 M15) = qsumAt i b Z15 (trips i))
    (hS2 : S2 = (S.1, [], [])) :
    (∀ (B : BufTy.Contents (Elt F) arg11.view.ty) (inb) (inb'), arg11.view.read (Elt F) (arg11.view.writes (Elt F) B
        [⟨Rect.unit (s := S256x128) ![0, 0] S256x128.size inb, k0_pay42 S2.1.1 S2.1.2.2.2.1
          (View.readAt (Elt F) arg2.view (Rect.unit (s := S4096x128) ![3840, 0] S256x128.size inb').toLoadRect X2)⟩]) = dkOut i b)
    ∧ (∀ (B : BufTy.Contents (Elt F) arg12.view.ty) (inb) (inb'), arg12.view.read (Elt F) (arg12.view.writes (Elt F) B
        [⟨Rect.unit (s := S256x128) ![0, 0] S256x128.size inb, k0_pay43 S2.1.2.1 S2.1.2.2.2.2
          (View.readAt (Elt F) arg5.view (Rect.unit (s := S4096x128) ![3840, 0] S256x128.size inb').toLoadRect X5)⟩]) = dvOut i b)
    ∧ arg13.view.read (Elt F) (arg13.view.writes (Elt F) B13 (S2.2.1 ++ M13)) = fsumOut i b Z13
    ∧ (∀ (B : BufTy.Contents (Elt F) arg14.view.ty) (inb), arg14.view.read (Elt F) (arg14.view.writes (Elt F) B
        [⟨Rect.unit (s := S1x1x256) ![0, 0, 0] S1x1x256.size inb, k0_pay44 S2.1.2.2.1⟩]) = dfkOut i b)
    ∧ ∀ (inb) (inb') (w : Vec F S256x128 .f32) (_ : w = View.readAt (Elt F) arg15.view
        (Rect.unit (s := S4096x128) ![3840, 0] S256x128.size inb').toLoadRect (arg15.view.writes (Elt F) B15 (S2.2.2 ++ M15))),
        arg15.view.read (Elt F) (arg15.view.writes (Elt F) B15 (⟨Rect.unit (s := S4096x128) ![3840, 0] S256x128.size inb,
          k0_pay41 rk S2.1.2.2.2.1 w⟩ :: (S2.2.2 ++ M15))) = qsumOut i b Z15 := by
  subst hS2 hk
  have rd : ∀ {e : EltTy} (v : View sig .tc .vmem S4096x128 e) (f : BufTy.Contents (Elt F) v.ty) (inb),
      v.readAt (Elt F) (Rect.unit (s := S4096x128) ![3840, 0] S256x128.size inb).toLoadRect f = rowsOf 15 (v.read (Elt F) f) :=
    fun v f inb => (View.readAt_unit v f inb rfl inb).trans (window_rows _ inb _ (by decide) rfl)
  simp only [List.nil_append]
  refine ⟨fun B inb inb' => ?_, fun B inb inb' => ?_, h13, fun B inb => ?_, fun inb inb' w hw => ?_⟩
  · rw [View.read_writes_full, rd, h2, h1]; rfl
  · rw [View.read_writes_full, rd, h5, h1]; rfl
  · rw [View.read_writes_full, h1]; rfl
  · refine (View.read_writes_cons_put _ _ _ _ M15 rfl).trans ?_
    rw [hw, rd, h15, h1]
    exact put_rows _ _ _ 15 rfl

end Cert.KernelIdeal.Attn

end
-- ==== Proof.AttnRuns.lean ====
module

public import proofs.«01_k».proof.Proof.AttnEnds

@[expose] public section

set_option maxRecDepth 16384

noncomputable section

/-! # The body of a grid point, run

The three conditionals of the body split the points into four cases: the very first point (both accumulators are
cleared), the first key block of a later head (the query gradient's accumulator is cleared), the middle blocks, and the
last block of a head (the query gradient is stored). Each case is run once, from any contents of what the point writes,
and leaves in each array what `AttnStep` computes. -/

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The point is the first of its head. -/
def FirstOfHead (i : grid0.Coords) : Prop :=
  Scalar.cmpi .ne (Scalar.extui (Scalar.cmpi .eq (BitVec.ofNat 32 (i 1).val) 0#32)) 0#32 = 1#1

/-- The point is the first of all. -/
def FirstOfAll (i : grid0.Coords) : Prop :=
  Scalar.cmpi .ne (Scalar.extui (Scalar.andi (Scalar.cmpi .eq (BitVec.ofNat 32 (i 1).val) 0#32)
    (Scalar.cmpi .eq (BitVec.ofNat 32 (i 0).val) 0#32))) 0#32 = 1#1

/-- The point is the last of its head. -/
def LastOfHead (i : grid0.Coords) : Prop := k0_cond3 i = 1#1

variable (c : Dev nD) (i : grid0.Coords) (b : Blocks F)
  (arg2 : Memref sig .tc .vmem S4096x128 .bf16) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S1x1x256 .f32) (harg7 : arg7.IsWhole)
  (arg8 : Memref sig .tc .vmem S1x4096x128 .f32) (harg8 : arg8.IsWhole)
  (arg9 : Memref sig .tc .vmem S1x4096x128 .f32) (harg9 : arg9.IsWhole)
  (arg10 : Memref sig .tc .vmem S4096x128 .bf16) (harg10 : arg10.IsWhole)
  (arg11 : Memref sig .tc .vmem S256x128 .bf16) (harg11 : arg11.IsWhole)
  (arg12 : Memref sig .tc .vmem S256x128 .bf16) (harg12 : arg12.IsWhole)
  (arg13 : Memref sig .tc .vmem S4096x128 .f32) (harg13 : arg13.IsWhole)
  (arg14 : Memref sig .tc .vmem S1x1x256 .f32) (harg14 : arg14.IsWhole)
  (arg15 : Memref sig .tc .vmem S4096x128 .f32) (harg15 : arg15.IsWhole)

/-- The blocks a point reads, held at their contents. -/
def Inputs : sProp 𝕄 :=
  iprop(owns (c : Thread nD τ) arg2 fullShare b.q ∗ owns (c : Thread nD τ) arg3 fullShare b.k
    ∗ owns (c : Thread nD τ) arg4 fullShare b.v ∗ owns (c : Thread nD τ) arg5 fullShare b.dOut
    ∗ owns (c : Thread nD τ) arg6 fullShare b.f ∗ owns (c : Thread nD τ) arg7 fullShare b.fk
    ∗ owns (c : Thread nD τ) arg8 fullShare b.lse ∗ owns (c : Thread nD τ) arg9 fullShare b.dl)

/-- The body, from contents `A10`, `A13` and `A15` of the query gradient, the queries' forget sums and the scratch and any
contents of the other arrays it writes, ends with the query gradient at `D10`, with the forget sums and the scratch at
what the point makes of `Z13` and `Z15`, and with what it computes in the others. -/
def RunsTo (A10 D10 : Vec F S4096x128 .bf16) (A13 A15 Z13 Z15 : Vec F S4096x128 .f32) : Prop :=
  ∀ (A11 A12 : Vec F S256x128 .bf16) (A14 : Vec F S1x1x256 .f32) (E : Set ℕ) (K : PUnit → sProp 𝕄),
    iprop(Inputs c b arg2 arg3 arg4 arg5 arg6 arg7 arg8 arg9
        ∗ owns (c : Thread nD τ) arg10 fullShare A10 ∗ owns (c : Thread nD τ) arg11 fullShare A11
        ∗ owns (c : Thread nD τ) arg12 fullShare A12 ∗ owns (c : Thread nD τ) arg13 fullShare A13
        ∗ owns (c : Thread nD τ) arg14 fullShare A14 ∗ owns (c : Thread nD τ) arg15 fullShare A15
        ∗ (iprop(Inputs c b arg2 arg3 arg4 arg5 arg6 arg7 arg8 arg9
            ∗ owns (c : Thread nD τ) arg10 fullShare D10 ∗ owns (c : Thread nD τ) arg11 fullShare (dkOut i b)
            ∗ owns (c : Thread nD τ) arg12 fullShare (dvOut i b) ∗ owns (c : Thread nD τ) arg13 fullShare (fsumOut i b Z13)
            ∗ owns (c : Thread nD τ) arg14 fullShare (dfkOut i b) ∗ owns (c : Thread nD τ) arg15 fullShare (qsumOut i b Z15))
          -∗ K ⟨⟩))
      ⊢ wp frame (wpE (defs₀ (F := F)) Variants.none (c : Thread nD τ) none) E
          (cc0_l1_attn_bwd i arg2 harg2 arg3 harg3 arg4 harg4 arg5 harg5 arg6 harg6 arg7 harg7 arg8 harg8 arg9 harg9 arg10 harg10
            arg11 harg11 arg12 harg12 arg13 harg13 arg14 harg14 arg15 harg15) K

end Cert.KernelIdeal.Attn

end
-- ==== Proof.AttnRunA.lean ====
module

public import proofs.«01_k».proof.Proof.AttnRuns

@[expose] public section

set_option maxRecDepth 16384

noncomputable section

/-! # The body run at the first point of all -/

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (b : Blocks F)
  (arg2 : Memref sig .tc .vmem S4096x128 .bf16) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S1x1x256 .f32) (harg7 : arg7.IsWhole)
  (arg8 : Memref sig .tc .vmem S1x4096x128 .f32) (harg8 : arg8.IsWhole)
  (arg9 : Memref sig .tc .vmem S1x4096x128 .f32) (harg9 : arg9.IsWhole)
  (arg10 : Memref sig .tc .vmem S4096x128 .bf16) (harg10 : arg10.IsWhole)
  (arg11 : Memref sig .tc .vmem S256x128 .bf16) (harg11 : arg11.IsWhole)
  (arg12 : Memref sig .tc .vmem S256x128 .bf16) (harg12 : arg12.IsWhole)
  (arg13 : Memref sig .tc .vmem S4096x128 .f32) (harg13 : arg13.IsWhole)
  (arg14 : Memref sig .tc .vmem S1x1x256 .f32) (harg14 : arg14.IsWhole)
  (arg15 : Memref sig .tc .vmem S4096x128 .f32) (harg15 : arg15.IsWhole)

set_option maxHeartbeats 2000000 in
/-- The first point of all. -/
theorem run_first (hc0 : FirstOfHead i) (hc1 : FirstOfAll i) (hc2 : ¬LastOfHead i) (A10 : Vec F S4096x128 .bf16)
    (A13 A15 : Vec F S4096x128 .f32) :
    RunsTo c i b arg2 harg2 arg3 harg3 arg4 harg4 arg5 harg5 arg6 harg6 arg7 harg7 arg8 harg8 arg9 harg9 arg10 harg10
      arg11 harg11 arg12 harg12 arg13 harg13 arg14 harg14 arg15 harg15 A10 A10 A13 A15 k0_pay14 k0_pay13 := by
  intro A11 A12 A14 E K
  simp only [cc0_l1_attn_bwd_eq_skeleton]; unfold cc0_l1_attn_bwd_skel
  simp only [k0_part3_eq_skeleton, k0_part4_eq_skeleton, k0_part5_eq_skeleton]
  unfold Inputs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨%f10, %hf10, H10⟩, ⟨%f11, -, H11⟩, ⟨%f12, -, H12⟩, ⟨%f13, %hf13, H13⟩, ⟨%f14, -, H14⟩, ⟨%f15, %hf15, H15⟩, Hk⟩
  sl_exec (disch := first | sl_exact hc0 | sl_exact hc1 | sl_exact hc2)
  sl_step
  have hR : ∀ {e : EltTy} (v : View sig .tc .vmem S4096x128 e) (f : BufTy.Contents (Elt F) v.ty) (inb),
      v.readAt (Elt F) (Rect.unit (s := S4096x128) (k0_off1 i) S256x128.size inb).toLoadRect f = rowsOf (i 1).val (v.read (Elt F) f) :=
    fun v f inb => (View.readAt_unit v f inb rfl inb).trans (window_rows _ inb _ (i 1).isLt (off1_eq i))
  have hR1 : ∀ {e : EltTy} (v : View sig .tc .vmem S1x4096x128 e) (f : BufTy.Contents (Elt F) v.ty) (inb),
      v.readAt (Elt F) (Rect.unit (s := S1x4096x128) (k0_off2 i) S1x256x128.size inb).toLoadRect f = rowsOf1 (i 1).val (v.read (Elt F) f) :=
    fun v f inb => (View.readAt_unit v f inb rfl inb).trans (window_rows1 _ inb _ (i 1).isLt (off2_eq i))
  have hk : run_first.sl.r c arg3 f3 = b.k := ((View.readAt_full _ _ _).trans hf3)
  have hv : run_first.sl.r_1 c arg4 f4 = b.v := ((View.readAt_full _ _ _).trans hf4)
  have hfk : run_first.sl.r_2 c arg7 f7 = k0_pay15 b.fk := congrArg k0_pay15 ((View.readAt_full _ _ _).trans hf7)
  have hdp : run_first.sl.r_3 c i arg4 arg5 f4 f5 = k0_pay17 b.v (rowsOf (i 1).val b.dOut) :=
    congrArg₂ k0_pay17 ((View.readAt_full _ _ _).trans hf4) ((hR _ _ _).trans (congrArg (rowsOf _) hf5))
  have hs : run_first.sl.r_4 c i arg2 arg3 f2 f3 = k0_pay18 b.k (rowsOf (i 1).val b.q) :=
    congrArg₂ k0_pay18 ((View.readAt_full _ _ _).trans hf3) ((hR _ _ _).trans (congrArg (rowsOf _) hf2))
  have hfr : run_first.sl.r_5 c i arg6 f6 = k0_pay19 (rowsOf (i 1).val b.f) := congrArg k0_pay19 ((hR _ _ _).trans (congrArg (rowsOf _) hf6))
  have h13 : arg13.view.read (Elt F) (arg13.view.writes (Elt F) arg13.view.junk run_first.sl.H13_1) = k0_pay14 := (View.read_writes_full arg13.view arg13.view.junk inb_S4096x128_S4096x128_0_0 _ [])
  have h15 : arg15.view.read (Elt F) (arg15.view.writes (Elt F) arg15.view.junk run_first.sl.H15_1) = k0_pay13 := (View.read_writes_full arg15.view arg15.view.junk inb_S4096x128_S4096x128_0_0 _ [])
  have hE := fun v72 v73 v75 v76 v77 v78 v82 g13 g15 =>
    have hS := state1_eq c i b arg2 harg2 arg3 harg3 arg4 harg4 arg5 harg5 arg6 harg6 arg7 harg7 arg8 harg8 arg9 harg9 arg10 harg10
      arg11 harg11 arg12 harg12 arg13 harg13 arg14 harg14 arg15 harg15 Variants.none none (BitVec.ofNat 32 (i 0).val)
      (BitVec.ofNat 32 (i 1).val) (run_first.sl.r c arg3 f3) (run_first.sl.r_1 c arg4 f4) (run_first.sl.r_2 c arg7 f7) run_first.sl.v12 v72 v73 v75 v76 v77 v78 _ _ _ _ _ _ f2 hf2 f5 hf5 f6 hf6 f8 hf8 f9 hf9 arg13.view.junk run_first.sl.H13_1 (arg15.view.writes (Elt F) arg15.view.junk run_first.sl.H15_1)
      k0_pay14 k0_pay13 (k0_off1_inb i)
      (run_first.sl.r_6 c i arg2 arg3 arg4 arg5 arg6 arg7 arg8 arg9 f2 f3 f4 f5 f6 f7 f8 f9) (run_first.sl.r_7 c i arg2 arg3 arg6 arg7 arg8 f2 f3 f6 f7 f8)
      (run_first.sl.r_8 c i arg2 arg3 arg4 arg5 arg6 arg7 arg8 arg9 f2 f3 f4 f5 f6 f7 f8 f9) rfl rfl rfl rfl hk hv hfk rfl hdp hs hfr ((hR1 arg8.view f8 (k0_off2_inb i)).trans (congrArg (rowsOf1 _) hf8))
      ((hR1 arg9.view f9 (k0_off2_inb i)).trans (congrArg (rowsOf1 _) hf9))
      ((hR arg13.view (arg13.view.writes (Elt F) arg13.view.junk run_first.sl.H13_1) (k0_off1_inb i)).trans (congrArg (rowsOf _) h13)) h13 h15 _ rfl
    point_eq i b arg2 arg5 arg11 arg12 arg13 arg14 arg15 _ _ _ hk f2 hf2 f5 hf5 arg13.view.junk _
      arg15.view.junk (_ ++ run_first.sl.H15_1) k0_pay14 k0_pay13 hS.1 hS.2.1 ((congrArg (View.read (Elt F) arg15.view) (View.writes_append _ _ _ _)).trans hS.2.2)
      (state2_eq c i arg2 harg2 arg3 harg3 arg4 harg4 arg5 harg5 arg6 harg6 arg7 harg7 arg8 harg8 arg9 harg9 arg10 harg10
      arg11 harg11 arg12 harg12 arg13 harg13 arg14 harg14 arg15 harg15 Variants.none none (BitVec.ofNat 32 (i 0).val)
        (BitVec.ofNat 32 (i 1).val) (run_first.sl.r c arg3 f3) (run_first.sl.r_1 c arg4 f4) (run_first.sl.r_2 c arg7 f7) run_first.sl.v12
        v72 v73 v75 v76 v77 v78 v82 f2 f5 f6 f8 f9 g13 g15 _)
  iapply Hk
  isplitl [H2 H3 H4 H5 H6 H7 H8 H9]
  · isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    iexists _; isplitr; · ipureintro; exact hf9
    iexact H9
  isplitl [H10]
  · iexists _; isplitr
    swap; · iexact H10
    ipureintro
    exact hf10
  isplitl [H11]
  · iexists _; isplitr
    swap; · iexact H11
    ipureintro
    with_reducible exact (hE _ _ _ _ _ _ _ _ _).1 _ _ _
  isplitl [H12]
  · iexists _; isplitr
    swap; · iexact H12
    ipureintro
    with_reducible exact (hE _ _ _ _ _ _ _ _ _).2.1 _ _ _
  isplitl [H13]
  · iexists _; isplitr
    swap; · iexact H13
    ipureintro
    with_reducible exact (hE _ _ _ _ _ _ _ _ _).2.2.1
  isplitl [H14]
  · iexists _; isplitr
    swap; · iexact H14
    ipureintro
    with_reducible exact (hE _ _ _ _ _ _ _ _ _).2.2.2.1 _ _
  iexists _; isplitr
  swap; · iexact H15
  ipureintro
  with_reducible refine (hE _ _ _ _ _ _ _ _ _).2.2.2.2 _ inb_S4096x128_S256x128_3840_0 _ ?_
  delta run_first.sl.v87
  unfold View.readCov; with_reducible rfl

end Cert.KernelIdeal.Attn

end
-- ==== Proof.AttnRunB.lean ====
module

public import proofs.«01_k».proof.Proof.AttnRuns

@[expose] public section

set_option maxRecDepth 16384

noncomputable section

/-! # The body run at the first point of a later head -/

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (b : Blocks F)
  (arg2 : Memref sig .tc .vmem S4096x128 .bf16) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S1x1x256 .f32) (harg7 : arg7.IsWhole)
  (arg8 : Memref sig .tc .vmem S1x4096x128 .f32) (harg8 : arg8.IsWhole)
  (arg9 : Memref sig .tc .vmem S1x4096x128 .f32) (harg9 : arg9.IsWhole)
  (arg10 : Memref sig .tc .vmem S4096x128 .bf16) (harg10 : arg10.IsWhole)
  (arg11 : Memref sig .tc .vmem S256x128 .bf16) (harg11 : arg11.IsWhole)
  (arg12 : Memref sig .tc .vmem S256x128 .bf16) (harg12 : arg12.IsWhole)
  (arg13 : Memref sig .tc .vmem S4096x128 .f32) (harg13 : arg13.IsWhole)
  (arg14 : Memref sig .tc .vmem S1x1x256 .f32) (harg14 : arg14.IsWhole)
  (arg15 : Memref sig .tc .vmem S4096x128 .f32) (harg15 : arg15.IsWhole)

set_option maxHeartbeats 2000000 in
/-- The first point of a later head. -/
theorem run_head (hc0 : FirstOfHead i) (hc1 : ¬FirstOfAll i) (hc2 : ¬LastOfHead i) (A10 : Vec F S4096x128 .bf16)
    (A13 A15 : Vec F S4096x128 .f32) :
    RunsTo c i b arg2 harg2 arg3 harg3 arg4 harg4 arg5 harg5 arg6 harg6 arg7 harg7 arg8 harg8 arg9 harg9 arg10 harg10
      arg11 harg11 arg12 harg12 arg13 harg13 arg14 harg14 arg15 harg15 A10 A10 A13 A15 A13 k0_pay13 := by
  intro A11 A12 A14 E K
  simp only [cc0_l1_attn_bwd_eq_skeleton]; unfold cc0_l1_attn_bwd_skel
  simp only [k0_part3_eq_skeleton, k0_part4_eq_skeleton, k0_part5_eq_skeleton]
  unfold Inputs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨%f10, %hf10, H10⟩, ⟨%f11, -, H11⟩, ⟨%f12, -, H12⟩, ⟨%f13, %hf13, H13⟩, ⟨%f14, -, H14⟩, ⟨%f15, %hf15, H15⟩, Hk⟩
  sl_exec (disch := first | sl_exact hc0 | sl_exact hc1 | sl_exact hc2)
  sl_step
  have hR : ∀ {e : EltTy} (v : View sig .tc .vmem S4096x128 e) (f : BufTy.Contents (Elt F) v.ty) (inb),
      v.readAt (Elt F) (Rect.unit (s := S4096x128) (k0_off1 i) S256x128.size inb).toLoadRect f = rowsOf (i 1).val (v.read (Elt F) f) :=
    fun v f inb => (View.readAt_unit v f inb rfl inb).trans (window_rows _ inb _ (i 1).isLt (off1_eq i))
  have hR1 : ∀ {e : EltTy} (v : View sig .tc .vmem S1x4096x128 e) (f : BufTy.Contents (Elt F) v.ty) (inb),
      v.readAt (Elt F) (Rect.unit (s := S1x4096x128) (k0_off2 i) S1x256x128.size inb).toLoadRect f = rowsOf1 (i 1).val (v.read (Elt F) f) :=
    fun v f inb => (View.readAt_unit v f inb rfl inb).trans (window_rows1 _ inb _ (i 1).isLt (off2_eq i))
  have hk : run_head.sl.r c arg3 f3 = b.k := ((View.readAt_full _ _ _).trans hf3)
  have hv : run_head.sl.r_1 c arg4 f4 = b.v := ((View.readAt_full _ _ _).trans hf4)
  have hfk : run_head.sl.r_2 c arg7 f7 = k0_pay15 b.fk := congrArg k0_pay15 ((View.readAt_full _ _ _).trans hf7)
  have hdp : run_head.sl.r_3 c i arg4 arg5 f4 f5 = k0_pay17 b.v (rowsOf (i 1).val b.dOut) :=
    congrArg₂ k0_pay17 ((View.readAt_full _ _ _).trans hf4) ((hR _ _ _).trans (congrArg (rowsOf _) hf5))
  have hs : run_head.sl.r_4 c i arg2 arg3 f2 f3 = k0_pay18 b.k (rowsOf (i 1).val b.q) :=
    congrArg₂ k0_pay18 ((View.readAt_full _ _ _).trans hf3) ((hR _ _ _).trans (congrArg (rowsOf _) hf2))
  have hfr : run_head.sl.r_5 c i arg6 f6 = k0_pay19 (rowsOf (i 1).val b.f) := congrArg k0_pay19 ((hR _ _ _).trans (congrArg (rowsOf _) hf6))
  have h13 : arg13.view.read (Elt F) (arg13.view.writes (Elt F) f13 []) = A13 := hf13
  have h15 : arg15.view.read (Elt F) (arg15.view.writes (Elt F) arg15.view.junk run_head.sl.H15_1) = k0_pay13 := (View.read_writes_full arg15.view arg15.view.junk inb_S4096x128_S4096x128_0_0 _ [])
  have hE := fun v72 v73 v75 v76 v77 v78 v82 g13 g15 =>
    have hS := state1_eq c i b arg2 harg2 arg3 harg3 arg4 harg4 arg5 harg5 arg6 harg6 arg7 harg7 arg8 harg8 arg9 harg9 arg10 harg10
      arg11 harg11 arg12 harg12 arg13 harg13 arg14 harg14 arg15 harg15 Variants.none none (BitVec.ofNat 32 (i 0).val)
      (BitVec.ofNat 32 (i 1).val) (run_head.sl.r c arg3 f3) (run_head.sl.r_1 c arg4 f4) (run_head.sl.r_2 c arg7 f7) run_head.sl.v12 v72 v73 v75 v76 v77 v78 _ _ _ _ _ _ f2 hf2 f5 hf5 f6 hf6 f8 hf8 f9 hf9 f13 [] (arg15.view.writes (Elt F) arg15.view.junk run_head.sl.H15_1)
      A13 k0_pay13 (k0_off1_inb i)
      (run_head.sl.r_6 c i arg2 arg3 arg4 arg5 arg6 arg7 arg8 arg9 f2 f3 f4 f5 f6 f7 f8 f9) (run_head.sl.r_7 c i arg2 arg3 arg6 arg7 arg8 f2 f3 f6 f7 f8)
      (run_head.sl.r_8 c i arg2 arg3 arg4 arg5 arg6 arg7 arg8 arg9 f2 f3 f4 f5 f6 f7 f8 f9) rfl rfl rfl rfl hk hv hfk rfl hdp hs hfr ((hR1 arg8.view f8 (k0_off2_inb i)).trans (congrArg (rowsOf1 _) hf8))
      ((hR1 arg9.view f9 (k0_off2_inb i)).trans (congrArg (rowsOf1 _) hf9))
      ((hR arg13.view f13 (k0_off1_inb i)).trans (congrArg (rowsOf _) h13)) h13 h15 _ rfl
    point_eq i b arg2 arg5 arg11 arg12 arg13 arg14 arg15 _ _ _ hk f2 hf2 f5 hf5 f13 _
      arg15.view.junk (_ ++ run_head.sl.H15_1) A13 k0_pay13 hS.1 hS.2.1 ((congrArg (View.read (Elt F) arg15.view) (View.writes_append _ _ _ _)).trans hS.2.2)
      (state2_eq c i arg2 harg2 arg3 harg3 arg4 harg4 arg5 harg5 arg6 harg6 arg7 harg7 arg8 harg8 arg9 harg9 arg10 harg10
      arg11 harg11 arg12 harg12 arg13 harg13 arg14 harg14 arg15 harg15 Variants.none none (BitVec.ofNat 32 (i 0).val)
        (BitVec.ofNat 32 (i 1).val) (run_head.sl.r c arg3 f3) (run_head.sl.r_1 c arg4 f4) (run_head.sl.r_2 c arg7 f7) run_head.sl.v12
        v72 v73 v75 v76 v77 v78 v82 f2 f5 f6 f8 f9 g13 g15 _)
  iapply Hk
  isplitl [H2 H3 H4 H5 H6 H7 H8 H9]
  · isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    iexists _; isplitr; · ipureintro; exact hf9
    iexact H9
  isplitl [H10]
  · iexists _; isplitr
    swap; · iexact H10
    ipureintro
    exact hf10
  isplitl [H11]
  · iexists _; isplitr
    swap; · iexact H11
    ipureintro
    with_reducible exact (hE _ _ _ _ _ _ _ _ _).1 _ _ _
  isplitl [H12]
  · iexists _; isplitr
    swap; · iexact H12
    ipureintro
    with_reducible exact (hE _ _ _ _ _ _ _ _ _).2.1 _ _ _
  isplitl [H13]
  · iexists _; isplitr
    swap; · iexact H13
    ipureintro
    with_reducible exact (hE _ _ _ _ _ _ _ _ _).2.2.1
  isplitl [H14]
  · iexists _; isplitr
    swap; · iexact H14
    ipureintro
    with_reducible exact (hE _ _ _ _ _ _ _ _ _).2.2.2.1 _ _
  iexists _; isplitr
  swap; · iexact H15
  ipureintro
  with_reducible refine (hE _ _ _ _ _ _ _ _ _).2.2.2.2 _ inb_S4096x128_S256x128_3840_0 _ ?_
  delta run_head.sl.v87
  unfold View.readCov; with_reducible rfl

end Cert.KernelIdeal.Attn

end
-- ==== Proof.AttnRunC.lean ====
module

public import proofs.«01_k».proof.Proof.AttnRuns

@[expose] public section

set_option maxRecDepth 16384

noncomputable section

/-! # The body run at a middle block -/

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (b : Blocks F)
  (arg2 : Memref sig .tc .vmem S4096x128 .bf16) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S1x1x256 .f32) (harg7 : arg7.IsWhole)
  (arg8 : Memref sig .tc .vmem S1x4096x128 .f32) (harg8 : arg8.IsWhole)
  (arg9 : Memref sig .tc .vmem S1x4096x128 .f32) (harg9 : arg9.IsWhole)
  (arg10 : Memref sig .tc .vmem S4096x128 .bf16) (harg10 : arg10.IsWhole)
  (arg11 : Memref sig .tc .vmem S256x128 .bf16) (harg11 : arg11.IsWhole)
  (arg12 : Memref sig .tc .vmem S256x128 .bf16) (harg12 : arg12.IsWhole)
  (arg13 : Memref sig .tc .vmem S4096x128 .f32) (harg13 : arg13.IsWhole)
  (arg14 : Memref sig .tc .vmem S1x1x256 .f32) (harg14 : arg14.IsWhole)
  (arg15 : Memref sig .tc .vmem S4096x128 .f32) (harg15 : arg15.IsWhole)

set_option maxHeartbeats 2000000 in
/-- A middle block. -/
theorem run_middle (hc0 : ¬FirstOfHead i) (hc1 : ¬FirstOfAll i) (hc2 : ¬LastOfHead i) (A10 : Vec F S4096x128 .bf16)
    (A13 A15 : Vec F S4096x128 .f32) :
    RunsTo c i b arg2 harg2 arg3 harg3 arg4 harg4 arg5 harg5 arg6 harg6 arg7 harg7 arg8 harg8 arg9 harg9 arg10 harg10
      arg11 harg11 arg12 harg12 arg13 harg13 arg14 harg14 arg15 harg15 A10 A10 A13 A15 A13 A15 := by
  intro A11 A12 A14 E K
  simp only [cc0_l1_attn_bwd_eq_skeleton]; unfold cc0_l1_attn_bwd_skel
  simp only [k0_part3_eq_skeleton, k0_part4_eq_skeleton, k0_part5_eq_skeleton]
  unfold Inputs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨%f10, %hf10, H10⟩, ⟨%f11, -, H11⟩, ⟨%f12, -, H12⟩, ⟨%f13, %hf13, H13⟩, ⟨%f14, -, H14⟩, ⟨%f15, %hf15, H15⟩, Hk⟩
  sl_exec (disch := first | sl_exact hc0 | sl_exact hc1 | sl_exact hc2)
  sl_step
  have hR : ∀ {e : EltTy} (v : View sig .tc .vmem S4096x128 e) (f : BufTy.Contents (Elt F) v.ty) (inb),
      v.readAt (Elt F) (Rect.unit (s := S4096x128) (k0_off1 i) S256x128.size inb).toLoadRect f = rowsOf (i 1).val (v.read (Elt F) f) :=
    fun v f inb => (View.readAt_unit v f inb rfl inb).trans (window_rows _ inb _ (i 1).isLt (off1_eq i))
  have hR1 : ∀ {e : EltTy} (v : View sig .tc .vmem S1x4096x128 e) (f : BufTy.Contents (Elt F) v.ty) (inb),
      v.readAt (Elt F) (Rect.unit (s := S1x4096x128) (k0_off2 i) S1x256x128.size inb).toLoadRect f = rowsOf1 (i 1).val (v.read (Elt F) f) :=
    fun v f inb => (View.readAt_unit v f inb rfl inb).trans (window_rows1 _ inb _ (i 1).isLt (off2_eq i))
  have hk : run_middle.sl.r c arg3 f3 = b.k := ((View.readAt_full _ _ _).trans hf3)
  have hv : run_middle.sl.r_1 c arg4 f4 = b.v := ((View.readAt_full _ _ _).trans hf4)
  have hfk : run_middle.sl.r_2 c arg7 f7 = k0_pay15 b.fk := congrArg k0_pay15 ((View.readAt_full _ _ _).trans hf7)
  have hdp : run_middle.sl.r_3 c i arg4 arg5 f4 f5 = k0_pay17 b.v (rowsOf (i 1).val b.dOut) :=
    congrArg₂ k0_pay17 ((View.readAt_full _ _ _).trans hf4) ((hR _ _ _).trans (congrArg (rowsOf _) hf5))
  have hs : run_middle.sl.r_4 c i arg2 arg3 f2 f3 = k0_pay18 b.k (rowsOf (i 1).val b.q) :=
    congrArg₂ k0_pay18 ((View.readAt_full _ _ _).trans hf3) ((hR _ _ _).trans (congrArg (rowsOf _) hf2))
  have hfr : run_middle.sl.r_5 c i arg6 f6 = k0_pay19 (rowsOf (i 1).val b.f) := congrArg k0_pay19 ((hR _ _ _).trans (congrArg (rowsOf _) hf6))
  have h13 : arg13.view.read (Elt F) (arg13.view.writes (Elt F) f13 []) = A13 := hf13
  have h15 : arg15.view.read (Elt F) f15 = A15 := hf15
  have hE := fun v72 v73 v75 v76 v77 v78 v82 g13 g15 =>
    have hS := state1_eq c i b arg2 harg2 arg3 harg3 arg4 harg4 arg5 harg5 arg6 harg6 arg7 harg7 arg8 harg8 arg9 harg9 arg10 harg10
      arg11 harg11 arg12 harg12 arg13 harg13 arg14 harg14 arg15 harg15 Variants.none none (BitVec.ofNat 32 (i 0).val)
      (BitVec.ofNat 32 (i 1).val) (run_middle.sl.r c arg3 f3) (run_middle.sl.r_1 c arg4 f4) (run_middle.sl.r_2 c arg7 f7) run_middle.sl.v12 v72 v73 v75 v76 v77 v78 _ _ _ _ _ _ f2 hf2 f5 hf5 f6 hf6 f8 hf8 f9 hf9 f13 [] f15
      A13 A15 (k0_off1_inb i)
      (run_middle.sl.r_6 c i arg2 arg3 arg4 arg5 arg6 arg7 arg8 arg9 f2 f3 f4 f5 f6 f7 f8 f9) (run_middle.sl.r_7 c i arg2 arg3 arg6 arg7 arg8 f2 f3 f6 f7 f8)
      (run_middle.sl.r_8 c i arg2 arg3 arg4 arg5 arg6 arg7 arg8 arg9 f2 f3 f4 f5 f6 f7 f8 f9) rfl rfl rfl rfl hk hv hfk rfl hdp hs hfr ((hR1 arg8.view f8 (k0_off2_inb i)).trans (congrArg (rowsOf1 _) hf8))
      ((hR1 arg9.view f9 (k0_off2_inb i)).trans (congrArg (rowsOf1 _) hf9))
      ((hR arg13.view f13 (k0_off1_inb i)).trans (congrArg (rowsOf _) h13)) h13 h15 _ rfl
    point_eq i b arg2 arg5 arg11 arg12 arg13 arg14 arg15 _ _ _ hk f2 hf2 f5 hf5 f13 _
      f15 _ A13 A15 hS.1 hS.2.1 hS.2.2
      (state2_eq c i arg2 harg2 arg3 harg3 arg4 harg4 arg5 harg5 arg6 harg6 arg7 harg7 arg8 harg8 arg9 harg9 arg10 harg10
      arg11 harg11 arg12 harg12 arg13 harg13 arg14 harg14 arg15 harg15 Variants.none none (BitVec.ofNat 32 (i 0).val)
        (BitVec.ofNat 32 (i 1).val) (run_middle.sl.r c arg3 f3) (run_middle.sl.r_1 c arg4 f4) (run_middle.sl.r_2 c arg7 f7) run_middle.sl.v12
        v72 v73 v75 v76 v77 v78 v82 f2 f5 f6 f8 f9 g13 g15 _)
  iapply Hk
  isplitl [H2 H3 H4 H5 H6 H7 H8 H9]
  · isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    iexists _; isplitr; · ipureintro; exact hf9
    iexact H9
  isplitl [H10]
  · iexists _; isplitr
    swap; · iexact H10
    ipureintro
    exact hf10
  isplitl [H11]
  · iexists _; isplitr
    swap; · iexact H11
    ipureintro
    with_reducible exact (hE _ _ _ _ _ _ _ _ _).1 _ _ _
  isplitl [H12]
  · iexists _; isplitr
    swap; · iexact H12
    ipureintro
    with_reducible exact (hE _ _ _ _ _ _ _ _ _).2.1 _ _ _
  isplitl [H13]
  · iexists _; isplitr
    swap; · iexact H13
    ipureintro
    with_reducible exact (hE _ _ _ _ _ _ _ _ _).2.2.1
  isplitl [H14]
  · iexists _; isplitr
    swap; · iexact H14
    ipureintro
    with_reducible exact (hE _ _ _ _ _ _ _ _ _).2.2.2.1 _ _
  iexists _; isplitr
  swap; · iexact H15
  ipureintro
  with_reducible refine (hE _ _ _ _ _ _ _ _ _).2.2.2.2 _ inb_S4096x128_S256x128_3840_0 _ ?_
  delta run_middle.sl.v87
  with_reducible rfl

end Cert.KernelIdeal.Attn

end
-- ==== Proof.AttnRunD.lean ====
module

public import proofs.«01_k».proof.Proof.AttnRuns

@[expose] public section

set_option maxRecDepth 16384

noncomputable section

/-! # The body run at the last block of a head -/

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (b : Blocks F)
  (arg2 : Memref sig .tc .vmem S4096x128 .bf16) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S1x1x256 .f32) (harg7 : arg7.IsWhole)
  (arg8 : Memref sig .tc .vmem S1x4096x128 .f32) (harg8 : arg8.IsWhole)
  (arg9 : Memref sig .tc .vmem S1x4096x128 .f32) (harg9 : arg9.IsWhole)
  (arg10 : Memref sig .tc .vmem S4096x128 .bf16) (harg10 : arg10.IsWhole)
  (arg11 : Memref sig .tc .vmem S256x128 .bf16) (harg11 : arg11.IsWhole)
  (arg12 : Memref sig .tc .vmem S256x128 .bf16) (harg12 : arg12.IsWhole)
  (arg13 : Memref sig .tc .vmem S4096x128 .f32) (harg13 : arg13.IsWhole)
  (arg14 : Memref sig .tc .vmem S1x1x256 .f32) (harg14 : arg14.IsWhole)
  (arg15 : Memref sig .tc .vmem S4096x128 .f32) (harg15 : arg15.IsWhole)

set_option maxHeartbeats 2000000 in
/-- The last block of a head. -/
theorem run_last (hc0 : ¬FirstOfHead i) (hc1 : ¬FirstOfAll i) (hc2 : LastOfHead i) (A10 : Vec F S4096x128 .bf16)
    (A13 A15 : Vec F S4096x128 .f32) :
    RunsTo c i b arg2 harg2 arg3 harg3 arg4 harg4 arg5 harg5 arg6 harg6 arg7 harg7 arg8 harg8 arg9 harg9 arg10 harg10
      arg11 harg11 arg12 harg12 arg13 harg13 arg14 harg14 arg15 harg15 A10 (k0_pay45 (qsumOut i b A15)) A13 A15 A13 A15 := by
  intro A11 A12 A14 E K
  simp only [cc0_l1_attn_bwd_eq_skeleton]; unfold cc0_l1_attn_bwd_skel
  simp only [k0_part3_eq_skeleton, k0_part4_eq_skeleton, k0_part5_eq_skeleton]
  unfold Inputs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨%f10, %hf10, H10⟩, ⟨%f11, -, H11⟩, ⟨%f12, -, H12⟩, ⟨%f13, %hf13, H13⟩, ⟨%f14, -, H14⟩, ⟨%f15, %hf15, H15⟩, Hk⟩
  sl_exec (disch := first | sl_exact hc0 | sl_exact hc1 | sl_exact hc2)
  sl_step
  have hR : ∀ {e : EltTy} (v : View sig .tc .vmem S4096x128 e) (f : BufTy.Contents (Elt F) v.ty) (inb),
      v.readAt (Elt F) (Rect.unit (s := S4096x128) (k0_off1 i) S256x128.size inb).toLoadRect f = rowsOf (i 1).val (v.read (Elt F) f) :=
    fun v f inb => (View.readAt_unit v f inb rfl inb).trans (window_rows _ inb _ (i 1).isLt (off1_eq i))
  have hR1 : ∀ {e : EltTy} (v : View sig .tc .vmem S1x4096x128 e) (f : BufTy.Contents (Elt F) v.ty) (inb),
      v.readAt (Elt F) (Rect.unit (s := S1x4096x128) (k0_off2 i) S1x256x128.size inb).toLoadRect f = rowsOf1 (i 1).val (v.read (Elt F) f) :=
    fun v f inb => (View.readAt_unit v f inb rfl inb).trans (window_rows1 _ inb _ (i 1).isLt (off2_eq i))
  have hk : run_last.sl.r c arg3 f3 = b.k := ((View.readAt_full _ _ _).trans hf3)
  have hv : run_last.sl.r_1 c arg4 f4 = b.v := ((View.readAt_full _ _ _).trans hf4)
  have hfk : run_last.sl.r_2 c arg7 f7 = k0_pay15 b.fk := congrArg k0_pay15 ((View.readAt_full _ _ _).trans hf7)
  have hdp : run_last.sl.r_3 c i arg4 arg5 f4 f5 = k0_pay17 b.v (rowsOf (i 1).val b.dOut) :=
    congrArg₂ k0_pay17 ((View.readAt_full _ _ _).trans hf4) ((hR _ _ _).trans (congrArg (rowsOf _) hf5))
  have hs : run_last.sl.r_4 c i arg2 arg3 f2 f3 = k0_pay18 b.k (rowsOf (i 1).val b.q) :=
    congrArg₂ k0_pay18 ((View.readAt_full _ _ _).trans hf3) ((hR _ _ _).trans (congrArg (rowsOf _) hf2))
  have hfr : run_last.sl.r_5 c i arg6 f6 = k0_pay19 (rowsOf (i 1).val b.f) := congrArg k0_pay19 ((hR _ _ _).trans (congrArg (rowsOf _) hf6))
  have h13 : arg13.view.read (Elt F) (arg13.view.writes (Elt F) f13 []) = A13 := hf13
  have h15 : arg15.view.read (Elt F) f15 = A15 := hf15
  have hE := fun v72 v73 v75 v76 v77 v78 v82 g13 g15 =>
    have hS := state1_eq c i b arg2 harg2 arg3 harg3 arg4 harg4 arg5 harg5 arg6 harg6 arg7 harg7 arg8 harg8 arg9 harg9 arg10 harg10
      arg11 harg11 arg12 harg12 arg13 harg13 arg14 harg14 arg15 harg15 Variants.none none (BitVec.ofNat 32 (i 0).val)
      (BitVec.ofNat 32 (i 1).val) (run_last.sl.r c arg3 f3) (run_last.sl.r_1 c arg4 f4) (run_last.sl.r_2 c arg7 f7) run_last.sl.v12 v72 v73 v75 v76 v77 v78 _ _ _ _ _ _ f2 hf2 f5 hf5 f6 hf6 f8 hf8 f9 hf9 f13 [] f15
      A13 A15 (k0_off1_inb i)
      (run_last.sl.r_6 c i arg2 arg3 arg4 arg5 arg6 arg7 arg8 arg9 f2 f3 f4 f5 f6 f7 f8 f9) (run_last.sl.r_7 c i arg2 arg3 arg6 arg7 arg8 f2 f3 f6 f7 f8)
      (run_last.sl.r_8 c i arg2 arg3 arg4 arg5 arg6 arg7 arg8 arg9 f2 f3 f4 f5 f6 f7 f8 f9) rfl rfl rfl rfl hk hv hfk rfl hdp hs hfr ((hR1 arg8.view f8 (k0_off2_inb i)).trans (congrArg (rowsOf1 _) hf8))
      ((hR1 arg9.view f9 (k0_off2_inb i)).trans (congrArg (rowsOf1 _) hf9))
      ((hR arg13.view f13 (k0_off1_inb i)).trans (congrArg (rowsOf _) h13)) h13 h15 _ rfl
    point_eq i b arg2 arg5 arg11 arg12 arg13 arg14 arg15 _ _ _ hk f2 hf2 f5 hf5 f13 _
      f15 _ A13 A15 hS.1 hS.2.1 hS.2.2
      (state2_eq c i arg2 harg2 arg3 harg3 arg4 harg4 arg5 harg5 arg6 harg6 arg7 harg7 arg8 harg8 arg9 harg9 arg10 harg10
      arg11 harg11 arg12 harg12 arg13 harg13 arg14 harg14 arg15 harg15 Variants.none none (BitVec.ofNat 32 (i 0).val)
        (BitVec.ofNat 32 (i 1).val) (run_last.sl.r c arg3 f3) (run_last.sl.r_1 c arg4 f4) (run_last.sl.r_2 c arg7 f7) run_last.sl.v12
        v72 v73 v75 v76 v77 v78 v82 f2 f5 f6 f8 f9 g13 g15 _)
  iapply Hk
  isplitl [H2 H3 H4 H5 H6 H7 H8 H9]
  · isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    iexists _; isplitr; · ipureintro; exact hf9
    iexact H9
  isplitl [H10]
  · iexists _; isplitr
    swap; · iexact H10
    ipureintro
    rw [View.read_writes_full, View.readAt_full]
    refine congrArg k0_pay45 ?_
    delta run_last.sl.H15_1
    with_reducible refine (hE _ _ _ _ _ _ _ _ _).2.2.2.2 _ inb_S4096x128_S256x128_3840_0 _ ?_
    delta run_last.sl.v87
    with_reducible rfl
  isplitl [H11]
  · iexists _; isplitr
    swap; · iexact H11
    ipureintro
    with_reducible exact (hE _ _ _ _ _ _ _ _ _).1 _ _ _
  isplitl [H12]
  · iexists _; isplitr
    swap; · iexact H12
    ipureintro
    with_reducible exact (hE _ _ _ _ _ _ _ _ _).2.1 _ _ _
  isplitl [H13]
  · iexists _; isplitr
    swap; · iexact H13
    ipureintro
    with_reducible exact (hE _ _ _ _ _ _ _ _ _).2.2.1
  isplitl [H14]
  · iexists _; isplitr
    swap; · iexact H14
    ipureintro
    with_reducible exact (hE _ _ _ _ _ _ _ _ _).2.2.2.1 _ _
  iexists _; isplitr
  swap; · iexact H15
  ipureintro
  delta run_last.sl.H15_1
  with_reducible refine (hE _ _ _ _ _ _ _ _ _).2.2.2.2 _ inb_S4096x128_S256x128_3840_0 _ ?_
  delta run_last.sl.v87
  with_reducible rfl

end Cert.KernelIdeal.Attn

end
-- ==== Proof.AttnFrame.lean ====
module

public import proofs.«01_k».proof.Proof.AttnRunA
public import proofs.«01_k».proof.Proof.AttnRunB
public import proofs.«01_k».proof.Proof.AttnRunC
public import proofs.«01_k».proof.Proof.AttnRunD
public import proofs.«01_k».proof.Proof.Gen.KernelIdeal.Frame
public import Idealize.ShloMosaic.Lib.Claim

@[expose] public section

set_option maxRecDepth 16384

noncomputable section

/-! # The launch: what every point leaves, and the frame -/

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

theorem firstOfHead_iff (t : Fin cfg0.N) : FirstOfHead (grid0.coords t) ↔ t.val % 16 = 0 := by
  have ht : t.val < 256 := lt_of_lt_of_eq t.isLt N_0
  have e0 : (grid0.coords t 0).val = t.val / 16 % 16 := Pipeline.Grid.coords_val t 0 (by decide) rfl
  have e1 : (grid0.coords t 1).val = t.val / 1 % 16 := Pipeline.Grid.coords_val t 1 (by decide) rfl
  simp only [FirstOfHead, e0, e1]
  word_cmp

theorem firstOfAll_iff (t : Fin cfg0.N) : FirstOfAll (grid0.coords t) ↔ t.val % 256 = 0 := by
  have ht : t.val < 256 := lt_of_lt_of_eq t.isLt N_0
  have e0 : (grid0.coords t 0).val = t.val / 16 % 16 := Pipeline.Grid.coords_val t 0 (by decide) rfl
  have e1 : (grid0.coords t 1).val = t.val / 1 % 16 := Pipeline.Grid.coords_val t 1 (by decide) rfl
  simp only [FirstOfAll, e0, e1]
  word_cmp

theorem lastOfHead_iff (t : Fin cfg0.N) : LastOfHead (grid0.coords t) ↔ t.val % 16 = 15 := by
  have ht : t.val < 256 := lt_of_lt_of_eq t.isLt N_0
  have e0 : (grid0.coords t 0).val = t.val / 16 % 16 := Pipeline.Grid.coords_val t 0 (by decide) rfl
  have e1 : (grid0.coords t 1).val = t.val / 1 % 16 := Pipeline.Grid.coords_val t 1 (by decide) rfl
  simp only [LastOfHead, k0_cond3, e0, e1]
  word_cmp

/-- The buffer window 0 stages in at a point. -/
abbrev buf0 (t : Fin cfg0.N) : Memref sig .tc .vmem S4096x128 .bf16 := win0_0.stage (cfg0.slots t 0)
abbrev whole0 (t : Fin cfg0.N) : (buf0 t).IsWhole := hstage0_0 ((cfg0.slots t 0).cast nbuf0_0)
/-- The buffer window 1 stages in at a point. -/
abbrev buf1 (t : Fin cfg0.N) : Memref sig .tc .vmem S256x128 .bf16 := win0_1.stage (cfg0.slots t 1)
abbrev whole1 (t : Fin cfg0.N) : (buf1 t).IsWhole := hstage0_1 ((cfg0.slots t 1).cast nbuf0_1)
/-- The buffer window 2 stages in at a point. -/
abbrev buf2 (t : Fin cfg0.N) : Memref sig .tc .vmem S256x128 .bf16 := win0_2.stage (cfg0.slots t 2)
abbrev whole2 (t : Fin cfg0.N) : (buf2 t).IsWhole := hstage0_2 ((cfg0.slots t 2).cast nbuf0_2)
/-- The buffer window 3 stages in at a point. -/
abbrev buf3 (t : Fin cfg0.N) : Memref sig .tc .vmem S4096x128 .bf16 := win0_3.stage (cfg0.slots t 3)
abbrev whole3 (t : Fin cfg0.N) : (buf3 t).IsWhole := hstage0_3 ((cfg0.slots t 3).cast nbuf0_3)
/-- The buffer window 4 stages in at a point. -/
abbrev buf4 (t : Fin cfg0.N) : Memref sig .tc .vmem S4096x128 .f32 := win0_4.stage (cfg0.slots t 4)
abbrev whole4 (t : Fin cfg0.N) : (buf4 t).IsWhole := hstage0_4 ((cfg0.slots t 4).cast nbuf0_4)
/-- The buffer window 5 stages in at a point. -/
abbrev buf5 (t : Fin cfg0.N) : Memref sig .tc .vmem S1x1x256 .f32 := win0_5.stage (cfg0.slots t 5)
abbrev whole5 (t : Fin cfg0.N) : (buf5 t).IsWhole := hstage0_5 ((cfg0.slots t 5).cast nbuf0_5)
/-- The buffer window 6 stages in at a point. -/
abbrev buf6 (t : Fin cfg0.N) : Memref sig .tc .vmem S1x4096x128 .f32 := win0_6.stage (cfg0.slots t 6)
abbrev whole6 (t : Fin cfg0.N) : (buf6 t).IsWhole := hstage0_6 ((cfg0.slots t 6).cast nbuf0_6)
/-- The buffer window 7 stages in at a point. -/
abbrev buf7 (t : Fin cfg0.N) : Memref sig .tc .vmem S1x4096x128 .f32 := win0_7.stage (cfg0.slots t 7)
abbrev whole7 (t : Fin cfg0.N) : (buf7 t).IsWhole := hstage0_7 ((cfg0.slots t 7).cast nbuf0_7)
/-- The buffer window 8 stages in at a point. -/
abbrev buf8 (t : Fin cfg0.N) : Memref sig .tc .vmem S4096x128 .bf16 := win0_8.stage (cfg0.slots t 8)
abbrev whole8 (t : Fin cfg0.N) : (buf8 t).IsWhole := hstage0_8 ((cfg0.slots t 8).cast nbuf0_8)
/-- The buffer window 9 stages in at a point. -/
abbrev buf9 (t : Fin cfg0.N) : Memref sig .tc .vmem S256x128 .bf16 := win0_9.stage (cfg0.slots t 9)
abbrev whole9 (t : Fin cfg0.N) : (buf9 t).IsWhole := hstage0_9 ((cfg0.slots t 9).cast nbuf0_9)
/-- The buffer window 10 stages in at a point. -/
abbrev buf10 (t : Fin cfg0.N) : Memref sig .tc .vmem S256x128 .bf16 := win0_10.stage (cfg0.slots t 10)
abbrev whole10 (t : Fin cfg0.N) : (buf10 t).IsWhole := hstage0_10 ((cfg0.slots t 10).cast nbuf0_10)
/-- The buffer window 11 stages in at a point. -/
abbrev buf11 (t : Fin cfg0.N) : Memref sig .tc .vmem S4096x128 .f32 := win0_11.stage (cfg0.slots t 11)
abbrev whole11 (t : Fin cfg0.N) : (buf11 t).IsWhole := hstage0_11 ((cfg0.slots t 11).cast nbuf0_11)
/-- The buffer window 12 stages in at a point. -/
abbrev buf12 (t : Fin cfg0.N) : Memref sig .tc .vmem S1x1x256 .f32 := win0_12.stage (cfg0.slots t 12)
abbrev whole12 (t : Fin cfg0.N) : (buf12 t).IsWhole := hstage0_12 ((cfg0.slots t 12).cast nbuf0_12)

/-- The scratch. -/
abbrev scr : Memref sig .tc .vmem S4096x128 .f32 := Memref.whole cc0_scratch0

/-- The blocks a point reads. -/
def blocks (c : Dev nD) (t : Fin cfg0.N) : Blocks F :=
  ⟨iblk m c 0 t, iblk m c 1 t, iblk m c 2 t, iblk m c 3 t, iblk m c 4 t, iblk m c 5 t, iblk m c 6 t, iblk m c 7 t⟩

/-- The queries' forget sums and the query gradient's sums a point adds to: zeros at the first point of all and at the
first point of a head, else what the point before left. -/
def startAt (c : Dev nD) : (n : ℕ) → n < cfg0.N → Vec F S4096x128 .f32 × Vec F S4096x128 .f32
  | 0, _ => (k0_pay14, k0_pay13)
  | n + 1, h =>
    (if (n + 1) % 256 = 0 then k0_pay14 else fsumOut (grid0.coords ⟨n, Nat.lt_of_succ_lt h⟩) (blocks m c ⟨n, Nat.lt_of_succ_lt h⟩)
        (startAt c n (Nat.lt_of_succ_lt h)).1,
      if (n + 1) % 16 = 0 then k0_pay13 else qsumOut (grid0.coords ⟨n, Nat.lt_of_succ_lt h⟩) (blocks m c ⟨n, Nat.lt_of_succ_lt h⟩)
        (startAt c n (Nat.lt_of_succ_lt h)).2)

/-- The queries' forget sums a point leaves. -/
def fsumLeft (c : Dev nD) (n : ℕ) (h : n < cfg0.N) : Vec F S4096x128 .f32 :=
  fsumOut (grid0.coords ⟨n, h⟩) (blocks m c ⟨n, h⟩) (startAt m c n h).1

/-- The query gradient's sums a point leaves. -/
def qsumLeft (c : Dev nD) (n : ℕ) (h : n < cfg0.N) : Vec F S4096x128 .f32 :=
  qsumOut (grid0.coords ⟨n, h⟩) (blocks m c ⟨n, h⟩) (startAt m c n h).2

theorem start_first (c : Dev nD) (n : ℕ) (h : n < cfg0.N) (h0 : n % 256 = 0) : (startAt m c n h).1 = k0_pay14 := by
  cases n with
  | zero => rfl
  | succ n => exact if_pos h0

theorem start_head (c : Dev nD) (n : ℕ) (h : n < cfg0.N) (h0 : n % 16 = 0) : (startAt m c n h).2 = k0_pay13 := by
  cases n with
  | zero => rfl
  | succ n => exact if_pos h0

theorem start_keep1 (c : Dev nD) (n : ℕ) (h : n < cfg0.N) (h0 : ¬n % 256 = 0) :
    (startAt m c n h).1 = fsumLeft m c (n - 1) (Nat.lt_of_le_of_lt (Nat.sub_le _ _) h) := by
  cases n with
  | zero => exact absurd rfl h0
  | succ n => exact if_neg h0

theorem start_keep2 (c : Dev nD) (n : ℕ) (h : n < cfg0.N) (h0 : ¬n % 16 = 0) :
    (startAt m c n h).2 = qsumLeft m c (n - 1) (Nat.lt_of_le_of_lt (Nat.sub_le _ _) h) := by
  cases n with
  | zero => exact absurd rfl h0
  | succ n => exact if_neg h0

/-! ## The proof data -/

theorem entry_eq (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

/-- Before a point: at the first, what the region hands over; later, the scratch at what the point before left. -/
def carried (c : Dev nD) : (n : ℕ) → n ≤ cfg0.N → sProp 𝕄
  | 0, _ => Pipeline.ΦA spec0 c
  | n + 1, hn => iprop(owns (c : Thread nD τ) scr fullShare (qsumLeft m c n hn) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(owns (c : Thread nD τ) scr fullShare (qsumLeft m c n hn) ∗ (∃ r, prngReg c r)) := rfl

theorem carried_pos (c : Dev nD) (n : ℕ) (h : n ≤ cfg0.N) (hz : n ≠ 0) :
    carried m c n h = iprop(owns (c : Thread nD τ) scr fullShare (qsumLeft m c (n - 1) (by omega)) ∗ (∃ r, prngReg c r)) := by
  cases n with
  | zero => exact absurd rfl hz
  | succ n => rfl

/-- The arrays as the region finds them; after a point each input at its block and each output at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay45 (qsumLeft m c t.val t.isLt)
    | ⟨9, _⟩ => dkOut (grid0.coords t) (blocks m c t)
    | ⟨10, _⟩ => dvOut (grid0.coords t) (blocks m c t)
    | ⟨11, _⟩ => fsumLeft m c t.val t.isLt
    | ⟨12, _⟩ => dfkOut (grid0.coords t) (blocks m c t)
  Φ t := carried m c t.val (Nat.le_of_lt_succ t.isLt)
  q w := Pipeline.shareOf spec0 w
  owed _ := 0

theorem arrays_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; exact Pipeline.Dat.Φ_castSucc (carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay45 (qsumLeft m c t.val t.isLt) := by
  dsimp only [dats]
theorem after_9 (c : Dev nD) (t : Fin cfg0.N) : (dats m 0 c).after 9 t = dkOut (grid0.coords t) (blocks m c t) := by
  dsimp only [dats]
theorem after_10 (c : Dev nD) (t : Fin cfg0.N) : (dats m 0 c).after 10 t = dvOut (grid0.coords t) (blocks m c t) := by
  dsimp only [dats]
theorem after_11 (c : Dev nD) (t : Fin cfg0.N) : (dats m 0 c).after 11 t = fsumLeft m c t.val t.isLt := by
  dsimp only [dats]
theorem after_12 (c : Dev nD) (t : Fin cfg0.N) : (dats m 0 c).after 12 t = dfkOut (grid0.coords t) (blocks m c t) := by
  dsimp only [dats]
theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = iblk m c 5 t :=
  before0_5_of m (dats m 0 c) (arrays_eq m c 5) (after_5 m c) t d
theorem before_6 (c : Dev nD) (t : Fin cfg0.N) (d) : (dats m 0 c).before 6 t d = iblk m c 6 t :=
  before0_6_of m (dats m 0 c) (arrays_eq m c 6) (after_6 m c) t d
theorem before_7 (c : Dev nD) (t : Fin cfg0.N) (d) : (dats m 0 c).before 7 t d = iblk m c 7 t :=
  before0_7_of m (dats m 0 c) (arrays_eq m c 7) (after_7 m c) t d

/-- The queries' forget sums stay in their buffer until the last point. -/
theorem before_11 (c : Dev nD) (t : Fin cfg0.N) (h1 : ¬t.val % 256 = 0) (d) :
    (dats m 0 c).before 11 t d = (startAt m c t.val t.isLt).1 := by
  have hN : t.val < 256 := lt_of_lt_of_eq t.isLt N_0
  rw [Dat.before_out_kept _ 11 rfl t (by omega) (Bool.eq_false_iff.mpr fun h => by have := (flush0_11 _).mp h; dsimp only at this; omega)
    (fun _ => rfl) (fun _ _ => rfl), start_keep1 m c t.val t.isLt h1]
  dsimp only [dats]

theorem dq_idle : ∀ t : Fin cfg0.N, ¬LastOfHead (grid0.coords t) → cfg0.idle 8 (grid0.coords t) = true := by
  unfold LastOfHead; decide +kernel
theorem dq_kept : ∀ t : Fin cfg0.N, ¬LastOfHead (grid0.coords t) → (cfg0.win 8).flush t = false := by
  unfold LastOfHead; decide +kernel
theorem dq_live : ∀ t : Fin cfg0.N, LastOfHead (grid0.coords t) → cfg0.idle 8 (grid0.coords t) = false := by
  unfold LastOfHead; decide +kernel

theorem leaves_0 (c : Dev nD) (t : Fin cfg0.N) :
    (dats m 0 c).leavesExact 0 t = owns (c : Thread nD τ) (buf0 t) fullShare ((dats m 0 c).after 0 t) := by
  unfold Dat.leavesExact; rw [show cfg0.idle 0 (grid0.coords t) = false from rfl]
theorem leaves_1 (c : Dev nD) (t : Fin cfg0.N) :
    (dats m 0 c).leavesExact 1 t = owns (c : Thread nD τ) (buf1 t) fullShare ((dats m 0 c).after 1 t) := by
  unfold Dat.leavesExact; rw [show cfg0.idle 1 (grid0.coords t) = false from rfl]
theorem leaves_2 (c : Dev nD) (t : Fin cfg0.N) :
    (dats m 0 c).leavesExact 2 t = owns (c : Thread nD τ) (buf2 t) fullShare ((dats m 0 c).after 2 t) := by
  unfold Dat.leavesExact; rw [show cfg0.idle 2 (grid0.coords t) = false from rfl]
theorem leaves_3 (c : Dev nD) (t : Fin cfg0.N) :
    (dats m 0 c).leavesExact 3 t = owns (c : Thread nD τ) (buf3 t) fullShare ((dats m 0 c).after 3 t) := by
  unfold Dat.leavesExact; rw [show cfg0.idle 3 (grid0.coords t) = false from rfl]
theorem leaves_4 (c : Dev nD) (t : Fin cfg0.N) :
    (dats m 0 c).leavesExact 4 t = owns (c : Thread nD τ) (buf4 t) fullShare ((dats m 0 c).after 4 t) := by
  unfold Dat.leavesExact; rw [show cfg0.idle 4 (grid0.coords t) = false from rfl]
theorem leaves_5 (c : Dev nD) (t : Fin cfg0.N) :
    (dats m 0 c).leavesExact 5 t = owns (c : Thread nD τ) (buf5 t) fullShare ((dats m 0 c).after 5 t) := by
  unfold Dat.leavesExact; rw [show cfg0.idle 5 (grid0.coords t) = false from rfl]
theorem leaves_6 (c : Dev nD) (t : Fin cfg0.N) :
    (dats m 0 c).leavesExact 6 t = owns (c : Thread nD τ) (buf6 t) fullShare ((dats m 0 c).after 6 t) := by
  unfold Dat.leavesExact; rw [show cfg0.idle 6 (grid0.coords t) = false from rfl]
theorem leaves_7 (c : Dev nD) (t : Fin cfg0.N) :
    (dats m 0 c).leavesExact 7 t = owns (c : Thread nD τ) (buf7 t) fullShare ((dats m 0 c).after 7 t) := by
  unfold Dat.leavesExact; rw [show cfg0.idle 7 (grid0.coords t) = false from rfl]
theorem leaves_9 (c : Dev nD) (t : Fin cfg0.N) :
    (dats m 0 c).leavesExact 9 t = owns (c : Thread nD τ) (buf9 t) fullShare ((dats m 0 c).after 9 t) := by
  unfold Dat.leavesExact; rw [show cfg0.idle 9 (grid0.coords t) = false from rfl]
theorem leaves_10 (c : Dev nD) (t : Fin cfg0.N) :
    (dats m 0 c).leavesExact 10 t = owns (c : Thread nD τ) (buf10 t) fullShare ((dats m 0 c).after 10 t) := by
  unfold Dat.leavesExact; rw [show cfg0.idle 10 (grid0.coords t) = false from rfl]
theorem leaves_11 (c : Dev nD) (t : Fin cfg0.N) :
    (dats m 0 c).leavesExact 11 t = owns (c : Thread nD τ) (buf11 t) fullShare ((dats m 0 c).after 11 t) := by
  unfold Dat.leavesExact; rw [show cfg0.idle 11 (grid0.coords t) = false from rfl]
theorem leaves_12 (c : Dev nD) (t : Fin cfg0.N) :
    (dats m 0 c).leavesExact 12 t = owns (c : Thread nD τ) (buf12 t) fullShare ((dats m 0 c).after 12 t) := by
  unfold Dat.leavesExact; rw [show cfg0.idle 12 (grid0.coords t) = false from rfl]

/-! ## The body at a point -/

/-- What the body is handed. -/
def handed (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d)))

/-- What the body returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 2000000 in
/-- The body run at a point, from a run of it. -/
theorem at_point (c : Dev nD) (t : Fin cfg0.N) (A13 A15 : Vec F S4096x128 .f32) (D10 : Vec F S4096x128 .bf16 → Vec F S4096x128 .bf16)
    (hscr : scr.IsWhole)
    (hrun : ∀ A10, RunsTo c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr hscr A10 (D10 A10) A13 A15
      (startAt m c t.val t.isLt).1 (startAt m c t.val t.isLt).2)
    (h8 : ∀ d, owns (c : Thread nD τ) (buf8 t) fullShare (D10 ((dats m 0 c).before 8 t d)) ⊢ (dats m 0 c).leavesExact 8 t) :
    iprop(owns (c : Thread nD τ) scr fullShare A15 ∗ (∃ r, prngReg c r) ∗ (dats m 0 c).owesAt () t.castSucc
      ∗ owns (c : Thread nD τ) (buf0 t) fullShare (iblk m c 0 t)
      ∗ owns (c : Thread nD τ) (buf1 t) fullShare (iblk m c 1 t)
      ∗ owns (c : Thread nD τ) (buf2 t) fullShare (iblk m c 2 t)
      ∗ owns (c : Thread nD τ) (buf3 t) fullShare (iblk m c 3 t)
      ∗ owns (c : Thread nD τ) (buf4 t) fullShare (iblk m c 4 t)
      ∗ owns (c : Thread nD τ) (buf5 t) fullShare (iblk m c 5 t)
      ∗ owns (c : Thread nD τ) (buf6 t) fullShare (iblk m c 6 t)
      ∗ owns (c : Thread nD τ) (buf7 t) fullShare (iblk m c 7 t)
      ∗ (∃ d, owns (c : Thread nD τ) (buf8 t) fullShare ((dats m 0 c).before 8 t d)) ∗ (∃ d, owns (c : Thread nD τ) (buf9 t) fullShare d)
      ∗ (∃ d, owns (c : Thread nD τ) (buf10 t) fullShare d) ∗ owns (c : Thread nD τ) (buf11 t) fullShare A13
      ∗ (∃ d, owns (c : Thread nD τ) (buf12 t) fullShare d))
    ⊢ wp frame (wpE (defs₀ (F := F)) Variants.none (c : Thread nD τ) none) Set.univ (bodyAt0 t) (fun _ => returned m c t) := by
  iintro ⟨HS, Hg, Ho, H0, H1, H2, H3, H4, H5, H6, H7, ⟨%d8, H8⟩, ⟨%d9, H9⟩, ⟨%d10, H10⟩, H11, ⟨%d12, H12⟩⟩
  iapply (hrun ((dats m 0 c).before 8 t d8) d9 d10 d12 Set.univ (fun _ => returned m c t))
  unfold Inputs
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [H11]; · iexact H11
  isplitl [H12]; · iexact H12
  isplitl [HS]; · iexact HS
  iintro ⟨⟨H0, H1, H2, H3, H4, H5, H6, H7⟩, H8, H9, H10, H11, H12, HS⟩
  unfold returned
  rw [leaves_0, leaves_1, leaves_2, leaves_3, leaves_4, leaves_5, leaves_6, leaves_7, leaves_9, leaves_10, leaves_11, leaves_12,
    after_0, after_1, after_2, after_3, after_4, after_5, after_6, after_7, after_9, after_10, after_11, after_12]
  rw [show (dats m 0 c).owesAt () t.succ = (dats m 0 c).owesAt () t.castSucc from rfl,
    show (dats m 0 c).Φ t.succ = carried m c (t.val + 1) t.isLt from rfl, carried_succ]
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (h8 d8); iexact H8
  isplitl [H9]; · iexact H9
  isplitl [H10]; · iexact H10
  isplitl [H11]; · iexact H11
  iexact H12

set_option maxHeartbeats 2000000 in
/-- The body at any point. -/
theorem sound (c : Dev nD) (t : Fin cfg0.N) :
    handed m c t ⊢ wp frame (wpE (defs₀ (F := F)) Variants.none (c : Thread nD τ) none) Set.univ (bodyAt0 t) (fun _ => returned m c t) := by
  unfold handed
  simp only [before_0, before_1, before_2, before_3, before_4, before_5, before_6, before_7]
  have hN : t.val < 256 := lt_of_lt_of_eq t.isLt N_0
  by_cases h1 : t.val % 256 = 0
  · have hl : ¬LastOfHead (grid0.coords t) := fun h => by have := (lastOfHead_iff t).mp h; omega
    rw [carried_castSucc m c t, carried_zero m c _ _ (by omega), entry_eq]
    iintro ⟨⟨⟨%a, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hrun : ∀ A10, RunsTo c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr (Memref.isWhole_whole _) A10 A10 ((dats m 0 c).before 11 t d11) a
        (startAt m c t.val t.isLt).1 (startAt m c t.val t.isLt).2 := fun A10 => by
      rw [start_first m c _ _ h1, start_head m c _ _ (by omega)]
      exact run_first c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr (Memref.isWhole_whole _) ((firstOfHead_iff t).mpr (by omega)) ((firstOfAll_iff t).mpr h1) hl A10 _ _
    iapply (at_point m c t ((dats m 0 c).before 11 t d11) a (fun A10 => A10) (Memref.isWhole_whole _) hrun (fun A10 => by
          rw [Dat.leavesExact_idle (dats m 0 c) 8 t (dq_idle t hl) (dq_kept t hl)]
          iintro H
          iexists A10; iexact H))
    isplitl [HS]; · iexact HS
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iexists _; iexact H12
  simp only [before_11 m c t h1]
  by_cases h0 : t.val % 16 = 0
  · have hl : ¬LastOfHead (grid0.coords t) := fun h => by have := (lastOfHead_iff t).mp h; omega
    rw [carried_castSucc m c t, carried_pos m c _ _ (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hrun : ∀ A10, RunsTo c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr (Memref.isWhole_whole _) A10 A10 (startAt m c t.val t.isLt).1 (qsumLeft m c (t.val - 1) (Nat.lt_of_le_of_lt (Nat.sub_le _ _) t.isLt))
        (startAt m c t.val t.isLt).1 (startAt m c t.val t.isLt).2 := fun A10 => by
      rw [start_head m c _ _ h0]
      exact run_head c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr (Memref.isWhole_whole _) ((firstOfHead_iff t).mpr h0) (fun h => h1 ((firstOfAll_iff t).mp h)) hl A10 _ _
    iapply (at_point m c t (startAt m c t.val t.isLt).1 (qsumLeft m c (t.val - 1) (Nat.lt_of_le_of_lt (Nat.sub_le _ _) t.isLt)) (fun A10 => A10) (Memref.isWhole_whole _) hrun (fun A10 => by
          rw [Dat.leavesExact_idle (dats m 0 c) 8 t (dq_idle t hl) (dq_kept t hl)]
          iintro H
          iexists A10; iexact H))
    isplitl [HS]; · iexact HS
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iexists _; iexact H12
  rw [carried_castSucc m c t, carried_pos m c _ _ (by omega), ← start_keep2 m c _ t.isLt h0]
  by_cases h2 : t.val % 16 = 15
  · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hrun : ∀ A10, RunsTo c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr (Memref.isWhole_whole _) A10 (k0_pay45 (qsumLeft m c t.val t.isLt)) (startAt m c t.val t.isLt).1 (startAt m c t.val t.isLt).2
        (startAt m c t.val t.isLt).1 (startAt m c t.val t.isLt).2 := fun A10 => by
      exact run_last c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr (Memref.isWhole_whole _) (fun h => h0 ((firstOfHead_iff t).mp h)) (fun h => h1 ((firstOfAll_iff t).mp h)) ((lastOfHead_iff t).mpr h2) A10 _ _
    iapply (at_point m c t (startAt m c t.val t.isLt).1 (startAt m c t.val t.isLt).2 (fun _ => k0_pay45 (qsumLeft m c t.val t.isLt)) (Memref.isWhole_whole _) hrun (fun A10 => by
          unfold Dat.leavesExact
          rw [dq_live t ((lastOfHead_iff t).mpr h2), after_8]))
    isplitl [HS]; · iexact HS
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iexists _; iexact H12
  · have hl : ¬LastOfHead (grid0.coords t) := fun h => h2 ((lastOfHead_iff t).mp h)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hrun : ∀ A10, RunsTo c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr (Memref.isWhole_whole _) A10 A10 (startAt m c t.val t.isLt).1 (startAt m c t.val t.isLt).2
        (startAt m c t.val t.isLt).1 (startAt m c t.val t.isLt).2 := fun A10 => by
      exact run_middle c (grid0.coords t) (blocks m c t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) scr (Memref.isWhole_whole _) (fun h => h0 ((firstOfHead_iff t).mp h)) (fun h => h1 ((firstOfAll_iff t).mp h)) hl A10 _ _
    iapply (at_point m c t (startAt m c t.val t.isLt).1 (startAt m c t.val t.isLt).2 (fun A10 => A10) (Memref.isWhole_whole _) hrun (fun A10 => by
          rw [Dat.leavesExact_idle (dats m 0 c) 8 t (dq_idle t hl) (dq_kept t hl)]
          iintro H
          iexists A10; iexact H))
    isplitl [HS]; · iexact HS
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iexists _; iexact H12

theorem body_row (t : Fin cfg0.N) : defs₀ (F := F) .tc cfg0.body (cfg0.bodyArgs t (cfg0.slots t)) = bodyAt0 t := by
  unfold defs₀; rw [Defs.onTc_tc]

theorem body_sound (c : Dev nD) : BodyObligation (dats (F := F) m 0 c) (defs₀ (F := F)) Variants.none () Set.univ := fun t => by
  rw [bigSep_W0, bigSep_W0, body_row]
  exact triple_restated (sound m c t) rfl .rfl fun _ => .rfl

theorem entry (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

theorem exit (c : Dev nD) : (dats m 0 c).Φ (Fin.last cfg0.N) ⊢ Pipeline.ΦA spec0 c := by
  have hN : cfg0.N = 256 := N_0
  rw [show (dats m 0 c).Φ (Fin.last cfg0.N) = carried m c (Fin.last cfg0.N).val (Nat.le_of_lt_succ (Fin.last cfg0.N).isLt) from rfl,
    carried_pos m c _ _ (by rw [Fin.val_last]; omega), entry_eq]
  iintro ⟨HS, Hg⟩
  isplitl [HS]
  · iexists _; iexact HS
  iexact Hg

/-! ## The run -/

set_option backward.isDefEq.respectTransparency.types false in
/-- Every run ends with the arrays of the launch at what the proof data give and every counter at zero. -/
theorem run_counters : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_sound m c).loose) (hq := fun _ _ _ => rfl)
    (howed := fun _ _ => rfl) (V := V m) (hmain := hmain m Variants.none) (hA := arrays_eq m) (hin := entry m) (hout := exit m)

theorem run : θ_run defs (onTc (τ := τ) (main (F := F))) (s₀ m ρ) (Pipeline.FramePost cfgs (dats m) 0 (V m)) :=
  (θ_run defs _ _).mono (fun _ h => h.1) (run_counters m ρ)

/-- The frame: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays_eq m) (run m ρ)) ((θ_run defs _ _).mono (fun _ h => h.2) (run_counters m ρ))

end Cert.KernelIdeal.Attn

end
-- ==== Proof.AttnReal.lean ====
module

public import Mathlib.Analysis.SpecialFunctions.Log.Basic
public import Mathlib.Algebra.BigOperators.Fin
public import Mathlib.Tactic.FieldSimp
public import Mathlib.Tactic.Ring

@[expose] public section

noncomputable section

/-! # The backward pass over the reals

The quantities of the attention's backward pass as real functions of the head, the query row, the key row and the lane,
and the identities the two programs differ by. -/

namespace Cert.Attn

/-- The arguments by head, row and lane (the queries, keys, values and output gradients), the forget sums by head and
row, the scale of the logits, and any number to subtract from a row's logits before their exponentials. -/
structure Vals where
  q : Fin 16 → Fin 4096 → Fin 128 → ℝ
  k : Fin 16 → Fin 4096 → Fin 128 → ℝ
  v : Fin 16 → Fin 4096 → Fin 128 → ℝ
  g : Fin 16 → Fin 4096 → Fin 128 → ℝ
  f : Fin 16 → Fin 4096 → ℝ
  sc : ℝ
  top : Fin 16 → Fin 4096 → ℝ

namespace Vals

variable (R : Vals) (h : Fin 16) (x y : Fin 4096) (d : Fin 128)

/-- A logit, before the mask. -/
def logit : ℝ := (∑ d, R.q h x d * R.k h y d) * R.sc + R.f h x - R.f h y
/-- The exponential of a logit below its row's number; zero past the diagonal. -/
def e : ℝ := if y ≤ x then Real.exp (R.logit h x y - R.top h x) else 0
/-- A row's sum of exponentials. -/
def total : ℝ := ∑ y, R.e h x y
/-- A probability. -/
def p : ℝ := R.e h x y / R.total h x
/-- The gradient of a probability. -/
def dp : ℝ := ∑ d, R.g h x d * R.v h y d
/-- A row's probabilities by their gradients, summed. -/
def delta : ℝ := ∑ y, R.p h x y * R.dp h x y
/-- The gradient of a logit. -/
def ds : ℝ := R.p h x y * (R.dp h x y - R.delta h x)
/-- A row's log-sum. -/
def lse : ℝ := R.top h x + Real.log (R.total h x)
/-- The attention's output. -/
def o : ℝ := ∑ y, R.p h x y * R.v h y d
/-- The gradients of the queries, the keys and the values, and the forget sums' by query and by key. -/
def gq : ℝ := (∑ y, R.ds h x y * R.k h y d) * R.sc
def gk : ℝ := (∑ x, R.ds h x y * R.q h x d) * R.sc
def gv : ℝ := ∑ x, R.p h x y * R.g h x d
def fq : ℝ := ∑ y, R.ds h x y
def fk : ℝ := ∑ x, R.ds h x y

theorem e_nonneg : 0 ≤ R.e h x y := by
  unfold e; split
  · exact (Real.exp_pos _).le
  · exact le_rfl

theorem total_pos : 0 < R.total h x := by
  refine lt_of_lt_of_le (b := R.e h x x) ?_ (Finset.single_le_sum (fun y _ => R.e_nonneg h x y) (Finset.mem_univ x))
  unfold e; rw [if_pos le_rfl]; exact Real.exp_pos _

theorem e_past (hxy : ¬y ≤ x) : R.e h x y = 0 := if_neg hxy
theorem p_past (hxy : ¬y ≤ x) : R.p h x y = 0 := by unfold p; rw [R.e_past h x y hxy, zero_div]
theorem ds_past (hxy : ¬y ≤ x) : R.ds h x y = 0 := by unfold ds; rw [R.p_past h x y hxy, zero_mul]

/-- A probability from its row's log-sum. -/
theorem exp_lse (hxy : y ≤ x) : Real.exp (R.logit h x y - R.lse h x) = R.p h x y := by
  unfold p e lse
  rw [if_pos hxy, ← sub_sub, Real.exp_sub, Real.exp_log (R.total_pos h x)]

/-- A row's delta is the sum of the output gradient by the output over the lanes. -/
theorem delta_eq : ∑ d, R.g h x d * R.o h x d = R.delta h x := by
  unfold delta dp o
  simp only [Finset.mul_sum]
  rw [Finset.sum_comm]
  exact Finset.sum_congr rfl fun y _ => Finset.sum_congr rfl fun d _ => by ring

/-- The gradient of a logit as the quotient rule gives it. -/
theorem ds_quot : (R.dp h x y / R.total h x + -(∑ y', R.dp h x y' * (1 / (R.total h x * R.total h x)) * R.e h x y')) * R.e h x y
    = R.ds h x y := by
  have hL := (R.total_pos h x).ne'
  have e1 : (∑ y', R.dp h x y' * (1 / (R.total h x * R.total h x)) * R.e h x y') = R.delta h x * (R.total h x)⁻¹ := by
    unfold delta p
    rw [Finset.sum_mul]
    exact Finset.sum_congr rfl fun y' _ => by field_simp
  rw [e1]
  unfold ds p
  field_simp
  ring

end Vals

end Cert.Attn

end
-- ==== Proof.AttnVals.lean ====
module

public import proofs.«01_k».proof.Proof.AttnReal
public import Idealize.ShloMosaic.Lib.IdealHost
public import Idealize.ShloMosaic.Lib.ValueIdxCore
public import Idealize.ShloMosaic.PureOps.Ideal.Laws

@[expose] public section

noncomputable section

/-! # The arguments as real numbers

Both programs take the same three arrays: the query, key and value columns side by side, the gradient of the output, and
the forget sums. Here they are read off as the real numbers `Vals` speaks of, with the float literals both programs use. -/

namespace Cert.Attn

open Idealize.ShloMosaic

/-- A sum of reals, read in the extended reals, is the sum of the readings. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The scale of the logits. -/
def scale : ℝ := (Ideal.ofBits .f32 0x3DB504F3#32).toReal

theorem scale_eq : Ideal.ofBits .f32 0x3DB504F3#32 = (scale : EReal) := by
  refine (EReal.coe_toReal ?_ ?_).symm <;>
  · simp only [Ideal.ofBits, Ideal.ieee]
    rw [if_neg (by decide), if_neg (by decide)]
    first | exact EReal.coe_ne_top _ | exact EReal.coe_ne_bot _

theorem ofBits_negInf : Ideal.ofBits .f32 0xFF800000#32 = (⊥ : EReal) := by
  simp only [Ideal.ofBits, Ideal.ieee]
  rw [if_pos (by decide), if_pos (by decide), if_pos (by decide)]

theorem ofBits_posInf : Ideal.ofBits .f32 0x7F800000#32 = (⊤ : EReal) := by
  simp only [Ideal.ofBits, Ideal.ieee]
  rw [if_pos (by decide), if_pos (by decide), if_neg (by decide)]

/-- The quotient of two reals, the second not zero. -/
theorem div_real {a b : ℝ} (hb : b ≠ 0) : Ideal.div (a : EReal) (b : EReal) = ((a / b : ℝ) : EReal) := by
  rw [Ideal.div_coe hb, ← EReal.coe_mul, mul_one_div]

/-- A comparison of two words that hold small numbers is the numbers' comparison. -/
theorem sle_ofNat {a b : ℕ} (ha : a < 4096) (hb : b < 4096) :
    IntOp.cmpi .sle (BitVec.ofNat 32 a) (BitVec.ofNat 32 b) = if a ≤ b then 1#1 else 0#1 := by
  have key : (BitVec.ofNat 32 a).sle (BitVec.ofNat 32 b) = decide (a ≤ b) := by
    rw [BitVec.sle_eq_decide, BitVec.toInt_ofNat', BitVec.toInt_ofNat']
    congr 1
    rw [Int.bmod_eq_of_le (by omega) (by omega), Int.bmod_eq_of_le (by omega) (by omega)]
    exact propext Int.ofNat_le
  show BitVec.ofBool ((BitVec.ofNat 32 a).sle (BitVec.ofNat 32 b)) = _
  rw [key]
  by_cases h : a ≤ b
  · rw [if_pos h, decide_eq_true h]; rfl
  · rw [if_neg h, decide_eq_false h]; rfl

theorem eq_ofNat {a b : ℕ} (ha : a < 4096) (hb : b < 4096) :
    IntOp.cmpi .eq (BitVec.ofNat 32 a) (BitVec.ofNat 32 b) = if a = b then 1#1 else 0#1 := by
  have key : (BitVec.ofNat 32 a == BitVec.ofNat 32 b) = decide (a = b) := by
    rw [Bool.eq_iff_iff, beq_iff_eq, decide_eq_true_iff]
    constructor
    · intro h
      have := congrArg BitVec.toNat h
      rwa [BitVec.toNat_ofNat, BitVec.toNat_ofNat, Nat.mod_eq_of_lt (by omega), Nat.mod_eq_of_lt (by omega)] at this
    · rintro rfl; rfl
  show BitVec.ofBool (BitVec.ofNat 32 a == BitVec.ofNat 32 b) = _
  rw [key]
  by_cases h : a = b
  · rw [if_pos h, decide_eq_true h]; rfl
  · rw [if_neg h, decide_eq_false h]; rfl

/-- The column of head `h`'s lane `d` in an array of sixteen heads' columns, and the three parts' columns. -/
def colG (h : Fin 16) (d : Fin 128) : Fin 2048 := ⟨h.val * 128 + d.val, by omega⟩
def colQ (h : Fin 16) (d : Fin 128) : Fin 6144 := ⟨h.val * 128 + d.val, by omega⟩
def colK (h : Fin 16) (d : Fin 128) : Fin 6144 := ⟨2048 + (h.val * 128 + d.val), by omega⟩
def colV (h : Fin 16) (d : Fin 128) : Fin 6144 := ⟨4096 + (h.val * 128 + d.val), by omega⟩

abbrev SQkv : Shape := ⟨2, ![4096, 6144]⟩
abbrev SOut : Shape := ⟨2, ![4096, 2048]⟩
abbrev SForget : Shape := ⟨2, ![4096, 16]⟩

/-- The real numbers the arrays hold. -/
def vals (x0 : SQkv.Idx → EReal) (x1 : SOut.Idx → EReal) (x2 : SForget.Idx → EReal) (top : Fin 16 → Fin 4096 → ℝ) : Vals where
  q h x d := (x0 (ValueIdx.ix2 x (colQ h d))).toReal
  k h x d := (x0 (ValueIdx.ix2 x (colK h d))).toReal
  v h x d := (x0 (ValueIdx.ix2 x (colV h d))).toReal
  g h x d := (x1 (ValueIdx.ix2 x (colG h d))).toReal
  f h x := (x2 (ValueIdx.ix2 x h)).toReal
  sc := scale
  top := top

theorem vals_top (x0 : SQkv.Idx → EReal) (x1 : SOut.Idx → EReal) (x2 : SForget.Idx → EReal) (top : Fin 16 → Fin 4096 → ℝ) (h : Fin 16)
    (x : Fin 4096) : (vals x0 x1 x2 top).top h x = top h x := rfl

/-- Every element of the three arrays is a real number. -/
structure Finite (x0 : SQkv.Idx → EReal) (x1 : SOut.Idx → EReal) (x2 : SForget.Idx → EReal) : Prop where
  h0 : ∀ i, x0 i = ((x0 i).toReal : EReal)
  h1 : ∀ i, x1 i = ((x1 i).toReal : EReal)
  h2 : ∀ i, x2 i = ((x2 i).toReal : EReal)

end Cert.Attn

end
-- ==== Proof.AttnRef.lean ====
module

public import proofs.«01_k».proof.Proof.Gen.ReferenceIdeal.Run
public import proofs.«01_k».proof.Proof.Gen.ReferenceIdeal.Read
public import proofs.«01_k».proof.Proof.AttnVals
public import Idealize.ShloMosaic.Lib.KernelVsHost
public import Mathlib.Data.Finset.Fold

@[expose] public section

set_option maxRecDepth 16384

noncomputable section

/-! # What the reference computes

The reference's stages read as real numbers, one lemma per stage that has a name in the mathematics: the logits, their
exponentials and sums, the probabilities, and the gradients. -/

namespace Cert.ReferenceIdeal.Attn

open Idealize.ShloMosaic Cert.Attn Cert.ReferenceIdeal.Read Cert.ReferenceIdeal.Gen

abbrev X0 := (⟨S4096x6144, .bf16⟩ : BufTy).Contents (Elt Ideal)
abbrev X1 := (⟨S4096x2048, .bf16⟩ : BufTy).Contents (Elt Ideal)
abbrev X2 := (⟨S4096x16, .f32⟩ : BufTy).Contents (Elt Ideal)

variable {x0 : X0} {x1 : X1} {x2 : X2}

/-- The largest logit of a row. -/
@[irreducible] def topOf (x0 : X0) (x2 : X2) (h : Fin 16) (x : Fin 4096) : ℝ := (val_main_v27 (F := Ideal) x0 x2 (ValueIdx.ix2 h x)).toReal

/-- The arguments' numbers, with each row's largest logit to subtract. -/
abbrev rv (x0 : X0) (x1 : X1) (x2 : X2) : Vals := vals x0 x1 x2 (topOf x0 x2)

/-- An index of an array of rows and heads' columns, from the index by row, head and lane. -/
theorem row_val {a b c : ℕ} (hb : b < 16) (hc : c < 128) : ((a * 16 + b) * 128 + c) / 2048 = a := by omega
theorem col_val {a b c : ℕ} (hb : b < 16) (hc : c < 128) : ((a * 16 + b) * 128 + c) % 2048 = b * 128 + c := by omega

theorem v5 (hf : Finite x0 x1 x2) (i : S16x4096x128.Idx) : val_main_v5 (F := Ideal) x0 i = ((rv x0 x1 x2).q (i 0) (i 1) (i 2) : EReal) := by
  rw [val_main_v5_apply, val_main_v4_apply, val_main_v1_apply, val_main_v0_apply, Ideal.extf_def]
  refine (congrArg x0 (funext fun a => Fin.ext ?_)).trans (hf.h0 (ValueIdx.ix2 (i 1) (colQ (i 0) (i 2))))
  match a with
  | ⟨0, _⟩ => exact row_val (i 0).isLt (i 2).isLt
  | ⟨1, _⟩ => exact col_val (i 0).isLt (i 2).isLt

theorem v7 (hf : Finite x0 x1 x2) (i : S16x4096x128.Idx) : val_main_v7 (F := Ideal) x0 i = ((rv x0 x1 x2).k (i 0) (i 1) (i 2) : EReal) := by
  rw [val_main_v7_apply, val_main_v6_apply, val_main_v2_apply, val_main_v0_apply, Ideal.extf_def]
  refine (congrArg x0 (funext fun a => Fin.ext ?_)).trans (hf.h0 (ValueIdx.ix2 (i 1) (colK (i 0) (i 2))))
  match a with
  | ⟨0, _⟩ => exact row_val (i 0).isLt (i 2).isLt
  | ⟨1, _⟩ => exact congrArg (2048 + ·) (col_val (i 0).isLt (i 2).isLt)

theorem v56 (hf : Finite x0 x1 x2) (i : S16x4096x128.Idx) : val_main_v56 (F := Ideal) x0 i = ((rv x0 x1 x2).v (i 0) (i 1) (i 2) : EReal) := by
  rw [val_main_v56_apply, val_main_v55_apply, val_main_v3_apply, val_main_v0_apply, Ideal.extf_def]
  refine (congrArg x0 (funext fun a => Fin.ext ?_)).trans (hf.h0 (ValueIdx.ix2 (i 1) (colV (i 0) (i 2))))
  match a with
  | ⟨0, _⟩ => exact row_val (i 0).isLt (i 2).isLt
  | ⟨1, _⟩ => exact congrArg (4096 + ·) (col_val (i 0).isLt (i 2).isLt)

theorem v62 (hf : Finite x0 x1 x2) (i : S16x4096x128.Idx) : val_main_v62 (F := Ideal) x1 i = ((rv x0 x1 x2).g (i 0) (i 1) (i 2) : EReal) := by
  rw [val_main_v62_apply, val_main_v61_apply, val_main_v60_apply, Ideal.extf_def]
  refine (congrArg x1 (funext fun a => Fin.ext ?_)).trans (hf.h1 (ValueIdx.ix2 (i 1) (colG (i 0) (i 2))))
  match a with
  | ⟨0, _⟩ => exact row_val (i 0).isLt (i 2).isLt
  | ⟨1, _⟩ => exact col_val (i 0).isLt (i 2).isLt

/-- The logits, before the mask. -/
theorem v18 (hf : Finite x0 x1 x2) (i : S16x4096x4096.Idx) :
    val_main_v18 (F := Ideal) x0 x2 i = ((rv x0 x1 x2).logit (i 0) (i 1) (i 2) : EReal) := by
  have e1 : val_main_v13 (F := Ideal) x2 i = ((rv x0 x1 x2).f (i 0) (i 1) : EReal) := by
    rw [val_main_v13_apply, val_main_v12_apply, val_main_v11_apply]
    refine (congrArg x2 (funext fun a => Fin.ext ?_)).trans (hf.h2 (ValueIdx.ix2 (i 1) (i 0)))
    match a with
    | ⟨0, _⟩ => rfl
    | ⟨1, _⟩ => rfl
  have e2 : val_main_v17 (F := Ideal) x2 i = ((rv x0 x1 x2).f (i 0) (i 2) : EReal) := by
    rw [val_main_v17_apply, val_main_v16_apply, val_main_v15_apply]
    refine (congrArg x2 (funext fun a => Fin.ext ?_)).trans (hf.h2 (ValueIdx.ix2 (i 2) (i 0)))
    match a with
    | ⟨0, _⟩ => rfl
    | ⟨1, _⟩ => rfl
  rw [val_main_v18_apply, val_main_v14_apply, val_main_v10_apply, val_main_v8_apply, val_main_v9_apply, val_main_cst_apply, e1, e2]
  simp only [v5 hf, v7 hf, Ideal.ofBits_def, scale_eq, Ideal.subf_def, Ideal.addf_def, Ideal.mulf_def, ← EReal.coe_mul, coe_sum,
    ← EReal.coe_add, ← EReal.coe_sub]
  rfl

/-- The mask keeps the keys up to the query. -/
theorem v25 (i : S1x4096x4096.Idx) : val_main_v25 (F := Ideal) i = if (i 2).val ≤ (i 1).val then 1#1 else 0#1 := by
  rw [val_main_v25_apply, val_main_v24_apply, val_main_v22_apply, val_main_v20_apply, val_main_v19_apply, val_main_v23_apply,
    val_main_v21_apply, val_main_v19_apply]
  exact sle_ofNat (i 2).isLt (i 1).isLt

theorem v26 (hf : Finite x0 x1 x2) (i : S16x4096x4096.Idx) :
    val_main_v26_0 (F := Ideal) x0 x2 i = if i 2 ≤ i 1 then ((rv x0 x1 x2).logit (i 0) (i 1) (i 2) : EReal) else ⊥ := by
  rw [val_main_v26_0_apply, val_main_v26_1_apply, v25, v18 hf, val_main_call0_v2_apply, val_main_call0_v0_apply, val_main_cst_0_apply,
    Ideal.ofBits_def, ofBits_negInf]
  by_cases hc : (i 2).val ≤ (i 1).val
  · rw [if_pos (show i 2 ≤ i 1 from hc), show ((idx_main_v26_1 i) 2).val = (i 2).val from rfl]
    rw [if_pos hc]
    rfl
  · rw [if_neg (show ¬(i 2 ≤ i 1) from hc), show ((idx_main_v26_1 i) 2).val = (i 2).val from rfl]
    rw [if_neg hc]
    rfl

/-- A row's largest logit is a real number: the row's own key is among those kept. -/
theorem v27 (hf : Finite x0 x1 x2) (i : S16x4096.Idx) : val_main_v27 (F := Ideal) x0 x2 i = ((rv x0 x1 x2).top (i 0) (i 1) : EReal) := by
  have e0 : i = ValueIdx.ix2 (i 0) (i 1) := funext fun a => match a with | ⟨0, _⟩ => rfl | ⟨1, _⟩ => rfl
  have e1 : val_main_v27 (F := Ideal) x0 x2 i = Finset.fold max (val_main_cst_1 (F := Ideal) (Shape.Idx.first h_S_))
      (val_main_v26_0 (F := Ideal) x0 x2) {j | reducesTo_S16x4096x4096_S16x4096_d2.drop j = i} :=
    Host.reduce_eq_fold (max : EReal → EReal → EReal) _ _ _ _ _
  have c0 : val_main_cst_1 (F := Ideal) (Shape.Idx.first h_S_) = (⊥ : EReal) := ofBits_negInf
  rw [c0] at e1
  have ht : val_main_v27 (F := Ideal) x0 x2 i ≠ ⊤ := by
    rw [e1]
    refine ne_of_lt ((Finset.fold_max_lt _).mpr ⟨bot_lt_top, fun j _ => ?_⟩)
    rw [v26 hf]
    split
    · exact EReal.coe_lt_top _
    · exact bot_lt_top
  have hb : val_main_v27 (F := Ideal) x0 x2 i ≠ ⊥ := by
    rw [e1]
    refine ne_of_gt ((Finset.lt_fold_max _).mpr (Or.inr ⟨ValueIdx.ix3 (i 0) (i 1) (i 1), ?_, ?_⟩))
    · rw [Finset.mem_filter]
      refine ⟨Finset.mem_univ _, funext fun a => Fin.ext ?_⟩
      match a with
      | ⟨0, _⟩ => exact Shape.ReducesTo.drop_apply_val_of_eq reducesTo_S16x4096x4096_S16x4096_d2 (ValueIdx.ix3 (i 0) (i 1) (i 1)) 0 0 (by decide) (by decide)
      | ⟨1, _⟩ => exact Shape.ReducesTo.drop_apply_val_of_eq reducesTo_S16x4096x4096_S16x4096_d2 (ValueIdx.ix3 (i 0) (i 1) (i 1)) 1 1 (by decide) (by decide)
    · rw [v26 hf]
      exact (EReal.bot_lt_coe _).trans_eq (if_pos (le_refl (i 1))).symm
  have := (EReal.coe_toReal ht hb).symm
  refine this.trans (congrArg Real.toEReal ?_)
  have e2 : topOf x0 x2 (i 0) (i 1) = (val_main_v27 (F := Ideal) x0 x2 i).toReal := by
    unfold topOf
    exact congrArg EReal.toReal (congrArg (val_main_v27 (F := Ideal) x0 x2) e0.symm)
  exact e2.symm.trans (vals_top x0 x1 x2 (topOf x0 x2) _ _).symm

/-- The number subtracted from a row's logits. -/
theorem v45 (hf : Finite x0 x1 x2) (i : S16x4096x4096.Idx) :
    val_main_v45 (F := Ideal) x0 x2 i = ((rv x0 x1 x2).top (i 0) (i 1) : EReal) := by
  rw [val_main_v45_apply, val_main_v44_apply, val_main_v34_apply, val_main_v33_apply, val_main_cst_3_apply, v27 hf, Ideal.ofBits_def,
    ofBits_negInf]
  exact max_eq_right bot_le

/-- The exponentials. -/
theorem v47 (hf : Finite x0 x1 x2) (i : S16x4096x4096.Idx) :
    val_main_v47 (F := Ideal) x0 x2 i = ((rv x0 x1 x2).e (i 0) (i 1) (i 2) : EReal) := by
  rw [val_main_v47_apply, val_main_v46_apply, v45 hf, v26 hf]
  by_cases hc : i 2 ≤ i 1
  · rw [if_pos hc]
    refine (congrArg Ideal.exp (EReal.coe_sub _ _).symm).trans (congrArg Real.toEReal ?_)
    exact (if_pos hc).symm
  · rw [if_neg hc]
    refine ((congrArg Ideal.exp (EReal.bot_sub ((rv x0 x1 x2).top (i 0) (i 1) : EReal))).trans Ideal.exp_bot).trans (congrArg Real.toEReal (a₁ := 0) ?_)
    exact (if_neg hc).symm

theorem v48 (hf : Finite x0 x1 x2) (i : S16x4096.Idx) :
    val_main_v48 (F := Ideal) x0 x2 i = ((rv x0 x1 x2).total (i 0) (i 1) : EReal) := by
  rw [val_main_v48_apply, val_main_cst_9_apply, Ideal.ofBits_def, Ideal.ofBits_zero_f32, zero_add]
  simp only [v47 hf, coe_sum]
  rfl

theorem v49 (hf : Finite x0 x1 x2) (i : S16x4096x1.Idx) :
    val_main_v49 (F := Ideal) x0 x2 i = ((rv x0 x1 x2).total (i 0) (i 1) : EReal) := by
  rw [val_main_v49_apply, v48 hf]
  rfl

/-- The probabilities. -/
theorem v51 (hf : Finite x0 x1 x2) (i : S16x4096x4096.Idx) :
    val_main_v51 (F := Ideal) x0 x2 i = ((rv x0 x1 x2).p (i 0) (i 1) (i 2) : EReal) := by
  rw [val_main_v51_apply, val_main_v50_apply, v49 hf, v47 hf]
  exact div_real ((rv x0 x1 x2).total_pos _ _).ne'

theorem v54 (hf : Finite x0 x1 x2) (i : S16x4096x1.Idx) : val_main_v54 (F := Ideal) x0 x2 i
    = ((1 / ((rv x0 x1 x2).total (i 0) (i 1) * (rv x0 x1 x2).total (i 0) (i 1)) : ℝ) : EReal) := by
  have hp := ((rv x0 x1 x2).total_pos (i 0) (i 1)).ne'
  rw [val_main_v54_apply, val_main_v53_apply, val_main_cst_10_apply, val_main_v52_apply, v49 hf, Ideal.ofBits_def, Ideal.ofBits_one_f32,
    Ideal.mulf_def, ← EReal.coe_mul, ← EReal.coe_one]
  exact div_real (mul_ne_zero hp hp)

/-- The gradient of the probabilities. -/
theorem v65 (hf : Finite x0 x1 x2) (i : S16x4096x4096.Idx) :
    val_main_v65 (F := Ideal) x0 x1 i = ((rv x0 x1 x2).dp (i 0) (i 1) (i 2) : EReal) := by
  rw [val_main_v65_apply]
  simp only [v62 hf, v56 hf, ← EReal.coe_mul, coe_sum]
  rfl

/-- The quotient rule's sum over a row. -/
theorem v71 (hf : Finite x0 x1 x2) (i : S16x4096.Idx) : val_main_v71 (F := Ideal) x0 x1 x2 i
    = ((∑ y, (rv x0 x1 x2).dp (i 0) (i 1) y * (1 / ((rv x0 x1 x2).total (i 0) (i 1) * (rv x0 x1 x2).total (i 0) (i 1)))
        * (rv x0 x1 x2).e (i 0) (i 1) y : ℝ) : EReal) := by
  rw [val_main_v71_apply, val_main_cst_11_apply, Ideal.ofBits_def, Ideal.ofBits_zero_f32, zero_add]
  simp only [val_main_v70_apply, val_main_v69_apply, val_main_v68_apply, v65 hf, v54 hf, v47 hf, Ideal.mulf_def, ← EReal.coe_mul, coe_sum]
  rfl

/-- The same with its sign turned, spread over a unit axis. -/
theorem v73 (hf : Finite x0 x1 x2) (i : S16x4096x1.Idx) : val_main_v73 (F := Ideal) x0 x1 x2 i
    = ((-∑ y, (rv x0 x1 x2).dp (i 0) (i 1) y * (1 / ((rv x0 x1 x2).total (i 0) (i 1) * (rv x0 x1 x2).total (i 0) (i 1)))
        * (rv x0 x1 x2).e (i 0) (i 1) y : ℝ) : EReal) := by
  have e : idx_main_v72 i = ValueIdx.ix2 (i 0) (i 1) := by
    have h0 : (i 0).val < 16 := (i 0).isLt
    have h1 : (i 1).val < 4096 := (i 1).isLt
    have h2 : (i 2).val < 1 := (i 2).isLt
    funext a
    match a with
    | ⟨0, _⟩ => exact Fin.ext (by show (((i 0).val * 4096 + (i 1).val) * 1 + (i 2).val) / 4096 = (i 0).val; omega)
    | ⟨1, _⟩ => exact Fin.ext (by show (((i 0).val * 4096 + (i 1).val) * 1 + (i 2).val) % 4096 = (i 1).val; omega)
  rw [val_main_v73_apply, val_main_v72_apply, Ideal.hostNegf_def]
  refine (congrArg (fun z : EReal => -z) ((congrArg (val_main_v71 (F := Ideal) x0 x1 x2) e).trans (v71 hf _))).trans ?_
  exact (EReal.coe_neg _).symm

/-- The gradient of the logits. -/
theorem v80 (hf : Finite x0 x1 x2) (i : S16x4096x4096.Idx) :
    val_main_v80 (F := Ideal) x0 x1 x2 i = ((rv x0 x1 x2).ds (i 0) (i 1) (i 2) : EReal) := by
  have e79 : val_main_v79 (F := Ideal) x0 x1 x2 i = ((rv x0 x1 x2).ds (i 0) (i 1) (i 2) : EReal) := by
    rw [val_main_v79_apply, val_main_v78_apply, val_main_v75_apply, val_main_v74_apply, val_main_v77_apply, val_main_v76_apply,
      val_main_cst_12_apply, Ideal.ofBits_def, Ideal.ofBits_zero_f32, zero_add]
    simp only [v73 hf, v65 hf, v49 hf, v47 hf, Fin.sum_univ_one]
    refine Eq.trans ?_ (congrArg Real.toEReal ((rv x0 x1 x2).ds_quot (i 0) (i 1) (i 2)))
    simp only [Ideal.hostDivf_def, Ideal.addf_def, Ideal.mulf_def]
    refine Eq.trans ?_ (EReal.coe_mul _ _).symm
    refine congrArg (· * _) ?_
    refine Eq.trans ?_ (EReal.coe_add _ _).symm
    refine congrArg₂ (· + ·) (div_real ((rv x0 x1 x2).total_pos _ _).ne') ?_
    rfl
  rw [val_main_v80_apply, val_main_v26_1_apply, v25, e79, val_main_call1_v0_apply, val_main_call1_cst_apply, Ideal.ofBits_def,
    Ideal.ofBits_zero_f32, show ((idx_main_v26_1 i) 2).val = (i 2).val from rfl]
  by_cases hc : (i 2).val ≤ (i 1).val
  · rw [show ((idx_main_v26_1 i) 1).val = (i 1).val from rfl, if_pos hc]
    rfl
  · rw [show ((idx_main_v26_1 i) 1).val = (i 1).val from rfl, if_neg hc]
    exact congrArg Real.toEReal ((rv x0 x1 x2).ds_past (i 0) (i 1) (i 2) (show ¬(i 2 ≤ i 1) from hc)).symm

/-! ## The results -/

/-- The gradient of the queries, by row and column. -/
theorem v98 (hf : Finite x0 x1 x2) (i : S4096x2048.Idx) (h : Fin 16) (x : Fin 4096) (d : Fin 128) (hi : i = ValueIdx.ix2 x (colG h d)) :
    val_main_v98 (F := Ideal) x0 x1 x2 i = ((rv x0 x1 x2).gq h x d : EReal) := by
  have e : idx_main_v96 (idx_main_v97 i) = ValueIdx.ix3 h x d := by
    subst hi
    funext a
    match a with
    | ⟨0, _⟩ => exact Fin.ext (by show (x.val * 2048 + (h.val * 128 + d.val)) / 128 % 16 = h.val; omega)
    | ⟨1, _⟩ => exact Fin.ext (by show (x.val * 2048 + (h.val * 128 + d.val)) / 2048 = x.val; omega)
    | ⟨2, _⟩ => exact Fin.ext (by show (x.val * 2048 + (h.val * 128 + d.val)) % 128 = d.val; omega)
  rw [val_main_v98_apply, val_main_v97_apply, val_main_v96_apply, e, val_main_v93_apply, Ideal.truncf_def]
  simp only [val_main_v91_apply, v80 hf, val_main_v90_apply, val_main_cst_17_apply, v7 hf, Ideal.ofBits_def, scale_eq, Ideal.mulf_def,
    ← EReal.coe_mul, coe_sum]
  refine congrArg _ ?_
  show _ = (∑ y, (rv x0 x1 x2).ds h x y * (rv x0 x1 x2).k h y d) * scale
  rw [Finset.sum_mul]
  exact Finset.sum_congr rfl fun y _ => mul_right_comm _ _ _

/-- The gradient of the keys. -/
theorem v99 (hf : Finite x0 x1 x2) (i : S4096x2048.Idx) (h : Fin 16) (y : Fin 4096) (d : Fin 128) (hi : i = ValueIdx.ix2 y (colG h d)) :
    val_main_v99 (F := Ideal) x0 x1 x2 i = ((rv x0 x1 x2).gk h y d : EReal) := by
  have e : idx_main_v94 (idx_main_v95 i) = ValueIdx.ix3 h y d := by
    subst hi
    funext a
    match a with
    | ⟨0, _⟩ => exact Fin.ext (by show (y.val * 2048 + (h.val * 128 + d.val)) / 128 % 16 = h.val; omega)
    | ⟨1, _⟩ => exact Fin.ext (by show (y.val * 2048 + (h.val * 128 + d.val)) / 2048 = y.val; omega)
    | ⟨2, _⟩ => exact Fin.ext (by show (y.val * 2048 + (h.val * 128 + d.val)) % 128 = d.val; omega)
  rw [val_main_v99_apply, val_main_v95_apply, val_main_v94_apply, e, val_main_v92_apply, Ideal.truncf_def]
  simp only [val_main_v91_apply, v80 hf, val_main_v90_apply, val_main_cst_17_apply, v5 hf, Ideal.ofBits_def, scale_eq, Ideal.mulf_def,
    ← EReal.coe_mul, coe_sum]
  refine congrArg _ ?_
  show _ = (∑ x, (rv x0 x1 x2).ds h x y * (rv x0 x1 x2).q h x d) * scale
  rw [Finset.sum_mul]
  exact Finset.sum_congr rfl fun y _ => mul_right_comm _ _ _

/-- The gradient of the values. -/
theorem v100 (hf : Finite x0 x1 x2) (i : S4096x2048.Idx) (h : Fin 16) (y : Fin 4096) (d : Fin 128) (hi : i = ValueIdx.ix2 y (colG h d)) :
    val_main_v100 (F := Ideal) x0 x1 x2 i = ((rv x0 x1 x2).gv h y d : EReal) := by
  have e : idx_main_v66 (idx_main_v67 i) = ValueIdx.ix3 h y d := by
    subst hi
    funext a
    match a with
    | ⟨0, _⟩ => exact Fin.ext (by show (y.val * 2048 + (h.val * 128 + d.val)) / 128 % 16 = h.val; omega)
    | ⟨1, _⟩ => exact Fin.ext (by show (y.val * 2048 + (h.val * 128 + d.val)) / 2048 = y.val; omega)
    | ⟨2, _⟩ => exact Fin.ext (by show (y.val * 2048 + (h.val * 128 + d.val)) % 128 = d.val; omega)
  rw [val_main_v100_apply, val_main_v67_apply, val_main_v66_apply, e, val_main_v64_apply, val_main_v63_apply, Ideal.truncf_def]
  simp only [v62 hf, v51 hf, ← EReal.coe_mul, coe_sum]
  refine congrArg _ ?_
  show _ = (∑ x, (rv x0 x1 x2).p h x y * (rv x0 x1 x2).g h x d)
  exact Finset.sum_congr rfl fun y _ => mul_comm _ _

/-- The gradient of the queries' forget sums, in the first sixteen lanes. -/
theorem v101 (hf : Finite x0 x1 x2) (i : S4096x128.Idx) : val_main_v101 (F := Ideal) x0 x1 x2 i
    = if hl : (i 1).val < 16 then ((rv x0 x1 x2).fq ⟨(i 1).val, hl⟩ (i 0) : EReal) else 0 := by
  unfold val_main_v101
  have e89 : ∀ j : S4096x16.Idx, val_main_v89 (F := Ideal) x0 x1 x2 j = ((rv x0 x1 x2).fq (j 1) (j 0) : EReal) := by
    intro j
    rw [val_main_v89_apply, val_main_v88_apply, val_main_cst_16_apply, Ideal.ofBits_def, Ideal.ofBits_zero_f32, zero_add]
    simp only [val_main_v87_apply, val_main_v86_apply, val_main_cst_15_apply, Ideal.ofBits_def, Ideal.ofBits_zero_f32, zero_add,
      v80 hf, coe_sum, Fin.sum_univ_one]
    refine congrArg _ (Finset.sum_congr rfl fun y _ => ?_)
    congr 1
    · exact Fin.ext (by show (((j 1).val * 4096 + (j 0).val) * 1 + 0) / 4096 = (j 1).val; have := (j 0).isLt; have h0 : (j 0).val < 4096 := (j 0).isLt; omega)
    · exact Fin.ext (by show (((j 1).val * 4096 + (j 0).val) * 1 + 0) % 4096 = (j 0).val; have h0 : (j 0).val < 4096 := (j 0).isLt; omega)
  by_cases hl : (i 1).val < 16
  · rw [dif_pos hl]
    refine (pad_apply_of_inside ![0, 0] ![0, 112] ![0, 0] (val_main_v89 (F := Ideal) x0 x1 x2) (val_main_call2_v0 (F := Ideal))
      pads_S4096x16_S4096x128_000_01120 h_S_ i (ValueIdx.ix2 (i 0) ⟨(i 1).val, hl⟩) (fun a => ?_)).trans (e89 _)
    match a with
    | ⟨0, _⟩ => show (i 0).val = 0 + (i 0).val * 1; omega
    | ⟨1, _⟩ => show (i 1).val = 0 + (i 1).val * 1; omega
  · rw [dif_neg hl]
    refine (pad_apply_of_not_inside ![0, 0] ![0, 112] ![0, 0] (val_main_v89 (F := Ideal) x0 x1 x2) (val_main_call2_v0 (F := Ideal))
      pads_S4096x16_S4096x128_000_01120 h_S_ i 1 (fun hh => hl ?_)).trans ?_
    · have h3 : ((i 1).val - 0) / (0 + 1) < 16 := hh.2.2
      omega
    · show (((0#32 : BitVec 32).toInt : ℝ) : EReal) = 0
      simp

/-- The gradient of the keys' forget sums, its sign turned. -/
theorem v82 (hf : Finite x0 x1 x2) (i : S16x4096.Idx) :
    val_main_v82 (F := Ideal) x0 x1 x2 i = ((-(rv x0 x1 x2).fk (i 0) (i 1) : ℝ) : EReal) := by
  rw [val_main_v82_apply, val_main_cst_13_apply, Ideal.ofBits_def, Ideal.ofBits_zero_f32, zero_add]
  simp only [val_main_v81_apply, Ideal.hostNegf_def, Ideal.negf_def, v80 hf, ← EReal.coe_neg, coe_sum, Finset.sum_neg_distrib]
  rfl

/-- The gradient of the keys' forget sums. -/
theorem v104 (hf : Finite x0 x1 x2) (i : S16x1x4096.Idx) :
    val_main_v104 (F := Ideal) x0 x1 x2 i = ((rv x0 x1 x2).fk (i 0) (i 2) : EReal) := by
  have e : idx_main_v83 (idx_main_v84 (idx_main_v85 (idx_main_v102 (idx_main_v103 i))) 0) = ValueIdx.ix2 (i 0) (i 2) := by
    have h0 : (i 0).val < 16 := (i 0).isLt
    have h1 : (i 1).val < 1 := (i 1).isLt
    have h2 : (i 2).val < 4096 := (i 2).isLt
    have w0 : (((i 0).val * 1 + (i 1).val) * 4096 + (i 2).val) / 4096 = (i 0).val := by omega
    have w1 : (((i 0).val * 1 + (i 1).val) * 4096 + (i 2).val) % 4096 = (i 2).val := by omega
    funext a
    match a with
    | ⟨0, _⟩ =>
      refine Fin.ext ?_
      show ((((((i 0).val * 1 + (i 1).val) * 4096 + (i 2).val) / 4096) * 1 + 0) * 4096 + (((i 0).val * 1 + (i 1).val) * 4096 + (i 2).val) % 4096) / 4096 = (i 0).val
      rw [w0, w1]; omega
    | ⟨1, _⟩ =>
      refine Fin.ext ?_
      show ((((((i 0).val * 1 + (i 1).val) * 4096 + (i 2).val) / 4096) * 1 + 0) * 4096 + (((i 0).val * 1 + (i 1).val) * 4096 + (i 2).val) % 4096) % 4096 = (i 2).val
      rw [w0, w1]; omega
  rw [val_main_v104_apply, val_main_v103_apply, val_main_v102_apply, val_main_v85_apply, val_main_v84_apply, val_main_cst_14_apply,
    Ideal.ofBits_def, Ideal.ofBits_zero_f32, zero_add, Fin.sum_univ_one, val_main_v83_apply, Ideal.hostNegf_def]
  refine (congrArg (fun z : EReal => -z) ((congrArg (val_main_v82 (F := Ideal) x0 x1 x2) e).trans (v82 hf _))).trans ?_
  exact (EReal.coe_neg _).symm.trans (congrArg Real.toEReal (neg_neg _))

end Cert.ReferenceIdeal.Attn

end
-- ==== Proof.AttnPre.lean ====
module

public import proofs.«01_k».proof.Proof.AttnVals
public import proofs.«01_k».proof.Proof.Gen.Pre_finite
public import Idealize.ShloMosaic.Lib.ReduceAll

@[expose] public section

set_option maxRecDepth 16384

noncomputable section

/-! # The precondition: every entry is a real number -/

namespace Cert.Attn

open Idealize.ShloMosaic

/-- An entry whose magnitude compares below the infinity is a real number. -/
theorem real_of_lt (x : EReal) (h : Ideal.cmp .olt (max x (-x)) (Ideal.ofBits .f32 0x7F800000#32) = 1#1) : x = (x.toReal : EReal) := by
  rw [ofBits_posInf] at h
  have hlt : max x (-x) < ⊤ := by
    by_contra hn
    have e : Ideal.cmp .olt (max x (-x)) ⊤ = 0#1 := by
      unfold Ideal.cmp
      exact congrArg BitVec.ofBool (decide_eq_false hn)
    rw [e] at h
    exact absurd h (by decide)
  have h1 : x ≠ ⊤ := ((le_max_left x (-x)).trans_lt hlt).ne
  have h2 : x ≠ ⊥ := fun hb => absurd ((le_max_right x (-x)).trans_lt hlt) (by rw [hb, EReal.neg_bot]; exact lt_irrefl _)
  exact (EReal.coe_toReal h1 h2).symm

theorem both_one (a b : BitVec 1) (h : IntOp.andi a b = 1#1) : a = 1#1 ∧ b = 1#1 := by revert a b; decide

/-- The precondition makes every entry of the three arguments a real number. -/
theorem finite_of_pre (x0 : FVec Ideal Cert.Pre_finite.S4096x6144 .bf16) (x1 : FVec Ideal Cert.Pre_finite.S4096x2048 .bf16)
    (x2 : FVec Ideal Cert.Pre_finite.S4096x16 .f32) (h : Cert.Pre_finite.fn (F := Ideal) x0 x1 x2 = fun _ => 1#1) : Finite x0 x1 x2 := by
  haveI : Subsingleton Cert.Pre_finite.S_.Idx := ⟨fun a b => funext fun i => i.elim0⟩
  have hj := congrFun h (fun i => i.elim0)
  unfold Cert.Pre_finite.fn at hj
  obtain ⟨h01, h2⟩ := both_one _ _ hj
  obtain ⟨h0, h1⟩ := both_one _ _ h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Attn

end
-- ==== Proof.AttnPay.lean ====
module

public import proofs.«01_k».proof.Proof.AttnStep
public import proofs.«01_k».proof.Proof.AttnVals
public import Idealize.ShloMosaic.Lib.Pointwise

@[expose] public section

set_option maxRecDepth 16384

noncomputable section

/-! # One grid point's blocks as real numbers

At a point, the blocks the body reads hold the numbers of the point's head and block of keys (`Holds`). Each value the
body computes from a block of query rows is then the like-named number of the mathematics: the gradients of the
probabilities, the probabilities, and the gradients of the logits. -/

namespace Cert.KernelIdeal.Attn

open Idealize.ShloMosaic Idealize.ShloMosaic.TcCoe Cert.Attn Cert.KernelIdeal.Gen

/-- The blocks hold the numbers `R` at head `h` and key block `j`. -/
structure Holds (R : Vals) (h : Fin 16) (j : ℕ) (b : Blocks Ideal) : Prop where
  q : ∀ x d, b.q (ix2 x d) = (R.q h x d : EReal)
  k : ∀ c d, b.k (ix2 c d) = (R.k h (rowIx j c) d : EReal)
  v : ∀ c d, b.v (ix2 c d) = (R.v h (rowIx j c) d : EReal)
  dOut : ∀ x d, b.dOut (ix2 x d) = (R.g h x d : EReal)
  f : ∀ x, b.f (ix2 x (⟨h.val, by omega⟩ : Fin 128)) = (R.f h x : EReal)
  fk : ∀ c, b.fk (ix3 (0 : Fin 1) (0 : Fin 1) c) = (R.f h (rowIx j c) : EReal)
  lse : ∀ x, b.lse (ix3 (0 : Fin 1) x (0 : Fin 128)) = (R.lse h x : EReal)
  dl : ∀ x, b.dl (ix3 (0 : Fin 1) x (0 : Fin 128)) = (R.delta h x : EReal)
  sc : R.sc = scale

/-! ## The operations at an index -/

variable (a c : Fin 256) (d : Fin 128)

theorem pay1_at (v u : Vec Ideal S256x128 .bf16) : k0_pay1 (F := Ideal) v u (ix2 a c) = 0 + ∑ e : Fin 128, u (ix2 a e) * v (ix2 c e) := by
  simp only [k0_pay1, pointwise]
theorem pay17_at (v u : Vec Ideal S256x128 .bf16) : k0_pay17 (F := Ideal) v u (ix2 a c) = 0 + ∑ e : Fin 128, u (ix2 a e) * v (ix2 c e) := by
  simp only [k0_pay17, pointwise]
theorem pay5_at (v u : Vec Ideal S256x128 .bf16) :
    k0_pay5 (F := Ideal) v u (ix2 a c) = (0 + ∑ e : Fin 128, u (ix2 a e) * v (ix2 c e)) * Ideal.ofBits .f32 0x3DB504F3#32 := by
  simp only [k0_pay5, pointwise]
theorem pay18_at (v u : Vec Ideal S256x128 .bf16) :
    k0_pay18 (F := Ideal) v u (ix2 a c) = (0 + ∑ e : Fin 128, u (ix2 a e) * v (ix2 c e)) * Ideal.ofBits .f32 0x3DB504F3#32 := by
  simp only [k0_pay18, pointwise]
theorem pay2_at (k : Vec Ideal S256x128 .bf16) (s : FVec Ideal S256x256 .bf16) (A : Vec Ideal S256x128 .f32) :
    k0_pay2 (F := Ideal) k s A (ix2 a d) = A (ix2 a d) + (0 + ∑ e : Fin 256, s (ix2 a e) * k (ix2 e d)) := by
  simp only [k0_pay2, pointwise]
theorem pay41_at (k : Vec Ideal S256x128 .bf16) (s : FVec Ideal S256x256 .bf16) (A : Vec Ideal S256x128 .f32) :
    k0_pay41 (F := Ideal) k s A (ix2 a d) = A (ix2 a d) + (0 + ∑ e : Fin 256, s (ix2 a e) * k (ix2 e d)) := by
  simp only [k0_pay41, pointwise]
theorem pay3_at (A : FVec Ideal S256x128 .f32) (s : FVec Ideal S256x256 .bf16) (q : Vec Ideal S256x128 .bf16) :
    k0_pay3 (F := Ideal) A s q (ix2 c d) = A (ix2 c d) + (0 + ∑ e : Fin 256, s (ix2 e c) * q (ix2 e d)) := by
  simp only [k0_pay3, pointwise]
theorem pay4_at (A : FVec Ideal S256x128 .f32) (s : FVec Ideal S256x256 .bf16) (q : Vec Ideal S256x128 .bf16) :
    k0_pay4 (F := Ideal) A s q (ix2 c d) = A (ix2 c d) + (0 + ∑ e : Fin 256, s (ix2 e c) * q (ix2 e d)) := by
  simp only [k0_pay4, pointwise]
theorem pay42_at (A : FVec Ideal S256x128 .f32) (s : FVec Ideal S256x256 .bf16) (q : Vec Ideal S256x128 .bf16) :
    k0_pay42 (F := Ideal) A s q (ix2 c d)
      = (A (ix2 c d) + (0 + ∑ e : Fin 256, s (ix2 e c) * q (ix2 e d))) * Ideal.ofBits .f32 0x3DB504F3#32 := by
  simp only [k0_pay42, pointwise]
theorem pay43_at (A : FVec Ideal S256x128 .f32) (s : FVec Ideal S256x256 .bf16) (q : Vec Ideal S256x128 .bf16) :
    k0_pay43 (F := Ideal) A s q (ix2 c d) = A (ix2 c d) + (0 + ∑ e : Fin 256, s (ix2 e c) * q (ix2 e d)) := by
  simp only [k0_pay43, pointwise]
theorem pay44_at (A : FVec Ideal S1x256 .f32) : k0_pay44 (F := Ideal) A (ix3 (0 : Fin 1) (0 : Fin 1) c) = A (ix2 (0 : Fin 1) c) := by
  simp only [k0_pay44, pointwise]
theorem pay45_at (A : Vec Ideal S4096x128 .f32) (x : Fin 4096) :
    k0_pay45 (F := Ideal) A (ix2 x d) = A (ix2 x d) * Ideal.ofBits .f32 0x3DB504F3#32 := by
  simp only [k0_pay45, pointwise]
theorem pay15_at (f : Vec Ideal S1x1x256 .f32) : k0_pay15 (F := Ideal) f (ix2 (0 : Fin 1) c) = f (ix3 (0 : Fin 1) (0 : Fin 1) c) := by
  simp only [k0_pay15, pointwise]
theorem pay19_at (f : Vec Ideal S256x128 .f32) : k0_pay19 (F := Ideal) f (ix2 a d) = f (ix2 a d) := by
  simp only [k0_pay19, pointwise]
theorem pay13_at (x : Fin 4096) : k0_pay13 (F := Ideal) (ix2 x d) = 0 := by
  simp only [k0_pay13, pointwise]
theorem pay14_at (x : Fin 4096) : k0_pay14 (F := Ideal) (ix2 x d) = 0 := by
  simp only [k0_pay14, pointwise]
theorem pay28_at : k0_pay28 (F := Ideal) (ix2 a d) = 0 := by
  simp only [k0_pay28, pointwise]
theorem pay21_at : k0_pay21 (F := Ideal) (ix2 a d) = 0 := by
  simp only [k0_pay21, pointwise]

theorem sge_ofNat : IntOp.cmpi .sge (BitVec.ofNat 32 a.val) (BitVec.ofNat 32 c.val) = if c ≤ a then 1#1 else 0#1 := by
  have h := sle_ofNat (a := c.val) (b := a.val) (by omega) (by omega)
  exact h

theorem pay16_at : k0_pay16 (ix2 a c) = if c ≤ a then 1#1 else 0#1 := by
  simp only [k0_pay16, pointwise]
  refine Eq.trans ?_ (sge_ofNat a c)
  show IntOp.cmpi .sge (BitVec.ofNat 32 (0 * 256 + a.val)) (BitVec.ofNat 32 (0 * 256 + c.val)) = _
  rw [Nat.zero_mul, Nat.zero_add, Nat.zero_add]

/-- The lanes of a row that are the head's: one of them. -/
theorem lane_at (i : grid0.Coords) (h : Fin 16) (hh : (i 0).val = h.val) :
    IntOp.cmpi .eq (laneW (ix2 a d)) (headW i) = if d.val = h.val then 1#1 else 0#1 := by
  refine Eq.trans ?_ (eq_ofNat (a := d.val) (b := h.val) (by omega) (by omega))
  rw [headW, hh, laneW, iota_single_apply]
  rfl

theorem pay6_at (i : grid0.Coords) (h : Fin 16) (hh : (i 0).val = h.val) (f : Vec Ideal S256x128 .f32) :
    k0_pay6 (F := Ideal) (headW i) f (ix2 a d) = if d.val = h.val then f (ix2 a d) else 0 := by
  have e := lane_at a d i h hh
  unfold laneW at e
  simp only [k0_pay6, pointwise] at e ⊢
  rw [e]
  split <;> rfl

theorem pay20_at (i : grid0.Coords) (h : Fin 16) (hh : (i 0).val = h.val) :
    k0_pay20 i (ix2 a d) = if d.val = h.val then 1#1 else 0#1 := by
  have e := lane_at a d i h hh
  exact e

theorem pay29_at (fk : FVec Ideal S1x256 .f32) (s : FVec Ideal S256x256 .f32) (f : FVec Ideal S256x128 .f32) (l : Vec Ideal S1x256x128 .f32) :
    k0_pay29 (F := Ideal) fk s f l (ix2 a c)
      = Ideal.exp (s (ix2 a c) + ∑ e : Fin 128, f (ix2 a e) - fk (ix2 (0 : Fin 1) c) - l (ix3 (0 : Fin 1) a (0 : Fin 128))) := by
  simp only [k0_pay29, pointwise]
  refine congrArg (fun z => Ideal.exp (s (ix2 a c) + ∑ e : Fin 128, f (ix2 a e) - fk (ix2 (0 : Fin 1) c) - l z)) (funext fun e => Fin.ext ?_)
  match e with
  | ⟨0, _⟩ => rfl
  | ⟨1, _⟩ => exact Nat.zero_add _
  | ⟨2, _⟩ => rfl

theorem pay30_at (fk : FVec Ideal S1x256 .f32) (g s : FVec Ideal S256x256 .f32) (f : FVec Ideal S256x128 .f32) (l dl : Vec Ideal S1x256x128 .f32) :
    k0_pay30 (F := Ideal) fk g s f l dl (ix2 a c)
      = k0_pay29 (F := Ideal) fk s f l (ix2 a c) * (g (ix2 a c) - dl (ix3 (0 : Fin 1) a (0 : Fin 128))) := by
  simp only [k0_pay30, pointwise]
  refine congrArg (fun z => k0_pay29 (F := Ideal) fk s f l (ix2 a c) * (g (ix2 a c) - dl z)) (funext fun e => Fin.ext ?_)
  match e with
  | ⟨0, _⟩ => rfl
  | ⟨1, _⟩ => exact Nat.zero_add _
  | ⟨2, _⟩ => rfl

theorem pay22_at (fk : FVec Ideal S1x256 .f32) (w : IVec S256x256 1) (s : FVec Ideal S256x256 .f32) (f : FVec Ideal S256x128 .f32)
    (u : IVec S256x128 1) (z : FVec Ideal S256x128 .f32) (l : Vec Ideal S1x256x128 .f32) :
    k0_pay22 (F := Ideal) fk w s f u z l (ix2 a c)
      = Ideal.exp (Scalar.select (w (ix2 a c)) (s (ix2 a c) + ∑ e : Fin 128, Scalar.select (u (ix2 a e)) (f (ix2 a e)) (z (ix2 a e))
          - fk (ix2 (0 : Fin 1) c)) (⊥ : EReal) - l (ix3 (0 : Fin 1) a (0 : Fin 128))) := by
  simp only [k0_pay22, pointwise]
  refine congrArg₂ (fun y (m : EReal) => Ideal.exp (Scalar.select (w (ix2 a c)) (s (ix2 a c) + ∑ e : Fin 128, Scalar.select (u (ix2 a e)) (f (ix2 a e)) (z (ix2 a e))
          - fk (ix2 (0 : Fin 1) c)) m - l y)) (funext fun e => Fin.ext ?_)
    (IdealRules.named_const.ideal_named_scalar κ "mask" (φ := .f32) 0xF149F2CA#32 ⊥ rfl)
  match e with
  | ⟨0, _⟩ => rfl
  | ⟨1, _⟩ => exact Nat.zero_add _
  | ⟨2, _⟩ => rfl

theorem pay23_at (fk : FVec Ideal S1x256 .f32) (w : IVec S256x256 1) (g s : FVec Ideal S256x256 .f32) (f : FVec Ideal S256x128 .f32)
    (u : IVec S256x128 1) (z : FVec Ideal S256x128 .f32) (l dl : Vec Ideal S1x256x128 .f32) :
    k0_pay23 (F := Ideal) fk w g s f u z l dl (ix2 a c)
      = k0_pay22 (F := Ideal) fk w s f u z l (ix2 a c) * (g (ix2 a c) - dl (ix3 (0 : Fin 1) a (0 : Fin 128))) := by
  simp only [k0_pay23, pointwise]
  refine congrArg (fun y => k0_pay22 (F := Ideal) fk w s f u z l (ix2 a c) * (g (ix2 a c) - dl y)) (funext fun e => Fin.ext ?_)
  match e with
  | ⟨0, _⟩ => rfl
  | ⟨1, _⟩ => exact Nat.zero_add _
  | ⟨2, _⟩ => rfl

theorem pay34_at (fk t : FVec Ideal S1x256 .f32) (g s : FVec Ideal S256x256 .f32) (f : FVec Ideal S256x128 .f32) (l dl : Vec Ideal S1x256x128 .f32) :
    k0_pay34 (F := Ideal) fk t g s f l dl (ix2 (0 : Fin 1) c)
      = t (ix2 (0 : Fin 1) c) + ∑ e : Fin 256, k0_pay30 (F := Ideal) fk g s f l dl (ix2 e c) := by
  simp only [k0_pay34, pointwise]

theorem pay27_at (fk : FVec Ideal S1x256 .f32) (w : IVec S256x256 1) (g s : FVec Ideal S256x256 .f32) (f : FVec Ideal S256x128 .f32)
    (u : IVec S256x128 1) (z : FVec Ideal S256x128 .f32) (l dl : Vec Ideal S1x256x128 .f32) :
    k0_pay27 (F := Ideal) fk w g s f u z l dl (ix2 (0 : Fin 1) c) = ∑ e : Fin 256, k0_pay23 (F := Ideal) fk w g s f u z l dl (ix2 e c) := by
  simp only [k0_pay27, pointwise]

theorem pay31_at (i : grid0.Coords) (h : Fin 16) (hh : (i 0).val = h.val) (fk : FVec Ideal S1x256 .f32) (g s : FVec Ideal S256x256 .f32)
    (f : FVec Ideal S256x128 .f32) (l dl : Vec Ideal S1x256x128 .f32) (A : Vec Ideal S256x128 .f32) :
    k0_pay31 (F := Ideal) (headW i) fk laneW g s f l dl A (ix2 a d)
      = A (ix2 a d) + (if d.val = h.val then ∑ e : Fin 256, k0_pay30 (F := Ideal) fk g s f l dl (ix2 a e) else 0) := by
  have e := lane_at a d i h hh
  simp only [k0_pay31, pointwise]
  rw [e]
  split <;> rfl

theorem pay24_at (i : grid0.Coords) (h : Fin 16) (hh : (i 0).val = h.val) (fk : FVec Ideal S1x256 .f32) (w : IVec S256x256 1)
    (g s : FVec Ideal S256x256 .f32) (f : FVec Ideal S256x128 .f32)
    (u : IVec S256x128 1) (z : FVec Ideal S256x128 .f32) (l dl : Vec Ideal S1x256x128 .f32) (A : Vec Ideal S256x128 .f32) :
    k0_pay24 (F := Ideal) (headW i) fk laneW w g s f u z l dl A (ix2 a d)
      = A (ix2 a d) + (if d.val = h.val then ∑ e : Fin 256, k0_pay23 (F := Ideal) fk w g s f u z l dl (ix2 a e) else 0) := by
  have e := lane_at a d i h hh
  simp only [k0_pay24, pointwise]
  rw [e]
  split <;> rfl

end Cert.KernelIdeal.Attn

end
-- ==== Proof.AttnPoint.lean ====
module

public import proofs.«01_k».proof.Proof.AttnPay

@[expose] public section

set_option maxRecDepth 16384

noncomputable section

/-! # What one grid point computes, as real numbers

The values carried from trip to trip are sums over the blocks of query rows gone through; after the last block they are
sums over all rows, since the rows before the diagonal block add nothing. -/

namespace Cert.KernelIdeal.Attn

open Idealize.ShloMosaic Idealize.ShloMosaic.TcCoe Cert.Attn Cert.KernelIdeal.Gen

variable {R : Vals} {h : Fin 16} {j : ℕ} {b : Blocks Ideal} {i : grid0.Coords}

theorem zero_coe : (0 : EReal) = ((0 : ℝ) : EReal) := EReal.coe_zero.symm

theorem select_first (x y : EReal) : Scalar.select 1#1 x y = x := rfl

theorem exp_real (x : ℝ) : Ideal.exp (x : EReal) = (Real.exp x : EReal) := rfl

/-- The products of the output gradients by the values. -/
theorem dp_at (H : Holds R h j b) (r : ℕ) (a c : Fin 256) :
    k0_pay1 (F := Ideal) b.v (rowsOf r b.dOut) (ix2 a c) = (R.dp h (rowIx r a) (rowIx j c) : EReal) := by
  rw [pay1_at, zero_add]
  refine (Finset.sum_congr rfl fun e _ => congrArg₂ (fun x y : EReal => x * y) (H.dOut (rowIx r a) e) (H.v c e)).trans ?_
  simp only [← EReal.coe_mul, coe_sum]
  rfl

theorem dp0_at (H : Holds R h j b) (r : ℕ) (a c : Fin 256) :
    k0_pay17 (F := Ideal) b.v (rowsOf r b.dOut) (ix2 a c) = (R.dp h (rowIx r a) (rowIx j c) : EReal) :=
  ((pay17_at a c _ _).trans (pay1_at a c _ _).symm).trans (dp_at H r a c)

/-- The products of the queries by the keys, scaled. -/
theorem qk_at (H : Holds R h j b) (r : ℕ) (a c : Fin 256) :
    k0_pay5 (F := Ideal) b.k (rowsOf r b.q) (ix2 a c)
      = (((∑ d, R.q h (rowIx r a) d * R.k h (rowIx j c) d) * R.sc : ℝ) : EReal) := by
  rw [pay5_at, zero_add, scale_eq, ← H.sc]
  refine (congrArg (fun x : EReal => x * (R.sc : EReal)) (Finset.sum_congr rfl fun e _ =>
    congrArg₂ (fun x y : EReal => x * y) (H.q (rowIx r a) e) (H.k c e))).trans ?_
  simp only [← EReal.coe_mul, coe_sum]

theorem qk0_at (H : Holds R h j b) (r : ℕ) (a c : Fin 256) :
    k0_pay18 (F := Ideal) b.k (rowsOf r b.q) (ix2 a c)
      = (((∑ d, R.q h (rowIx r a) d * R.k h (rowIx j c) d) * R.sc : ℝ) : EReal) :=
  ((pay18_at a c _ _).trans (pay5_at a c _ _).symm).trans (qk_at H r a c)

/-- A sum over the lanes of what is zero but in the head's lane. -/
theorem lane_sum (h : Fin 16) (g : Fin 128 → EReal) :
    ∑ e : Fin 128, (if e.val = h.val then g e else 0) = g ⟨h.val, by omega⟩ := by
  rw [Finset.sum_eq_single (⟨h.val, by omega⟩ : Fin 128)]
  · exact if_pos rfl
  · exact fun e _ he => if_neg fun hv => he (Fin.ext hv)
  · exact fun hn => absurd (Finset.mem_univ _) hn

theorem f_at (H : Holds R h j b) (hh : (i 0).val = h.val) (r : ℕ) (a : Fin 256) :
    ∑ e : Fin 128, k0_pay6 (F := Ideal) (headW i) (rowsOf r b.f) (ix2 a e) = (R.f h (rowIx r a) : EReal) := by
  simp only [pay6_at _ _ i h hh]
  rw [lane_sum h fun e => rowsOf r b.f (ix2 a e)]
  exact H.f (rowIx r a)

theorem f0_at (H : Holds R h j b) (hh : (i 0).val = h.val) (r : ℕ) (a : Fin 256) :
    ∑ e : Fin 128, Scalar.select (k0_pay20 i (ix2 a e)) (k0_pay19 (F := Ideal) (rowsOf r b.f) (ix2 a e)) (k0_pay21 (F := Ideal) (ix2 a e))
      = (R.f h (rowIx r a) : EReal) := by
  refine Eq.trans (Finset.sum_congr rfl fun e _ => ?_) (f_at H hh r a)
  rw [pay20_at a e i h hh, pay6_at a e i h hh, pay19_at, pay21_at]
  split <;> rfl

theorem fk_at (H : Holds R h j b) (c : Fin 256) : k0_pay15 (F := Ideal) b.fk (ix2 (0 : Fin 1) c) = (R.f h (rowIx j c) : EReal) :=
  (pay15_at c _).trans (H.fk c)

/-- The probabilities of a block of rows past the diagonal block. -/
theorem p_at (H : Holds R h j b) (hh : (i 0).val = h.val) (r : ℕ) (hr : r < 16) (hj : j < r) (a c : Fin 256) :
    k0_pay29 (F := Ideal) (k0_pay15 b.fk) (k0_pay5 b.k (rowsOf r b.q)) (k0_pay6 (headW i) (rowsOf r b.f)) (rowsOf1 r b.lse) (ix2 a c)
      = (R.p h (rowIx r a) (rowIx j c) : EReal) := by
  have hle : rowIx j c ≤ rowIx r a := by
    show (rowIx j c).val ≤ (rowIx r a).val
    rw [rowIx_val r hr, rowIx_val j (by omega)]; omega
  rw [pay29_at, qk_at H, f_at H hh, fk_at H]
  refine (congrArg (fun y : EReal => Ideal.exp (_ - y)) (H.lse (rowIx r a))).trans ?_
  rw [← EReal.coe_add, ← EReal.coe_sub, ← EReal.coe_sub, exp_real]
  exact congrArg Real.toEReal (R.exp_lse h _ _ hle)

/-- The gradients of its logits. -/
theorem ds_at (H : Holds R h j b) (hh : (i 0).val = h.val) (r : ℕ) (hr : r < 16) (hj : j < r) (a c : Fin 256) :
    k0_pay30 (F := Ideal) (k0_pay15 b.fk) (k0_pay1 b.v (rowsOf r b.dOut)) (k0_pay5 b.k (rowsOf r b.q)) (k0_pay6 (headW i) (rowsOf r b.f))
        (rowsOf1 r b.lse) (rowsOf1 r b.dl) (ix2 a c)
      = (R.ds h (rowIx r a) (rowIx j c) : EReal) := by
  rw [pay30_at, p_at H hh r hr hj, dp_at H]
  refine (congrArg (fun y : EReal => _ * (_ - y)) (H.dl (rowIx r a))).trans ?_
  rw [← EReal.coe_sub, ← EReal.coe_mul]
  rfl

/-- The probabilities of the diagonal block: zero past the diagonal, where the mask is. -/
theorem p0_at (H : Holds R h j b) (hh : (i 0).val = h.val) (hj : j < 16) (a c : Fin 256) :
    k0_pay22 (F := Ideal) (k0_pay15 b.fk) k0_pay16 (k0_pay18 b.k (rowsOf j b.q)) (k0_pay19 (rowsOf j b.f)) (k0_pay20 i) k0_pay21
        (rowsOf1 j b.lse) (ix2 a c)
      = (R.p h (rowIx j a) (rowIx j c) : EReal) := by
  have hle : rowIx j c ≤ rowIx j a ↔ c ≤ a := by
    show (rowIx j c).val ≤ (rowIx j a).val ↔ c.val ≤ a.val
    rw [rowIx_val j hj, rowIx_val j hj]; omega
  rw [pay22_at, qk0_at H, f0_at H hh, fk_at H, pay16_at]
  refine (congrArg (fun y : EReal => Ideal.exp (_ - y)) (H.lse (rowIx j a))).trans ?_
  by_cases hac : c ≤ a
  · rw [if_pos hac]
    rw [select_first, ← EReal.coe_add, ← EReal.coe_sub, ← EReal.coe_sub, exp_real]
    exact congrArg Real.toEReal (R.exp_lse h _ _ (hle.mpr hac))
  · rw [if_neg hac, R.p_past h _ _ (fun hn => hac (hle.mp hn))]
    refine (congrArg (fun y : EReal => Ideal.exp (y - _)) (show Scalar.select 0#1 _ (⊥ : EReal) = ⊥ from rfl)).trans ?_
    rw [EReal.bot_sub, Ideal.exp_bot, EReal.coe_zero]

theorem ds0_at (H : Holds R h j b) (hh : (i 0).val = h.val) (hj : j < 16) (a c : Fin 256) :
    k0_pay23 (F := Ideal) (k0_pay15 b.fk) k0_pay16 (k0_pay17 b.v (rowsOf j b.dOut)) (k0_pay18 b.k (rowsOf j b.q)) (k0_pay19 (rowsOf j b.f))
        (k0_pay20 i) k0_pay21 (rowsOf1 j b.lse) (rowsOf1 j b.dl) (ix2 a c)
      = (R.ds h (rowIx j a) (rowIx j c) : EReal) := by
  rw [pay23_at, p0_at H hh hj, dp0_at H]
  refine (congrArg (fun y : EReal => _ * (_ - y)) (H.dl (rowIx j a))).trans ?_
  rw [← EReal.coe_sub, ← EReal.coe_mul]
  rfl

/-! ## Sums by blocks of rows -/

theorem rowIx_div (x : Fin 4096) : rowIx (x.val / 256) ⟨x.val % 256, Nat.mod_lt _ (by decide)⟩ = x := by
  apply Fin.ext
  rw [rowIx_val _ (by omega)]
  show 256 * (x.val / 256) + x.val % 256 = x.val
  omega

/-- A sum over all rows is the sum over the blocks of the sums over each block. -/
theorem sum_rows (f : Fin 4096 → ℝ) : ∑ r ∈ Finset.range 16, ∑ a : Fin 256, f (rowIx r a) = ∑ x, f x := by
  rw [Finset.sum_range fun r => ∑ a : Fin 256, f (rowIx r a), ← Finset.sum_product']
  refine Finset.sum_bij' (fun p _ => rowIx p.1.val p.2) (fun x _ => (⟨x.val / 256, by omega⟩, ⟨x.val % 256, Nat.mod_lt _ (by decide)⟩))
    (fun _ _ => Finset.mem_univ _) (fun _ _ => Finset.mem_product.mpr ⟨Finset.mem_univ _, Finset.mem_univ _⟩) ?_ ?_ (fun _ _ => rfl)
  · rintro ⟨r, a⟩ _
    refine Prod.ext (Fin.ext ?_) (Fin.ext ?_)
    · show (rowIx r.val a).val / 256 = r.val
      rw [rowIx_val _ r.isLt]; omega
    · show (rowIx r.val a).val % 256 = a.val
      rw [rowIx_val _ r.isLt]; omega
  · exact fun x _ => rowIx_div x

/-- The blocks from the diagonal block on give the whole sum where the rows before it give nothing. -/
theorem sum_from (f : Fin 4096 → ℝ) (hj : j < 16) (hz : ∀ x : Fin 4096, x.val < 256 * j → f x = 0) :
    ∑ n ∈ Finset.range (15 - j + 1), ∑ a : Fin 256, f (rowIx (j + n) a) = ∑ x, f x := by
  rw [← sum_rows f, show 15 - j + 1 = 16 - j by omega, ← Finset.sum_Ico_eq_sum_range (fun r => ∑ a : Fin 256, f (rowIx r a)) j 16]
  refine Finset.sum_subset (fun r hr => ?_) fun r hr hn => Finset.sum_eq_zero fun a _ => hz _ ?_
  · exact Finset.mem_range.mpr (Finset.mem_Ico.mp hr).2
  · rw [rowIx_val r (Finset.mem_range.mp hr)]
    have : r < j := by
      by_contra hc
      exact hn (Finset.mem_Ico.mpr ⟨by omega, Finset.mem_range.mp hr⟩)
    omega

/-! ## What is carried -/

/-- What trip `n` is handed, as real numbers. -/
structure CarryHolds (R : Vals) (h : Fin 16) (j n : ℕ) (a : Carry Ideal) : Prop where
  dk : ∀ c d, a.1 (ix2 c d)
    = ((∑ m ∈ Finset.range n, ∑ e : Fin 256, R.ds h (rowIx (j + m) e) (rowIx j c) * R.q h (rowIx (j + m) e) d : ℝ) : EReal)
  dv : ∀ c d, a.2.1 (ix2 c d)
    = ((∑ m ∈ Finset.range n, ∑ e : Fin 256, R.p h (rowIx (j + m) e) (rowIx j c) * R.g h (rowIx (j + m) e) d : ℝ) : EReal)
  col : ∀ c, a.2.2.1 (ix2 (0 : Fin 1) c)
    = ((∑ m ∈ Finset.range (n + 1), ∑ e : Fin 256, R.ds h (rowIx (j + m) e) (rowIx j c) : ℝ) : EReal)
  ds : ∀ e c, a.2.2.2.1 (ix2 e c) = (R.ds h (rowIx (j + n) e) (rowIx j c) : EReal)
  p : ∀ e c, a.2.2.2.2 (ix2 e c) = (R.p h (rowIx (j + n) e) (rowIx j c) : EReal)

theorem carry0_holds (H : Holds R h j b) (hh : (i 0).val = h.val) (hi : (i 1).val = j) (hj : j < 16) :
    CarryHolds R h j 0 (carry0 i b) := by
  unfold carry0
  rw [hi]
  refine ⟨fun c d => ?_, fun c d => ?_, fun c => ?_, fun e c => ?_, fun e c => ?_⟩
  · rw [Finset.sum_range_zero]; exact (pay28_at c d).trans zero_coe
  · rw [Finset.sum_range_zero]; exact (pay28_at c d).trans zero_coe
  · refine (pay27_at c _ _ _ _ _ _ _ _ _).trans ?_
    simp only [ds0_at H hh hj, coe_sum]
    rw [Finset.sum_range_one]
    rfl
  · exact ds0_at H hh hj e c
  · exact p0_at H hh hj e c

theorem carryStep_holds (H : Holds R h j b) (hh : (i 0).val = h.val) {n : ℕ} (hn : j + 1 + n < 16) {a : Carry Ideal}
    (A : CarryHolds R h j n a) : CarryHolds R h j (n + 1) (carryStep i b (j + 1 + n) (j + n) a) := by
  have e1 : j + (n + 1) = j + 1 + n := by omega
  unfold carryStep
  refine ⟨fun c d => ?_, fun c d => ?_, fun c => ?_, fun e c => ?_, fun e c => ?_⟩
  · refine (pay3_at c d _ _ _).trans ?_
    rw [A.dk, Finset.sum_range_succ, zero_add]
    refine (congrArg (fun y : EReal => _ + y) (Finset.sum_congr rfl fun e _ =>
      congrArg₂ (fun x y : EReal => x * y) (A.ds e c) (H.q (rowIx (j + n) e) d))).trans ?_
    simp only [← EReal.coe_mul, coe_sum, ← EReal.coe_add]
  · refine (pay4_at c d _ _ _).trans ?_
    rw [A.dv, Finset.sum_range_succ, zero_add]
    refine (congrArg (fun y : EReal => _ + y) (Finset.sum_congr rfl fun e _ =>
      congrArg₂ (fun x y : EReal => x * y) (A.p e c) (H.dOut (rowIx (j + n) e) d))).trans ?_
    simp only [← EReal.coe_mul, coe_sum, ← EReal.coe_add]
  · refine (pay34_at c _ _ _ _ _ _ _).trans ?_
    rw [A.col, Finset.sum_range_succ _ (n + 1), e1]
    simp only [ds_at H hh (j + 1 + n) hn (by omega), coe_sum, ← EReal.coe_add]
  · rw [e1]; exact ds_at H hh (j + 1 + n) hn (by omega) e c
  · rw [e1]; exact p_at H hh (j + 1 + n) hn (by omega) e c

theorem carryAt_holds (H : Holds R h j b) (hh : (i 0).val = h.val) (hi : (i 1).val = j) (hj : j < 16) :
    ∀ n, n ≤ 15 - j → CarryHolds R h j n (carryAt i b n)
  | 0, _ => carry0_holds H hh hi hj
  | n + 1, hn => by
    have := carryStep_holds (i := i) H hh (by omega) (carryAt_holds H hh hi hj n (by omega))
    unfold carryAt
    rw [hi]
    exact this

theorem trips_eq (hi : (i 1).val = j) : trips i = 15 - j := by unfold trips; rw [hi]

/-- The keys' gradient of the point's block. -/
theorem dkOut_val (H : Holds R h j b) (hh : (i 0).val = h.val) (hi : (i 1).val = j) (hj : j < 16) (c : Fin 256) (d : Fin 128) :
    dkOut i b (ix2 c d) = (R.gk h (rowIx j c) d : EReal) := by
  have A := carryAt_holds H hh hi hj (15 - j) le_rfl
  have e1 : j + (15 - j) = 15 := by omega
  unfold dkOut
  rw [trips_eq hi, pay42_at, A.dk, zero_add, scale_eq, ← H.sc]
  refine (congrArg (fun y : EReal => (_ + y) * _) (Finset.sum_congr rfl fun e _ =>
    congrArg₂ (fun x y : EReal => x * y) (A.ds e c) (H.q (rowIx 15 e) d))).trans ?_
  simp only [← EReal.coe_mul, coe_sum, ← EReal.coe_add]
  refine congrArg (fun y : ℝ => ((y * R.sc : ℝ) : EReal)) ?_
  refine Eq.trans ?_ (sum_from (j := j) (fun x => R.ds h x (rowIx j c) * R.q h x d) hj fun x hx => ?_)
  · rw [Finset.sum_range_succ, e1]
  · rw [R.ds_past, zero_mul]
    show ¬(rowIx j c).val ≤ x.val
    rw [rowIx_val j hj]; omega

/-- The values' gradient of the point's block. -/
theorem dvOut_val (H : Holds R h j b) (hh : (i 0).val = h.val) (hi : (i 1).val = j) (hj : j < 16) (c : Fin 256) (d : Fin 128) :
    dvOut i b (ix2 c d) = (R.gv h (rowIx j c) d : EReal) := by
  have A := carryAt_holds H hh hi hj (15 - j) le_rfl
  have e1 : j + (15 - j) = 15 := by omega
  unfold dvOut
  rw [trips_eq hi, pay43_at, A.dv, zero_add]
  refine (congrArg (fun y : EReal => (_ + y)) (Finset.sum_congr rfl fun e _ =>
    congrArg₂ (fun x y : EReal => x * y) (A.p e c) (H.dOut (rowIx 15 e) d))).trans ?_
  simp only [← EReal.coe_mul, coe_sum, ← EReal.coe_add]
  refine congrArg Real.toEReal ?_
  refine Eq.trans ?_ (sum_from (j := j) (fun x => R.p h x (rowIx j c) * R.g h x d) hj fun x hx => ?_)
  · rw [Finset.sum_range_succ, e1]
  · rw [R.p_past, zero_mul]
    show ¬(rowIx j c).val ≤ x.val
    rw [rowIx_val j hj]; omega

/-- The keys' forget terms of the point's block. -/
theorem dfkOut_val (H : Holds R h j b) (hh : (i 0).val = h.val) (hi : (i 1).val = j) (hj : j < 16) (c : Fin 256) :
    dfkOut i b (ix3 (0 : Fin 1) (0 : Fin 1) c) = (R.fk h (rowIx j c) : EReal) := by
  have A := carryAt_holds H hh hi hj (15 - j) le_rfl
  unfold dfkOut
  rw [trips_eq hi, pay44_at, A.col]
  refine congrArg Real.toEReal (sum_from (j := j) (fun x => R.ds h x (rowIx j c)) hj fun x hx => R.ds_past h _ _ ?_)
  show ¬(rowIx j c).val ≤ x.val
  rw [rowIx_val j hj]; omega

/-! ## The sums kept from point to point -/

theorem putRows_at {α : Type} (r : ℕ) (w : S256x128.Idx → α) (A : S4096x128.Idx → α) (x : Fin 4096) (l : Fin 128) :
    putRows r w A (ix2 x l) = if x.val / 256 = r then w (ix2 (⟨x.val % 256, Nat.mod_lt _ (by decide)⟩ : Fin 256) l) else A (ix2 x l) := rfl

theorem rowsOf_at {α : Type} (A : S4096x128.Idx → α) (x : Fin 4096) (l : Fin 128) :
    rowsOf (x.val / 256) A (ix2 (⟨x.val % 256, Nat.mod_lt _ (by decide)⟩ : Fin 256) l) = A (ix2 x l) :=
  congrArg (fun y => A (ix2 y l)) (rowIx_div x)

/-- What a point adds to a row's forget sums: in the head's lane, its block's logit gradients. -/
def fsumPart (R : Vals) (h : Fin 16) (j : ℕ) (x : Fin 4096) (l : Fin 128) : EReal :=
  if l.val = h.val then ((∑ c : Fin 256, R.ds h x (rowIx j c) : ℝ) : EReal) else 0

theorem fsumPart_past (hj : j < 16) (x : Fin 4096) (l : Fin 128) (hx : x.val / 256 < j) : fsumPart R h j x l = 0 := by
  unfold fsumPart
  split
  · rw [Finset.sum_eq_zero fun c _ => R.ds_past h _ _ ?_, EReal.coe_zero]
    show ¬(rowIx j c).val ≤ x.val
    rw [rowIx_val j hj]; omega
  · rfl

theorem fsum0_at (H : Holds R h j b) (hh : (i 0).val = h.val) (hi : (i 1).val = j) (hj : j < 16) (A : Vec Ideal S4096x128 .f32)
    (x : Fin 4096) (l : Fin 128) :
    fsum0 i b A (ix2 x l) = if x.val / 256 = j then A (ix2 x l) + fsumPart R h j x l else A (ix2 x l) := by
  unfold fsum0
  rw [hi, putRows_at]
  by_cases hx : x.val / 256 = j
  · rw [if_pos hx, if_pos hx, pay24_at _ _ i h hh]
    subst hx
    simp only [ds0_at H hh hj, coe_sum, rowIx_div]
    rw [rowsOf_at]
    rfl
  · rw [if_neg hx, if_neg hx]

theorem fsumStep_at (H : Holds R h j b) (hh : (i 0).val = h.val) (r : ℕ) (hr : r < 16) (hj : j < r) (A : Vec Ideal S4096x128 .f32)
    (x : Fin 4096) (l : Fin 128) :
    fsumStep i b r A (ix2 x l) = if x.val / 256 = r then A (ix2 x l) + fsumPart R h j x l else A (ix2 x l) := by
  unfold fsumStep
  rw [putRows_at]
  by_cases hx : x.val / 256 = r
  · rw [if_pos hx, if_pos hx, pay31_at _ _ i h hh]
    subst hx
    simp only [ds_at H hh _ hr hj, coe_sum, rowIx_div]
    rw [rowsOf_at]
    rfl
  · rw [if_neg hx, if_neg hx]

theorem fsumAt_at (H : Holds R h j b) (hh : (i 0).val = h.val) (hi : (i 1).val = j) (hj : j < 16) (A : Vec Ideal S4096x128 .f32)
    (x : Fin 4096) (l : Fin 128) : ∀ n, n ≤ 15 - j →
    fsumAt i b A n (ix2 x l) = if j ≤ x.val / 256 ∧ x.val / 256 ≤ j + n then A (ix2 x l) + fsumPart R h j x l else A (ix2 x l)
  | 0, _ => by
    refine (fsum0_at H hh hi hj A x l).trans ?_
    by_cases hx : x.val / 256 = j
    · rw [if_pos hx, if_pos (by omega)]
    · rw [if_neg hx, if_neg (by omega)]
  | n + 1, hn => by
    have ih := fsumAt_at H hh hi hj A x l n (by omega)
    unfold fsumAt
    rw [hi, fsumStep_at H hh (j + 1 + n) (by omega) (by omega), ih]
    by_cases hx : x.val / 256 = j + 1 + n
    · rw [if_pos hx, if_neg (by omega), if_pos (by omega)]
    · rw [if_neg hx]
      by_cases hy : j ≤ x.val / 256 ∧ x.val / 256 ≤ j + n
      · rw [if_pos hy, if_pos (by omega)]
      · rw [if_neg hy, if_neg (by omega)]

/-- The queries' forget sums after a point. -/
theorem fsumOut_at (H : Holds R h j b) (hh : (i 0).val = h.val) (hi : (i 1).val = j) (hj : j < 16) (A : Vec Ideal S4096x128 .f32)
    (x : Fin 4096) (l : Fin 128) : fsumOut i b A (ix2 x l) = A (ix2 x l) + fsumPart R h j x l := by
  unfold fsumOut
  rw [trips_eq hi, fsumAt_at H hh hi hj A x l _ le_rfl]
  by_cases hx : j ≤ x.val / 256
  · rw [if_pos (by omega)]
  · rw [if_neg (by omega), fsumPart_past hj x l (by omega), add_zero]

/-- What a point adds to the query gradient. -/
def qsumPart (R : Vals) (h : Fin 16) (j : ℕ) (x : Fin 4096) (l : Fin 128) : EReal :=
  ((∑ c : Fin 256, R.ds h x (rowIx j c) * R.k h (rowIx j c) l : ℝ) : EReal)

theorem qsumPart_past (hj : j < 16) (x : Fin 4096) (l : Fin 128) (hx : x.val / 256 < j) : qsumPart R h j x l = 0 := by
  unfold qsumPart
  rw [Finset.sum_eq_zero fun c _ => ?_, EReal.coe_zero]
  rw [R.ds_past, zero_mul]
  show ¬(rowIx j c).val ≤ x.val
  rw [rowIx_val j hj]; omega

theorem qsum_row (H : Holds R h j b) {s : FVec Ideal S256x256 .bf16} {x : Fin 4096} (l : Fin 128)
    (hs : ∀ c, s (ix2 (⟨x.val % 256, Nat.mod_lt _ (by decide)⟩ : Fin 256) c) = (R.ds h x (rowIx j c) : EReal)) (A : EReal) :
    A + (0 + ∑ e : Fin 256, s (ix2 (⟨x.val % 256, Nat.mod_lt _ (by decide)⟩ : Fin 256) e) * b.k (ix2 e l)) = A + qsumPart R h j x l := by
  rw [zero_add]
  refine congrArg (fun y : EReal => A + y) ?_
  refine (Finset.sum_congr rfl fun e _ => congrArg₂ (fun x y : EReal => x * y) (hs e) (H.k e l)).trans ?_
  simp only [← EReal.coe_mul, coe_sum]
  rfl

theorem qsumStep_at (H : Holds R h j b) {n : ℕ} {a : Carry Ideal} (C : CarryHolds R h j n a) (A : Vec Ideal S4096x128 .f32)
    (x : Fin 4096) (l : Fin 128) :
    qsumStep b (j + n) a A (ix2 x l) = if x.val / 256 = j + n then A (ix2 x l) + qsumPart R h j x l else A (ix2 x l) := by
  unfold qsumStep
  rw [putRows_at]
  by_cases hx : x.val / 256 = j + n
  · rw [if_pos hx, if_pos hx, pay2_at, ← hx, rowsOf_at]
    refine qsum_row H l (fun c => ?_) _
    rw [C.ds, ← hx, rowIx_div]
  · rw [if_neg hx, if_neg hx]

theorem qsumAt_at (H : Holds R h j b) (hh : (i 0).val = h.val) (hi : (i 1).val = j) (hj : j < 16) (A : Vec Ideal S4096x128 .f32)
    (x : Fin 4096) (l : Fin 128) : ∀ n, n ≤ 15 - j →
    qsumAt i b A n (ix2 x l) = if j ≤ x.val / 256 ∧ x.val / 256 < j + n then A (ix2 x l) + qsumPart R h j x l else A (ix2 x l)
  | 0, _ => by rw [if_neg (by omega)]; rfl
  | n + 1, hn => by
    have ih := qsumAt_at H hh hi hj A x l n (by omega)
    unfold qsumAt
    rw [hi, qsumStep_at H (carryAt_holds H hh hi hj n (by omega)), ih]
    by_cases hx : x.val / 256 = j + n
    · rw [if_pos hx, if_neg (by omega), if_pos (by omega)]
    · rw [if_neg hx]
      by_cases hy : j ≤ x.val / 256 ∧ x.val / 256 < j + n
      · rw [if_pos hy, if_pos (by omega)]
      · rw [if_neg hy, if_neg (by omega)]

/-- The query gradient's sums after a point. -/
theorem qsumOut_at (H : Holds R h j b) (hh : (i 0).val = h.val) (hi : (i 1).val = j) (hj : j < 16) (A : Vec Ideal S4096x128 .f32)
    (x : Fin 4096) (l : Fin 128) : qsumOut i b A (ix2 x l) = A (ix2 x l) + qsumPart R h j x l := by
  have C := carryAt_holds H hh hi hj (15 - j) le_rfl
  have e1 : j + (15 - j) = 15 := by omega
  have hq := qsumAt_at H hh hi hj A x l (15 - j) le_rfl
  unfold qsumOut
  rw [trips_eq hi, putRows_at]
  by_cases hx : x.val / 256 = 15
  · have hr : rowsOf 15 (qsumAt i b A (15 - j)) (ix2 (⟨x.val % 256, Nat.mod_lt _ (by decide)⟩ : Fin 256) l) = qsumAt i b A (15 - j) (ix2 x l) :=
      (congrArg (fun r => rowsOf r (qsumAt i b A (15 - j)) (ix2 (⟨x.val % 256, Nat.mod_lt _ (by decide)⟩ : Fin 256) l)) hx.symm).trans
        (rowsOf_at _ x l)
    rw [if_pos hx, pay41_at, hr, hq, if_neg (by omega)]
    refine qsum_row H l (fun c => ?_) _
    rw [C.ds, e1, ← hx, rowIx_div]
  · rw [if_neg hx, hq]
    by_cases hy : j ≤ x.val / 256
    · rw [if_pos (by omega)]
    · rw [if_neg (by omega), qsumPart_past hj x l (by omega), add_zero]

end Cert.KernelIdeal.Attn

end
-- ==== Proof.AttnHost.lean ====
module

public import proofs.«01_k».proof.Proof.AttnRef
public import proofs.«01_k».proof.Proof.Gen.KernelIdeal.Frame
public import Idealize.ShloMosaic.Lib.StableHlo.Run

@[expose] public section

set_option maxRecDepth 16384

noncomputable section

/-! # What the kernel's host code prepares

Before the launch the host computes each query row's log-sum and delta, and lays out the forget sums by row and by key. -/

namespace Cert.KernelIdeal.Attn

open Idealize.ShloMosaic Idealize.ShloMosaic.TcCoe Cert.Attn Cert.KernelIdeal.Gen

variable (m : (ℓ : Loc nD τ sig) → Buf (Elt Ideal) ℓ) (c : Dev nD)

/-- The three arguments. -/
abbrev a0 : Cert.ReferenceIdeal.Attn.X0 := m ((c : Thread nD τ).loc main_arg0)
abbrev a1 : Cert.ReferenceIdeal.Attn.X1 := m ((c : Thread nD τ).loc main_arg1)
abbrev a2 : Cert.ReferenceIdeal.Attn.X2 := m ((c : Thread nD τ).loc main_arg2)

/-- The rows' maxima, with a unit axis and spread over the keys; the exponentials the log-sums are taken of, their sums
along a row, and the log-sums. -/
def topUnit (x0 : Cert.ReferenceIdeal.Attn.X0) (x2 : Cert.ReferenceIdeal.Attn.X2) : FVec Ideal S16x4096x1 .f32 :=
  broadcastInDim S16x4096x1 ![0, 1] bcast_S16x4096_S16x4096x1_0_1 (Cert.ReferenceIdeal.Read.val_main_v27 (F := Ideal) x0 x2)
def topKeys (x0 : Cert.ReferenceIdeal.Attn.X0) (x2 : Cert.ReferenceIdeal.Attn.X2) : FVec Ideal S16x4096x4096 .f32 :=
  broadcastInDim S16x4096x4096 ![0, 1, 2] bcast_S16x4096x1_S16x4096x4096_0_1_2 (topUnit x0 x2)
def expOf (x0 : Cert.ReferenceIdeal.Attn.X0) (x2 : Cert.ReferenceIdeal.Attn.X2) : FVec Ideal S16x4096x4096 .f32 :=
  Host.exp (F := Ideal) (subf (F := Ideal) (Cert.ReferenceIdeal.Read.val_main_v26_0 (F := Ideal) x0 x2) (topKeys x0 x2))
def sumOf (x0 : Cert.ReferenceIdeal.Attn.X0) (x2 : Cert.ReferenceIdeal.Attn.X2) : FVec Ideal S16x4096 .f32 :=
  Host.reduceAdd (F := Ideal) (expOf x0 x2) (constant S_ .f32 0x00000000#32) reducesTo_S16x4096x4096_S16x4096_d2 h_S_
def sumUnit (x0 : Cert.ReferenceIdeal.Attn.X0) (x2 : Cert.ReferenceIdeal.Attn.X2) : FVec Ideal S16x4096x1 .f32 :=
  broadcastInDim S16x4096x1 ![0, 1] bcast_S16x4096_S16x4096x1_0_1 (sumOf x0 x2)
def lseOf (x0 : Cert.ReferenceIdeal.Attn.X0) (x2 : Cert.ReferenceIdeal.Attn.X2) : FVec Ideal S16x4096x1 .f32 :=
  addf (F := Ideal) (topUnit x0 x2) (Host.log (F := Ideal) (sumUnit x0 x2))

/-- The rows' deltas, from the output. -/
def deltaOf (x0 : Cert.ReferenceIdeal.Attn.X0) (x1 : Cert.ReferenceIdeal.Attn.X1) (x2 : Cert.ReferenceIdeal.Attn.X2) :
    FVec Ideal S16x4096 .f32 :=
  Host.reduceAdd (F := Ideal) (transpose S16x4096x128 [1, 0, 2] (shapeCast S4096x16x128 (mulf (Cert.ReferenceIdeal.Read.val_main_v60 (F := Ideal) x1)
      (extf .f32 (truncf .bf16 (Cert.ReferenceIdeal.Read.val_main_v59 (F := Ideal) x0 x2) bitsLt_bf16_f32) bitsLt_bf16_f32))
      shapeCasts_S4096x2048_S4096x16x128) transposes_S4096x16x128_S16x4096x128_1_0_2)
    (constant S_ .f32 0x00000000#32) reducesTo_S16x4096x128_S16x4096_d2 h_S_

set_option maxHeartbeats 2000000 in
theorem V_lse : V m c main_v83 = broadcastInDim S16x4096x128 ![0, 1, 2] bcast_S16x4096x1_S16x4096x128_0_1_2 (lseOf (a0 m c) (a2 m c)) := by
  unfold V
  simp only [List.flatten_cons, List.flatten_nil, List.append_nil, hostOps0, hostOps0_1, hostOps0_2, hostOps0_3, hostOps0_4, hostOps0_5, hostOps0_6,
    List.cons_append, List.nil_append,
    StableHlo.TRef.binary, StableHlo.TRef.nullary, StableHlo.TRef.ternary, StableHlo.TRef.unary, StableHlo.TRef.toBuf, StableHlo.TRef.ofBuf, cast_eq]
  after_results_simp
  rfl

set_option maxHeartbeats 2000000 in
theorem V_delta : V m c main_v84 = broadcastInDim S16x4096x128 ![0, 1, 2] bcast_S16x4096x1_S16x4096x128_0_1_2
    (broadcastInDim S16x4096x1 ![0, 1] bcast_S16x4096_S16x4096x1_0_1 (deltaOf (a0 m c) (a1 m c) (a2 m c))) := by
  unfold V
  simp only [List.flatten_cons, List.flatten_nil, List.append_nil, hostOps0, hostOps0_1, hostOps0_2, hostOps0_3, hostOps0_4, hostOps0_5, hostOps0_6,
    List.cons_append, List.nil_append,
    StableHlo.TRef.binary, StableHlo.TRef.nullary, StableHlo.TRef.ternary, StableHlo.TRef.unary, StableHlo.TRef.toBuf, StableHlo.TRef.ofBuf, cast_eq]
  after_results_simp
  rfl

set_option maxHeartbeats 2000000 in
theorem V_fcum : V m c main_v85 = pad S4096x128 ![0, 0] ![0, 112] ![0, 0] (a2 m c) (sitofp (F := Ideal) .f32 (constantI S_ 32 0#32))
    pads_S4096x16_S4096x128_000_01120 h_S_ := by
  unfold V
  simp only [List.flatten_cons, List.flatten_nil, List.append_nil, hostOps0, hostOps0_1, hostOps0_2, hostOps0_3, hostOps0_4, hostOps0_5, hostOps0_6,
    List.cons_append, List.nil_append,
    StableHlo.TRef.binary, StableHlo.TRef.nullary, StableHlo.TRef.ternary, StableHlo.TRef.unary, StableHlo.TRef.toBuf, StableHlo.TRef.ofBuf, cast_eq]
  after_results_simp

set_option maxHeartbeats 2000000 in
theorem V_fkeys : V m c main_v87 = shapeCast S16x1x4096 (transpose S16x4096 [1, 0] (a2 m c) transposes_S4096x16_S16x4096_1_0)
    shapeCasts_S16x4096_S16x1x4096 := by
  unfold V
  simp only [List.flatten_cons, List.flatten_nil, List.append_nil, hostOps0, hostOps0_1, hostOps0_2, hostOps0_3, hostOps0_4, hostOps0_5, hostOps0_6,
    List.cons_append, List.nil_append,
    StableHlo.TRef.binary, StableHlo.TRef.nullary, StableHlo.TRef.ternary, StableHlo.TRef.unary, StableHlo.TRef.toBuf, StableHlo.TRef.ofBuf, cast_eq]
  after_results_simp
  rfl

/-! ## The same as real numbers -/

variable {x0 : Cert.ReferenceIdeal.Attn.X0} {x1 : Cert.ReferenceIdeal.Attn.X1} {x2 : Cert.ReferenceIdeal.Attn.X2}

open Cert.ReferenceIdeal.Attn (rv)

theorem unit_apply (y : FVec Ideal S16x4096 .f32) (i : S16x4096x1.Idx) :
    broadcastInDim S16x4096x1 ![0, 1] bcast_S16x4096_S16x4096x1_0_1 y i = y (ValueIdx.ix2 (i 0) (i 1)) :=
  broadcastInDim_apply _ bcast_S16x4096_S16x4096x1_0_1 y i (ValueIdx.ix2 (i 0) (i 1)) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)])

theorem keys_apply (y : FVec Ideal S16x4096x1 .f32) (i : S16x4096x4096.Idx) :
    broadcastInDim S16x4096x4096 ![0, 1, 2] bcast_S16x4096x1_S16x4096x4096_0_1_2 y i = y (ValueIdx.ix3 (i 0) (i 1) 0) :=
  broadcastInDim_apply _ bcast_S16x4096x1_S16x4096x4096_0_1_2 y i (ValueIdx.ix3 (i 0) (i 1) 0) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

theorem lanes_apply (y : FVec Ideal S16x4096x1 .f32) (i : S16x4096x128.Idx) :
    broadcastInDim S16x4096x128 ![0, 1, 2] bcast_S16x4096x1_S16x4096x128_0_1_2 y i = y (ValueIdx.ix3 (i 0) (i 1) 0) :=
  broadcastInDim_apply _ bcast_S16x4096x1_S16x4096x128_0_1_2 y i (ValueIdx.ix3 (i 0) (i 1) 0) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

end Cert.KernelIdeal.Attn

end
-- ==== Proof.AttnHostVal.lean ====
module

public import proofs.«01_k».proof.Proof.AttnHost

@[expose] public section

set_option maxRecDepth 16384

noncomputable section

/-! # What the kernel's host code prepares, as real numbers -/

namespace Cert.KernelIdeal.Attn

open Idealize.ShloMosaic Idealize.ShloMosaic.TcCoe Cert.Attn Cert.KernelIdeal.Gen
open Cert.ReferenceIdeal.Attn (rv)

variable {x0 : Cert.ReferenceIdeal.Attn.X0} {x1 : Cert.ReferenceIdeal.Attn.X1} {x2 : Cert.ReferenceIdeal.Attn.X2}

theorem topUnit_val (hf : Finite x0 x1 x2) (j : S16x4096x1.Idx) : topUnit x0 x2 j = ((rv x0 x1 x2).top (j 0) (j 1) : EReal) := by
  unfold topUnit
  rw [unit_apply]
  exact Cert.ReferenceIdeal.Attn.v27 hf _

theorem topKeys_val (hf : Finite x0 x1 x2) (j : S16x4096x4096.Idx) : topKeys x0 x2 j = ((rv x0 x1 x2).top (j 0) (j 1) : EReal) := by
  unfold topKeys
  rw [keys_apply]
  exact topUnit_val hf _

theorem expOf_val (hf : Finite x0 x1 x2) (j : S16x4096x4096.Idx) : expOf x0 x2 j = ((rv x0 x1 x2).e (j 0) (j 1) (j 2) : EReal) := by
  have e47 := Cert.ReferenceIdeal.Attn.v47 hf j
  rw [Cert.ReferenceIdeal.Read.val_main_v47_apply, Cert.ReferenceIdeal.Read.val_main_v46_apply, Cert.ReferenceIdeal.Attn.v45 hf,
    ← topKeys_val hf j] at e47
  exact e47

theorem sumOf_val (hf : Finite x0 x1 x2) (j : S16x4096.Idx) : sumOf x0 x2 j = ((rv x0 x1 x2).total (j 0) (j 1) : EReal) := by
  unfold sumOf
  simp only [Host.reduceAdd, Ideal.hostReduceAdd_def]
  rw [Ideal.hostReduceAdd_single reducesTo_S16x4096x4096_S16x4096_d2 (by decide)]
  simp only [expOf_val hf, coe_sum]
  refine (congrArg (· + _) (show constant (F := Ideal) S_ .f32 0x00000000#32 (Shape.Idx.first h_S_) = (0 : EReal) from Ideal.ofBits_zero_f32)).trans ?_
  rw [zero_add]
  rfl

theorem sumUnit_val (hf : Finite x0 x1 x2) (j : S16x4096x1.Idx) : sumUnit x0 x2 j = ((rv x0 x1 x2).total (j 0) (j 1) : EReal) := by
  unfold sumUnit
  rw [unit_apply]
  exact sumOf_val hf _

theorem add_log_apply {S : Shape} (a b : FVec Ideal S .f32) (i : S.Idx) :
    addf (F := Ideal) a (Host.log (F := Ideal) b) i = (a i : EReal) + Ideal.log (b i) := rfl

theorem lse_coe (R : Vals) (h : Fin 16) (x : Fin 4096) : (R.top h x : EReal) + Ideal.log (R.total h x : EReal) = (R.lse h x : EReal) := by
  rw [Ideal.log_coe, if_neg (not_le.mpr (R.total_pos h x)), ← EReal.coe_add, Vals.lse]

/-- The log-sum of a row. -/
theorem lse_val (hf : Finite x0 x1 x2) (i : S16x4096x1.Idx) : lseOf x0 x2 i = ((rv x0 x1 x2).lse (i 0) (i 1) : EReal) := by
  unfold lseOf
  rw [add_log_apply]
  exact (congrArg₂ (fun x y : EReal => x + Ideal.log y) (topUnit_val hf i) (sumUnit_val hf i)).trans (lse_coe _ _ _)

/-- The attention's output at a row and a column of the sixteen heads'. -/
theorem out_val (hf : Finite x0 x1 x2) (x : Fin 4096) (h : Fin 16) (d : Fin 128) :
    Cert.ReferenceIdeal.Read.val_main_v59 (F := Ideal) x0 x2 (ValueIdx.ix2 x (colG h d)) = ((rv x0 x1 x2).o h x d : EReal) := by
  rw [Cert.ReferenceIdeal.Read.val_main_v59_apply, Cert.ReferenceIdeal.Read.val_main_v58_apply, Cert.ReferenceIdeal.Read.val_main_v57_apply]
  simp only [Cert.ReferenceIdeal.Attn.v51 hf, Cert.ReferenceIdeal.Attn.v56 hf, ← EReal.coe_mul, coe_sum]
  have e0 : (x.val * 2048 + (h.val * 128 + d.val)) / 2048 = x.val := by omega
  have e1 : (x.val * 2048 + (h.val * 128 + d.val)) / 128 % 16 = h.val := by omega
  have e2 : (x.val * 2048 + (h.val * 128 + d.val)) % 128 = d.val := by omega
  refine congrArg Real.toEReal (Finset.sum_congr rfl fun y _ => congrArg₂ (fun s t : ℝ => s * t) ?_ ?_)
  · exact congrArg₂ (fun s t => (rv x0 x1 x2).p s t y) (Fin.ext e1) (Fin.ext e0)
  · exact congrArg₂ (fun s t => (rv x0 x1 x2).v s y t) (Fin.ext e1) (Fin.ext e2)

/-- The output gradient's products with the output, by head, row and lane. -/
def prodOf (x0 : Cert.ReferenceIdeal.Attn.X0) (x1 : Cert.ReferenceIdeal.Attn.X1) (x2 : Cert.ReferenceIdeal.Attn.X2) : FVec Ideal S4096x2048 .f32 :=
  mulf (Cert.ReferenceIdeal.Read.val_main_v60 (F := Ideal) x1)
    (extf .f32 (truncf .bf16 (Cert.ReferenceIdeal.Read.val_main_v59 (F := Ideal) x0 x2) bitsLt_bf16_f32) bitsLt_bf16_f32)

theorem prod_val (hf : Finite x0 x1 x2) (x : Fin 4096) (h : Fin 16) (d : Fin 128) :
    prodOf x0 x1 x2 (ValueIdx.ix2 x (colG h d)) = (((rv x0 x1 x2).g h x d * (rv x0 x1 x2).o h x d : ℝ) : EReal) := by
  rw [EReal.coe_mul, ← out_val hf]
  exact congrArg (fun y : EReal => y * _) (hf.h1 (ValueIdx.ix2 x (colG h d)))

theorem heads_apply (y : FVec Ideal S4096x2048 .f32) (h : Fin 16) (x : Fin 4096) (d : Fin 128) :
    transpose S16x4096x128 [1, 0, 2] (shapeCast S4096x16x128 y shapeCasts_S4096x2048_S4096x16x128) transposes_S4096x16x128_S16x4096x128_1_0_2
      (ValueIdx.ix3 h x d) = y (ValueIdx.ix2 x (colG h d)) := by
  rw [transpose_apply [1, 0, 2] _ transposes_S4096x16x128_S16x4096x128_1_0_2 (ValueIdx.ix3 h x d) (ValueIdx.ix3 x h d)
    (fun b => match b with | ⟨0, _⟩ => rfl | ⟨1, _⟩ => rfl | ⟨2, _⟩ => rfl)]
  refine shapeCast_apply y shapeCasts_S4096x2048_S4096x16x128 (ValueIdx.ix3 x h d) (ValueIdx.ix2 x (colG h d)) ?_
  rewrite [Shape.rowMajor_val_three, Shape.rowMajor_val_two]
  show x.val * 2048 + (h.val * 128 + d.val) = (x.val * 16 + h.val) * 128 + d.val
  omega

/-- The delta of a row: its output gradient by its output. -/
theorem delta_val (hf : Finite x0 x1 x2) (i : S16x4096.Idx) : deltaOf x0 x1 x2 i = ((rv x0 x1 x2).delta (i 0) (i 1) : EReal) := by
  unfold deltaOf
  simp only [Host.reduceAdd, Ideal.hostReduceAdd_def]
  rw [Ideal.hostReduceAdd_single reducesTo_S16x4096x128_S16x4096_d2 (by decide)]
  refine (congrArg₂ (fun y z : EReal => y + z)
    (show constant (F := Ideal) S_ .f32 0x00000000#32 (Shape.Idx.first h_S_) = (0 : EReal) from Ideal.ofBits_zero_f32)
    (Finset.sum_congr rfl fun d _ => (heads_apply (prodOf x0 x1 x2) (i 0) (i 1) d).trans (prod_val hf _ _ _))).trans ?_
  rw [zero_add]
  exact (coe_sum (Finset.univ : Finset (Fin 128)) _).trans (congrArg Real.toEReal ((rv x0 x1 x2).delta_eq (i 0) (i 1)))

end Cert.KernelIdeal.Attn

end
-- ==== Proof.AttnBlocks.lean ====
module

public import proofs.«01_k».proof.Proof.AttnFrame
public import proofs.«01_k».proof.Proof.AttnPoint
public import proofs.«01_k».proof.Proof.AttnHostVal

@[expose] public section

set_option maxRecDepth 16384

noncomputable section

/-! # The blocks a grid point reads

Where each window's block lies in its array, and that the blocks of point `16 h + j` hold the numbers of head `h` and key
block `j`. -/

namespace Cert.KernelIdeal.Attn

open Idealize.ShloMosaic Idealize.ShloMosaic.TcCoe Cert.Attn Cert.KernelIdeal.Gen
open Cert.ReferenceIdeal.Attn (rv)

/-! ## The index maps -/

theorem index0 : ∀ t : Fin grid0.N, win0_0.index t 0 = 0 ∧ win0_0.index t 1 = t.val / 16 := by decide +kernel
theorem index1 : ∀ t : Fin grid0.N, win0_1.index t 0 = t.val % 16 ∧ win0_1.index t 1 = 16 + t.val / 16 := by decide +kernel
theorem index2 : ∀ t : Fin grid0.N, win0_2.index t 0 = t.val % 16 ∧ win0_2.index t 1 = 32 + t.val / 16 := by decide +kernel
theorem index3 : ∀ t : Fin grid0.N, win0_3.index t 0 = 0 ∧ win0_3.index t 1 = t.val / 16 := by decide +kernel
theorem index4 : ∀ t : Fin grid0.N, win0_4.index t 0 = 0 ∧ win0_4.index t 1 = 0 := by decide +kernel
theorem index5 : ∀ t : Fin grid0.N, win0_5.index t 0 = t.val / 16 ∧ win0_5.index t 1 = 0 ∧ win0_5.index t 2 = t.val % 16 := by decide +kernel
theorem index6 : ∀ t : Fin grid0.N, win0_6.index t 0 = t.val / 16 ∧ win0_6.index t 1 = 0 ∧ win0_6.index t 2 = 0 := by decide +kernel
theorem index7 : ∀ t : Fin grid0.N, win0_7.index t 0 = t.val / 16 ∧ win0_7.index t 1 = 0 ∧ win0_7.index t 2 = 0 := by decide +kernel
theorem index8 : ∀ t : Fin grid0.N, win0_8.index t 0 = 0 ∧ win0_8.index t 1 = t.val / 16 := by decide +kernel
theorem index9 : ∀ t : Fin grid0.N, win0_9.index t 0 = t.val % 16 ∧ win0_9.index t 1 = t.val / 16 := by decide +kernel
theorem index10 : ∀ t : Fin grid0.N, win0_10.index t 0 = t.val % 16 ∧ win0_10.index t 1 = t.val / 16 := by decide +kernel
theorem index11 : ∀ t : Fin grid0.N, win0_11.index t 0 = 0 ∧ win0_11.index t 1 = 0 := by decide +kernel
theorem index12 : ∀ t : Fin grid0.N, win0_12.index t 0 = t.val / 16 ∧ win0_12.index t 1 = 0 ∧ win0_12.index t 2 = t.val % 16 := by decide +kernel

/-- The head and the key block of a point. -/
def headOf (t : Fin cfg0.N) : Fin 16 := ⟨t.val / 16, by have : t.val < 256 := lt_of_lt_of_eq t.isLt N_0; omega⟩
theorem coord0 (t : Fin cfg0.N) : (grid0.coords t 0).val = (headOf t).val := by
  have ht : t.val < 256 := lt_of_lt_of_eq t.isLt N_0
  have e0 : (grid0.coords t 0).val = t.val / 16 % 16 := Pipeline.Grid.coords_val t 0 (by decide) rfl
  rw [e0]; show _ = t.val / 16; omega
theorem coord1 (t : Fin cfg0.N) : (grid0.coords t 1).val = t.val % 16 := by
  have e1 : (grid0.coords t 1).val = t.val / 1 % 16 := Pipeline.Grid.coords_val t 1 (by decide) rfl
  rw [e1, Nat.div_one]

/-! ## The blocks -/

variable (m : (ℓ : Loc nD τ sig) → Buf (Elt Ideal) ℓ) (c : Dev nD) (t : Fin cfg0.N)

theorem row_in (a : Fin 256) : t.val % 16 * 256 + 1 * a.val = (rowIx (t.val % 16) a).val := by
  rw [rowIx_val _ (by omega)]; omega

/-! A block of any contents of a window's array, read at an entry. -/

theorem read0 (W : FVec Ideal S4096x6144 .bf16) (x : Fin 4096) (d : Fin 128) :
    ((cfg0.win 0).blk t).view.read (Elt Ideal) W (ix2 x d) = W (ValueIdx.ix2 x (colQ (headOf t) d)) := by
  have hi := index0 t
  rw [View.read_apply]
  refine congrArg W (funext fun a => Fin.ext ?_)
  match a with
  | ⟨0, _⟩ => show win0_0.index t 0 * 4096 + 1 * x.val = x.val; rw [hi.1]; omega
  | ⟨1, _⟩ => show win0_0.index t 1 * 128 + 1 * d.val = t.val / 16 * 128 + d.val; rw [hi.2]; omega

theorem read1 (W : FVec Ideal S4096x6144 .bf16) (y : Fin 256) (d : Fin 128) :
    ((cfg0.win 1).blk t).view.read (Elt Ideal) W (ix2 y d) = W (ValueIdx.ix2 (rowIx (t.val % 16) y) (colK (headOf t) d)) := by
  have hi := index1 t
  rw [View.read_apply]
  refine congrArg W (funext fun a => Fin.ext ?_)
  match a with
  | ⟨0, _⟩ => show win0_1.index t 0 * 256 + 1 * y.val = _; rw [hi.1]; exact row_in t y
  | ⟨1, _⟩ => show win0_1.index t 1 * 128 + 1 * d.val = 2048 + (t.val / 16 * 128 + d.val); rw [hi.2]; omega

theorem read2 (W : FVec Ideal S4096x6144 .bf16) (y : Fin 256) (d : Fin 128) :
    ((cfg0.win 2).blk t).view.read (Elt Ideal) W (ix2 y d) = W (ValueIdx.ix2 (rowIx (t.val % 16) y) (colV (headOf t) d)) := by
  have hi := index2 t
  rw [View.read_apply]
  refine congrArg W (funext fun a => Fin.ext ?_)
  match a with
  | ⟨0, _⟩ => show win0_2.index t 0 * 256 + 1 * y.val = _; rw [hi.1]; exact row_in t y
  | ⟨1, _⟩ => show win0_2.index t 1 * 128 + 1 * d.val = 4096 + (t.val / 16 * 128 + d.val); rw [hi.2]; omega

theorem read3 (W : FVec Ideal S4096x2048 .bf16) (x : Fin 4096) (d : Fin 128) :
    ((cfg0.win 3).blk t).view.read (Elt Ideal) W (ix2 x d) = W (ValueIdx.ix2 x (colG (headOf t) d)) := by
  have hi := index3 t
  rw [View.read_apply]
  refine congrArg W (funext fun a => Fin.ext ?_)
  match a with
  | ⟨0, _⟩ => show win0_3.index t 0 * 4096 + 1 * x.val = x.val; rw [hi.1]; omega
  | ⟨1, _⟩ => show win0_3.index t 1 * 128 + 1 * d.val = t.val / 16 * 128 + d.val; rw [hi.2]; omega

theorem read4 (W : FVec Ideal S4096x128 .f32) (x : Fin 4096) (l : Fin 128) :
    ((cfg0.win 4).blk t).view.read (Elt Ideal) W (ix2 x l) = W (ValueIdx.ix2 x l) := by
  have hi := index4 t
  rw [View.read_apply]
  refine congrArg W (funext fun a => Fin.ext ?_)
  match a with
  | ⟨0, _⟩ => show win0_4.index t 0 * 4096 + 1 * x.val = x.val; rw [hi.1]; omega
  | ⟨1, _⟩ => show win0_4.index t 1 * 128 + 1 * l.val = l.val; rw [hi.2]; omega

theorem read5 (W : FVec Ideal S16x1x4096 .f32) (y : Fin 256) :
    ((cfg0.win 5).blk t).view.read (Elt Ideal) W (ix3 (0 : Fin 1) (0 : Fin 1) y) = W (ValueIdx.ix3 (headOf t) 0 (rowIx (t.val % 16) y)) := by
  have hi := index5 t
  rw [View.read_apply]
  refine congrArg W (funext fun a => Fin.ext ?_)
  match a with
  | ⟨0, _⟩ => show win0_5.index t 0 * 1 + 1 * 0 = t.val / 16; rw [hi.1]; omega
  | ⟨1, _⟩ => show win0_5.index t 1 * 1 + 1 * 0 = 0; rw [hi.2.1]
  | ⟨2, _⟩ => show win0_5.index t 2 * 256 + 1 * y.val = _; rw [hi.2.2]; exact row_in t y

theorem read6 (W : FVec Ideal S16x4096x128 .f32) (x : Fin 4096) :
    ((cfg0.win 6).blk t).view.read (Elt Ideal) W (ix3 (0 : Fin 1) x (0 : Fin 128)) = W (ValueIdx.ix3 (headOf t) x 0) := by
  have hi := index6 t
  rw [View.read_apply]
  refine congrArg W (funext fun a => Fin.ext ?_)
  match a with
  | ⟨0, _⟩ => show win0_6.index t 0 * 1 + 1 * 0 = t.val / 16; rw [hi.1]; omega
  | ⟨1, _⟩ => show win0_6.index t 1 * 4096 + 1 * x.val = x.val; rw [hi.2.1]; omega
  | ⟨2, _⟩ => show win0_6.index t 2 * 128 + 1 * 0 = 0; rw [hi.2.2]

theorem read7 (W : FVec Ideal S16x4096x128 .f32) (x : Fin 4096) :
    ((cfg0.win 7).blk t).view.read (Elt Ideal) W (ix3 (0 : Fin 1) x (0 : Fin 128)) = W (ValueIdx.ix3 (headOf t) x 0) := by
  have hi := index7 t
  rw [View.read_apply]
  refine congrArg W (funext fun a => Fin.ext ?_)
  match a with
  | ⟨0, _⟩ => show win0_7.index t 0 * 1 + 1 * 0 = t.val / 16; rw [hi.1]; omega
  | ⟨1, _⟩ => show win0_7.index t 1 * 4096 + 1 * x.val = x.val; rw [hi.2.1]; omega
  | ⟨2, _⟩ => show win0_7.index t 2 * 128 + 1 * 0 = 0; rw [hi.2.2]

/-! The blocks of a point. -/

theorem block_q (x : Fin 4096) (d : Fin 128) : (blocks m c t).q (ix2 x d) = a0 m c (ValueIdx.ix2 x (colQ (headOf t) d)) :=
  (read0 t (V m c main_arg0) x d).trans (congrFun (V_main_arg0 m c) _)

theorem block_k (y : Fin 256) (d : Fin 128) :
    (blocks m c t).k (ix2 y d) = a0 m c (ValueIdx.ix2 (rowIx (t.val % 16) y) (colK (headOf t) d)) :=
  (read1 t (V m c main_arg0) y d).trans (congrFun (V_main_arg0 m c) _)

theorem block_v (y : Fin 256) (d : Fin 128) :
    (blocks m c t).v (ix2 y d) = a0 m c (ValueIdx.ix2 (rowIx (t.val % 16) y) (colV (headOf t) d)) :=
  (read2 t (V m c main_arg0) y d).trans (congrFun (V_main_arg0 m c) _)

theorem block_dOut (x : Fin 4096) (d : Fin 128) : (blocks m c t).dOut (ix2 x d) = a1 m c (ValueIdx.ix2 x (colG (headOf t) d)) :=
  (read3 t (V m c main_arg1) x d).trans (congrFun (V_main_arg1 m c) _)

/-- The forget sums padded to 128 lanes: a head's lane. -/
theorem padded_apply (f : Cert.ReferenceIdeal.Attn.X2) (x : Fin 4096) (h : Fin 16) :
    pad S4096x128 ![0, 0] ![0, 112] ![0, 0] f (sitofp (F := Ideal) .f32 (constantI S_ 32 0#32)) pads_S4096x16_S4096x128_000_01120 h_S_
      (ValueIdx.ix2 x (⟨h.val, by omega⟩ : Fin 128)) = f (ValueIdx.ix2 x h) := by
  refine pad_apply_of_inside _ _ _ _ _ _ _ _ _ fun a => ?_
  match a with
  | ⟨0, _⟩ => show x.val = 0 + x.val * (0 + 1); omega
  | ⟨1, _⟩ => show h.val = 0 + h.val * (0 + 1); omega

/-- The forget sums laid out by head and key. -/
theorem turned_apply (f : Cert.ReferenceIdeal.Attn.X2) (h : Fin 16) (y : Fin 4096) :
    shapeCast S16x1x4096 (transpose S16x4096 [1, 0] f transposes_S4096x16_S16x4096_1_0) shapeCasts_S16x4096_S16x1x4096 (ValueIdx.ix3 h 0 y)
      = f (ValueIdx.ix2 y h) := by
  refine (shapeCast_apply _ shapeCasts_S16x4096_S16x1x4096 _ (ValueIdx.ix2 h y) ?_).trans ?_
  · rewrite [Shape.rowMajor_val_three, Shape.rowMajor_val_two]
    show h.val * 4096 + y.val = (h.val * 1 + 0) * 4096 + y.val
    omega
  · exact transpose_apply [1, 0] _ transposes_S4096x16_S16x4096_1_0 _ _ (fun b => match b with | ⟨0, _⟩ => rfl | ⟨1, _⟩ => rfl)

theorem block_f (x : Fin 4096) (h : Fin 16) : (blocks m c t).f (ix2 x (⟨h.val, by omega⟩ : Fin 128)) = a2 m c (ValueIdx.ix2 x h) :=
  (read4 t (V m c main_v85) x _).trans ((congrFun (V_fcum m c) _).trans (padded_apply (a2 m c) x h))

theorem block_fk (y : Fin 256) :
    (blocks m c t).fk (ix3 (0 : Fin 1) (0 : Fin 1) y) = a2 m c (ValueIdx.ix2 (rowIx (t.val % 16) y) (headOf t)) :=
  (read5 t (V m c main_v87) y).trans ((congrFun (V_fkeys m c) _).trans (turned_apply (a2 m c) _ _))

theorem block_lse (x : Fin 4096) :
    (blocks m c t).lse (ix3 (0 : Fin 1) x (0 : Fin 128)) = lseOf (a0 m c) (a2 m c) (ValueIdx.ix3 (headOf t) x 0) :=
  (read6 t (V m c main_v83) x).trans ((congrFun (V_lse m c) _).trans (lanes_apply _ _))

theorem block_dl (x : Fin 4096) :
    (blocks m c t).dl (ix3 (0 : Fin 1) x (0 : Fin 128)) = deltaOf (a0 m c) (a1 m c) (a2 m c) (ValueIdx.ix2 (headOf t) x) :=
  (read7 t (V m c main_v84) x).trans ((congrFun (V_delta m c) _).trans ((lanes_apply _ _).trans (unit_apply _ _)))

/-- The arguments' numbers. -/
abbrev nums : Vals := rv (a0 m c) (a1 m c) (a2 m c)

theorem holds (hf : Finite (a0 m c) (a1 m c) (a2 m c)) : Holds (nums m c) (headOf t) (t.val % 16) (blocks m c t) where
  q x d := (block_q m c t x d).trans (hf.h0 _)
  k y d := (block_k m c t y d).trans (hf.h0 _)
  v y d := (block_v m c t y d).trans (hf.h0 _)
  dOut x d := (block_dOut m c t x d).trans (hf.h1 _)
  f x := (block_f m c t x (headOf t)).trans (hf.h2 _)
  fk y := (block_fk m c t y).trans (hf.h2 _)
  lse x := (block_lse m c t x).trans (lse_val hf (ValueIdx.ix3 (headOf t) x 0))
  dl x := (block_dl m c t x).trans (delta_val hf (ValueIdx.ix2 (headOf t) x))
  sc := rfl

end Cert.KernelIdeal.Attn

end
-- ==== Proof.AttnSum.lean ====
module

public import proofs.«01_k».proof.Proof.AttnBlocks

@[expose] public section

set_option maxRecDepth 16384

noncomputable section

/-! # The sums carried over the grid

The query gradient's sums after key block `j` of a head hold the keys of the blocks up to `j`; the queries' forget sums after
a point hold every head gone through. -/

namespace Cert.KernelIdeal.Attn

open Idealize.ShloMosaic Idealize.ShloMosaic.TcCoe Cert.Attn Cert.KernelIdeal.Gen

variable (m : (ℓ : Loc nD τ sig) → Buf (Elt Ideal) ℓ) (c : Dev nD)

theorem point_lt (h : Fin 16) (j : ℕ) (hj : j < 16) : 16 * h.val + j < cfg0.N := by
  have : cfg0.N = 256 := N_0
  omega

variable {m c} in
theorem qsum_val (hf : Finite (a0 m c) (a1 m c) (a2 m c)) (h : Fin 16) (x : Fin 4096) (l : Fin 128) :
    ∀ (j : ℕ) (hj : j < 16), qsumLeft m c (16 * h.val + j) (point_lt h j hj) (ix2 x l)
      = ((∑ r ∈ Finset.range (j + 1), ∑ a : Fin 256, (nums m c).ds h x (rowIx r a) * (nums m c).k h (rowIx r a) l : ℝ) : EReal) := by
  have step : ∀ (j : ℕ) (hj : j < 16), qsumLeft m c (16 * h.val + j) (point_lt h j hj) (ix2 x l)
      = (startAt m c (16 * h.val + j) (point_lt h j hj)).2 (ix2 x l) + qsumPart (nums m c) h j x l := by
    intro j hj
    have H := holds m c ⟨16 * h.val + j, point_lt h j hj⟩ hf
    have eh : headOf ⟨16 * h.val + j, point_lt h j hj⟩ = h := Fin.ext (by show (16 * h.val + j) / 16 = h.val; omega)
    have ej : (16 * h.val + j) % 16 = j := by omega
    have c0 := coord0 ⟨16 * h.val + j, point_lt h j hj⟩
    have c1 := coord1 ⟨16 * h.val + j, point_lt h j hj⟩
    rw [eh] at c0
    have H' : Holds (nums m c) h j (blocks m c ⟨16 * h.val + j, point_lt h j hj⟩) := by
      rw [eh] at H
      exact (congrArg (fun n => Holds (nums m c) h n (blocks m c ⟨16 * h.val + j, point_lt h j hj⟩)) ej).mp H
    exact qsumOut_at H' c0 (c1.trans ej) hj _ x l
  intro j
  induction j with
  | zero =>
    intro hj
    rw [step 0 hj, start_head m c _ _ (by omega), pay13_at, zero_add, Finset.sum_range_one]
    rfl
  | succ j ih =>
    intro hj
    rw [step (j + 1) hj, start_keep2 m c _ _ (by omega)]
    refine (congrArg (fun y : EReal => y + _) (ih (by omega))).trans ?_
    rw [Finset.sum_range_succ _ (j + 1), EReal.coe_add]
    rfl

variable {m c} in
/-- At a head's last point. -/
theorem dq_val (hf : Finite (a0 m c) (a1 m c) (a2 m c)) (t : Fin cfg0.N) (ht : t.val % 16 = 15) (x : Fin 4096) (l : Fin 128) :
    k0_pay45 (qsumLeft m c t.val t.isLt) (ix2 x l) = ((nums m c).gq (headOf t) x l : EReal) := by
  have hv : t.val = 16 * (headOf t).val + 15 := by show t.val = 16 * (t.val / 16) + 15; omega
  have e : ∀ (n : ℕ) (hn : n < cfg0.N) (hE : n = 16 * (headOf t).val + 15),
      qsumLeft m c n hn (ix2 x l) = ((∑ y, (nums m c).ds (headOf t) x y * (nums m c).k (headOf t) y l : ℝ) : EReal) := by
    intro n hn hE
    subst hE
    exact (qsum_val hf (headOf t) x l 15 (by omega)).trans
      (congrArg (fun r : ℝ => (r : EReal)) (sum_rows fun y => (nums m c).ds (headOf t) x y * (nums m c).k (headOf t) y l))
  rw [pay45_at, e t.val t.isLt hv, scale_eq, ← EReal.coe_mul]
  rfl

/-- What point `n` adds to the queries' forget sums at row `x`, lane `l`. -/
def fTerm (R : Vals) (n : ℕ) (x : Fin 4096) (l : Fin 128) : ℝ :=
  if l.val = n / 16 then ∑ a : Fin 256, R.ds ⟨n / 16 % 16, Nat.mod_lt _ (by decide)⟩ x (rowIx (n % 16) a) else 0

variable {m c} in
theorem fsum_val (hf : Finite (a0 m c) (a1 m c) (a2 m c)) (x : Fin 4096) (l : Fin 128) :
    ∀ (n : ℕ) (hn : n < cfg0.N), fsumLeft m c n hn (ix2 x l) = ((∑ k ∈ Finset.range (n + 1), fTerm (nums m c) k x l : ℝ) : EReal) := by
  have step : ∀ (n : ℕ) (hn : n < cfg0.N), fsumLeft m c n hn (ix2 x l) = (startAt m c n hn).1 (ix2 x l) + (fTerm (nums m c) n x l : EReal) := by
    intro n hn
    refine (fsumOut_at (holds m c ⟨n, hn⟩ hf) (coord0 _) (coord1 _) (Nat.mod_lt _ (by decide)) _ x l).trans (congrArg (fun y : EReal => _ + y) ?_)
    have hN : n < 256 := lt_of_lt_of_eq hn N_0
    have eh : headOf ⟨n, hn⟩ = ⟨n / 16 % 16, Nat.mod_lt _ (by decide)⟩ := Fin.ext (by show n / 16 = n / 16 % 16; omega)
    unfold fsumPart fTerm
    rw [eh]
    by_cases hl : l.val = n / 16
    · rw [if_pos hl]
      exact if_pos (show l.val = n / 16 % 16 by omega)
    · rw [if_neg hl]
      exact (if_neg (show ¬l.val = n / 16 % 16 by omega)).trans zero_coe
  intro n
  induction n with
  | zero =>
    intro hn
    rw [step 0 hn, start_first m c _ _ rfl, pay14_at, zero_add, Finset.sum_range_one]
  | succ n ih =>
    intro hn
    have hN : n + 1 < 256 := lt_of_lt_of_eq hn N_0
    rw [step (n + 1) hn, start_keep1 m c _ _ (by omega)]
    refine (congrArg (fun y : EReal => y + _) (ih (by omega))).trans ?_
    rw [Finset.sum_range_succ _ (n + 1), EReal.coe_add]

/-- All points' terms: the sum over the keys in a head's lane, zero in the lanes past the heads. -/
theorem fTerm_sum (R : Vals) (x : Fin 4096) (l : Fin 128) :
    ∑ k ∈ Finset.range 256, fTerm R k x l = if hl : l.val < 16 then R.fq ⟨l.val, hl⟩ x else 0 := by
  unfold fTerm
  rw [← Finset.sum_filter]
  split
  · rename_i hl
    refine Eq.trans ?_ (sum_rows fun y => R.ds ⟨l.val, hl⟩ x y)
    refine Finset.sum_bij' (fun k _ => k % 16) (fun r _ => 16 * l.val + r) ?_ ?_ ?_ ?_ ?_
    · exact fun k _ => Finset.mem_range.mpr (Nat.mod_lt _ (by decide))
    · intro r hr
      have := Finset.mem_range.mp hr
      exact Finset.mem_filter.mpr ⟨Finset.mem_range.mpr (by omega), by omega⟩
    · intro k hk
      have := (Finset.mem_filter.mp hk).2
      show 16 * l.val + k % 16 = k
      omega
    · intro r hr
      have := Finset.mem_range.mp hr
      show (16 * l.val + r) % 16 = r
      omega
    · intro k hk
      have h1 := (Finset.mem_filter.mp hk).2
      have h2 : (⟨k / 16 % 16, Nat.mod_lt _ (by decide)⟩ : Fin 16) = ⟨l.val, hl⟩ := Fin.ext (by show k / 16 % 16 = l.val; omega)
      rw [h2]
  · rename_i hl
    refine Finset.sum_eq_zero fun k hk => ?_
    have h1 := (Finset.mem_filter.mp hk).2
    have h2 := Finset.mem_range.mp (Finset.mem_filter.mp hk).1
    omega

end Cert.KernelIdeal.Attn

end
-- ==== Proof.AttnValue.lean ====
module

public import proofs.«01_k».proof.Proof.AttnSum

@[expose] public section

set_option maxRecDepth 16384

noncomputable section

/-! # The result arrays

Each result array holds, once every block is written back, the gradient its window's blocks hold. -/

namespace Cert.KernelIdeal.Attn

open Idealize.ShloMosaic Idealize.ShloMosaic.TcCoe Cert.Attn Cert.KernelIdeal.Gen

theorem ix2_eta {n k : ℕ} (i : (⟨2, ![n, k]⟩ : Shape).Idx) : i = ix2 (i 0) (i 1) := by
  funext a
  match a with
  | ⟨0, _⟩ => rfl
  | ⟨1, _⟩ => rfl

/-! The sizes of the blocks written back. -/

theorem xsize8 : ∀ t : Fin grid0.N, win0_8.xsize (grid0.coords t) 0 = 4096 ∧ win0_8.xsize (grid0.coords t) 1 = 128 := by decide +kernel
theorem xsize9 : ∀ t : Fin grid0.N, win0_9.xsize (grid0.coords t) 0 = 256 ∧ win0_9.xsize (grid0.coords t) 1 = 128 := by decide +kernel
theorem xsize10 : ∀ t : Fin grid0.N, win0_10.xsize (grid0.coords t) 0 = 256 ∧ win0_10.xsize (grid0.coords t) 1 = 128 := by decide +kernel
theorem xsize11 : ∀ t : Fin grid0.N, win0_11.xsize (grid0.coords t) 0 = 4096 ∧ win0_11.xsize (grid0.coords t) 1 = 128 := by decide +kernel
theorem xsize12 : ∀ t : Fin grid0.N, win0_12.xsize (grid0.coords t) 0 = 1 ∧ win0_12.xsize (grid0.coords t) 1 = 1
    ∧ win0_12.xsize (grid0.coords t) 2 = 256 := by decide +kernel

/-! A block of any contents of a result array, read at an entry. -/

section Reads

variable (t : Fin cfg0.N)

theorem read8 (W : FVec Ideal S4096x2048 .bf16) (x : Fin 4096) (d : Fin 128) :
    ((cfg0.win 8).blk t).view.read (Elt Ideal) W (ix2 x d) = W (ValueIdx.ix2 x (colG (headOf t) d)) := by
  have hi := index8 t
  rw [View.read_apply]
  refine congrArg W (funext fun a => Fin.ext ?_)
  match a with
  | ⟨0, _⟩ => show win0_8.index t 0 * 4096 + 1 * x.val = x.val; rw [hi.1]; omega
  | ⟨1, _⟩ => show win0_8.index t 1 * 128 + 1 * d.val = t.val / 16 * 128 + d.val; rw [hi.2]; omega

theorem read9 (W : FVec Ideal S4096x2048 .bf16) (y : Fin 256) (d : Fin 128) :
    ((cfg0.win 9).blk t).view.read (Elt Ideal) W (ix2 y d) = W (ValueIdx.ix2 (rowIx (t.val % 16) y) (colG (headOf t) d)) := by
  have hi := index9 t
  rw [View.read_apply]
  refine congrArg W (funext fun a => Fin.ext ?_)
  match a with
  | ⟨0, _⟩ => show win0_9.index t 0 * 256 + 1 * y.val = _; rw [hi.1]; exact row_in t y
  | ⟨1, _⟩ => show win0_9.index t 1 * 128 + 1 * d.val = t.val / 16 * 128 + d.val; rw [hi.2]; omega

theorem read10 (W : FVec Ideal S4096x2048 .bf16) (y : Fin 256) (d : Fin 128) :
    ((cfg0.win 10).blk t).view.read (Elt Ideal) W (ix2 y d) = W (ValueIdx.ix2 (rowIx (t.val % 16) y) (colG (headOf t) d)) := by
  have hi := index10 t
  rw [View.read_apply]
  refine congrArg W (funext fun a => Fin.ext ?_)
  match a with
  | ⟨0, _⟩ => show win0_10.index t 0 * 256 + 1 * y.val = _; rw [hi.1]; exact row_in t y
  | ⟨1, _⟩ => show win0_10.index t 1 * 128 + 1 * d.val = t.val / 16 * 128 + d.val; rw [hi.2]; omega

theorem read11 (W : FVec Ideal S4096x128 .f32) (x : Fin 4096) (l : Fin 128) :
    ((cfg0.win 11).blk t).view.read (Elt Ideal) W (ix2 x l) = W (ValueIdx.ix2 x l) := by
  have hi := index11 t
  rw [View.read_apply]
  refine congrArg W (funext fun a => Fin.ext ?_)
  match a with
  | ⟨0, _⟩ => show win0_11.index t 0 * 4096 + 1 * x.val = x.val; rw [hi.1]; omega
  | ⟨1, _⟩ => show win0_11.index t 1 * 128 + 1 * l.val = l.val; rw [hi.2]; omega

theorem read12 (W : FVec Ideal S16x1x4096 .f32) (y : Fin 256) :
    ((cfg0.win 12).blk t).view.read (Elt Ideal) W (ix3 (0 : Fin 1) (0 : Fin 1) y) = W (ValueIdx.ix3 (headOf t) 0 (rowIx (t.val % 16) y)) := by
  have hi := index12 t
  rw [View.read_apply]
  refine congrArg W (funext fun a => Fin.ext ?_)
  match a with
  | ⟨0, _⟩ => show win0_12.index t 0 * 1 + 1 * 0 = t.val / 16; rw [hi.1]; omega
  | ⟨1, _⟩ => show win0_12.index t 1 * 1 + 1 * 0 = 0; rw [hi.2.1]
  | ⟨2, _⟩ => show win0_12.index t 2 * 256 + 1 * y.val = _; rw [hi.2.2]; exact row_in t y

end Reads

variable {m : (ℓ : Loc nD τ sig) → Buf (Elt Ideal) ℓ} {c : Dev nD}

/-- A point by its number. -/
def pt (n : ℕ) (h : n < 256) : Fin cfg0.N := ⟨n, lt_of_lt_of_eq h N_0.symm⟩

/-- The query gradient. -/
theorem final8 (hf : Finite (a0 m c) (a1 m c) (a2 m c)) (G : FVec Ideal S4096x2048 .bf16)
    (hG : ∀ h x d, G (ValueIdx.ix2 x (colG h d)) = ((nums m c).gq h x d : EReal)) : (dats m 0 c).arrAt 8 cfg0.N = G :=
  (dats m 0 c).arrAt_eq_of_cover 8 G
    (fun t ht => by
      show (cfg0.win 8).cut (grid0.coords t) ((dats m 0 c).after 8 t) = _
      rw [after_8]
      funext i
      have ei := ix2_eta (n := 4096) (k := 128) i
      have e1 := (dq_val hf t ((flush0_8 t).mp ht) (i 0) (i 1)).trans (hG (headOf t) (i 0) (i 1)).symm
      have e2 := read8 t G (i 0) (i 1)
      refine Eq.trans ?_ ((e1.trans e2.symm).trans ?_)
      · exact congrArg (k0_pay45 (F := Ideal) (qsumLeft m c t.val t.isLt)) ei
      · exact congrArg (((cfg0.win 8).blk t).view.read (Elt Ideal) G) ei.symm)
    fun i => by
      have h0 : (i 0 : Nat) < 4096 := (i 0).isLt
      have h1 : (i 1 : Nat) < 2048 := (i 1).isLt
      have hn : 16 * ((i 1 : Nat) / 128) + 15 < 256 := by omega
      refine ⟨pt _ hn, (flush0_8 _).mpr (by show (16 * ((i 1 : Nat) / 128) + 15) % 16 = 15; omega), ?_⟩
      show i ∈ ((View.whole main_v88_0).slice (win0_8.rect (pt _ hn))).set
      rw [View.set_slice_whole, Rect.mem_set_unit]
      intro a
      have hi := index8 (pt _ hn)
      have hx := xsize8 (pt _ hn)
      have hv : (pt _ hn).val = 16 * ((i 1 : Nat) / 128) + 15 := rfl
      match a with
      | ⟨0, _⟩ =>
        show win0_8.index (pt _ hn) 0 * 4096 ≤ (i 0 : Nat) ∧ (i 0 : Nat) < win0_8.index (pt _ hn) 0 * 4096 + win0_8.xsize (grid0.coords (pt _ hn)) 0
        rw [hi.1, hx.1]; omega
      | ⟨1, _⟩ =>
        show win0_8.index (pt _ hn) 1 * 128 ≤ (i 1 : Nat) ∧ (i 1 : Nat) < win0_8.index (pt _ hn) 1 * 128 + win0_8.xsize (grid0.coords (pt _ hn)) 1
        rw [hi.2, hx.2, hv]; omega

/-- The key gradient. -/
theorem final9 (hf : Finite (a0 m c) (a1 m c) (a2 m c)) (G : FVec Ideal S4096x2048 .bf16)
    (hG : ∀ h y d, G (ValueIdx.ix2 y (colG h d)) = ((nums m c).gk h y d : EReal)) : (dats m 0 c).arrAt 9 cfg0.N = G :=
  (dats m 0 c).arrAt_eq_of_cover 9 G
    (fun t _ => by
      show (cfg0.win 9).cut (grid0.coords t) ((dats m 0 c).after 9 t) = _
      rw [after_9]
      funext i
      have ei := ix2_eta (n := 256) (k := 128) i
      have e1 := (dkOut_val (holds m c t hf) (coord0 t) (coord1 t) (Nat.mod_lt _ (by decide)) (i 0) (i 1)).trans
        (hG (headOf t) (rowIx (t.val % 16) (i 0)) (i 1)).symm
      have e2 := read9 t G (i 0) (i 1)
      refine Eq.trans ?_ ((e1.trans e2.symm).trans ?_)
      · exact congrArg (dkOut (grid0.coords t) (blocks m c t)) ei
      · exact congrArg (((cfg0.win 9).blk t).view.read (Elt Ideal) G) ei.symm)
    fun i => by
      have h0 : (i 0 : Nat) < 4096 := (i 0).isLt
      have h1 : (i 1 : Nat) < 2048 := (i 1).isLt
      have hn : 16 * ((i 1 : Nat) / 128) + (i 0 : Nat) / 256 < 256 := by omega
      refine ⟨pt _ hn, flush0_9 _, ?_⟩
      show i ∈ ((View.whole main_v88_1).slice (win0_9.rect (pt _ hn))).set
      rw [View.set_slice_whole, Rect.mem_set_unit]
      intro a
      have hi := index9 (pt _ hn)
      have hx := xsize9 (pt _ hn)
      have hv : (pt _ hn).val = 16 * ((i 1 : Nat) / 128) + (i 0 : Nat) / 256 := rfl
      match a with
      | ⟨0, _⟩ =>
        show win0_9.index (pt _ hn) 0 * 256 ≤ (i 0 : Nat) ∧ (i 0 : Nat) < win0_9.index (pt _ hn) 0 * 256 + win0_9.xsize (grid0.coords (pt _ hn)) 0
        rw [hi.1, hx.1, hv]; omega
      | ⟨1, _⟩ =>
        show win0_9.index (pt _ hn) 1 * 128 ≤ (i 1 : Nat) ∧ (i 1 : Nat) < win0_9.index (pt _ hn) 1 * 128 + win0_9.xsize (grid0.coords (pt _ hn)) 1
        rw [hi.2, hx.2, hv]; omega

/-- The value gradient. -/
theorem final10 (hf : Finite (a0 m c) (a1 m c) (a2 m c)) (G : FVec Ideal S4096x2048 .bf16)
    (hG : ∀ h y d, G (ValueIdx.ix2 y (colG h d)) = ((nums m c).gv h y d : EReal)) : (dats m 0 c).arrAt 10 cfg0.N = G :=
  (dats m 0 c).arrAt_eq_of_cover 10 G
    (fun t _ => by
      show (cfg0.win 10).cut (grid0.coords t) ((dats m 0 c).after 10 t) = _
      rw [after_10]
      funext i
      have ei := ix2_eta (n := 256) (k := 128) i
      have e1 := (dvOut_val (holds m c t hf) (coord0 t) (coord1 t) (Nat.mod_lt _ (by decide)) (i 0) (i 1)).trans
        (hG (headOf t) (rowIx (t.val % 16) (i 0)) (i 1)).symm
      have e2 := read10 t G (i 0) (i 1)
      refine Eq.trans ?_ ((e1.trans e2.symm).trans ?_)
      · exact congrArg (dvOut (grid0.coords t) (blocks m c t)) ei
      · exact congrArg (((cfg0.win 10).blk t).view.read (Elt Ideal) G) ei.symm)
    fun i => by
      have h0 : (i 0 : Nat) < 4096 := (i 0).isLt
      have h1 : (i 1 : Nat) < 2048 := (i 1).isLt
      have hn : 16 * ((i 1 : Nat) / 128) + (i 0 : Nat) / 256 < 256 := by omega
      refine ⟨pt _ hn, flush0_10 _, ?_⟩
      show i ∈ ((View.whole main_v88_2).slice (win0_10.rect (pt _ hn))).set
      rw [View.set_slice_whole, Rect.mem_set_unit]
      intro a
      have hi := index10 (pt _ hn)
      have hx := xsize10 (pt _ hn)
      have hv : (pt _ hn).val = 16 * ((i 1 : Nat) / 128) + (i 0 : Nat) / 256 := rfl
      match a with
      | ⟨0, _⟩ =>
        show win0_10.index (pt _ hn) 0 * 256 ≤ (i 0 : Nat) ∧ (i 0 : Nat) < win0_10.index (pt _ hn) 0 * 256 + win0_10.xsize (grid0.coords (pt _ hn)) 0
        rw [hi.1, hx.1, hv]; omega
      | ⟨1, _⟩ =>
        show win0_10.index (pt _ hn) 1 * 128 ≤ (i 1 : Nat) ∧ (i 1 : Nat) < win0_10.index (pt _ hn) 1 * 128 + win0_10.xsize (grid0.coords (pt _ hn)) 1
        rw [hi.2, hx.2, hv]; omega

/-- The queries' forget sums after the last point. -/
theorem fsum_last (hf : Finite (a0 m c) (a1 m c) (a2 m c)) (n : ℕ) (hn : n < cfg0.N) (hv : n = 255) (x : Fin 4096) (l : Fin 128) :
    fsumLeft m c n hn (ix2 x l) = if hl : l.val < 16 then ((nums m c).fq ⟨l.val, hl⟩ x : EReal) else 0 := by
  subst hv
  rw [fsum_val hf x l 255 hn, fTerm_sum]
  split
  · rfl
  · exact zero_coe.symm

/-- The queries' forget sums' gradient, padded to 128 lanes. -/
theorem final11 (hf : Finite (a0 m c) (a1 m c) (a2 m c)) (G : FVec Ideal S4096x128 .f32)
    (hG : ∀ (x : Fin 4096) (l : Fin 128), G (ValueIdx.ix2 x l) = if hl : l.val < 16 then ((nums m c).fq ⟨l.val, hl⟩ x : EReal) else 0) :
    (dats m 0 c).arrAt 11 cfg0.N = G :=
  (dats m 0 c).arrAt_eq_of_cover 11 G
    (fun t ht => by
      show (cfg0.win 11).cut (grid0.coords t) ((dats m 0 c).after 11 t) = _
      rw [after_11]
      funext i
      have hN : t.val < 256 := lt_of_lt_of_eq t.isLt N_0
      have hv : t.val = 255 := by have := (flush0_11 t).mp ht; omega
      have ei := ix2_eta (n := 4096) (k := 128) i
      have e1 := (fsum_last hf t.val t.isLt hv (i 0) (i 1)).trans (hG (i 0) (i 1)).symm
      have e2 := read11 t G (i 0) (i 1)
      refine Eq.trans ?_ ((e1.trans e2.symm).trans ?_)
      · exact congrArg (fsumLeft m c t.val t.isLt) ei
      · exact congrArg (((cfg0.win 11).blk t).view.read (Elt Ideal) G) ei.symm)
    fun i => by
      have h0 : (i 0 : Nat) < 4096 := (i 0).isLt
      have h1 : (i 1 : Nat) < 128 := (i 1).isLt
      have hn : 255 < 256 := by omega
      refine ⟨pt _ hn, (flush0_11 _).mpr rfl, ?_⟩
      show i ∈ ((View.whole main_v88_3).slice (win0_11.rect (pt _ hn))).set
      rw [View.set_slice_whole, Rect.mem_set_unit]
      intro a
      have hi := index11 (pt _ hn)
      have hx := xsize11 (pt _ hn)
      match a with
      | ⟨0, _⟩ =>
        show win0_11.index (pt _ hn) 0 * 4096 ≤ (i 0 : Nat) ∧ (i 0 : Nat) < win0_11.index (pt _ hn) 0 * 4096 + win0_11.xsize (grid0.coords (pt _ hn)) 0
        rw [hi.1, hx.1]; omega
      | ⟨1, _⟩ =>
        show win0_11.index (pt _ hn) 1 * 128 ≤ (i 1 : Nat) ∧ (i 1 : Nat) < win0_11.index (pt _ hn) 1 * 128 + win0_11.xsize (grid0.coords (pt _ hn)) 1
        rw [hi.2, hx.2]; omega

theorem ix3_eta (i : S1x1x256.Idx) : i = ix3 (0 : Fin 1) (0 : Fin 1) (i 2) := by
  funext a
  match a with
  | ⟨0, _⟩ => exact Fin.ext (by show (i 0).val = 0; have : (i 0).val < 1 := (i 0).isLt; omega)
  | ⟨1, _⟩ => exact Fin.ext (by show (i 1).val = 0; have : (i 1).val < 1 := (i 1).isLt; omega)
  | ⟨2, _⟩ => rfl

/-- The keys' forget sums' gradient. -/
theorem final12 (hf : Finite (a0 m c) (a1 m c) (a2 m c)) (G : FVec Ideal S16x1x4096 .f32)
    (hG : ∀ (h : Fin 16) (y : Fin 4096), G (ValueIdx.ix3 h 0 y) = ((nums m c).fk h y : EReal)) : (dats m 0 c).arrAt 12 cfg0.N = G :=
  (dats m 0 c).arrAt_eq_of_cover 12 G
    (fun t _ => by
      show (cfg0.win 12).cut (grid0.coords t) ((dats m 0 c).after 12 t) = _
      rw [after_12]
      funext i
      have ei := ix3_eta i
      have e1 := (dfkOut_val (holds m c t hf) (coord0 t) (coord1 t) (Nat.mod_lt _ (by decide)) (i 2)).trans
        (hG (headOf t) (rowIx (t.val % 16) (i 2))).symm
      have e2 := read12 t G (i 2)
      refine Eq.trans ?_ ((e1.trans e2.symm).trans ?_)
      · exact congrArg (dfkOut (grid0.coords t) (blocks m c t)) ei
      · exact congrArg (((cfg0.win 12).blk t).view.read (Elt Ideal) G) ei.symm)
    fun i => by
      have h0 : (i 0 : Nat) < 16 := (i 0).isLt
      have h1 : (i 1 : Nat) < 1 := (i 1).isLt
      have h2 : (i 2 : Nat) < 4096 := (i 2).isLt
      have hn : 16 * (i 0 : Nat) + (i 2 : Nat) / 256 < 256 := by omega
      refine ⟨pt _ hn, flush0_12 _, ?_⟩
      show i ∈ ((View.whole main_v88_4).slice (win0_12.rect (pt _ hn))).set
      rw [View.set_slice_whole, Rect.mem_set_unit]
      intro a
      have hi := index12 (pt _ hn)
      have hx := xsize12 (pt _ hn)
      have hv : (pt _ hn).val = 16 * (i 0 : Nat) + (i 2 : Nat) / 256 := rfl
      match a with
      | ⟨0, _⟩ =>
        show win0_12.index (pt _ hn) 0 * 1 ≤ (i 0 : Nat) ∧ (i 0 : Nat) < win0_12.index (pt _ hn) 0 * 1 + win0_12.xsize (grid0.coords (pt _ hn)) 0
        rw [hi.1, hx.1, hv]; omega
      | ⟨1, _⟩ =>
        show win0_12.index (pt _ hn) 1 * 1 ≤ (i 1 : Nat) ∧ (i 1 : Nat) < win0_12.index (pt _ hn) 1 * 1 + win0_12.xsize (grid0.coords (pt _ hn)) 1
        rw [hi.2.1, hx.2.1]; omega
      | ⟨2, _⟩ =>
        show win0_12.index (pt _ hn) 2 * 256 ≤ (i 2 : Nat) ∧ (i 2 : Nat) < win0_12.index (pt _ hn) 2 * 256 + win0_12.xsize (grid0.coords (pt _ hn)) 2
        rw [hi.2.2, hx.2.2, hv]; omega

end Cert.KernelIdeal.Attn

end
-- ==== Proof.WupGradValue.lean ====
module

public import proofs.«01_k».proof.Proof.Gen.WupGradIdeal.Value
public import proofs.«01_k».proof.Proof.Gen.WupGradRefIdeal.Read
public import Idealize.ShloMosaic.Lib.Pointwise

@[expose] public section

set_option maxRecDepth 16384

noncomputable section

/-! # The gradients of the first weights of the feed-forward layer

The grid point `4 j + i` holds shard `j` of the hidden columns and columns `512 i …` of the model dimension. -/

namespace Cert.WupGradIdeal.Val

open Idealize.ShloMosaic Idealize.ShloMosaic.TcCoe Idealize.SL.Sem Cert.WupGradIdeal Cert.WupGradIdeal.Gen

theorem eta3 {n k l : ℕ} (i : (⟨3, ![n, k, l]⟩ : Shape).Idx) : i = ix3 (i 0) (i 1) (i 2) :=
  funext fun a => match a with | ⟨0, _⟩ => rfl | ⟨1, _⟩ => rfl | ⟨2, _⟩ => rfl
theorem off3 : (![0, 0, 0] : Fin 3 → ℕ) = fun _ => 0 := funext fun a => match a with | ⟨0, _⟩ => rfl | ⟨1, _⟩ => rfl | ⟨2, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val / 4 ∧ win0_0.index t 1 = 0 ∧ win0_0.index t 2 = 0 := by decide +kernel
theorem index1 : ∀ t : Fin grid0.N, win0_1.index t 0 = t.val / 4 ∧ win0_1.index t 1 = 0 ∧ win0_1.index t 2 = 0 := by decide +kernel
theorem index2 : ∀ t : Fin grid0.N, win0_2.index t 0 = 0 ∧ win0_2.index t 1 = t.val % 4 := by decide +kernel
theorem index3 : ∀ t : Fin grid0.N, win0_3.index t 0 = t.val / 4 ∧ win0_3.index t 1 = 0 ∧ win0_3.index t 2 = t.val % 4 := by decide +kernel
theorem xsize3 : ∀ t : Fin grid0.N, win0_3.xsize (grid0.coords t) 0 = 1 ∧ win0_3.xsize (grid0.coords t) 1 = 704
    ∧ win0_3.xsize (grid0.coords t) 2 = 512 := by decide +kernel
theorem flush3 : ∀ t : Fin grid0.N, win0_3.flush t = true := by decide +kernel
theorem index4 : ∀ t : Fin grid0.N, win0_4.index t 0 = t.val / 4 ∧ win0_4.index t 1 = 0 ∧ win0_4.index t 2 = t.val % 4 := by decide +kernel
theorem xsize4 : ∀ t : Fin grid0.N, win0_4.xsize (grid0.coords t) 0 = 1 ∧ win0_4.xsize (grid0.coords t) 1 = 704
    ∧ win0_4.xsize (grid0.coords t) 2 = 512 := by decide +kernel
theorem flush4 : ∀ t : Fin grid0.N, win0_4.flush t = true := by decide +kernel

def pt (n : ℕ) (h : n < 32) : Fin cfg0.N := ⟨n, lt_of_lt_of_eq h N_0.symm⟩
def shard (t : Fin cfg0.N) : Fin 8 := ⟨t.val / 4, by have : t.val < 32 := lt_of_lt_of_eq t.isLt N_0; omega⟩
def col (t : Fin cfg0.N) (n : Fin 512) : Fin 2048 := ⟨t.val % 4 * 512 + n.val, by omega⟩

/-! ## A block of any contents of a window's array, read at an entry -/

variable (t : Fin cfg0.N)

theorem read0 (W : FVec Ideal S8x4096x704 .bf16) (r : Fin 4096) (f : Fin 704) :
    ((cfg0.win 0).blk t).view.read (Elt Ideal) W (ix3 (0 : Fin 1) r f) = W (ValueIdx.ix3 (shard t) r f) := by
  have hi := index0 t
  rw [View.read_apply]
  refine congrArg W (funext fun a => Fin.ext ?_)
  match a with
  | ⟨0, _⟩ => show win0_0.index t 0 * 1 + 1 * 0 = t.val / 4; rw [hi.1]; omega
  | ⟨1, _⟩ => show win0_0.index t 1 * 4096 + 1 * r.val = r.val; rw [hi.2.1]; omega
  | ⟨2, _⟩ => show win0_0.index t 2 * 704 + 1 * f.val = f.val; rw [hi.2.2]; omega

theorem read1 (W : FVec Ideal S8x4096x704 .bf16) (r : Fin 4096) (f : Fin 704) :
    ((cfg0.win 1).blk t).view.read (Elt Ideal) W (ix3 (0 : Fin 1) r f) = W (ValueIdx.ix3 (shard t) r f) := by
  have hi := index1 t
  rw [View.read_apply]
  refine congrArg W (funext fun a => Fin.ext ?_)
  match a with
  | ⟨0, _⟩ => show win0_1.index t 0 * 1 + 1 * 0 = t.val / 4; rw [hi.1]; omega
  | ⟨1, _⟩ => show win0_1.index t 1 * 4096 + 1 * r.val = r.val; rw [hi.2.1]; omega
  | ⟨2, _⟩ => show win0_1.index t 2 * 704 + 1 * f.val = f.val; rw [hi.2.2]; omega

theorem read2 (W : FVec Ideal S4096x2048 .bf16) (r : Fin 4096) (n : Fin 512) :
    ((cfg0.win 2).blk t).view.read (Elt Ideal) W (ix2 r n) = W (ValueIdx.ix2 r (col t n)) := by
  have hi := index2 t
  rw [View.read_apply]
  refine congrArg W (funext fun a => Fin.ext ?_)
  match a with
  | ⟨0, _⟩ => show win0_2.index t 0 * 4096 + 1 * r.val = r.val; rw [hi.1]; omega
  | ⟨1, _⟩ => show win0_2.index t 1 * 512 + 1 * n.val = t.val % 4 * 512 + n.val; rw [hi.2]; omega

theorem read3 (W : FVec Ideal S8x704x2048 .bf16) (u : Fin 1) (f : Fin 704) (n : Fin 512) :
    ((cfg0.win 3).blk t).view.read (Elt Ideal) W (ix3 u f n) = W (ValueIdx.ix3 (shard t) f (col t n)) := by
  have hi := index3 t
  have hu : u.val = 0 := by omega
  rw [View.read_apply]
  refine congrArg W (funext fun a => Fin.ext ?_)
  match a with
  | ⟨0, _⟩ => show win0_3.index t 0 * 1 + 1 * u.val = t.val / 4; rw [hi.1, hu]; omega
  | ⟨1, _⟩ => show win0_3.index t 1 * 704 + 1 * f.val = f.val; rw [hi.2.1]; omega
  | ⟨2, _⟩ => show win0_3.index t 2 * 512 + 1 * n.val = t.val % 4 * 512 + n.val; rw [hi.2.2]; omega

theorem read4 (W : FVec Ideal S8x704x2048 .bf16) (u : Fin 1) (f : Fin 704) (n : Fin 512) :
    ((cfg0.win 4).blk t).view.read (Elt Ideal) W (ix3 u f n) = W (ValueIdx.ix3 (shard t) f (col t n)) := by
  have hi := index4 t
  have hu : u.val = 0 := by omega
  rw [View.read_apply]
  refine congrArg W (funext fun a => Fin.ext ?_)
  match a with
  | ⟨0, _⟩ => show win0_4.index t 0 * 1 + 1 * u.val = t.val / 4; rw [hi.1, hu]; omega
  | ⟨1, _⟩ => show win0_4.index t 1 * 704 + 1 * f.val = f.val; rw [hi.2.1]; omega
  | ⟨2, _⟩ => show win0_4.index t 2 * 512 + 1 * n.val = t.val % 4 * 512 + n.val; rw [hi.2.2]; omega

/-! ## What a point stores -/

theorem pay3 (a : Vec Ideal S1x4096x704 .bf16) (b : Vec Ideal S4096x512 .bf16) (u : Fin 1) (f : Fin 704) (n : Fin 512) :
    k0_pay1 (F := Ideal) a b (ix3 u f n) = ∑ r : Fin 4096, a (ix3 (0 : Fin 1) r f) * b (ix2 r n) := by
  obtain rfl : u = 0 := Subsingleton.elim _ _
  refine Eq.trans (b := 0 + ∑ r : Fin 4096, a (ix3 (0 : Fin 1) r f) * b (ix2 r n)) ?_ (zero_add _)
  simp only [k0_pay1, pointwise]

theorem out3_eq (x0 : Vec Ideal S1x4096x704 .bf16) (x1 : Vec Ideal S1x4096x704 .bf16) (x2 : Vec Ideal S4096x512 .bf16) : out0_3 (F := Ideal) x0 x1 x2 = k0_pay1 x0 x2 := by
  unfold out0_3
  rw [View.canon_unit_zero off3, View.ld_unit_zero off3, View.ld_unit_zero off2]

theorem pay4 (a : Vec Ideal S1x4096x704 .bf16) (b : Vec Ideal S4096x512 .bf16) (u : Fin 1) (f : Fin 704) (n : Fin 512) :
    k0_pay2 (F := Ideal) a b (ix3 u f n) = ∑ r : Fin 4096, a (ix3 (0 : Fin 1) r f) * b (ix2 r n) := by
  obtain rfl : u = 0 := Subsingleton.elim _ _
  refine Eq.trans (b := 0 + ∑ r : Fin 4096, a (ix3 (0 : Fin 1) r f) * b (ix2 r n)) ?_ (zero_add _)
  simp only [k0_pay2, pointwise]

theorem out4_eq (x0 : Vec Ideal S1x4096x704 .bf16) (x1 : Vec Ideal S1x4096x704 .bf16) (x2 : Vec Ideal S4096x512 .bf16) : out0_4 (F := Ideal) x0 x1 x2 = k0_pay2 x1 x2 := by
  unfold out0_4
  rw [View.canon_unit_zero off3, View.ld_unit_zero off3, View.ld_unit_zero off2]

/-! ## The arrays after the run -/

variable (m : (ℓ : Loc nD τ sig) → Buf (Elt Ideal) ℓ) (c : Dev nD)

abbrev a0 : FVec Ideal S8x4096x704 .bf16 := m ((c : Thread nD τ).loc main_arg0)
abbrev a1 : FVec Ideal S8x4096x704 .bf16 := m ((c : Thread nD τ).loc main_arg1)
abbrev a2 : FVec Ideal S4096x2048 .bf16 := m ((c : Thread nD τ).loc main_arg2)

theorem point3 (G : FVec Ideal S8x704x2048 .bf16)
    (hG : ∀ s f n, G (ValueIdx.ix3 s f n) = ∑ r : Fin 4096, a0 m c (ValueIdx.ix3 s r f) * a2 m c (ValueIdx.ix2 r n)) (u : Fin 1) (f : Fin 704) (n : Fin 512) :
    out0_3 (F := Ideal) (iblk m c 0 t) (iblk m c 1 t) (iblk m c 2 t) (ix3 u f n) = G (ValueIdx.ix3 (shard t) f (col t n)) := by
  rw [out3_eq, pay3, hG]
  refine Finset.sum_congr rfl fun r _ => ?_
  exact congrArg₂ (· * ·) ((read0 t (V m c main_arg0) r f).trans (congrFun (V_main_arg0 m c) _))
    ((read2 t (V m c main_arg2) r n).trans (congrFun (V_main_arg2 m c) _))

theorem final3 (G : FVec Ideal S8x704x2048 .bf16)
    (hG : ∀ s f n, G (ValueIdx.ix3 s f n) = ∑ r : Fin 4096, a0 m c (ValueIdx.ix3 s r f) * a2 m c (ValueIdx.ix2 r n)) :
    (dats m 0 c).arrAt 3 cfg0.N = G :=
  (dats m 0 c).arrAt_eq_of_cover 3 G
    (fun t _ => by
      show (cfg0.win 3).cut (grid0.coords t) ((dats m 0 c).after 3 t) = _
      rw [after0_3]
      funext i
      have ei := eta3 (n := 1) (k := 704) (l := 512) i
      have e1 := point3 t m c G hG (i 0) (i 1) (i 2)
      have e2 := read3 t G (i 0) (i 1) (i 2)
      refine Eq.trans ?_ ((e1.trans e2.symm).trans ?_)
      · exact congrArg (out0_3 (F := Ideal) (iblk m c 0 t) (iblk m c 1 t) (iblk m c 2 t)) ei
      · exact congrArg (((cfg0.win 3).blk t).view.read (Elt Ideal) G) ei.symm)
    fun i => by
      have h0 : (i 0 : Nat) < 8 := (i 0).isLt
      have h1 : (i 1 : Nat) < 704 := (i 1).isLt
      have h2 : (i 2 : Nat) < 2048 := (i 2).isLt
      have hn : 4 * (i 0 : Nat) + (i 2 : Nat) / 512 < 32 := by omega
      refine ⟨pt _ hn, flush3 _, ?_⟩
      show i ∈ ((View.whole main_v0_0).slice (win0_3.rect (pt _ hn))).set
      rw [View.set_slice_whole, Rect.mem_set_unit]
      intro a
      have hi := index3 (pt _ hn)
      have hx := xsize3 (pt _ hn)
      have hv : (pt _ hn).val = 4 * (i 0 : Nat) + (i 2 : Nat) / 512 := rfl
      match a with
      | ⟨0, _⟩ =>
        show win0_3.index (pt _ hn) 0 * 1 ≤ (i 0 : Nat) ∧ (i 0 : Nat) < win0_3.index (pt _ hn) 0 * 1 + win0_3.xsize (grid0.coords (pt _ hn)) 0
        rw [hi.1, hx.1, hv]; omega
      | ⟨1, _⟩ =>
        show win0_3.index (pt _ hn) 1 * 704 ≤ (i 1 : Nat) ∧ (i 1 : Nat) < win0_3.index (pt _ hn) 1 * 704 + win0_3.xsize (grid0.coords (pt _ hn)) 1
        rw [hi.2.1, hx.2.1]; omega
      | ⟨2, _⟩ =>
        show win0_3.index (pt _ hn) 2 * 512 ≤ (i 2 : Nat) ∧ (i 2 : Nat) < win0_3.index (pt _ hn) 2 * 512 + win0_3.xsize (grid0.coords (pt _ hn)) 2
        rw [hi.2.2, hx.2.2, hv]; omega

theorem point4 (G : FVec Ideal S8x704x2048 .bf16)
    (hG : ∀ s f n, G (ValueIdx.ix3 s f n) = ∑ r : Fin 4096, a1 m c (ValueIdx.ix3 s r f) * a2 m c (ValueIdx.ix2 r n)) (u : Fin 1) (f : Fin 704) (n : Fin 512) :
    out0_4 (F := Ideal) (iblk m c 0 t) (iblk m c 1 t) (iblk m c 2 t) (ix3 u f n) = G (ValueIdx.ix3 (shard t) f (col t n)) := by
  rw [out4_eq, pay4, hG]
  refine Finset.sum_congr rfl fun r _ => ?_
  exact congrArg₂ (· * ·) ((read1 t (V m c main_arg1) r f).trans (congrFun (V_main_arg1 m c) _))
    ((read2 t (V m c main_arg2) r n).trans (congrFun (V_main_arg2 m c) _))

theorem final4 (G : FVec Ideal S8x704x2048 .bf16)
    (hG : ∀ s f n, G (ValueIdx.ix3 s f n) = ∑ r : Fin 4096, a1 m c (ValueIdx.ix3 s r f) * a2 m c (ValueIdx.ix2 r n)) :
    (dats m 0 c).arrAt 4 cfg0.N = G :=
  (dats m 0 c).arrAt_eq_of_cover 4 G
    (fun t _ => by
      show (cfg0.win 4).cut (grid0.coords t) ((dats m 0 c).after 4 t) = _
      rw [after0_4]
      funext i
      have ei := eta3 (n := 1) (k := 704) (l := 512) i
      have e1 := point4 t m c G hG (i 0) (i 1) (i 2)
      have e2 := read4 t G (i 0) (i 1) (i 2)
      refine Eq.trans ?_ ((e1.trans e2.symm).trans ?_)
      · exact congrArg (out0_4 (F := Ideal) (iblk m c 0 t) (iblk m c 1 t) (iblk m c 2 t)) ei
      · exact congrArg (((cfg0.win 4).blk t).view.read (Elt Ideal) G) ei.symm)
    fun i => by
      have h0 : (i 0 : Nat) < 8 := (i 0).isLt
      have h1 : (i 1 : Nat) < 704 := (i 1).isLt
      have h2 : (i 2 : Nat) < 2048 := (i 2).isLt
      have hn : 4 * (i 0 : Nat) + (i 2 : Nat) / 512 < 32 := by omega
      refine ⟨pt _ hn, flush4 _, ?_⟩
      show i ∈ ((View.whole main_v0_1).slice (win0_4.rect (pt _ hn))).set
      rw [View.set_slice_whole, Rect.mem_set_unit]
      intro a
      have hi := index4 (pt _ hn)
      have hx := xsize4 (pt _ hn)
      have hv : (pt _ hn).val = 4 * (i 0 : Nat) + (i 2 : Nat) / 512 := rfl
      match a with
      | ⟨0, _⟩ =>
        show win0_4.index (pt _ hn) 0 * 1 ≤ (i 0 : Nat) ∧ (i 0 : Nat) < win0_4.index (pt _ hn) 0 * 1 + win0_4.xsize (grid0.coords (pt _ hn)) 0
        rw [hi.1, hx.1, hv]; omega
      | ⟨1, _⟩ =>
        show win0_4.index (pt _ hn) 1 * 704 ≤ (i 1 : Nat) ∧ (i 1 : Nat) < win0_4.index (pt _ hn) 1 * 704 + win0_4.xsize (grid0.coords (pt _ hn)) 1
        rw [hi.2.1, hx.2.1]; omega
      | ⟨2, _⟩ =>
        show win0_4.index (pt _ hn) 2 * 512 ≤ (i 2 : Nat) ∧ (i 2 : Nat) < win0_4.index (pt _ hn) 2 * 512 + win0_4.xsize (grid0.coords (pt _ hn)) 2
        rw [hi.2.2, hx.2.2, hv]; omega

end Cert.WupGradIdeal.Val

namespace Cert.WupGradRefIdeal.Val

open Idealize.ShloMosaic Idealize.ShloMosaic.TcCoe Cert.WupGradRefIdeal Cert.WupGradRefIdeal.Read

/-- The reference's gradient of the weights. -/
theorem v12_at (x : FVec Ideal S8x4096x704 .bf16) (y : FVec Ideal S4096x2048 .bf16) (s : Fin 8) (f : Fin 704) (n : Fin 2048) :
    val_main_v12 (F := Ideal) x y (ValueIdx.ix3 s f n) = ∑ r : Fin 4096, x (ValueIdx.ix3 s r f) * y (ValueIdx.ix2 r n) := by
  refine (val_main_v12_apply (F := Ideal) x y _).trans ?_
  change val_main_v11 (F := Ideal) x y (ValueIdx.ix3 s f n) = _
  refine (val_main_v11_apply x y _).trans (Finset.sum_congr rfl fun r _ => ?_)
  rw [val_main_v10_apply, val_main_v6_apply, val_main_v1_apply]
  exact congrArg₂ (· * ·) (congrArg x (funext fun a => match a with | ⟨0, _⟩ => rfl | ⟨1, _⟩ => rfl | ⟨2, _⟩ => rfl))
    (congrArg y (funext fun a => match a with | ⟨0, _⟩ => rfl | ⟨1, _⟩ => rfl))

/-- The reference's gradient of the other weights. -/
theorem v13_at (x : FVec Ideal S8x4096x704 .bf16) (y : FVec Ideal S4096x2048 .bf16) (s : Fin 8) (f : Fin 704) (n : Fin 2048) :
    val_main_v13 (F := Ideal) x y (ValueIdx.ix3 s f n) = ∑ r : Fin 4096, x (ValueIdx.ix3 s r f) * y (ValueIdx.ix2 r n) := by
  refine (val_main_v13_apply (F := Ideal) x y _).trans ?_
  change val_main_v9 (F := Ideal) x y (ValueIdx.ix3 s f n) = _
  refine (val_main_v9_apply x y _).trans (Finset.sum_congr rfl fun r _ => ?_)
  rw [val_main_v8_apply, val_main_v7_apply, val_main_v1_apply]
  exact congrArg₂ (· * ·) (congrArg x (funext fun a => match a with | ⟨0, _⟩ => rfl | ⟨1, _⟩ => rfl | ⟨2, _⟩ => rfl))
    (congrArg y (funext fun a => match a with | ⟨0, _⟩ => rfl | ⟨1, _⟩ => rfl))

end Cert.WupGradRefIdeal.Val

end
-- ==== Proof.UpBwdValue.lean ====
module

public import proofs.«01_k».proof.Proof.Gen.UpBwdIdeal.Value
public import proofs.«01_k».proof.Proof.Gen.UpBwdRefIdeal.Read
public import Idealize.ShloMosaic.Lib.Pointwise

@[expose] public section

set_option maxRecDepth 16384

noncomputable section

/-! # The gradient of the input of the feed-forward layer

The grid point `4 i + k` adds shards `2 k` and `2 k + 1` of the hidden columns into rows `512 i …`. -/

namespace Cert.UpBwdIdeal.Val

open Idealize.ShloMosaic Idealize.ShloMosaic.TcCoe Idealize.SL.Sem Cert.UpBwdIdeal Cert.UpBwdIdeal.Gen

theorem eta2 {n k : ℕ} (i : (⟨2, ![n, k]⟩ : Shape).Idx) : i = ix2 (i 0) (i 1) :=
  funext fun a => match a with | ⟨0, _⟩ => rfl | ⟨1, _⟩ => rfl
theorem off3 : (![0, 0, 0] : Fin 3 → ℕ) = fun _ => 0 := funext fun a => match a with | ⟨0, _⟩ => rfl | ⟨1, _⟩ => rfl | ⟨2, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val % 4 * 2 + 0 ∧ win0_0.index t 1 = t.val / 4 ∧ win0_0.index t 2 = 0 := by decide +kernel
theorem index1 : ∀ t : Fin grid0.N, win0_1.index t 0 = t.val % 4 * 2 + 0 ∧ win0_1.index t 1 = t.val / 4 ∧ win0_1.index t 2 = 0 := by decide +kernel
theorem index2 : ∀ t : Fin grid0.N, win0_2.index t 0 = t.val % 4 * 2 + 1 ∧ win0_2.index t 1 = t.val / 4 ∧ win0_2.index t 2 = 0 := by decide +kernel
theorem index3 : ∀ t : Fin grid0.N, win0_3.index t 0 = t.val % 4 * 2 + 1 ∧ win0_3.index t 1 = t.val / 4 ∧ win0_3.index t 2 = 0 := by decide +kernel
theorem index4 : ∀ t : Fin grid0.N, win0_4.index t 0 = t.val % 4 * 2 + 0 ∧ win0_4.index t 1 = 0 ∧ win0_4.index t 2 = 0 := by decide +kernel
theorem index5 : ∀ t : Fin grid0.N, win0_5.index t 0 = t.val % 4 * 2 + 0 ∧ win0_5.index t 1 = 0 ∧ win0_5.index t 2 = 0 := by decide +kernel
theorem index6 : ∀ t : Fin grid0.N, win0_6.index t 0 = t.val % 4 * 2 + 1 ∧ win0_6.index t 1 = 0 ∧ win0_6.index t 2 = 0 := by decide +kernel
theorem index7 : ∀ t : Fin grid0.N, win0_7.index t 0 = t.val % 4 * 2 + 1 ∧ win0_7.index t 1 = 0 ∧ win0_7.index t 2 = 0 := by decide +kernel
theorem index8 : ∀ t : Fin grid0.N, win0_8.index t 0 = t.val / 4 ∧ win0_8.index t 1 = 0 := by decide +kernel
theorem xsize8 : ∀ t : Fin grid0.N, win0_8.xsize (grid0.coords t) 0 = 512 ∧ win0_8.xsize (grid0.coords t) 1 = 2048 := by decide +kernel

def pt (n : ℕ) (h : n < 32) : Fin cfg0.N := ⟨n, lt_of_lt_of_eq h N_0.symm⟩
def shard0 (t : Fin cfg0.N) : Fin 8 := ⟨t.val % 4 * 2 + 0, by omega⟩
def shard1 (t : Fin cfg0.N) : Fin 8 := ⟨t.val % 4 * 2 + 1, by omega⟩
def row (t : Fin cfg0.N) (r : Fin 512) : Fin 4096 := ⟨t.val / 4 * 512 + r.val, by have : t.val < 32 := lt_of_lt_of_eq t.isLt N_0; omega⟩

/-! ## A block of any contents of a window's array, read at an entry -/

variable (t : Fin cfg0.N)

theorem read0 (W : FVec Ideal S8x4096x704 .bf16) (r : Fin 512) (f : Fin 704) :
    ((cfg0.win 0).blk t).view.read (Elt Ideal) W (ix3 (0 : Fin 1) r f) = W (ValueIdx.ix3 (shard0 t) (row t r) f) := by
  have hi := index0 t
  rw [View.read_apply]
  refine congrArg W (funext fun a => Fin.ext ?_)
  match a with
  | ⟨0, _⟩ => show win0_0.index t 0 * 1 + 1 * 0 = t.val % 4 * 2 + 0; rw [hi.1]; omega
  | ⟨1, _⟩ => show win0_0.index t 1 * 512 + 1 * r.val = t.val / 4 * 512 + r.val; rw [hi.2.1]; omega
  | ⟨2, _⟩ => show win0_0.index t 2 * 704 + 1 * f.val = f.val; rw [hi.2.2]; omega

theorem read1 (W : FVec Ideal S8x4096x704 .bf16) (r : Fin 512) (f : Fin 704) :
    ((cfg0.win 1).blk t).view.read (Elt Ideal) W (ix3 (0 : Fin 1) r f) = W (ValueIdx.ix3 (shard0 t) (row t r) f) := by
  have hi := index1 t
  rw [View.read_apply]
  refine congrArg W (funext fun a => Fin.ext ?_)
  match a with
  | ⟨0, _⟩ => show win0_1.index t 0 * 1 + 1 * 0 = t.val % 4 * 2 + 0; rw [hi.1]; omega
  | ⟨1, _⟩ => show win0_1.index t 1 * 512 + 1 * r.val = t.val / 4 * 512 + r.val; rw [hi.2.1]; omega
  | ⟨2, _⟩ => show win0_1.index t 2 * 704 + 1 * f.val = f.val; rw [hi.2.2]; omega

theorem read2 (W : FVec Ideal S8x4096x704 .bf16) (r : Fin 512) (f : Fin 704) :
    ((cfg0.win 2).blk t).view.read (Elt Ideal) W (ix3 (0 : Fin 1) r f) = W (ValueIdx.ix3 (shard1 t) (row t r) f) := by
  have hi := index2 t
  rw [View.read_apply]
  refine congrArg W (funext fun a => Fin.ext ?_)
  match a with
  | ⟨0, _⟩ => show win0_2.index t 0 * 1 + 1 * 0 = t.val % 4 * 2 + 1; rw [hi.1]; omega
  | ⟨1, _⟩ => show win0_2.index t 1 * 512 + 1 * r.val = t.val / 4 * 512 + r.val; rw [hi.2.1]; omega
  | ⟨2, _⟩ => show win0_2.index t 2 * 704 + 1 * f.val = f.val; rw [hi.2.2]; omega

theorem read3 (W : FVec Ideal S8x4096x704 .bf16) (r : Fin 512) (f : Fin 704) :
    ((cfg0.win 3).blk t).view.read (Elt Ideal) W (ix3 (0 : Fin 1) r f) = W (ValueIdx.ix3 (shard1 t) (row t r) f) := by
  have hi := index3 t
  rw [View.read_apply]
  refine congrArg W (funext fun a => Fin.ext ?_)
  match a with
  | ⟨0, _⟩ => show win0_3.index t 0 * 1 + 1 * 0 = t.val % 4 * 2 + 1; rw [hi.1]; omega
  | ⟨1, _⟩ => show win0_3.index t 1 * 512 + 1 * r.val = t.val / 4 * 512 + r.val; rw [hi.2.1]; omega
  | ⟨2, _⟩ => show win0_3.index t 2 * 704 + 1 * f.val = f.val; rw [hi.2.2]; omega

theorem read4 (W : FVec Ideal S8x704x2048 .bf16) (f : Fin 704) (n : Fin 2048) :
    ((cfg0.win 4).blk t).view.read (Elt Ideal) W (ix3 (0 : Fin 1) f n) = W (ValueIdx.ix3 (shard0 t) f n) := by
  have hi := index4 t
  rw [View.read_apply]
  refine congrArg W (funext fun a => Fin.ext ?_)
  match a with
  | ⟨0, _⟩ => show win0_4.index t 0 * 1 + 1 * 0 = t.val % 4 * 2 + 0; rw [hi.1]; omega
  | ⟨1, _⟩ => show win0_4.index t 1 * 704 + 1 * f.val = f.val; rw [hi.2.1]; omega
  | ⟨2, _⟩ => show win0_4.index t 2 * 2048 + 1 * n.val = n.val; rw [hi.2.2]; omega

theorem read5 (W : FVec Ideal S8x704x2048 .bf16) (f : Fin 704) (n : Fin 2048) :
    ((cfg0.win 5).blk t).view.read (Elt Ideal) W (ix3 (0 : Fin 1) f n) = W (ValueIdx.ix3 (shard0 t) f n) := by
  have hi := index5 t
  rw [View.read_apply]
  refine congrArg W (funext fun a => Fin.ext ?_)
  match a with
  | ⟨0, _⟩ => show win0_5.index t 0 * 1 + 1 * 0 = t.val % 4 * 2 + 0; rw [hi.1]; omega
  | ⟨1, _⟩ => show win0_5.index t 1 * 704 + 1 * f.val = f.val; rw [hi.2.1]; omega
  | ⟨2, _⟩ => show win0_5.index t 2 * 2048 + 1 * n.val = n.val; rw [hi.2.2]; omega

theorem read6 (W : FVec Ideal S8x704x2048 .bf16) (f : Fin 704) (n : Fin 2048) :
    ((cfg0.win 6).blk t).view.read (Elt Ideal) W (ix3 (0 : Fin 1) f n) = W (ValueIdx.ix3 (shard1 t) f n) := by
  have hi := index6 t
  rw [View.read_apply]
  refine congrArg W (funext fun a => Fin.ext ?_)
  match a with
  | ⟨0, _⟩ => show win0_6.index t 0 * 1 + 1 * 0 = t.val % 4 * 2 + 1; rw [hi.1]; omega
  | ⟨1, _⟩ => show win0_6.index t 1 * 704 + 1 * f.val = f.val; rw [hi.2.1]; omega
  | ⟨2, _⟩ => show win0_6.index t 2 * 2048 + 1 * n.val = n.val; rw [hi.2.2]; omega

theorem read7 (W : FVec Ideal S8x704x2048 .bf16) (f : Fin 704) (n : Fin 2048) :
    ((cfg0.win 7).blk t).view.read (Elt Ideal) W (ix3 (0 : Fin 1) f n) = W (ValueIdx.ix3 (shard1 t) f n) := by
  have hi := index7 t
  rw [View.read_apply]
  refine congrArg W (funext fun a => Fin.ext ?_)
  match a with
  | ⟨0, _⟩ => show win0_7.index t 0 * 1 + 1 * 0 = t.val % 4 * 2 + 1; rw [hi.1]; omega
  | ⟨1, _⟩ => show win0_7.index t 1 * 704 + 1 * f.val = f.val; rw [hi.2.1]; omega
  | ⟨2, _⟩ => show win0_7.index t 2 * 2048 + 1 * n.val = n.val; rw [hi.2.2]; omega

theorem read8 (W : FVec Ideal S4096x2048 .f32) (r : Fin 512) (n : Fin 2048) :
    ((cfg0.win 8).blk t).view.read (Elt Ideal) W (ix2 r n) = W (ValueIdx.ix2 (row t r) n) := by
  have hi := index8 t
  rw [View.read_apply]
  refine congrArg W (funext fun a => Fin.ext ?_)
  match a with
  | ⟨0, _⟩ => show win0_8.index t 0 * 512 + 1 * r.val = t.val / 4 * 512 + r.val; rw [hi.1]; omega
  | ⟨1, _⟩ => show win0_8.index t 1 * 2048 + 1 * n.val = n.val; rw [hi.2]; omega

/-! ## The payloads at an entry -/

/-- A row of a block of gradients times a column of a block of weights. -/
def dot (a : Vec Ideal S1x512x704 .bf16) (b : Vec Ideal S1x704x2048 .bf16) (r : Fin 512) (n : Fin 2048) : EReal :=
  ∑ f : Fin 704, a (ix3 (0 : Fin 1) r f) * b (ix3 (0 : Fin 1) f n)

theorem pay3_at (x0 x1 x2 x3 : Vec Ideal S1x512x704 .bf16) (x4 x5 x6 x7 : Vec Ideal S1x704x2048 .bf16) (r : Fin 512) (n : Fin 2048) :
    k0_pay3 (F := Ideal) x0 x1 x2 x3 x4 x5 x6 x7 (ix2 r n) = dot x0 x4 r n + dot x1 x5 r n + dot x2 x6 r n + dot x3 x7 r n := by
  refine Eq.trans (b := (0 + dot x0 x4 r n) + (0 + dot x1 x5 r n) + (0 + dot x2 x6 r n) + (0 + dot x3 x7 r n)) ?_ ?_
  · simp only [k0_pay3, dot, pointwise]
  · simp only [zero_add]

theorem pay1_at (x y : Vec Ideal S512x2048 .f32) (r : Fin 512) (n : Fin 2048) : k0_pay1 (F := Ideal) x y (ix2 r n) = y (ix2 r n) + x (ix2 r n) := by
  simp only [k0_pay1, pointwise]

theorem pay2_at (r : Fin 512) (n : Fin 2048) : k0_pay2 (F := Ideal) (ix2 r n) = 0 := by
  simp only [k0_pay2, pointwise]

/-! ## What the cases leave -/

section Cases

variable (c : Dev nD) (i : grid0.Coords)
  {arg3 : Memref sig .tc .vmem S1x512x704 .bf16} (harg3 : arg3.IsWhole) {arg4 : Memref sig .tc .vmem S1x512x704 .bf16} (harg4 : arg4.IsWhole)
  {arg5 : Memref sig .tc .vmem S1x512x704 .bf16} (harg5 : arg5.IsWhole) {arg6 : Memref sig .tc .vmem S1x512x704 .bf16} (harg6 : arg6.IsWhole)
  {arg7 : Memref sig .tc .vmem S1x704x2048 .bf16} (harg7 : arg7.IsWhole) {arg8 : Memref sig .tc .vmem S1x704x2048 .bf16} (harg8 : arg8.IsWhole)
  {arg9 : Memref sig .tc .vmem S1x704x2048 .bf16} (harg9 : arg9.IsWhole) {arg10 : Memref sig .tc .vmem S1x704x2048 .bf16} (harg10 : arg10.IsWhole)
  {arg11 : Memref sig .tc .vmem S512x2048 .f32} (harg11 : arg11.IsWhole) {arg12 : Memref sig .tc .vmem S512x2048 .f32} (harg12 : arg12.IsWhole)
  (x0 x1 x2 x3 : Vec Ideal S1x512x704 .bf16) (x4 x5 x6 x7 : Vec Ideal S1x704x2048 .bf16) (xs : Vec Ideal S512x2048 .f32)

theorem left_A (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 x4 x5 x6 x7
      = k0_pay1 (k0_pay3 x0 x1 x2 x3 x4 x5 x6 x7) (k0_pay2 (F := Ideal)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x2048) off2, View.readCov_unit_zero (S := S512x2048) _ off2]
  simp only [View.readAt_eq_ld, harg3.read_unread, harg4.read_unread, harg5.read_unread, harg6.read_unread, harg7.read_unread, harg8.read_unread, harg9.read_unread, harg10.read_unread,
    View.ld_unit_zero (S := S1x512x704) off3, View.ld_unit_zero (S := S1x704x2048) off3]

theorem left_B (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 hc0 hc1 x0 x1 x2 x3 x4 x5 x6 x7 xs
      = k0_pay1 (k0_pay3 x0 x1 x2 x3 x4 x5 x6 x7) xs := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 x7 xs)]
  unfold kernelRun0_B
  dsimp only
  sl_unfold_words
  rw [View.canon_unit_zero (S := S512x2048) off2]
  simp only [View.readAt_eq_ld, harg3.read_unread, harg4.read_unread, harg5.read_unread, harg6.read_unread, harg7.read_unread, harg8.read_unread, harg9.read_unread, harg10.read_unread,
    harg12.read_unread, View.ld_unit_zero (S := S1x512x704) off3, View.ld_unit_zero (S := S1x704x2048) off3, View.ld_unit_zero (S := S512x2048) off2]

theorem left_C (hc0 : ¬cond0_0 i) (hc1 : cond0_1 i) :
    out0_C_8 c i arg3 harg3 arg4 harg4 arg5 harg5 arg6 harg6 arg7 harg7 arg8 harg8 arg9 harg9 arg10 harg10 arg11 harg11 arg12 harg12 hc0 hc1 x0 x1 x2 x3 x4 x5 x6 x7 xs
      = k0_pay1 (k0_pay3 x0 x1 x2 x3 x4 x5 x6 x7) xs := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 x7 xs)]
  unfold kernelRun0_C
  dsimp only
  sl_unfold_words
  rw [View.canon_unit_zero (S := S512x2048) off2, View.readCov_unit_zero (S := S512x2048) _ off2]
  simp only [View.readAt_eq_ld, harg3.read_unread, harg4.read_unread, harg5.read_unread, harg6.read_unread, harg7.read_unread, harg8.read_unread, harg9.read_unread, harg10.read_unread,
    harg12.read_unread, View.ld_unit_zero (S := S1x512x704) off3, View.ld_unit_zero (S := S1x704x2048) off3, View.ld_unit_zero (S := S512x2048) off2]

end Cases

/-! ## The four points of a row of blocks -/

variable (m : (ℓ : Loc nD τ sig) → Buf (Elt Ideal) ℓ) (c : Dev nD)

/-- What a point adds. -/
def term : Vec Ideal S512x2048 .f32 :=
  k0_pay3 (iblk m c 0 t) (iblk m c 1 t) (iblk m c 2 t) (iblk m c 3 t) (iblk m c 4 t) (iblk m c 5 t) (iblk m c 6 t) (iblk m c 7 t)

theorem carried_A (h0 : t.val % 4 = 0) : (outsAt0 m c t.val t.isLt).2 = k0_pay1 (F := Ideal) (term t m c) (k0_pay2 (F := Ideal)) := by
  refine (congrArg Prod.snd (outsAt0_A m c t h0 (by omega))).trans ?_
  unfold term
  dsimp only
  rw [left_A]

theorem carried_B (h0 : ¬t.val % 4 = 0) (h1 : ¬t.val % 4 = 3) :
    (outsAt0 m c t.val t.isLt).2 = k0_pay1 (F := Ideal) (term t m c) (outsAt0 m c (t.val - 1) (Nat.lt_of_le_of_lt (Nat.sub_le _ _) t.isLt)).2 := by
  refine (congrArg Prod.snd (outsAt0_B m c t h0 h1)).trans ?_
  unfold term
  dsimp only
  rw [left_B]

theorem result_C (h1 : t.val % 4 = 3) :
    (outsAt0 m c t.val t.isLt).1 = k0_pay1 (F := Ideal) (term t m c) (outsAt0 m c (t.val - 1) (Nat.lt_of_le_of_lt (Nat.sub_le _ _) t.isLt)).2 := by
  refine (congrArg Prod.fst (outsAt0_C m c t (by omega) h1)).trans ?_
  unfold term
  dsimp only
  rw [left_C]

theorem result_at (i : ℕ) (hi : i < 8) (r : Fin 512) (n : Fin 2048) :
    (outsAt0 m c (pt (4 * i + 3) (by omega)).val (pt (4 * i + 3) (by omega)).isLt).1 (ix2 r n)
      = 0 + term (pt (4 * i) (by omega)) m c (ix2 r n) + term (pt (4 * i + 1) (by omega)) m c (ix2 r n)
        + term (pt (4 * i + 2) (by omega)) m c (ix2 r n) + term (pt (4 * i + 3) (by omega)) m c (ix2 r n) := by
  have e3 := result_C (pt (4 * i + 3) (by omega)) m c (by show (4 * i + 3) % 4 = 3; omega)
  have e2 := carried_B (pt (4 * i + 2) (by omega)) m c (by show ¬(4 * i + 2) % 4 = 0; omega) (by show ¬(4 * i + 2) % 4 = 3; omega)
  have e1 := carried_B (pt (4 * i + 1) (by omega)) m c (by show ¬(4 * i + 1) % 4 = 0; omega) (by show ¬(4 * i + 1) % 4 = 3; omega)
  have e0 := carried_A (pt (4 * i) (by omega)) m c (by show 4 * i % 4 = 0; omega)
  refine (congrFun e3 _).trans ((pay1_at _ _ r n).trans (congrArg (· + _) ?_))
  refine (congrFun e2 _).trans ((pay1_at _ _ r n).trans (congrArg (· + _) ?_))
  refine (congrFun e1 _).trans ((pay1_at _ _ r n).trans (congrArg (· + _) ?_))
  refine (congrFun e0 _).trans ((pay1_at _ _ r n).trans (congrArg (· + _) ?_))
  exact pay2_at r n

abbrev a0 : FVec Ideal S8x4096x704 .bf16 := m ((c : Thread nD τ).loc main_arg0)
abbrev a1 : FVec Ideal S8x4096x704 .bf16 := m ((c : Thread nD τ).loc main_arg1)
abbrev a2 : FVec Ideal S8x704x2048 .bf16 := m ((c : Thread nD τ).loc main_arg2)
abbrev a3 : FVec Ideal S8x704x2048 .bf16 := m ((c : Thread nD τ).loc main_arg3)

/-- A shard's part of an entry. -/
def part (x : FVec Ideal S8x4096x704 .bf16) (y : FVec Ideal S8x704x2048 .bf16) (s : Fin 8) (r : Fin 4096) (n : Fin 2048) : EReal :=
  ∑ f : Fin 704, x (ValueIdx.ix3 s r f) * y (ValueIdx.ix3 s f n)

theorem term_at (r : Fin 512) (n : Fin 2048) : term t m c (ix2 r n)
    = part (a0 m c) (a2 m c) (shard0 t) (row t r) n + part (a1 m c) (a3 m c) (shard0 t) (row t r) n
      + part (a0 m c) (a2 m c) (shard1 t) (row t r) n + part (a1 m c) (a3 m c) (shard1 t) (row t r) n := by
  unfold term
  rw [pay3_at]
  refine congrArg₂ (· + ·) (congrArg₂ (· + ·) (congrArg₂ (· + ·) ?_ ?_) ?_) ?_
  · exact Finset.sum_congr rfl fun f _ => congrArg₂ (· * ·) ((read0 t (V m c main_arg0) r f).trans (congrFun (V_main_arg0 m c) _))
      ((read4 t (V m c main_arg2) f n).trans (congrFun (V_main_arg2 m c) _))
  · exact Finset.sum_congr rfl fun f _ => congrArg₂ (· * ·) ((read1 t (V m c main_arg1) r f).trans (congrFun (V_main_arg1 m c) _))
      ((read5 t (V m c main_arg3) f n).trans (congrFun (V_main_arg3 m c) _))
  · exact Finset.sum_congr rfl fun f _ => congrArg₂ (· * ·) ((read2 t (V m c main_arg0) r f).trans (congrFun (V_main_arg0 m c) _))
      ((read6 t (V m c main_arg2) f n).trans (congrFun (V_main_arg2 m c) _))
  · exact Finset.sum_congr rfl fun f _ => congrArg₂ (· * ·) ((read3 t (V m c main_arg1) r f).trans (congrFun (V_main_arg1 m c) _))
      ((read7 t (V m c main_arg3) f n).trans (congrFun (V_main_arg3 m c) _))

/-- The eight shards' parts, in the order the points add them. -/
theorem sum_shards (p q : Fin 8 → EReal) :
    0 + (p 0 + q 0 + p 1 + q 1) + (p 2 + q 2 + p 3 + q 3) + (p 4 + q 4 + p 5 + q 5) + (p 6 + q 6 + p 7 + q 7)
      = (∑ s, q s) + ∑ s, p s := by
  rw [Fin.sum_univ_eight, Fin.sum_univ_eight]
  abel

theorem last_lt (i : ℕ) (hi : i < 8) : 4 * i + 3 < 32 := by omega

theorem point8 (G : FVec Ideal S4096x2048 .f32)
    (hG : ∀ x n, G (ValueIdx.ix2 x n) = (∑ s : Fin 8, part (a1 m c) (a3 m c) s x n) + ∑ s : Fin 8, part (a0 m c) (a2 m c) s x n)
    (h1 : t.val % 4 = 3) (r : Fin 512) (n : Fin 2048) :
    (outsAt0 m c t.val t.isLt).1 (ix2 r n) = G (ValueIdx.ix2 (row t r) n) := by
  have hN : t.val < 32 := lt_of_lt_of_eq t.isLt N_0
  obtain ⟨i, hi, rfl⟩ : ∃ i, ∃ hi : i < 8, t = pt (4 * i + 3) (last_lt i hi) := ⟨t.val / 4, by omega, Fin.ext (by show t.val = 4 * (t.val / 4) + 3; omega)⟩
  rw [result_at m c i hi r n, hG]
  have hr : ∀ (k : ℕ) (hk : k < 4), row (pt (4 * i + k) (by omega)) r = row (pt (4 * i + 3) (by omega)) r := fun k hk =>
    Fin.ext (by show (4 * i + k) / 4 * 512 + r.val = (4 * i + 3) / 4 * 512 + r.val; omega)
  have hs0 : ∀ (k : ℕ) (hk : k < 4), shard0 (pt (4 * i + k) (by omega)) = ⟨k * 2 + 0, by omega⟩ := fun k hk =>
    Fin.ext (by show (4 * i + k) % 4 * 2 + 0 = k * 2 + 0; omega)
  have hs1 : ∀ (k : ℕ) (hk : k < 4), shard1 (pt (4 * i + k) (by omega)) = ⟨k * 2 + 1, by omega⟩ := fun k hk =>
    Fin.ext (by show (4 * i + k) % 4 * 2 + 1 = k * 2 + 1; omega)
  have ht : ∀ (k : ℕ) (hk : k < 4), term (pt (4 * i + k) (by omega)) m c (ix2 r n)
      = part (a0 m c) (a2 m c) ⟨k * 2 + 0, by omega⟩ (row (pt (4 * i + 3) (by omega)) r) n + part (a1 m c) (a3 m c) ⟨k * 2 + 0, by omega⟩ (row (pt (4 * i + 3) (by omega)) r) n
        + part (a0 m c) (a2 m c) ⟨k * 2 + 1, by omega⟩ (row (pt (4 * i + 3) (by omega)) r) n + part (a1 m c) (a3 m c) ⟨k * 2 + 1, by omega⟩ (row (pt (4 * i + 3) (by omega)) r) n := fun k hk => by
    rw [term_at, hr k hk, hs0 k hk, hs1 k hk]
  have t0 := ht 0 (by omega)
  have t1 := ht 1 (by omega)
  have t2 := ht 2 (by omega)
  have t3 := ht 3 (by omega)
  refine Eq.trans ?_ (sum_shards (fun s => part (a0 m c) (a2 m c) s (row (pt (4 * i + 3) (by omega)) r) n) fun s => part (a1 m c) (a3 m c) s (row (pt (4 * i + 3) (by omega)) r) n)
  exact congrArg₂ (· + ·) (congrArg₂ (· + ·) (congrArg₂ (· + ·) (congrArg₂ (· + ·) rfl t0) t1) t2) t3

theorem final8 (G : FVec Ideal S4096x2048 .f32)
    (hG : ∀ x n, G (ValueIdx.ix2 x n) = (∑ s : Fin 8, part (a1 m c) (a3 m c) s x n) + ∑ s : Fin 8, part (a0 m c) (a2 m c) s x n) :
    (dats m 0 c).arrAt 8 cfg0.N = G :=
  (dats m 0 c).arrAt_eq_of_cover 8 G
    (fun t hf => by
      show (cfg0.win 8).cut (grid0.coords t) ((dats m 0 c).after 8 t) = _
      rw [after0_8]
      funext i
      have ei := eta2 (n := 512) (k := 2048) i
      have e1 := point8 t m c G hG ((flush0_8 t).mp hf) (i 0) (i 1)
      have e2 := read8 t G (i 0) (i 1)
      refine Eq.trans ?_ ((e1.trans e2.symm).trans ?_)
      · exact congrArg (outsAt0 m c t.val t.isLt).1 ei
      · exact congrArg (((cfg0.win 8).blk t).view.read (Elt Ideal) G) ei.symm)
    fun i => by
      have h0 : (i 0 : Nat) < 4096 := (i 0).isLt
      have h1 : (i 1 : Nat) < 2048 := (i 1).isLt
      have hn : 4 * ((i 0 : Nat) / 512) + 3 < 32 := by omega
      refine ⟨pt _ hn, (flush0_8 _).mpr (by show (4 * ((i 0 : Nat) / 512) + 3) % 4 = 3; omega), ?_⟩
      show i ∈ ((View.whole main_v0).slice (win0_8.rect (pt _ hn))).set
      rw [View.set_slice_whole, Rect.mem_set_unit]
      intro a
      have hi := index8 (pt _ hn)
      have hx := xsize8 (pt _ hn)
      have hv : (pt _ hn).val = 4 * ((i 0 : Nat) / 512) + 3 := rfl
      match a with
      | ⟨0, _⟩ =>
        show win0_8.index (pt _ hn) 0 * 512 ≤ (i 0 : Nat) ∧ (i 0 : Nat) < win0_8.index (pt _ hn) 0 * 512 + win0_8.xsize (grid0.coords (pt _ hn)) 0
        rw [hi.1, hx.1, hv]; omega
      | ⟨1, _⟩ =>
        show win0_8.index (pt _ hn) 1 * 2048 ≤ (i 1 : Nat) ∧ (i 1 : Nat) < win0_8.index (pt _ hn) 1 * 2048 + win0_8.xsize (grid0.coords (pt _ hn)) 1
        rw [hi.2, hx.2]; omega

end Cert.UpBwdIdeal.Val

namespace Cert.UpBwdRefIdeal.Val

open Idealize.ShloMosaic Idealize.ShloMosaic.TcCoe Cert.UpBwdRefIdeal Cert.UpBwdRefIdeal.Read

/-- A product over shards and hidden columns, at an entry. -/
theorem dot_at (x : FVec Ideal S8x704x4096 .f32) (y : FVec Ideal S8x704x2048 .f32) (r : Fin 4096) (n : Fin 2048) :
    Host.dotGeneral dot_S8x704x4096_S8x704x2048_S4096x2048_01_01_2_2_n_n none x y (ValueIdx.ix2 r n)
      = ∑ s : Fin 8, ∑ f : Fin 704, x (ValueIdx.ix3 s f r) * y (ValueIdx.ix3 s f n) := by
  refine Eq.trans (b := 0 + ∑ s : Fin 8, ∑ f : Fin 704, x (ix3 s f r) * y (ix3 s f n)) ?_ ?_
  · show Host.dotGeneral dot_S8x704x4096_S8x704x2048_S4096x2048_01_01_2_2_n_n none x y (ix2 r n) = _
    simp only [Host.dotGeneral, pointwise]
  · exact zero_add _

theorem v10_at (x : FVec Ideal S8x4096x704 .bf16) (y : FVec Ideal S8x704x2048 .bf16) (r : Fin 4096) (n : Fin 2048) :
    val_main_v10 (F := Ideal) x y (ValueIdx.ix2 r n) = ∑ s : Fin 8, ∑ f : Fin 704, x (ValueIdx.ix3 s r f) * y (ValueIdx.ix3 s f n) := by
  refine (dot_at _ _ r n).trans (Finset.sum_congr rfl fun s _ => Finset.sum_congr rfl fun f _ => ?_)
  rw [val_main_v9_apply, val_main_v8_apply, val_main_v2_apply]
  exact congrArg₂ (· * ·) (congrArg x (funext fun a => match a with | ⟨0, _⟩ => rfl | ⟨1, _⟩ => rfl | ⟨2, _⟩ => rfl)) rfl

theorem v12_at (x : FVec Ideal S8x4096x704 .bf16) (y : FVec Ideal S8x704x2048 .bf16) (r : Fin 4096) (n : Fin 2048) :
    val_main_v12 (F := Ideal) x y (ValueIdx.ix2 r n) = ∑ s : Fin 8, ∑ f : Fin 704, x (ValueIdx.ix3 s r f) * y (ValueIdx.ix3 s f n) := by
  refine (dot_at _ _ r n).trans (Finset.sum_congr rfl fun s _ => Finset.sum_congr rfl fun f _ => ?_)
  rw [val_main_v11_apply, val_main_v7_apply, val_main_v1_apply]
  exact congrArg₂ (· * ·) (congrArg x (funext fun a => match a with | ⟨0, _⟩ => rfl | ⟨1, _⟩ => rfl | ⟨2, _⟩ => rfl)) rfl

/-- The reference's gradient of the input. -/
theorem v13_at (x0 x1 : FVec Ideal S8x4096x704 .bf16) (x2 x3 : FVec Ideal S8x704x2048 .bf16) (r : Fin 4096) (n : Fin 2048) :
    val_main_v13 (F := Ideal) x0 x1 x2 x3 (ValueIdx.ix2 r n)
      = (∑ s : Fin 8, ∑ f : Fin 704, x1 (ValueIdx.ix3 s r f) * x3 (ValueIdx.ix3 s f n))
        + ∑ s : Fin 8, ∑ f : Fin 704, x0 (ValueIdx.ix3 s r f) * x2 (ValueIdx.ix3 s f n) := by
  refine (val_main_v13_apply (F := Ideal) x0 x1 x2 x3 _).trans ?_
  exact congrArg₂ (· + ·) (v10_at x1 x3 r n) (v12_at x0 x2 r n)

end Cert.UpBwdRefIdeal.Val

end
-- ==== Proof.WdownGradValue.lean ====
module

public import proofs.«01_k».proof.Proof.Gen.WdownGradIdeal.Value
public import proofs.«01_k».proof.Proof.Gen.WdownGradRefIdeal.Read
public import Idealize.ShloMosaic.Lib.Pointwise

@[expose] public section

set_option maxRecDepth 16384

noncomputable section

/-! # The gradient of the last weights of the feed-forward layer

The grid point `4 j + i` holds shard `j` of the hidden columns and columns `512 i …` of the model dimension. -/

namespace Cert.WdownGradIdeal.Val

open Idealize.ShloMosaic Idealize.ShloMosaic.TcCoe Idealize.SL.Sem Cert.WdownGradIdeal Cert.WdownGradIdeal.Gen

theorem eta3 {n k l : ℕ} (i : (⟨3, ![n, k, l]⟩ : Shape).Idx) : i = ix3 (i 0) (i 1) (i 2) :=
  funext fun a => match a with | ⟨0, _⟩ => rfl | ⟨1, _⟩ => rfl | ⟨2, _⟩ => rfl
theorem off3 : (![0, 0, 0] : Fin 3 → ℕ) = fun _ => 0 := funext fun a => match a with | ⟨0, _⟩ => rfl | ⟨1, _⟩ => rfl | ⟨2, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val / 4 ∧ win0_0.index t 1 = 0 ∧ win0_0.index t 2 = 0 := by decide +kernel
theorem index1 : ∀ t : Fin grid0.N, win0_1.index t 0 = 0 ∧ win0_1.index t 1 = t.val % 4 := by decide +kernel
theorem index2 : ∀ t : Fin grid0.N, win0_2.index t 0 = t.val / 4 ∧ win0_2.index t 1 = 0 ∧ win0_2.index t 2 = t.val % 4 := by decide +kernel
theorem xsize2 : ∀ t : Fin grid0.N, win0_2.xsize (grid0.coords t) 0 = 1 ∧ win0_2.xsize (grid0.coords t) 1 = 704
    ∧ win0_2.xsize (grid0.coords t) 2 = 512 := by decide +kernel
theorem flush2 : ∀ t : Fin grid0.N, win0_2.flush t = true := by decide +kernel

def pt (n : ℕ) (h : n < 32) : Fin cfg0.N := ⟨n, lt_of_lt_of_eq h N_0.symm⟩
def shard (t : Fin cfg0.N) : Fin 8 := ⟨t.val / 4, by have : t.val < 32 := lt_of_lt_of_eq t.isLt N_0; omega⟩
def col (t : Fin cfg0.N) (n : Fin 512) : Fin 2048 := ⟨t.val % 4 * 512 + n.val, by omega⟩

/-! ## A block of any contents of a window's array, read at an entry -/

variable (t : Fin cfg0.N)

theorem read0 (W : FVec Ideal S8x4096x704 .bf16) (r : Fin 4096) (f : Fin 704) :
    ((cfg0.win 0).blk t).view.read (Elt Ideal) W (ix3 (0 : Fin 1) r f) = W (ValueIdx.ix3 (shard t) r f) := by
  have hi := index0 t
  rw [View.read_apply]
  refine congrArg W (funext fun a => Fin.ext ?_)
  match a with
  | ⟨0, _⟩ => show win0_0.index t 0 * 1 + 1 * 0 = t.val / 4; rw [hi.1]; omega
  | ⟨1, _⟩ => show win0_0.index t 1 * 4096 + 1 * r.val = r.val; rw [hi.2.1]; omega
  | ⟨2, _⟩ => show win0_0.index t 2 * 704 + 1 * f.val = f.val; rw [hi.2.2]; omega

theorem read1 (W : FVec Ideal S4096x2048 .bf16) (r : Fin 4096) (n : Fin 512) :
    ((cfg0.win 1).blk t).view.read (Elt Ideal) W (ix2 r n) = W (ValueIdx.ix2 r (col t n)) := by
  have hi := index1 t
  rw [View.read_apply]
  refine congrArg W (funext fun a => Fin.ext ?_)
  match a with
  | ⟨0, _⟩ => show win0_1.index t 0 * 4096 + 1 * r.val = r.val; rw [hi.1]; omega
  | ⟨1, _⟩ => show win0_1.index t 1 * 512 + 1 * n.val = t.val % 4 * 512 + n.val; rw [hi.2]; omega

theorem read2 (W : FVec Ideal S8x704x2048 .bf16) (u : Fin 1) (f : Fin 704) (n : Fin 512) :
    ((cfg0.win 2).blk t).view.read (Elt Ideal) W (ix3 u f n) = W (ValueIdx.ix3 (shard t) f (col t n)) := by
  have hi := index2 t
  have hu : u.val = 0 := by omega
  rw [View.read_apply]
  refine congrArg W (funext fun a => Fin.ext ?_)
  match a with
  | ⟨0, _⟩ => show win0_2.index t 0 * 1 + 1 * u.val = t.val / 4; rw [hi.1, hu]; omega
  | ⟨1, _⟩ => show win0_2.index t 1 * 704 + 1 * f.val = f.val; rw [hi.2.1]; omega
  | ⟨2, _⟩ => show win0_2.index t 2 * 512 + 1 * n.val = t.val % 4 * 512 + n.val; rw [hi.2.2]; omega

/-! ## What a point stores -/

theorem pay2 (a : Vec Ideal S1x4096x704 .bf16) (b : Vec Ideal S4096x512 .bf16) (u : Fin 1) (f : Fin 704) (n : Fin 512) :
    k0_pay1 (F := Ideal) a b (ix3 u f n) = ∑ r : Fin 4096, a (ix3 (0 : Fin 1) r f) * b (ix2 r n) := by
  obtain rfl : u = 0 := Subsingleton.elim _ _
  refine Eq.trans (b := 0 + ∑ r : Fin 4096, a (ix3 (0 : Fin 1) r f) * b (ix2 r n)) ?_ (zero_add _)
  simp only [k0_pay1, pointwise]

theorem out2_eq (x0 : Vec Ideal S1x4096x704 .bf16) (x1 : Vec Ideal S4096x512 .bf16) : out0_2 (F := Ideal) x0 x1 = k0_pay1 x0 x1 := by
  unfold out0_2
  rw [View.canon_unit_zero off3, View.ld_unit_zero off3, View.ld_unit_zero off2]

/-! ## The arrays after the run -/

variable (m : (ℓ : Loc nD τ sig) → Buf (Elt Ideal) ℓ) (c : Dev nD)

abbrev a0 : FVec Ideal S8x4096x704 .bf16 := m ((c : Thread nD τ).loc main_arg0)
abbrev a1 : FVec Ideal S4096x2048 .bf16 := m ((c : Thread nD τ).loc main_arg1)

theorem point2 (G : FVec Ideal S8x704x2048 .bf16)
    (hG : ∀ s f n, G (ValueIdx.ix3 s f n) = ∑ r : Fin 4096, a0 m c (ValueIdx.ix3 s r f) * a1 m c (ValueIdx.ix2 r n)) (u : Fin 1) (f : Fin 704) (n : Fin 512) :
    out0_2 (F := Ideal) (iblk m c 0 t) (iblk m c 1 t) (ix3 u f n) = G (ValueIdx.ix3 (shard t) f (col t n)) := by
  rw [out2_eq, pay2, hG]
  refine Finset.sum_congr rfl fun r _ => ?_
  exact congrArg₂ (· * ·) ((read0 t (V m c main_arg0) r f).trans (congrFun (V_main_arg0 m c) _))
    ((read1 t (V m c main_arg1) r n).trans (congrFun (V_main_arg1 m c) _))

theorem final2 (G : FVec Ideal S8x704x2048 .bf16)
    (hG : ∀ s f n, G (ValueIdx.ix3 s f n) = ∑ r : Fin 4096, a0 m c (ValueIdx.ix3 s r f) * a1 m c (ValueIdx.ix2 r n)) :
    (dats m 0 c).arrAt 2 cfg0.N = G :=
  (dats m 0 c).arrAt_eq_of_cover 2 G
    (fun t _ => by
      show (cfg0.win 2).cut (grid0.coords t) ((dats m 0 c).after 2 t) = _
      rw [after0_2]
      funext i
      have ei := eta3 (n := 1) (k := 704) (l := 512) i
      have e1 := point2 t m c G hG (i 0) (i 1) (i 2)
      have e2 := read2 t G (i 0) (i 1) (i 2)
      refine Eq.trans ?_ ((e1.trans e2.symm).trans ?_)
      · exact congrArg (out0_2 (F := Ideal) (iblk m c 0 t) (iblk m c 1 t)) ei
      · exact congrArg (((cfg0.win 2).blk t).view.read (Elt Ideal) G) ei.symm)
    fun i => by
      have h0 : (i 0 : Nat) < 8 := (i 0).isLt
      have h1 : (i 1 : Nat) < 704 := (i 1).isLt
      have h2 : (i 2 : Nat) < 2048 := (i 2).isLt
      have hn : 4 * (i 0 : Nat) + (i 2 : Nat) / 512 < 32 := by omega
      refine ⟨pt _ hn, flush2 _, ?_⟩
      show i ∈ ((View.whole main_v0).slice (win0_2.rect (pt _ hn))).set
      rw [View.set_slice_whole, Rect.mem_set_unit]
      intro a
      have hi := index2 (pt _ hn)
      have hx := xsize2 (pt _ hn)
      have hv : (pt _ hn).val = 4 * (i 0 : Nat) + (i 2 : Nat) / 512 := rfl
      match a with
      | ⟨0, _⟩ =>
        show win0_2.index (pt _ hn) 0 * 1 ≤ (i 0 : Nat) ∧ (i 0 : Nat) < win0_2.index (pt _ hn) 0 * 1 + win0_2.xsize (grid0.coords (pt _ hn)) 0
        rw [hi.1, hx.1, hv]; omega
      | ⟨1, _⟩ =>
        show win0_2.index (pt _ hn) 1 * 704 ≤ (i 1 : Nat) ∧ (i 1 : Nat) < win0_2.index (pt _ hn) 1 * 704 + win0_2.xsize (grid0.coords (pt _ hn)) 1
        rw [hi.2.1, hx.2.1]; omega
      | ⟨2, _⟩ =>
        show win0_2.index (pt _ hn) 2 * 512 ≤ (i 2 : Nat) ∧ (i 2 : Nat) < win0_2.index (pt _ hn) 2 * 512 + win0_2.xsize (grid0.coords (pt _ hn)) 2
        rw [hi.2.2, hx.2.2, hv]; omega

end Cert.WdownGradIdeal.Val

namespace Cert.WdownGradRefIdeal.Val

open Idealize.ShloMosaic Idealize.ShloMosaic.TcCoe Cert.WdownGradRefIdeal Cert.WdownGradRefIdeal.Read

/-- The reference's gradient of the weights. -/
theorem v6_at (x : FVec Ideal S8x4096x704 .bf16) (y : FVec Ideal S4096x2048 .bf16) (s : Fin 8) (f : Fin 704) (n : Fin 2048) :
    val_main_v6 (F := Ideal) x y (ValueIdx.ix3 s f n) = ∑ r : Fin 4096, x (ValueIdx.ix3 s r f) * y (ValueIdx.ix2 r n) := by
  refine (val_main_v6_apply (F := Ideal) x y _).trans ?_
  change val_main_v5 (F := Ideal) x y (ValueIdx.ix3 s f n) = _
  refine ((val_main_v5_apply (F := Ideal) x y _).trans (val_main_v4_apply x y _)).trans (Finset.sum_congr rfl fun r _ => ?_)
  rw [val_main_v3_apply, val_main_v1_apply]
  refine (mul_comm _ _).trans ?_
  exact congrArg₂ (· * ·) (congrArg x (funext fun a => match a with | ⟨0, _⟩ => rfl | ⟨1, _⟩ => rfl | ⟨2, _⟩ => rfl))
    (congrArg y (funext fun a => match a with | ⟨0, _⟩ => rfl | ⟨1, _⟩ => rfl))

end Cert.WdownGradRefIdeal.Val

end
-- ==== Proof.DownBwdValue.lean ====
module

public import proofs.«01_k».proof.Proof.Gen.DownBwdIdeal.Value
public import proofs.«01_k».proof.Proof.Gen.DownBwdRefIdeal.Read
public import Idealize.ShloMosaic.Lib.Pointwise
public import proofs.«01_k».proof.Proof.AttnPre
public import proofs.«01_k».proof.Proof.Gen.Pre_finite_product

@[expose] public section

set_option maxRecDepth 16384

noncomputable section

/-! # The gradients of the hidden values of the feed-forward layer

The grid point `8 j + i` holds shard `j` of the hidden columns and rows `512 i …`. -/

namespace Cert.DownBwdIdeal.Val

open Idealize.ShloMosaic Idealize.ShloMosaic.TcCoe Idealize.SL.Sem Cert.DownBwdIdeal Cert.DownBwdIdeal.Gen

theorem eta3 {n k l : ℕ} (i : (⟨3, ![n, k, l]⟩ : Shape).Idx) : i = ix3 (i 0) (i 1) (i 2) :=
  funext fun a => match a with | ⟨0, _⟩ => rfl | ⟨1, _⟩ => rfl | ⟨2, _⟩ => rfl
theorem off3 : (![0, 0, 0] : Fin 3 → ℕ) = fun _ => 0 := funext fun a => match a with | ⟨0, _⟩ => rfl | ⟨1, _⟩ => rfl | ⟨2, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val % 8 ∧ win0_0.index t 1 = 0 := by decide +kernel
theorem index1 : ∀ t : Fin grid0.N, win0_1.index t 0 = t.val / 8 ∧ win0_1.index t 1 = 0 ∧ win0_1.index t 2 = 0 := by decide +kernel
theorem index2 : ∀ t : Fin grid0.N, win0_2.index t 0 = t.val / 8 ∧ win0_2.index t 1 = t.val % 8 ∧ win0_2.index t 2 = 0 := by decide +kernel
theorem index3 : ∀ t : Fin grid0.N, win0_3.index t 0 = t.val / 8 ∧ win0_3.index t 1 = t.val % 8 ∧ win0_3.index t 2 = 0 := by decide +kernel
theorem index4 : ∀ t : Fin grid0.N, win0_4.index t 0 = t.val / 8 ∧ win0_4.index t 1 = t.val % 8 ∧ win0_4.index t 2 = 0 := by decide +kernel
theorem index5 : ∀ t : Fin grid0.N, win0_5.index t 0 = t.val / 8 ∧ win0_5.index t 1 = t.val % 8 ∧ win0_5.index t 2 = 0 := by decide +kernel
theorem xsize4 : ∀ t : Fin grid0.N, win0_4.xsize (grid0.coords t) 0 = 1 ∧ win0_4.xsize (grid0.coords t) 1 = 512
    ∧ win0_4.xsize (grid0.coords t) 2 = 704 := by decide +kernel
theorem flush4 : ∀ t : Fin grid0.N, win0_4.flush t = true := by decide +kernel
theorem xsize5 : ∀ t : Fin grid0.N, win0_5.xsize (grid0.coords t) 0 = 1 ∧ win0_5.xsize (grid0.coords t) 1 = 512
    ∧ win0_5.xsize (grid0.coords t) 2 = 704 := by decide +kernel
theorem flush5 : ∀ t : Fin grid0.N, win0_5.flush t = true := by decide +kernel

def pt (n : ℕ) (h : n < 64) : Fin cfg0.N := ⟨n, lt_of_lt_of_eq h N_0.symm⟩
def shard (t : Fin cfg0.N) : Fin 8 := ⟨t.val / 8, by have : t.val < 64 := lt_of_lt_of_eq t.isLt N_0; omega⟩
def row (t : Fin cfg0.N) (r : Fin 512) : Fin 4096 := ⟨t.val % 8 * 512 + r.val, by omega⟩

/-! ## A block of any contents of a window's array, read at an entry -/

variable (t : Fin cfg0.N)

theorem read0 (W : FVec Ideal S4096x2048 .bf16) (r : Fin 512) (k : Fin 2048) :
    ((cfg0.win 0).blk t).view.read (Elt Ideal) W (ix2 r k) = W (ValueIdx.ix2 (row t r) k) := by
  have hi := index0 t
  rw [View.read_apply]
  refine congrArg W (funext fun a => Fin.ext ?_)
  match a with
  | ⟨0, _⟩ => show win0_0.index t 0 * 512 + 1 * r.val = t.val % 8 * 512 + r.val; rw [hi.1]; omega
  | ⟨1, _⟩ => show win0_0.index t 1 * 2048 + 1 * k.val = k.val; rw [hi.2]; omega

theorem read1 (W : FVec Ideal S8x704x2048 .bf16) (f : Fin 704) (k : Fin 2048) :
    ((cfg0.win 1).blk t).view.read (Elt Ideal) W (ix3 (0 : Fin 1) f k) = W (ValueIdx.ix3 (shard t) f k) := by
  have hi := index1 t
  rw [View.read_apply]
  refine congrArg W (funext fun a => Fin.ext ?_)
  match a with
  | ⟨0, _⟩ => show win0_1.index t 0 * 1 + 1 * 0 = t.val / 8; rw [hi.1]; omega
  | ⟨1, _⟩ => show win0_1.index t 1 * 704 + 1 * f.val = f.val; rw [hi.2.1]; omega
  | ⟨2, _⟩ => show win0_1.index t 2 * 2048 + 1 * k.val = k.val; rw [hi.2.2]; omega

theorem read2 (W : FVec Ideal S8x4096x704 .bf16) (u : Fin 1) (r : Fin 512) (f : Fin 704) :
    ((cfg0.win 2).blk t).view.read (Elt Ideal) W (ix3 u r f) = W (ValueIdx.ix3 (shard t) (row t r) f) := by
  have hi := index2 t
  have hu : u.val = 0 := by omega
  rw [View.read_apply]
  refine congrArg W (funext fun a => Fin.ext ?_)
  match a with
  | ⟨0, _⟩ => show win0_2.index t 0 * 1 + 1 * u.val = t.val / 8; rw [hi.1, hu]; omega
  | ⟨1, _⟩ => show win0_2.index t 1 * 512 + 1 * r.val = t.val % 8 * 512 + r.val; rw [hi.2.1]; omega
  | ⟨2, _⟩ => show win0_2.index t 2 * 704 + 1 * f.val = f.val; rw [hi.2.2]; omega

theorem read3 (W : FVec Ideal S8x4096x704 .bf16) (u : Fin 1) (r : Fin 512) (f : Fin 704) :
    ((cfg0.win 3).blk t).view.read (Elt Ideal) W (ix3 u r f) = W (ValueIdx.ix3 (shard t) (row t r) f) := by
  have hi := index3 t
  have hu : u.val = 0 := by omega
  rw [View.read_apply]
  refine congrArg W (funext fun a => Fin.ext ?_)
  match a with
  | ⟨0, _⟩ => show win0_3.index t 0 * 1 + 1 * u.val = t.val / 8; rw [hi.1, hu]; omega
  | ⟨1, _⟩ => show win0_3.index t 1 * 512 + 1 * r.val = t.val % 8 * 512 + r.val; rw [hi.2.1]; omega
  | ⟨2, _⟩ => show win0_3.index t 2 * 704 + 1 * f.val = f.val; rw [hi.2.2]; omega

theorem read4 (W : FVec Ideal S8x4096x704 .bf16) (u : Fin 1) (r : Fin 512) (f : Fin 704) :
    ((cfg0.win 4).blk t).view.read (Elt Ideal) W (ix3 u r f) = W (ValueIdx.ix3 (shard t) (row t r) f) := by
  have hi := index4 t
  have hu : u.val = 0 := by omega
  rw [View.read_apply]
  refine congrArg W (funext fun a => Fin.ext ?_)
  match a with
  | ⟨0, _⟩ => show win0_4.index t 0 * 1 + 1 * u.val = t.val / 8; rw [hi.1, hu]; omega
  | ⟨1, _⟩ => show win0_4.index t 1 * 512 + 1 * r.val = t.val % 8 * 512 + r.val; rw [hi.2.1]; omega
  | ⟨2, _⟩ => show win0_4.index t 2 * 704 + 1 * f.val = f.val; rw [hi.2.2]; omega

theorem read5 (W : FVec Ideal S8x4096x704 .bf16) (u : Fin 1) (r : Fin 512) (f : Fin 704) :
    ((cfg0.win 5).blk t).view.read (Elt Ideal) W (ix3 u r f) = W (ValueIdx.ix3 (shard t) (row t r) f) := by
  have hi := index5 t
  have hu : u.val = 0 := by omega
  rw [View.read_apply]
  refine congrArg W (funext fun a => Fin.ext ?_)
  match a with
  | ⟨0, _⟩ => show win0_5.index t 0 * 1 + 1 * u.val = t.val / 8; rw [hi.1, hu]; omega
  | ⟨1, _⟩ => show win0_5.index t 1 * 512 + 1 * r.val = t.val % 8 * 512 + r.val; rw [hi.2.1]; omega
  | ⟨2, _⟩ => show win0_5.index t 2 * 704 + 1 * f.val = f.val; rw [hi.2.2]; omega

/-! ## What a point stores -/

/-- A row of a block by a row of a block of weights. -/
def dot (a : Vec Ideal S512x2048 .bf16) (b : Vec Ideal S1x704x2048 .bf16) (r : Fin 512) (f : Fin 704) : EReal :=
  ∑ k : Fin 2048, a (ix2 r k) * b (ix3 (0 : Fin 1) f k)

theorem pay4 (x0 : Vec Ideal S512x2048 .bf16) (x1 : Vec Ideal S1x704x2048 .bf16) (x2 : Vec Ideal S1x512x704 .bf16) (x3 : Vec Ideal S1x512x704 .bf16) (u : Fin 1) (r : Fin 512) (f : Fin 704) :
    k0_pay4 (F := Ideal) x0 x1 x2 x3 (ix3 u r f) = dot x0 x1 r f * x3 (ix3 (0 : Fin 1) r f) * Ideal.logistic (x2 (ix3 (0 : Fin 1) r f)) * (1 + x2 (ix3 (0 : Fin 1) r f) * (1 - Ideal.logistic (x2 (ix3 (0 : Fin 1) r f)))) := by
  obtain rfl : u = 0 := Subsingleton.elim _ _
  refine Eq.trans (b := (0 + dot x0 x1 r f) * x3 (ix3 (0 : Fin 1) r f) * Ideal.logistic (x2 (ix3 (0 : Fin 1) r f)) * (1 + x2 (ix3 (0 : Fin 1) r f) * (1 - Ideal.logistic (x2 (ix3 (0 : Fin 1) r f))))) ?_ (by simp only [zero_add])
  simp only [k0_pay4, k0_pay1, k0_pay2, k0_pay3, dot, pointwise, Ideal.ofBits_one_f32]

theorem out4_eq (x0 : Vec Ideal S512x2048 .bf16) (x1 : Vec Ideal S1x704x2048 .bf16) (x2 : Vec Ideal S1x512x704 .bf16) (x3 : Vec Ideal S1x512x704 .bf16) : out0_4 (F := Ideal) x0 x1 x2 x3 = k0_pay4 x0 x1 x2 x3 := by
  unfold out0_4
  rw [View.canon_unit_zero off3]
  simp only [View.ld_unit_zero (S := S512x2048) off2, View.ld_unit_zero (S := S1x704x2048) off3, View.ld_unit_zero (S := S1x512x704) off3]

theorem pay5 (x0 : Vec Ideal S512x2048 .bf16) (x1 : Vec Ideal S1x704x2048 .bf16) (x2 : Vec Ideal S1x512x704 .bf16) (u : Fin 1) (r : Fin 512) (f : Fin 704) :
    k0_pay5 (F := Ideal) x0 x1 x2 (ix3 u r f) = dot x0 x1 r f * x2 (ix3 (0 : Fin 1) r f) * Ideal.logistic (x2 (ix3 (0 : Fin 1) r f)) := by
  obtain rfl : u = 0 := Subsingleton.elim _ _
  refine Eq.trans (b := (0 + dot x0 x1 r f) * x2 (ix3 (0 : Fin 1) r f) * Ideal.logistic (x2 (ix3 (0 : Fin 1) r f))) ?_ (by simp only [zero_add])
  simp only [k0_pay5, k0_pay1, k0_pay2, k0_pay3, dot, pointwise, Ideal.ofBits_one_f32]

theorem out5_eq (x0 : Vec Ideal S512x2048 .bf16) (x1 : Vec Ideal S1x704x2048 .bf16) (x2 : Vec Ideal S1x512x704 .bf16) (x3 : Vec Ideal S1x512x704 .bf16) : out0_5 (F := Ideal) x0 x1 x2 x3 = k0_pay5 x0 x1 x2 := by
  unfold out0_5
  rw [View.canon_unit_zero off3]
  simp only [View.ld_unit_zero (S := S512x2048) off2, View.ld_unit_zero (S := S1x704x2048) off3, View.ld_unit_zero (S := S1x512x704) off3]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S8x704x2048 .bf16 := m ((c : Thread nD τ).loc main_arg1)
abbrev a2 : FVec Ideal S8x4096x704 .bf16 := m ((c : Thread nD τ).loc main_arg2)
abbrev a3 : FVec Ideal S8x4096x704 .bf16 := m ((c : Thread nD τ).loc main_arg3)

/-- A row by a row of a shard of weights. -/
def prod (x : FVec Ideal S4096x2048 .bf16) (y : FVec Ideal S8x704x2048 .bf16) (s : Fin 8) (r : Fin 4096) (f : Fin 704) : EReal :=
  ∑ k : Fin 2048, x (ValueIdx.ix2 r k) * y (ValueIdx.ix3 s f k)

theorem dot1 (r : Fin 512) (f : Fin 704) : dot (iblk m c 0 t) (iblk m c 1 t) r f = prod (a0 m c) (a1 m c) (shard t) (row t r) f :=
  Finset.sum_congr rfl fun k _ => congrArg₂ (· * ·) ((read0 t (V m c main_arg0) r k).trans (congrFun (V_main_arg0 m c) _))
    ((read1 t (V m c main_arg1) f k).trans (congrFun (V_main_arg1 m c) _))

theorem hid2 (r : Fin 512) (f : Fin 704) : iblk m c 2 t (ix3 (0 : Fin 1) r f) = a2 m c (ValueIdx.ix3 (shard t) (row t r) f) :=
  (read2 t (V m c main_arg2) 0 r f).trans (congrFun (V_main_arg2 m c) _)

theorem hid3 (r : Fin 512) (f : Fin 704) : iblk m c 3 t (ix3 (0 : Fin 1) r f) = a3 m c (ValueIdx.ix3 (shard t) (row t r) f) :=
  (read3 t (V m c main_arg3) 0 r f).trans (congrFun (V_main_arg3 m c) _)

theorem point4 (G : FVec Ideal S8x4096x704 .bf16)
    (hG : ∀ s r f, G (ValueIdx.ix3 s r f) = prod (a0 m c) (a1 m c) s r f * a3 m c (ValueIdx.ix3 s r f) * Ideal.logistic (a2 m c (ValueIdx.ix3 s r f)) * (1 + a2 m c (ValueIdx.ix3 s r f) * (1 - Ideal.logistic (a2 m c (ValueIdx.ix3 s r f))))) (u : Fin 1) (r : Fin 512) (f : Fin 704) :
    out0_4 (F := Ideal) (iblk m c 0 t) (iblk m c 1 t) (iblk m c 2 t) (iblk m c 3 t) (ix3 u r f) = G (ValueIdx.ix3 (shard t) (row t r) f) := by
  rw [out4_eq, pay4, hG, dot1, hid2, hid3]

theorem final4 (G : FVec Ideal S8x4096x704 .bf16)
    (hG : ∀ s r f, G (ValueIdx.ix3 s r f) = prod (a0 m c) (a1 m c) s r f * a3 m c (ValueIdx.ix3 s r f) * Ideal.logistic (a2 m c (ValueIdx.ix3 s r f)) * (1 + a2 m c (ValueIdx.ix3 s r f) * (1 - Ideal.logistic (a2 m c (ValueIdx.ix3 s r f))))) :
    (dats m 0 c).arrAt 4 cfg0.N = G :=
  (dats m 0 c).arrAt_eq_of_cover 4 G
    (fun t _ => by
      show (cfg0.win 4).cut (grid0.coords t) ((dats m 0 c).after 4 t) = _
      rw [after0_4]
      funext i
      have ei := eta3 (n := 1) (k := 512) (l := 704) i
      have e1 := point4 t m c G hG (i 0) (i 1) (i 2)
      have e2 := read4 t G (i 0) (i 1) (i 2)
      refine Eq.trans ?_ ((e1.trans e2.symm).trans ?_)
      · exact congrArg (out0_4 (F := Ideal) (iblk m c 0 t) (iblk m c 1 t) (iblk m c 2 t) (iblk m c 3 t)) ei
      · exact congrArg (((cfg0.win 4).blk t).view.read (Elt Ideal) G) ei.symm)
    fun i => by
      have h0 : (i 0 : Nat) < 8 := (i 0).isLt
      have h1 : (i 1 : Nat) < 4096 := (i 1).isLt
      have h2 : (i 2 : Nat) < 704 := (i 2).isLt
      have hn : 8 * (i 0 : Nat) + (i 1 : Nat) / 512 < 64 := by omega
      refine ⟨pt _ hn, flush4 _, ?_⟩
      show i ∈ ((View.whole main_v0_0).slice (win0_4.rect (pt _ hn))).set
      rw [View.set_slice_whole, Rect.mem_set_unit]
      intro a
      have hi := index4 (pt _ hn)
      have hx := xsize4 (pt _ hn)
      have hv : (pt _ hn).val = 8 * (i 0 : Nat) + (i 1 : Nat) / 512 := rfl
      match a with
      | ⟨0, _⟩ =>
        show win0_4.index (pt _ hn) 0 * 1 ≤ (i 0 : Nat) ∧ (i 0 : Nat) < win0_4.index (pt _ hn) 0 * 1 + win0_4.xsize (grid0.coords (pt _ hn)) 0
        rw [hi.1, hx.1, hv]; omega
      | ⟨1, _⟩ =>
        show win0_4.index (pt _ hn) 1 * 512 ≤ (i 1 : Nat) ∧ (i 1 : Nat) < win0_4.index (pt _ hn) 1 * 512 + win0_4.xsize (grid0.coords (pt _ hn)) 1
        rw [hi.2.1, hx.2.1, hv]; omega
      | ⟨2, _⟩ =>
        show win0_4.index (pt _ hn) 2 * 704 ≤ (i 2 : Nat) ∧ (i 2 : Nat) < win0_4.index (pt _ hn) 2 * 704 + win0_4.xsize (grid0.coords (pt _ hn)) 2
        rw [hi.2.2, hx.2.2]; omega

theorem point5 (G : FVec Ideal S8x4096x704 .bf16)
    (hG : ∀ s r f, G (ValueIdx.ix3 s r f) = prod (a0 m c) (a1 m c) s r f * a2 m c (ValueIdx.ix3 s r f) * Ideal.logistic (a2 m c (ValueIdx.ix3 s r f))) (u : Fin 1) (r : Fin 512) (f : Fin 704) :
    out0_5 (F := Ideal) (iblk m c 0 t) (iblk m c 1 t) (iblk m c 2 t) (iblk m c 3 t) (ix3 u r f) = G (ValueIdx.ix3 (shard t) (row t r) f) := by
  rw [out5_eq, pay5, hG, dot1, hid2]

theorem final5 (G : FVec Ideal S8x4096x704 .bf16)
    (hG : ∀ s r f, G (ValueIdx.ix3 s r f) = prod (a0 m c) (a1 m c) s r f * a2 m c (ValueIdx.ix3 s r f) * Ideal.logistic (a2 m c (ValueIdx.ix3 s r f))) :
    (dats m 0 c).arrAt 5 cfg0.N = G :=
  (dats m 0 c).arrAt_eq_of_cover 5 G
    (fun t _ => by
      show (cfg0.win 5).cut (grid0.coords t) ((dats m 0 c).after 5 t) = _
      rw [after0_5]
      funext i
      have ei := eta3 (n := 1) (k := 512) (l := 704) i
      have e1 := point5 t m c G hG (i 0) (i 1) (i 2)
      have e2 := read5 t G (i 0) (i 1) (i 2)
      refine Eq.trans ?_ ((e1.trans e2.symm).trans ?_)
      · exact congrArg (out0_5 (F := Ideal) (iblk m c 0 t) (iblk m c 1 t) (iblk m c 2 t) (iblk m c 3 t)) ei
      · exact congrArg (((cfg0.win 5).blk t).view.read (Elt Ideal) G) ei.symm)
    fun i => by
      have h0 : (i 0 : Nat) < 8 := (i 0).isLt
      have h1 : (i 1 : Nat) < 4096 := (i 1).isLt
      have h2 : (i 2 : Nat) < 704 := (i 2).isLt
      have hn : 8 * (i 0 : Nat) + (i 1 : Nat) / 512 < 64 := by omega
      refine ⟨pt _ hn, flush5 _, ?_⟩
      show i ∈ ((View.whole main_v0_1).slice (win0_5.rect (pt _ hn))).set
      rw [View.set_slice_whole, Rect.mem_set_unit]
      intro a
      have hi := index5 (pt _ hn)
      have hx := xsize5 (pt _ hn)
      have hv : (pt _ hn).val = 8 * (i 0 : Nat) + (i 1 : Nat) / 512 := rfl
      match a with
      | ⟨0, _⟩ =>
        show win0_5.index (pt _ hn) 0 * 1 ≤ (i 0 : Nat) ∧ (i 0 : Nat) < win0_5.index (pt _ hn) 0 * 1 + win0_5.xsize (grid0.coords (pt _ hn)) 0
        rw [hi.1, hx.1, hv]; omega
      | ⟨1, _⟩ =>
        show win0_5.index (pt _ hn) 1 * 512 ≤ (i 1 : Nat) ∧ (i 1 : Nat) < win0_5.index (pt _ hn) 1 * 512 + win0_5.xsize (grid0.coords (pt _ hn)) 1
        rw [hi.2.1, hx.2.1, hv]; omega
      | ⟨2, _⟩ =>
        show win0_5.index (pt _ hn) 2 * 704 ≤ (i 2 : Nat) ∧ (i 2 : Nat) < win0_5.index (pt _ hn) 2 * 704 + win0_5.xsize (grid0.coords (pt _ hn)) 2
        rw [hi.2.2, hx.2.2]; omega

end Cert.DownBwdIdeal.Val

namespace Cert.DownBwdRefIdeal.Val

open Idealize.ShloMosaic Idealize.ShloMosaic.TcCoe Cert.DownBwdRefIdeal Cert.DownBwdRefIdeal.Read
open Cert.DownBwdIdeal.Val (prod)

theorem v8_at (x : FVec Ideal S4096x2048 .bf16) (y : FVec Ideal S8x704x2048 .bf16) (s : Fin 8) (r : Fin 4096) (f : Fin 704) :
    val_main_v8 (F := Ideal) x y (ValueIdx.ix3 s r f) = prod x y s r f := by
  refine ((val_main_v8_apply (F := Ideal) x y _).trans (val_main_v7_apply x y _)).trans (Finset.sum_congr rfl fun k _ => ?_)
  rw [val_main_v6_apply, val_main_v2_apply]
  exact congrArg₂ (· * ·) (congrArg x (funext fun a => match a with | ⟨0, _⟩ => rfl | ⟨1, _⟩ => rfl))
    (congrArg y (funext fun a => match a with | ⟨0, _⟩ => rfl | ⟨1, _⟩ => rfl | ⟨2, _⟩ => rfl))

/-- The gate's derivative parts are of the logistic function. -/
theorem v3_2_at (a : FVec Ideal S8x4096x704 .bf16) (i : S8x4096x704.Idx) : val_main_v3_2 (F := Ideal) a i = Ideal.logistic (a i) := by
  rw [val_main_v3_2_apply, val_main_call0_v4_apply, val_main_call0_cst_0_apply, val_main_call0_v3_apply, val_main_call0_v2_apply,
    val_main_call0_cst_apply, val_main_call0_v1_apply, val_main_call0_v0_apply, val_main_v0_apply]
  simp only [pointwise, Ideal.ofBits_one_f32, Ideal.logistic]

theorem v3_1_at (a : FVec Ideal S8x4096x704 .bf16) (i : S8x4096x704.Idx) :
    val_main_v3_1 (F := Ideal) a i = Ideal.logistic (a i) * (1 - Ideal.logistic (a i)) := by
  rw [val_main_v3_1_apply, val_main_call0_v7_apply, val_main_call0_v6_apply, val_main_call0_cst_1_apply, v3_2_at]
  simp only [pointwise, Ideal.ofBits_one_f32]

/-- The two ways to write the gate's derivative, of a finite factor. -/
theorem gate_eq (x : ℝ) (a : EReal) :
    (x : EReal) * Ideal.logistic a + a * (x : EReal) * (Ideal.logistic a * (1 - Ideal.logistic a))
      = (x : EReal) * Ideal.logistic a * (1 + a * (1 - Ideal.logistic a)) := by
  have h1 : (1 : EReal) - 1 = 0 := by rw [← EReal.coe_one, ← EReal.coe_sub, sub_self, EReal.coe_zero]
  induction a with
  | bot => rw [Ideal.logistic_bot]; simp only [mul_zero, zero_mul, add_zero]
  | top => rw [Ideal.logistic_top, h1]; simp only [mul_zero, add_zero, mul_one]
  | coe a =>
    rw [Ideal.logistic_coe]
    generalize (1 + Real.exp (-a))⁻¹ = s
    simp only [← EReal.coe_one, ← EReal.coe_sub, ← EReal.coe_mul, ← EReal.coe_add]
    exact congrArg _ (by ring)

/-- A product of finite rows is finite. -/
theorem prod_real (x : FVec Ideal S4096x2048 .bf16) (y : FVec Ideal S8x704x2048 .bf16) (hx : ∀ i, x i = ((x i : EReal).toReal : EReal))
    (hy : ∀ i, y i = ((y i : EReal).toReal : EReal)) (s : Fin 8) (r : Fin 4096) (f : Fin 704) : ∃ g : ℝ, prod x y s r f = (g : EReal) := by
  refine ⟨∑ k : Fin 2048, (x (ValueIdx.ix2 r k) : EReal).toReal * (y (ValueIdx.ix3 s f k) : EReal).toReal, ?_⟩
  rw [← Cert.Attn.coe_sum]
  exact Finset.sum_congr rfl fun k _ => (congrArg₂ (· * ·) (hx _) (hy _)).trans (EReal.coe_mul _ _).symm

/-- The reference's gradient of the gate values. -/
theorem v12_at (x : FVec Ideal S4096x2048 .bf16) (y : FVec Ideal S8x704x2048 .bf16) (a b : FVec Ideal S8x4096x704 .bf16)
    (hx : ∀ i, x i = ((x i : EReal).toReal : EReal)) (hy : ∀ i, y i = ((y i : EReal).toReal : EReal))
    (hb : ∀ i, b i = ((b i : EReal).toReal : EReal)) (s : Fin 8) (r : Fin 4096) (f : Fin 704) :
    val_main_v12 (F := Ideal) x y a b (ValueIdx.ix3 s r f)
      = prod x y s r f * b (ValueIdx.ix3 s r f) * Ideal.logistic (a (ValueIdx.ix3 s r f))
        * (1 + a (ValueIdx.ix3 s r f) * (1 - Ideal.logistic (a (ValueIdx.ix3 s r f)))) := by
  refine (val_main_v12_apply (F := Ideal) x y a b _).trans ?_
  rw [val_main_v11_apply, val_main_call1_v1_apply, val_main_call1_v2_apply, val_main_call1_v0_apply, val_main_v10_apply,
    val_main_v0_apply, val_main_v1_apply, v3_1_at, v3_2_at, v8_at]
  simp only [pointwise]
  obtain ⟨g, hg⟩ := prod_real x y hx hy s r f
  rw [hg, hb (ValueIdx.ix3 s r f), ← EReal.coe_mul]
  exact gate_eq _ _

/-- The reference's gradient of the up values. -/
theorem v13_at (x : FVec Ideal S4096x2048 .bf16) (y : FVec Ideal S8x704x2048 .bf16) (a : FVec Ideal S8x4096x704 .bf16)
    (s : Fin 8) (r : Fin 4096) (f : Fin 704) :
    val_main_v13 (F := Ideal) x y a (ValueIdx.ix3 s r f)
      = prod x y s r f * a (ValueIdx.ix3 s r f) * Ideal.logistic (a (ValueIdx.ix3 s r f)) := by
  refine (val_main_v13_apply (F := Ideal) x y a _).trans ?_
  rw [val_main_v9_apply, val_main_v3_0_apply, val_main_v0_apply, v3_2_at, v8_at]
  simp only [pointwise]
  exact (mul_comm _ _).trans (mul_assoc _ _ _).symm

/-! ## The precondition -/

/-- The precondition makes every entry of the gradient, the weights and the up values a real number. -/
theorem real_of_pre (x0 : FVec Ideal Cert.Pre_finite_product.S4096x2048 .bf16) (x1 : FVec Ideal Cert.Pre_finite_product.S8x704x2048 .bf16)
    (x2 x3 : FVec Ideal Cert.Pre_finite_product.S8x4096x704 .bf16) (h : Cert.Pre_finite_product.fn (F := Ideal) x0 x1 x2 x3 = fun _ => 1#1) :
    (∀ i, x0 i = ((x0 i : EReal).toReal : EReal)) ∧ (∀ i, x1 i = ((x1 i : EReal).toReal : EReal))
      ∧ ∀ i, x3 i = ((x3 i : EReal).toReal : EReal) := by
  haveI : Subsingleton Cert.Pre_finite_product.S_.Idx := ⟨fun a b => funext fun i => i.elim0⟩
  have hj := congrFun h (fun i => i.elim0)
  unfold Cert.Pre_finite_product.fn at hj
  obtain ⟨h01, h2⟩ := Cert.Attn.both_one _ _ hj
  obtain ⟨h0, h1⟩ := Cert.Attn.both_one _ _ h01
  exact ⟨fun i => Cert.Attn.real_of_lt _ (Host.reduce_andi_all _ _ _ _ _ h0 i), fun i => Cert.Attn.real_of_lt _ (Host.reduce_andi_all _ _ _ _ _ h1 i),
    fun i => Cert.Attn.real_of_lt _ (Host.reduce_andi_all _ _ _ _ _ h2 i)⟩

end Cert.DownBwdRefIdeal.Val

end
-- ==== Proof.FfnUpValue.lean ====
module

public import proofs.«01_k».proof.Proof.Gen.FfnUpIdeal.Value
public import proofs.«01_k».proof.Proof.Gen.FfnUpRefIdeal.Read
public import Idealize.ShloMosaic.Lib.Pointwise

@[expose] public section

set_option maxRecDepth 16384

noncomputable section

/-! # The hidden values of the feed-forward layer

The grid point `8 j + i` holds shard `j` of the hidden columns and rows `512 i …`. -/

namespace Cert.FfnUpIdeal.Val

open Idealize.ShloMosaic Idealize.ShloMosaic.TcCoe Idealize.SL.Sem Cert.FfnUpIdeal Cert.FfnUpIdeal.Gen

theorem eta3 {n k l : ℕ} (i : (⟨3, ![n, k, l]⟩ : Shape).Idx) : i = ix3 (i 0) (i 1) (i 2) :=
  funext fun a => match a with | ⟨0, _⟩ => rfl | ⟨1, _⟩ => rfl | ⟨2, _⟩ => rfl
theorem off3 : (![0, 0, 0] : Fin 3 → ℕ) = fun _ => 0 := funext fun a => match a with | ⟨0, _⟩ => rfl | ⟨1, _⟩ => rfl | ⟨2, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val % 8 ∧ win0_0.index t 1 = 0 := by decide +kernel
theorem index1 : ∀ t : Fin grid0.N, win0_1.index t 0 = t.val / 8 ∧ win0_1.index t 1 = 0 ∧ win0_1.index t 2 = 0 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = t.val / 8 ∧ win0_3.index t 1 = t.val % 8 ∧ win0_3.index t 2 = 0 := by decide +kernel
theorem index4 : ∀ t : Fin grid0.N, win0_4.index t 0 = t.val / 8 ∧ win0_4.index t 1 = t.val % 8 ∧ win0_4.index t 2 = 0 := by decide +kernel
theorem index5 : ∀ t : Fin grid0.N, win0_5.index t 0 = t.val / 8 ∧ win0_5.index t 1 = t.val % 8 ∧ win0_5.index t 2 = 0 := by decide +kernel
theorem xsize3 : ∀ t : Fin grid0.N, win0_3.xsize (grid0.coords t) 0 = 1 ∧ win0_3.xsize (grid0.coords t) 1 = 512
    ∧ win0_3.xsize (grid0.coords t) 2 = 704 := by decide +kernel
theorem flush3 : ∀ t : Fin grid0.N, win0_3.flush t = true := by decide +kernel
theorem xsize4 : ∀ t : Fin grid0.N, win0_4.xsize (grid0.coords t) 0 = 1 ∧ win0_4.xsize (grid0.coords t) 1 = 512
    ∧ win0_4.xsize (grid0.coords t) 2 = 704 := by decide +kernel
theorem flush4 : ∀ t : Fin grid0.N, win0_4.flush t = true := by decide +kernel
theorem xsize5 : ∀ t : Fin grid0.N, win0_5.xsize (grid0.coords t) 0 = 1 ∧ win0_5.xsize (grid0.coords t) 1 = 512
    ∧ win0_5.xsize (grid0.coords t) 2 = 704 := by decide +kernel
theorem flush5 : ∀ t : Fin grid0.N, win0_5.flush t = true := by decide +kernel

def pt (n : ℕ) (h : n < 64) : Fin cfg0.N := ⟨n, lt_of_lt_of_eq h N_0.symm⟩
def shard (t : Fin cfg0.N) : Fin 8 := ⟨t.val / 8, by have : t.val < 64 := lt_of_lt_of_eq t.isLt N_0; omega⟩
def row (t : Fin cfg0.N) (r : Fin 512) : Fin 4096 := ⟨t.val % 8 * 512 + r.val, by omega⟩

/-! ## A block of any contents of a window's array, read at an entry -/

variable (t : Fin cfg0.N)

theorem read0 (W : FVec Ideal S4096x2048 .bf16) (r : Fin 512) (k : Fin 2048) :
    ((cfg0.win 0).blk t).view.read (Elt Ideal) W (ix2 r k) = W (ValueIdx.ix2 (row t r) k) := by
  have hi := index0 t
  rw [View.read_apply]
  refine congrArg W (funext fun a => Fin.ext ?_)
  match a with
  | ⟨0, _⟩ => show win0_0.index t 0 * 512 + 1 * r.val = t.val % 8 * 512 + r.val; rw [hi.1]; omega
  | ⟨1, _⟩ => show win0_0.index t 1 * 2048 + 1 * k.val = k.val; rw [hi.2]; omega

theorem read1 (W : FVec Ideal S8x704x2048 .bf16) (f : Fin 704) (k : Fin 2048) :
    ((cfg0.win 1).blk t).view.read (Elt Ideal) W (ix3 (0 : Fin 1) f k) = W (ValueIdx.ix3 (shard t) f k) := by
  have hi := index1 t
  rw [View.read_apply]
  refine congrArg W (funext fun a => Fin.ext ?_)
  match a with
  | ⟨0, _⟩ => show win0_1.index t 0 * 1 + 1 * 0 = t.val / 8; rw [hi.1]; omega
  | ⟨1, _⟩ => show win0_1.index t 1 * 704 + 1 * f.val = f.val; rw [hi.2.1]; omega
  | ⟨2, _⟩ => show win0_1.index t 2 * 2048 + 1 * k.val = k.val; rw [hi.2.2]; omega

theorem read2 (W : FVec Ideal S8x704x2048 .bf16) (f : Fin 704) (k : Fin 2048) :
    ((cfg0.win 2).blk t).view.read (Elt Ideal) W (ix3 (0 : Fin 1) f k) = W (ValueIdx.ix3 (shard t) f k) := by
  have hi := index2 t
  rw [View.read_apply]
  refine congrArg W (funext fun a => Fin.ext ?_)
  match a with
  | ⟨0, _⟩ => show win0_2.index t 0 * 1 + 1 * 0 = t.val / 8; rw [hi.1]; omega
  | ⟨1, _⟩ => show win0_2.index t 1 * 704 + 1 * f.val = f.val; rw [hi.2.1]; omega
  | ⟨2, _⟩ => show win0_2.index t 2 * 2048 + 1 * k.val = k.val; rw [hi.2.2]; omega

theorem read3 (W : FVec Ideal S8x4096x704 .bf16) (u : Fin 1) (r : Fin 512) (f : Fin 704) :
    ((cfg0.win 3).blk t).view.read (Elt Ideal) W (ix3 u r f) = W (ValueIdx.ix3 (shard t) (row t r) f) := by
  have hi := index3 t
  have hu : u.val = 0 := by omega
  rw [View.read_apply]
  refine congrArg W (funext fun a => Fin.ext ?_)
  match a with
  | ⟨0, _⟩ => show win0_3.index t 0 * 1 + 1 * u.val = t.val / 8; rw [hi.1, hu]; omega
  | ⟨1, _⟩ => show win0_3.index t 1 * 512 + 1 * r.val = t.val % 8 * 512 + r.val; rw [hi.2.1]; omega
  | ⟨2, _⟩ => show win0_3.index t 2 * 704 + 1 * f.val = f.val; rw [hi.2.2]; omega

theorem read4 (W : FVec Ideal S8x4096x704 .bf16) (u : Fin 1) (r : Fin 512) (f : Fin 704) :
    ((cfg0.win 4).blk t).view.read (Elt Ideal) W (ix3 u r f) = W (ValueIdx.ix3 (shard t) (row t r) f) := by
  have hi := index4 t
  have hu : u.val = 0 := by omega
  rw [View.read_apply]
  refine congrArg W (funext fun a => Fin.ext ?_)
  match a with
  | ⟨0, _⟩ => show win0_4.index t 0 * 1 + 1 * u.val = t.val / 8; rw [hi.1, hu]; omega
  | ⟨1, _⟩ => show win0_4.index t 1 * 512 + 1 * r.val = t.val % 8 * 512 + r.val; rw [hi.2.1]; omega
  | ⟨2, _⟩ => show win0_4.index t 2 * 704 + 1 * f.val = f.val; rw [hi.2.2]; omega

theorem read5 (W : FVec Ideal S8x4096x704 .bf16) (u : Fin 1) (r : Fin 512) (f : Fin 704) :
    ((cfg0.win 5).blk t).view.read (Elt Ideal) W (ix3 u r f) = W (ValueIdx.ix3 (shard t) (row t r) f) := by
  have hi := index5 t
  have hu : u.val = 0 := by omega
  rw [View.read_apply]
  refine congrArg W (funext fun a => Fin.ext ?_)
  match a with
  | ⟨0, _⟩ => show win0_5.index t 0 * 1 + 1 * u.val = t.val / 8; rw [hi.1, hu]; omega
  | ⟨1, _⟩ => show win0_5.index t 1 * 512 + 1 * r.val = t.val % 8 * 512 + r.val; rw [hi.2.1]; omega
  | ⟨2, _⟩ => show win0_5.index t 2 * 704 + 1 * f.val = f.val; rw [hi.2.2]; omega

/-! ## What a point stores -/

/-- A row of a block by a row of a block of weights. -/
def dot (a : Vec Ideal S512x2048 .bf16) (b : Vec Ideal S1x704x2048 .bf16) (r : Fin 512) (f : Fin 704) : EReal :=
  ∑ k : Fin 2048, a (ix2 r k) * b (ix3 (0 : Fin 1) f k)

theorem pay3 (x0 : Vec Ideal S512x2048 .bf16) (x1 : Vec Ideal S1x704x2048 .bf16) (u : Fin 1) (r : Fin 512) (f : Fin 704) :
    k0_pay3 (F := Ideal) x0 x1 (ix3 u r f) = dot x0 x1 r f := by
  obtain rfl : u = 0 := Subsingleton.elim _ _
  refine Eq.trans (b := (0 + dot x0 x1 r f)) ?_ (by simp only [zero_add])
  simp only [k0_pay3, k0_pay1, k0_pay2, dot, pointwise, Ideal.ofBits_one_f32]

theorem out3_eq (x0 : Vec Ideal S512x2048 .bf16) (x1 : Vec Ideal S1x704x2048 .bf16) (x2 : Vec Ideal S1x704x2048 .bf16) : out0_3 (F := Ideal) x0 x1 x2 = k0_pay3 x0 x1 := by
  unfold out0_3
  rw [View.canon_unit_zero off3]
  simp only [View.ld_unit_zero (S := S512x2048) off2, View.ld_unit_zero (S := S1x704x2048) off3]

theorem pay4 (x0 : Vec Ideal S512x2048 .bf16) (x2 : Vec Ideal S1x704x2048 .bf16) (u : Fin 1) (r : Fin 512) (f : Fin 704) :
    k0_pay4 (F := Ideal) x0 x2 (ix3 u r f) = dot x0 x2 r f := by
  obtain rfl : u = 0 := Subsingleton.elim _ _
  refine Eq.trans (b := (0 + dot x0 x2 r f)) ?_ (by simp only [zero_add])
  simp only [k0_pay4, k0_pay1, k0_pay2, dot, pointwise, Ideal.ofBits_one_f32]

theorem out4_eq (x0 : Vec Ideal S512x2048 .bf16) (x1 : Vec Ideal S1x704x2048 .bf16) (x2 : Vec Ideal S1x704x2048 .bf16) : out0_4 (F := Ideal) x0 x1 x2 = k0_pay4 x0 x2 := by
  unfold out0_4
  rw [View.canon_unit_zero off3]
  simp only [View.ld_unit_zero (S := S512x2048) off2, View.ld_unit_zero (S := S1x704x2048) off3]

theorem pay5 (x0 : Vec Ideal S512x2048 .bf16) (x1 : Vec Ideal S1x704x2048 .bf16) (x2 : Vec Ideal S1x704x2048 .bf16) (u : Fin 1) (r : Fin 512) (f : Fin 704) :
    k0_pay5 (F := Ideal) x0 x1 x2 (ix3 u r f) = dot x0 x1 r f * Ideal.logistic (dot x0 x1 r f) * dot x0 x2 r f := by
  obtain rfl : u = 0 := Subsingleton.elim _ _
  refine Eq.trans (b := (0 + dot x0 x1 r f) * Ideal.logistic ((0 + dot x0 x1 r f)) * (0 + dot x0 x2 r f)) ?_ (by simp only [zero_add])
  simp only [k0_pay5, k0_pay1, k0_pay2, dot, pointwise, Ideal.ofBits_one_f32]

theorem out5_eq (x0 : Vec Ideal S512x2048 .bf16) (x1 : Vec Ideal S1x704x2048 .bf16) (x2 : Vec Ideal S1x704x2048 .bf16) : out0_5 (F := Ideal) x0 x1 x2 = k0_pay5 x0 x1 x2 := by
  unfold out0_5
  rw [View.canon_unit_zero off3]
  simp only [View.ld_unit_zero (S := S512x2048) off2, View.ld_unit_zero (S := S1x704x2048) off3]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S8x704x2048 .bf16 := m ((c : Thread nD τ).loc main_arg1)
abbrev a2 : FVec Ideal S8x704x2048 .bf16 := m ((c : Thread nD τ).loc main_arg2)

/-- A row by a row of a shard of weights. -/
def prod (x : FVec Ideal S4096x2048 .bf16) (y : FVec Ideal S8x704x2048 .bf16) (s : Fin 8) (r : Fin 4096) (f : Fin 704) : EReal :=
  ∑ k : Fin 2048, x (ValueIdx.ix2 r k) * y (ValueIdx.ix3 s f k)

theorem dot1 (r : Fin 512) (f : Fin 704) : dot (iblk m c 0 t) (iblk m c 1 t) r f = prod (a0 m c) (a1 m c) (shard t) (row t r) f :=
  Finset.sum_congr rfl fun k _ => congrArg₂ (· * ·) ((read0 t (V m c main_arg0) r k).trans (congrFun (V_main_arg0 m c) _))
    ((read1 t (V m c main_arg1) f k).trans (congrFun (V_main_arg1 m c) _))

theorem dot2 (r : Fin 512) (f : Fin 704) : dot (iblk m c 0 t) (iblk m c 2 t) r f = prod (a0 m c) (a2 m c) (shard t) (row t r) f :=
  Finset.sum_congr rfl fun k _ => congrArg₂ (· * ·) ((read0 t (V m c main_arg0) r k).trans (congrFun (V_main_arg0 m c) _))
    ((read2 t (V m c main_arg2) f k).trans (congrFun (V_main_arg2 m c) _))

theorem point3 (G : FVec Ideal S8x4096x704 .bf16)
    (hG : ∀ s r f, G (ValueIdx.ix3 s r f) = prod (a0 m c) (a1 m c) s r f) (u : Fin 1) (r : Fin 512) (f : Fin 704) :
    out0_3 (F := Ideal) (iblk m c 0 t) (iblk m c 1 t) (iblk m c 2 t) (ix3 u r f) = G (ValueIdx.ix3 (shard t) (row t r) f) := by
  rw [out3_eq, pay3, hG, dot1]

theorem final3 (G : FVec Ideal S8x4096x704 .bf16)
    (hG : ∀ s r f, G (ValueIdx.ix3 s r f) = prod (a0 m c) (a1 m c) s r f) :
    (dats m 0 c).arrAt 3 cfg0.N = G :=
  (dats m 0 c).arrAt_eq_of_cover 3 G
    (fun t _ => by
      show (cfg0.win 3).cut (grid0.coords t) ((dats m 0 c).after 3 t) = _
      rw [after0_3]
      funext i
      have ei := eta3 (n := 1) (k := 512) (l := 704) i
      have e1 := point3 t m c G hG (i 0) (i 1) (i 2)
      have e2 := read3 t G (i 0) (i 1) (i 2)
      refine Eq.trans ?_ ((e1.trans e2.symm).trans ?_)
      · exact congrArg (out0_3 (F := Ideal) (iblk m c 0 t) (iblk m c 1 t) (iblk m c 2 t)) ei
      · exact congrArg (((cfg0.win 3).blk t).view.read (Elt Ideal) G) ei.symm)
    fun i => by
      have h0 : (i 0 : Nat) < 8 := (i 0).isLt
      have h1 : (i 1 : Nat) < 4096 := (i 1).isLt
      have h2 : (i 2 : Nat) < 704 := (i 2).isLt
      have hn : 8 * (i 0 : Nat) + (i 1 : Nat) / 512 < 64 := by omega
      refine ⟨pt _ hn, flush3 _, ?_⟩
      show i ∈ ((View.whole main_v0_0).slice (win0_3.rect (pt _ hn))).set
      rw [View.set_slice_whole, Rect.mem_set_unit]
      intro a
      have hi := index3 (pt _ hn)
      have hx := xsize3 (pt _ hn)
      have hv : (pt _ hn).val = 8 * (i 0 : Nat) + (i 1 : Nat) / 512 := rfl
      match a with
      | ⟨0, _⟩ =>
        show win0_3.index (pt _ hn) 0 * 1 ≤ (i 0 : Nat) ∧ (i 0 : Nat) < win0_3.index (pt _ hn) 0 * 1 + win0_3.xsize (grid0.coords (pt _ hn)) 0
        rw [hi.1, hx.1, hv]; omega
      | ⟨1, _⟩ =>
        show win0_3.index (pt _ hn) 1 * 512 ≤ (i 1 : Nat) ∧ (i 1 : Nat) < win0_3.index (pt _ hn) 1 * 512 + win0_3.xsize (grid0.coords (pt _ hn)) 1
        rw [hi.2.1, hx.2.1, hv]; omega
      | ⟨2, _⟩ =>
        show win0_3.index (pt _ hn) 2 * 704 ≤ (i 2 : Nat) ∧ (i 2 : Nat) < win0_3.index (pt _ hn) 2 * 704 + win0_3.xsize (grid0.coords (pt _ hn)) 2
        rw [hi.2.2, hx.2.2]; omega

theorem point4 (G : FVec Ideal S8x4096x704 .bf16)
    (hG : ∀ s r f, G (ValueIdx.ix3 s r f) = prod (a0 m c) (a2 m c) s r f) (u : Fin 1) (r : Fin 512) (f : Fin 704) :
    out0_4 (F := Ideal) (iblk m c 0 t) (iblk m c 1 t) (iblk m c 2 t) (ix3 u r f) = G (ValueIdx.ix3 (shard t) (row t r) f) := by
  rw [out4_eq, pay4, hG, dot2]

theorem final4 (G : FVec Ideal S8x4096x704 .bf16)
    (hG : ∀ s r f, G (ValueIdx.ix3 s r f) = prod (a0 m c) (a2 m c) s r f) :
    (dats m 0 c).arrAt 4 cfg0.N = G :=
  (dats m 0 c).arrAt_eq_of_cover 4 G
    (fun t _ => by
      show (cfg0.win 4).cut (grid0.coords t) ((dats m 0 c).after 4 t) = _
      rw [after0_4]
      funext i
      have ei := eta3 (n := 1) (k := 512) (l := 704) i
      have e1 := point4 t m c G hG (i 0) (i 1) (i 2)
      have e2 := read4 t G (i 0) (i 1) (i 2)
      refine Eq.trans ?_ ((e1.trans e2.symm).trans ?_)
      · exact congrArg (out0_4 (F := Ideal) (iblk m c 0 t) (iblk m c 1 t) (iblk m c 2 t)) ei
      · exact congrArg (((cfg0.win 4).blk t).view.read (Elt Ideal) G) ei.symm)
    fun i => by
      have h0 : (i 0 : Nat) < 8 := (i 0).isLt
      have h1 : (i 1 : Nat) < 4096 := (i 1).isLt
      have h2 : (i 2 : Nat) < 704 := (i 2).isLt
      have hn : 8 * (i 0 : Nat) + (i 1 : Nat) / 512 < 64 := by omega
      refine ⟨pt _ hn, flush4 _, ?_⟩
      show i ∈ ((View.whole main_v0_1).slice (win0_4.rect (pt _ hn))).set
      rw [View.set_slice_whole, Rect.mem_set_unit]
      intro a
      have hi := index4 (pt _ hn)
      have hx := xsize4 (pt _ hn)
      have hv : (pt _ hn).val = 8 * (i 0 : Nat) + (i 1 : Nat) / 512 := rfl
      match a with
      | ⟨0, _⟩ =>
        show win0_4.index (pt _ hn) 0 * 1 ≤ (i 0 : Nat) ∧ (i 0 : Nat) < win0_4.index (pt _ hn) 0 * 1 + win0_4.xsize (grid0.coords (pt _ hn)) 0
        rw [hi.1, hx.1, hv]; omega
      | ⟨1, _⟩ =>
        show win0_4.index (pt _ hn) 1 * 512 ≤ (i 1 : Nat) ∧ (i 1 : Nat) < win0_4.index (pt _ hn) 1 * 512 + win0_4.xsize (grid0.coords (pt _ hn)) 1
        rw [hi.2.1, hx.2.1, hv]; omega
      | ⟨2, _⟩ =>
        show win0_4.index (pt _ hn) 2 * 704 ≤ (i 2 : Nat) ∧ (i 2 : Nat) < win0_4.index (pt _ hn) 2 * 704 + win0_4.xsize (grid0.coords (pt _ hn)) 2
        rw [hi.2.2, hx.2.2]; omega

theorem point5 (G : FVec Ideal S8x4096x704 .bf16)
    (hG : ∀ s r f, G (ValueIdx.ix3 s r f) = prod (a0 m c) (a1 m c) s r f * Ideal.logistic (prod (a0 m c) (a1 m c) s r f) * prod (a0 m c) (a2 m c) s r f) (u : Fin 1) (r : Fin 512) (f : Fin 704) :
    out0_5 (F := Ideal) (iblk m c 0 t) (iblk m c 1 t) (iblk m c 2 t) (ix3 u r f) = G (ValueIdx.ix3 (shard t) (row t r) f) := by
  rw [out5_eq, pay5, hG, dot1, dot2]

theorem final5 (G : FVec Ideal S8x4096x704 .bf16)
    (hG : ∀ s r f, G (ValueIdx.ix3 s r f) = prod (a0 m c) (a1 m c) s r f * Ideal.logistic (prod (a0 m c) (a1 m c) s r f) * prod (a0 m c) (a2 m c) s r f) :
    (dats m 0 c).arrAt 5 cfg0.N = G :=
  (dats m 0 c).arrAt_eq_of_cover 5 G
    (fun t _ => by
      show (cfg0.win 5).cut (grid0.coords t) ((dats m 0 c).after 5 t) = _
      rw [after0_5]
      funext i
      have ei := eta3 (n := 1) (k := 512) (l := 704) i
      have e1 := point5 t m c G hG (i 0) (i 1) (i 2)
      have e2 := read5 t G (i 0) (i 1) (i 2)
      refine Eq.trans ?_ ((e1.trans e2.symm).trans ?_)
      · exact congrArg (out0_5 (F := Ideal) (iblk m c 0 t) (iblk m c 1 t) (iblk m c 2 t)) ei
      · exact congrArg (((cfg0.win 5).blk t).view.read (Elt Ideal) G) ei.symm)
    fun i => by
      have h0 : (i 0 : Nat) < 8 := (i 0).isLt
      have h1 : (i 1 : Nat) < 4096 := (i 1).isLt
      have h2 : (i 2 : Nat) < 704 := (i 2).isLt
      have hn : 8 * (i 0 : Nat) + (i 1 : Nat) / 512 < 64 := by omega
      refine ⟨pt _ hn, flush5 _, ?_⟩
      show i ∈ ((View.whole main_v0_2).slice (win0_5.rect (pt _ hn))).set
      rw [View.set_slice_whole, Rect.mem_set_unit]
      intro a
      have hi := index5 (pt _ hn)
      have hx := xsize5 (pt _ hn)
      have hv : (pt _ hn).val = 8 * (i 0 : Nat) + (i 1 : Nat) / 512 := rfl
      match a with
      | ⟨0, _⟩ =>
        show win0_5.index (pt _ hn) 0 * 1 ≤ (i 0 : Nat) ∧ (i 0 : Nat) < win0_5.index (pt _ hn) 0 * 1 + win0_5.xsize (grid0.coords (pt _ hn)) 0
        rw [hi.1, hx.1, hv]; omega
      | ⟨1, _⟩ =>
        show win0_5.index (pt _ hn) 1 * 512 ≤ (i 1 : Nat) ∧ (i 1 : Nat) < win0_5.index (pt _ hn) 1 * 512 + win0_5.xsize (grid0.coords (pt _ hn)) 1
        rw [hi.2.1, hx.2.1, hv]; omega
      | ⟨2, _⟩ =>
        show win0_5.index (pt _ hn) 2 * 704 ≤ (i 2 : Nat) ∧ (i 2 : Nat) < win0_5.index (pt _ hn) 2 * 704 + win0_5.xsize (grid0.coords (pt _ hn)) 2
        rw [hi.2.2, hx.2.2]; omega

end Cert.FfnUpIdeal.Val

namespace Cert.FfnUpRefIdeal.Val

open Idealize.ShloMosaic Idealize.ShloMosaic.TcCoe Cert.FfnUpRefIdeal Cert.FfnUpRefIdeal.Read
open Cert.FfnUpIdeal.Val (prod)

theorem v4_at (x : FVec Ideal S4096x2048 .bf16) (y : FVec Ideal S8x704x2048 .bf16) (s : Fin 8) (r : Fin 4096) (f : Fin 704) :
    val_main_v4 (F := Ideal) x y (ValueIdx.ix3 s r f) = prod x y s r f := by
  refine ((val_main_v4_apply (F := Ideal) x y _).trans (val_main_v3_apply x y _)).trans (Finset.sum_congr rfl fun k _ => ?_)
  rw [val_main_v1_apply, val_main_v0_apply]
  refine (mul_comm _ _).trans ?_
  exact congrArg₂ (· * ·) (congrArg x (funext fun a => match a with | ⟨0, _⟩ => rfl | ⟨1, _⟩ => rfl))
    (congrArg y (funext fun a => match a with | ⟨0, _⟩ => rfl | ⟨1, _⟩ => rfl | ⟨2, _⟩ => rfl))

theorem v6_at (x : FVec Ideal S4096x2048 .bf16) (y : FVec Ideal S8x704x2048 .bf16) (s : Fin 8) (r : Fin 4096) (f : Fin 704) :
    val_main_v6 (F := Ideal) x y (ValueIdx.ix3 s r f) = prod x y s r f := by
  refine ((val_main_v6_apply (F := Ideal) x y _).trans (val_main_v5_apply x y _)).trans (Finset.sum_congr rfl fun k _ => ?_)
  rw [val_main_v2_apply, val_main_v0_apply]
  refine (mul_comm _ _).trans ?_
  exact congrArg₂ (· * ·) (congrArg x (funext fun a => match a with | ⟨0, _⟩ => rfl | ⟨1, _⟩ => rfl))
    (congrArg y (funext fun a => match a with | ⟨0, _⟩ => rfl | ⟨1, _⟩ => rfl | ⟨2, _⟩ => rfl))

theorem v7_at (x : FVec Ideal S4096x2048 .bf16) (y : FVec Ideal S8x704x2048 .bf16) (s : Fin 8) (r : Fin 4096) (f : Fin 704) :
    val_main_v7 (F := Ideal) x y (ValueIdx.ix3 s r f) = prod x y s r f :=
  (val_main_v7_apply (F := Ideal) x y _).trans (v4_at x y s r f)

theorem v8_at (x : FVec Ideal S4096x2048 .bf16) (y : FVec Ideal S8x704x2048 .bf16) (s : Fin 8) (r : Fin 4096) (f : Fin 704) :
    val_main_v8 (F := Ideal) x y (ValueIdx.ix3 s r f) = prod x y s r f :=
  (val_main_v8_apply (F := Ideal) x y _).trans (v6_at x y s r f)

/-- The reference's gated hidden values. -/
theorem v11_at (x : FVec Ideal S4096x2048 .bf16) (y z : FVec Ideal S8x704x2048 .bf16) (s : Fin 8) (r : Fin 4096) (f : Fin 704) :
    val_main_v11 (F := Ideal) x y z (ValueIdx.ix3 s r f) = prod x y s r f * Ideal.logistic (prod x y s r f) * prod x z s r f := by
  refine (val_main_v11_apply (F := Ideal) x y z _).trans ?_
  rw [val_main_v10_apply, val_main_v9_apply, val_main_call0_v5_apply, val_main_call0_v4_apply, val_main_call0_cst_0_apply,
    val_main_call0_v3_apply, val_main_call0_v2_apply, val_main_call0_cst_apply, val_main_call0_v1_apply, val_main_call0_v0_apply,
    v4_at, v6_at]
  simp only [pointwise, Ideal.ofBits_one_f32, Ideal.logistic]

end Cert.FfnUpRefIdeal.Val

end
-- ==== Proof.FfnDownValue.lean ====
module

public import proofs.«01_k».proof.Proof.Gen.FfnDownIdeal.Value
public import proofs.«01_k».proof.Proof.Gen.FfnDownRefIdeal.Read
public import Idealize.ShloMosaic.Lib.Pointwise

@[expose] public section

set_option maxRecDepth 16384

noncomputable section

/-! # The output of the feed-forward layer

The grid point `4 i + k` adds shards `2 k` and `2 k + 1` of the hidden columns into rows `512 i …`. -/

namespace Cert.FfnDownIdeal.Val

open Idealize.ShloMosaic Idealize.ShloMosaic.TcCoe Idealize.SL.Sem Cert.FfnDownIdeal Cert.FfnDownIdeal.Gen

theorem eta2 {n k : ℕ} (i : (⟨2, ![n, k]⟩ : Shape).Idx) : i = ix2 (i 0) (i 1) :=
  funext fun a => match a with | ⟨0, _⟩ => rfl | ⟨1, _⟩ => rfl
theorem off3 : (![0, 0, 0] : Fin 3 → ℕ) = fun _ => 0 := funext fun a => match a with | ⟨0, _⟩ => rfl | ⟨1, _⟩ => rfl | ⟨2, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val % 4 * 2 + 0 ∧ win0_0.index t 1 = t.val / 4 ∧ win0_0.index t 2 = 0 := by decide +kernel
theorem index1 : ∀ t : Fin grid0.N, win0_1.index t 0 = t.val % 4 * 2 + 1 ∧ win0_1.index t 1 = t.val / 4 ∧ win0_1.index t 2 = 0 := by decide +kernel
theorem index2 : ∀ t : Fin grid0.N, win0_2.index t 0 = t.val % 4 * 2 + 0 ∧ win0_2.index t 1 = 0 ∧ win0_2.index t 2 = 0 := by decide +kernel
theorem index3 : ∀ t : Fin grid0.N, win0_3.index t 0 = t.val % 4 * 2 + 1 ∧ win0_3.index t 1 = 0 ∧ win0_3.index t 2 = 0 := by decide +kernel
theorem index4 : ∀ t : Fin grid0.N, win0_4.index t 0 = t.val / 4 ∧ win0_4.index t 1 = 0 := by decide +kernel
theorem index6 : ∀ t : Fin grid0.N, win0_6.index t 0 = t.val / 4 ∧ win0_6.index t 1 = 0 := by decide +kernel
theorem index7 : ∀ t : Fin grid0.N, win0_7.index t 0 = t.val / 4 ∧ win0_7.index t 1 = 0 := by decide +kernel
theorem index5 : ∀ t : Fin grid0.N, win0_5.index t 0 = 0 ∧ win0_5.index t 1 = 0 := by decide +kernel
theorem xsize6 : ∀ t : Fin grid0.N, win0_6.xsize (grid0.coords t) 0 = 512 ∧ win0_6.xsize (grid0.coords t) 1 = 2048 := by decide +kernel
theorem xsize7 : ∀ t : Fin grid0.N, win0_7.xsize (grid0.coords t) 0 = 512 ∧ win0_7.xsize (grid0.coords t) 1 = 2048 := by decide +kernel

def pt (n : ℕ) (h : n < 32) : Fin cfg0.N := ⟨n, lt_of_lt_of_eq h N_0.symm⟩
def shard0 (t : Fin cfg0.N) : Fin 8 := ⟨t.val % 4 * 2 + 0, by omega⟩
def shard1 (t : Fin cfg0.N) : Fin 8 := ⟨t.val % 4 * 2 + 1, by omega⟩
def row (t : Fin cfg0.N) (r : Fin 512) : Fin 4096 := ⟨t.val / 4 * 512 + r.val, by have : t.val < 32 := lt_of_lt_of_eq t.isLt N_0; omega⟩

/-! ## A block of any contents of a window's array, read at an entry -/

variable (t : Fin cfg0.N)

theorem read0 (W : FVec Ideal S8x4096x704 .bf16) (r : Fin 512) (f : Fin 704) :
    ((cfg0.win 0).blk t).view.read (Elt Ideal) W (ix3 (0 : Fin 1) r f) = W (ValueIdx.ix3 (shard0 t) (row t r) f) := by
  have hi := index0 t
  rw [View.read_apply]
  refine congrArg W (funext fun a => Fin.ext ?_)
  match a with
  | ⟨0, _⟩ => show win0_0.index t 0 * 1 + 1 * 0 = t.val % 4 * 2 + 0; rw [hi.1]; omega
  | ⟨1, _⟩ => show win0_0.index t 1 * 512 + 1 * r.val = t.val / 4 * 512 + r.val; rw [hi.2.1]; omega
  | ⟨2, _⟩ => show win0_0.index t 2 * 704 + 1 * f.val = f.val; rw [hi.2.2]; omega

theorem read1 (W : FVec Ideal S8x4096x704 .bf16) (r : Fin 512) (f : Fin 704) :
    ((cfg0.win 1).blk t).view.read (Elt Ideal) W (ix3 (0 : Fin 1) r f) = W (ValueIdx.ix3 (shard1 t) (row t r) f) := by
  have hi := index1 t
  rw [View.read_apply]
  refine congrArg W (funext fun a => Fin.ext ?_)
  match a with
  | ⟨0, _⟩ => show win0_1.index t 0 * 1 + 1 * 0 = t.val % 4 * 2 + 1; rw [hi.1]; omega
  | ⟨1, _⟩ => show win0_1.index t 1 * 512 + 1 * r.val = t.val / 4 * 512 + r.val; rw [hi.2.1]; omega
  | ⟨2, _⟩ => show win0_1.index t 2 * 704 + 1 * f.val = f.val; rw [hi.2.2]; omega

theorem read2 (W : FVec Ideal S8x704x2048 .bf16) (f : Fin 704) (n : Fin 2048) :
    ((cfg0.win 2).blk t).view.read (Elt Ideal) W (ix3 (0 : Fin 1) f n) = W (ValueIdx.ix3 (shard0 t) f n) := by
  have hi := index2 t
  rw [View.read_apply]
  refine congrArg W (funext fun a => Fin.ext ?_)
  match a with
  | ⟨0, _⟩ => show win0_2.index t 0 * 1 + 1 * 0 = t.val % 4 * 2 + 0; rw [hi.1]; omega
  | ⟨1, _⟩ => show win0_2.index t 1 * 704 + 1 * f.val = f.val; rw [hi.2.1]; omega
  | ⟨2, _⟩ => show win0_2.index t 2 * 2048 + 1 * n.val = n.val; rw [hi.2.2]; omega

theorem read3 (W : FVec Ideal S8x704x2048 .bf16) (f : Fin 704) (n : Fin 2048) :
    ((cfg0.win 3).blk t).view.read (Elt Ideal) W (ix3 (0 : Fin 1) f n) = W (ValueIdx.ix3 (shard1 t) f n) := by
  have hi := index3 t
  rw [View.read_apply]
  refine congrArg W (funext fun a => Fin.ext ?_)
  match a with
  | ⟨0, _⟩ => show win0_3.index t 0 * 1 + 1 * 0 = t.val % 4 * 2 + 1; rw [hi.1]; omega
  | ⟨1, _⟩ => show win0_3.index t 1 * 704 + 1 * f.val = f.val; rw [hi.2.1]; omega
  | ⟨2, _⟩ => show win0_3.index t 2 * 2048 + 1 * n.val = n.val; rw [hi.2.2]; omega

theorem read4 (W : FVec Ideal S4096x2048 .f32) (r : Fin 512) (n : Fin 2048) :
    ((cfg0.win 4).blk t).view.read (Elt Ideal) W (ix2 r n) = W (ValueIdx.ix2 (row t r) n) := by
  have hi := index4 t
  rw [View.read_apply]
  refine congrArg W (funext fun a => Fin.ext ?_)
  match a with
  | ⟨0, _⟩ => show win0_4.index t 0 * 512 + 1 * r.val = t.val / 4 * 512 + r.val; rw [hi.1]; omega
  | ⟨1, _⟩ => show win0_4.index t 1 * 2048 + 1 * n.val = n.val; rw [hi.2]; omega

theorem read6 (W : FVec Ideal S4096x2048 .bf16) (r : Fin 512) (n : Fin 2048) :
    ((cfg0.win 6).blk t).view.read (Elt Ideal) W (ix2 r n) = W (ValueIdx.ix2 (row t r) n) := by
  have hi := index6 t
  rw [View.read_apply]
  refine congrArg W (funext fun a => Fin.ext ?_)
  match a with
  | ⟨0, _⟩ => show win0_6.index t 0 * 512 + 1 * r.val = t.val / 4 * 512 + r.val; rw [hi.1]; omega
  | ⟨1, _⟩ => show win0_6.index t 1 * 2048 + 1 * n.val = n.val; rw [hi.2]; omega

theorem read7 (W : FVec Ideal S4096x2048 .f32) (r : Fin 512) (n : Fin 2048) :
    ((cfg0.win 7).blk t).view.read (Elt Ideal) W (ix2 r n) = W (ValueIdx.ix2 (row t r) n) := by
  have hi := index7 t
  rw [View.read_apply]
  refine congrArg W (funext fun a => Fin.ext ?_)
  match a with
  | ⟨0, _⟩ => show win0_7.index t 0 * 512 + 1 * r.val = t.val / 4 * 512 + r.val; rw [hi.1]; omega
  | ⟨1, _⟩ => show win0_7.index t 1 * 2048 + 1 * n.val = n.val; rw [hi.2]; omega

theorem read5 (W : FVec Ideal S1x2048 .f32) (n : Fin 2048) :
    ((cfg0.win 5).blk t).view.read (Elt Ideal) W (ix2 (0 : Fin 1) n) = W (ValueIdx.ix2 (0 : Fin 1) n) := by
  have hi := index5 t
  rw [View.read_apply]
  refine congrArg W (funext fun a => Fin.ext ?_)
  match a with
  | ⟨0, _⟩ => show win0_5.index t 0 * 1 + 1 * 0 = 0; rw [hi.1]
  | ⟨1, _⟩ => show win0_5.index t 1 * 2048 + 1 * n.val = n.val; rw [hi.2]; omega

/-! ## The payloads at an entry -/

/-- A row of a block of hidden values times a column of a block of weights. -/
def dot (a : Vec Ideal S1x512x704 .bf16) (b : Vec Ideal S1x704x2048 .bf16) (r : Fin 512) (n : Fin 2048) : EReal :=
  ∑ f : Fin 704, a (ix3 (0 : Fin 1) r f) * b (ix3 (0 : Fin 1) f n)

theorem pay2_at (x0 x1 : Vec Ideal S1x512x704 .bf16) (x2 x3 : Vec Ideal S1x704x2048 .bf16) (y : Vec Ideal S512x2048 .f32) (r : Fin 512) (n : Fin 2048) :
    k0_pay2 (F := Ideal) x0 x1 x2 x3 y (ix2 r n) = y (ix2 r n) + (dot x0 x2 r n + dot x1 x3 r n) := by
  refine Eq.trans (b := y (ix2 r n) + ((0 + dot x0 x2 r n) + (0 + dot x1 x3 r n))) ?_ ?_
  · simp only [k0_pay2, dot, pointwise]
  · simp only [zero_add]

theorem pay1_at (r : Fin 512) (n : Fin 2048) : k0_pay1 (F := Ideal) (ix2 r n) = 0 := by
  simp only [k0_pay1, pointwise]

theorem pay3_at (y x : Vec Ideal S512x2048 .f32) (g : Vec Ideal S1x2048 .f32) (r : Fin 512) (n : Fin 2048) :
    k0_pay3 (F := Ideal) y x g (ix2 r n) = x (ix2 r n) + g (ix2 (0 : Fin 1) n) * y (ix2 r n) := by
  simp only [k0_pay3, pointwise]
  rfl

theorem pay4_at (y : Vec Ideal S512x2048 .f32) (r : Fin 512) (n : Fin 2048) : k0_pay4 (F := Ideal) y (ix2 r n) = y (ix2 r n) := by
  simp only [k0_pay4, pointwise]

/-! ## What the cases leave -/

section Cases

variable (c : Dev nD) (i : grid0.Coords)
  {arg3 : Memref sig .tc .vmem S1x512x704 .bf16} (harg3 : arg3.IsWhole)
  {arg4 : Memref sig .tc .vmem S1x512x704 .bf16} (harg4 : arg4.IsWhole)
  {arg5 : Memref sig .tc .vmem S1x704x2048 .bf16} (harg5 : arg5.IsWhole)
  {arg6 : Memref sig .tc .vmem S1x704x2048 .bf16} (harg6 : arg6.IsWhole)
  {arg7 : Memref sig .tc .vmem S512x2048 .f32} (harg7 : arg7.IsWhole)
  {arg8 : Memref sig .tc .vmem S1x2048 .f32} (harg8 : arg8.IsWhole)
  {arg9 : Memref sig .tc .vmem S512x2048 .bf16} (harg9 : arg9.IsWhole)
  {arg10 : Memref sig .tc .vmem S512x2048 .f32} (harg10 : arg10.IsWhole)
  {arg11 : Memref sig .tc .vmem S512x2048 .f32} (harg11 : arg11.IsWhole)
  (x0 x1 : Vec Ideal S1x512x704 .bf16) (x2 x3 : Vec Ideal S1x704x2048 .bf16) (x4 : Vec Ideal S512x2048 .f32) (x5 : Vec Ideal S1x2048 .f32) (xs : Vec Ideal S512x2048 .f32)

theorem left_A (hc0 : cond0_0 i) (hc1 : ¬cond0_1 i) :
    sout0_A_0 c i arg3 harg3 arg4 harg4 arg5 harg5 arg6 harg6 arg7 harg7 arg8 harg8 arg9 harg9 arg10 harg10 arg11 harg11 hc0 hc1 x0 x1 x2 x3 x4 x5
      = k0_pay2 (F := Ideal) x0 x1 x2 x3 (k0_pay1 (F := Ideal)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x2048) off2, View.readCov_unit_zero (S := S512x2048) _ off2]
  simp only [View.readAt_eq_ld, harg3.read_unread, harg4.read_unread, harg5.read_unread, harg6.read_unread, harg7.read_unread, harg8.read_unread, harg11.read_unread,
    View.ld_unit_zero (S := S1x512x704) off3, View.ld_unit_zero (S := S1x704x2048) off3, View.ld_unit_zero (S := S512x2048) off2, View.ld_unit_zero (S := S1x2048) off2]

theorem left_B (hc0 : ¬cond0_0 i) (hc1 : ¬cond0_1 i) :
    sout0_B_0 c i arg3 harg3 arg4 harg4 arg5 harg5 arg6 harg6 arg7 harg7 arg8 harg8 arg9 harg9 arg10 harg10 arg11 harg11 hc0 hc1 x0 x1 x2 x3 x4 x5 xs
      = k0_pay2 (F := Ideal) x0 x1 x2 x3 xs := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs)]
  unfold kernelRun0_B
  dsimp only
  sl_unfold_words
  rw [View.canon_unit_zero (S := S512x2048) off2]
  simp only [View.readAt_eq_ld, harg3.read_unread, harg4.read_unread, harg5.read_unread, harg6.read_unread, harg7.read_unread, harg8.read_unread, harg11.read_unread,
    View.ld_unit_zero (S := S1x512x704) off3, View.ld_unit_zero (S := S1x704x2048) off3, View.ld_unit_zero (S := S512x2048) off2, View.ld_unit_zero (S := S1x2048) off2]

theorem left_C6 (hc0 : ¬cond0_0 i) (hc1 : cond0_1 i) :
    out0_C_6 c i arg3 harg3 arg4 harg4 arg5 harg5 arg6 harg6 arg7 harg7 arg8 harg8 arg9 harg9 arg10 harg10 arg11 harg11 hc0 hc1 x0 x1 x2 x3 x4 x5 xs
      = k0_pay4 (F := Ideal) (k0_pay2 (F := Ideal) x0 x1 x2 x3 xs) := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs)]
  unfold kernelRun0_C
  dsimp only
  sl_unfold_words
  rw [View.canon_unit_zero (S := S512x2048) off2, View.readCov_unit_zero (S := S512x2048) _ off2]
  simp only [View.readAt_eq_ld, harg3.read_unread, harg4.read_unread, harg5.read_unread, harg6.read_unread, harg7.read_unread, harg8.read_unread, harg11.read_unread,
    View.ld_unit_zero (S := S1x512x704) off3, View.ld_unit_zero (S := S1x704x2048) off3, View.ld_unit_zero (S := S512x2048) off2, View.ld_unit_zero (S := S1x2048) off2]

theorem left_C7 (hc0 : ¬cond0_0 i) (hc1 : cond0_1 i) :
    out0_C_7 c i arg3 harg3 arg4 harg4 arg5 harg5 arg6 harg6 arg7 harg7 arg8 harg8 arg9 harg9 arg10 harg10 arg11 harg11 hc0 hc1 x0 x1 x2 x3 x4 x5 xs
      = k0_pay3 (F := Ideal) (k0_pay2 (F := Ideal) x0 x1 x2 x3 xs) x4 x5 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 xs)]
  unfold kernelRun0_C
  dsimp only
  sl_unfold_words
  rw [View.canon_unit_zero (S := S512x2048) off2, View.readCov_unit_zero (S := S512x2048) _ off2]
  simp only [View.readAt_eq_ld, harg3.read_unread, harg4.read_unread, harg5.read_unread, harg6.read_unread, harg7.read_unread, harg8.read_unread, harg11.read_unread,
    View.ld_unit_zero (S := S1x512x704) off3, View.ld_unit_zero (S := S1x704x2048) off3, View.ld_unit_zero (S := S512x2048) off2, View.ld_unit_zero (S := S1x2048) off2]

end Cases

/-! ## The four points of a row of blocks -/

variable (m : (ℓ : Loc nD τ sig) → Buf (Elt Ideal) ℓ) (c : Dev nD)

/-- What a point leaves in the sum, over what it held. -/
def step (y : Vec Ideal S512x2048 .f32) : Vec Ideal S512x2048 .f32 :=
  k0_pay2 (F := Ideal) (iblk m c 0 t) (iblk m c 1 t) (iblk m c 2 t) (iblk m c 3 t) y

/-- What a point adds to an entry. -/
def term (r : Fin 512) (n : Fin 2048) : EReal := dot (iblk m c 0 t) (iblk m c 2 t) r n + dot (iblk m c 1 t) (iblk m c 3 t) r n

theorem step_at (y : Vec Ideal S512x2048 .f32) (r : Fin 512) (n : Fin 2048) : step t m c y (ix2 r n) = y (ix2 r n) + term t m c r n :=
  pay2_at _ _ _ _ y r n

/-- What the point before left in the sum. -/
def before : Vec Ideal S512x2048 .f32 := (outsAt0 m c (t.val - 1) (Nat.lt_of_le_of_lt (Nat.sub_le _ _) t.isLt)).2.2

theorem carried_A (h0 : t.val % 4 = 0) : (outsAt0 m c t.val t.isLt).2.2 = step t m c (k0_pay1 (F := Ideal)) := by
  refine (congrArg (fun p => p.2.2) (outsAt0_A m c t h0 (by omega))).trans ?_
  unfold step
  dsimp only
  rw [left_A]

theorem carried_B (h0 : ¬t.val % 4 = 0) (h1 : ¬t.val % 4 = 3) : (outsAt0 m c t.val t.isLt).2.2 = step t m c (before t m c) := by
  refine (congrArg (fun p => p.2.2) (outsAt0_B m c t h0 h1)).trans ?_
  unfold step before
  dsimp only
  rw [left_B]

theorem result6 (h1 : t.val % 4 = 3) : (outsAt0 m c t.val t.isLt).1 = k0_pay4 (F := Ideal) (step t m c (before t m c)) := by
  refine (congrArg (fun p => p.1) (outsAt0_C m c t (by omega) h1)).trans ?_
  unfold step before
  dsimp only
  rw [left_C6]

theorem result7 (h1 : t.val % 4 = 3) :
    (outsAt0 m c t.val t.isLt).2.1 = k0_pay3 (F := Ideal) (step t m c (before t m c)) (iblk m c 4 t) (iblk m c 5 t) := by
  refine (congrArg (fun p => p.2.1) (outsAt0_C m c t (by omega) h1)).trans ?_
  unfold step before
  dsimp only
  rw [left_C7]

theorem sum_at (i : ℕ) (hi : i < 8) (r : Fin 512) (n : Fin 2048) :
    step (pt (4 * i + 3) (by omega)) m c (before (pt (4 * i + 3) (by omega)) m c) (ix2 r n)
      = 0 + term (pt (4 * i) (by omega)) m c r n + term (pt (4 * i + 1) (by omega)) m c r n
        + term (pt (4 * i + 2) (by omega)) m c r n + term (pt (4 * i + 3) (by omega)) m c r n := by
  have e2 := carried_B (pt (4 * i + 2) (by omega)) m c (by show ¬(4 * i + 2) % 4 = 0; omega) (by show ¬(4 * i + 2) % 4 = 3; omega)
  have e1 := carried_B (pt (4 * i + 1) (by omega)) m c (by show ¬(4 * i + 1) % 4 = 0; omega) (by show ¬(4 * i + 1) % 4 = 3; omega)
  have e0 := carried_A (pt (4 * i) (by omega)) m c (by show 4 * i % 4 = 0; omega)
  refine (step_at _ m c _ r n).trans (congrArg (· + _) ?_)
  refine (congrFun e2 _).trans ((step_at _ m c _ r n).trans (congrArg (· + _) ?_))
  refine (congrFun e1 _).trans ((step_at _ m c _ r n).trans (congrArg (· + _) ?_))
  refine (congrFun e0 _).trans ((step_at _ m c _ r n).trans (congrArg (· + _) ?_))
  exact pay1_at r n

abbrev a0 : FVec Ideal S8x4096x704 .bf16 := m ((c : Thread nD τ).loc main_arg0)
abbrev a1 : FVec Ideal S8x704x2048 .bf16 := m ((c : Thread nD τ).loc main_arg1)
abbrev a2 : FVec Ideal S4096x2048 .f32 := m ((c : Thread nD τ).loc main_arg2)
abbrev a3 : FVec Ideal S1x2048 .f32 := m ((c : Thread nD τ).loc main_arg3)

/-- A shard's part of an entry. -/
def part (x : FVec Ideal S8x4096x704 .bf16) (y : FVec Ideal S8x704x2048 .bf16) (s : Fin 8) (r : Fin 4096) (n : Fin 2048) : EReal :=
  ∑ f : Fin 704, x (ValueIdx.ix3 s r f) * y (ValueIdx.ix3 s f n)

theorem term_at (r : Fin 512) (n : Fin 2048) : term t m c r n
    = part (a0 m c) (a1 m c) (shard0 t) (row t r) n + part (a0 m c) (a1 m c) (shard1 t) (row t r) n := by
  unfold term
  refine congrArg₂ (· + ·) ?_ ?_
  · exact Finset.sum_congr rfl fun f _ => congrArg₂ (· * ·) ((read0 t (V m c main_arg0) r f).trans (congrFun (V_main_arg0 m c) _))
      ((read2 t (V m c main_arg1) f n).trans (congrFun (V_main_arg1 m c) _))
  · exact Finset.sum_congr rfl fun f _ => congrArg₂ (· * ·) ((read1 t (V m c main_arg0) r f).trans (congrFun (V_main_arg0 m c) _))
      ((read3 t (V m c main_arg1) f n).trans (congrFun (V_main_arg1 m c) _))

theorem sum_shards (p : Fin 8 → EReal) : 0 + (p 0 + p 1) + (p 2 + p 3) + (p 4 + p 5) + (p 6 + p 7) = ∑ s, p s := by
  rw [Fin.sum_univ_eight]
  abel

theorem last_lt (i : ℕ) (hi : i < 8) : 4 * i + 3 < 32 := by omega

theorem total (h1 : t.val % 4 = 3) (r : Fin 512) (n : Fin 2048) :
    step t m c (before t m c) (ix2 r n) = ∑ s : Fin 8, part (a0 m c) (a1 m c) s (row t r) n := by
  have hN : t.val < 32 := lt_of_lt_of_eq t.isLt N_0
  obtain ⟨i, hi, rfl⟩ : ∃ i, ∃ hi : i < 8, t = pt (4 * i + 3) (last_lt i hi) := ⟨t.val / 4, by omega, Fin.ext (by show t.val = 4 * (t.val / 4) + 3; omega)⟩
  rw [sum_at m c i hi r n]
  have hr : ∀ (k : ℕ) (hk : k < 4), row (pt (4 * i + k) (by omega)) r = row (pt (4 * i + 3) (by omega)) r := fun k hk =>
    Fin.ext (by show (4 * i + k) / 4 * 512 + r.val = (4 * i + 3) / 4 * 512 + r.val; omega)
  have hs0 : ∀ (k : ℕ) (hk : k < 4), shard0 (pt (4 * i + k) (by omega)) = ⟨k * 2 + 0, by omega⟩ := fun k hk =>
    Fin.ext (by show (4 * i + k) % 4 * 2 + 0 = k * 2 + 0; omega)
  have hs1 : ∀ (k : ℕ) (hk : k < 4), shard1 (pt (4 * i + k) (by omega)) = ⟨k * 2 + 1, by omega⟩ := fun k hk =>
    Fin.ext (by show (4 * i + k) % 4 * 2 + 1 = k * 2 + 1; omega)
  have ht : ∀ (k : ℕ) (hk : k < 4), term (pt (4 * i + k) (by omega)) m c r n
      = part (a0 m c) (a1 m c) ⟨k * 2 + 0, by omega⟩ (row (pt (4 * i + 3) (by omega)) r) n
        + part (a0 m c) (a1 m c) ⟨k * 2 + 1, by omega⟩ (row (pt (4 * i + 3) (by omega)) r) n := fun k hk => by
    rw [term_at, hr k hk, hs0 k hk, hs1 k hk]
  have t0 := ht 0 (by omega)
  have t1 := ht 1 (by omega)
  have t2 := ht 2 (by omega)
  have t3 := ht 3 (by omega)
  refine Eq.trans ?_ (sum_shards fun s => part (a0 m c) (a1 m c) s (row (pt (4 * i + 3) (by omega)) r) n)
  exact congrArg₂ (· + ·) (congrArg₂ (· + ·) (congrArg₂ (· + ·) (congrArg₂ (· + ·) rfl t0) t1) t2) t3

theorem point6 (G : FVec Ideal S4096x2048 .bf16)
    (hG : ∀ x n, G (ValueIdx.ix2 x n) = ∑ s : Fin 8, part (a0 m c) (a1 m c) s x n)
    (h1 : t.val % 4 = 3) (r : Fin 512) (n : Fin 2048) :
    (outsAt0 m c t.val t.isLt).1 (ix2 r n) = G (ValueIdx.ix2 (row t r) n) := by
  refine (congrFun (result6 t m c h1) _).trans ?_
  exact (pay4_at _ r n).trans ((total t m c h1 r n).trans (hG _ n).symm)

theorem final6 (G : FVec Ideal S4096x2048 .bf16)
    (hG : ∀ x n, G (ValueIdx.ix2 x n) = ∑ s : Fin 8, part (a0 m c) (a1 m c) s x n) :
    (dats m 0 c).arrAt 6 cfg0.N = G :=
  (dats m 0 c).arrAt_eq_of_cover 6 G
    (fun t hf => by
      show (cfg0.win 6).cut (grid0.coords t) ((dats m 0 c).after 6 t) = _
      rw [after0_6]
      funext i
      have ei := eta2 (n := 512) (k := 2048) i
      have e1 := point6 t m c G hG ((flush0_6 t).mp hf) (i 0) (i 1)
      have e2 := read6 t G (i 0) (i 1)
      refine Eq.trans ?_ ((e1.trans e2.symm).trans ?_)
      · exact congrArg (outsAt0 m c t.val t.isLt).1 ei
      · exact congrArg (((cfg0.win 6).blk t).view.read (Elt Ideal) G) ei.symm)
    fun i => by
      have h0 : (i 0 : Nat) < 4096 := (i 0).isLt
      have h1 : (i 1 : Nat) < 2048 := (i 1).isLt
      have hn : 4 * ((i 0 : Nat) / 512) + 3 < 32 := by omega
      refine ⟨pt _ hn, (flush0_6 _).mpr (by show (4 * ((i 0 : Nat) / 512) + 3) % 4 = 3; omega), ?_⟩
      show i ∈ ((View.whole main_v0_0).slice (win0_6.rect (pt _ hn))).set
      rw [View.set_slice_whole, Rect.mem_set_unit]
      intro a
      have hi := index6 (pt _ hn)
      have hx := xsize6 (pt _ hn)
      have hv : (pt _ hn).val = 4 * ((i 0 : Nat) / 512) + 3 := rfl
      match a with
      | ⟨0, _⟩ =>
        show win0_6.index (pt _ hn) 0 * 512 ≤ (i 0 : Nat) ∧ (i 0 : Nat) < win0_6.index (pt _ hn) 0 * 512 + win0_6.xsize (grid0.coords (pt _ hn)) 0
        rw [hi.1, hx.1, hv]; omega
      | ⟨1, _⟩ =>
        show win0_6.index (pt _ hn) 1 * 2048 ≤ (i 1 : Nat) ∧ (i 1 : Nat) < win0_6.index (pt _ hn) 1 * 2048 + win0_6.xsize (grid0.coords (pt _ hn)) 1
        rw [hi.2, hx.2]; omega

theorem point7 (G : FVec Ideal S4096x2048 .f32)
    (hG : ∀ x n, G (ValueIdx.ix2 x n) = a2 m c (ValueIdx.ix2 x n) + a3 m c (ValueIdx.ix2 (0 : Fin 1) n) * ∑ s : Fin 8, part (a0 m c) (a1 m c) s x n)
    (h1 : t.val % 4 = 3) (r : Fin 512) (n : Fin 2048) :
    (outsAt0 m c t.val t.isLt).2.1 (ix2 r n) = G (ValueIdx.ix2 (row t r) n) := by
  refine (congrFun (result7 t m c h1) _).trans ?_
  refine (pay3_at _ _ _ r n).trans (Eq.trans ?_ (hG _ n).symm)
  exact congrArg₂ (· + ·) ((read4 t (V m c main_arg2) r n).trans (congrFun (V_main_arg2 m c) _))
    (congrArg₂ (· * ·) ((read5 t (V m c main_arg3) n).trans (congrFun (V_main_arg3 m c) _)) (total t m c h1 r n))

theorem final7 (G : FVec Ideal S4096x2048 .f32)
    (hG : ∀ x n, G (ValueIdx.ix2 x n) = a2 m c (ValueIdx.ix2 x n) + a3 m c (ValueIdx.ix2 (0 : Fin 1) n) * ∑ s : Fin 8, part (a0 m c) (a1 m c) s x n) :
    (dats m 0 c).arrAt 7 cfg0.N = G :=
  (dats m 0 c).arrAt_eq_of_cover 7 G
    (fun t hf => by
      show (cfg0.win 7).cut (grid0.coords t) ((dats m 0 c).after 7 t) = _
      rw [after0_7]
      funext i
      have ei := eta2 (n := 512) (k := 2048) i
      have e1 := point7 t m c G hG ((flush0_7 t).mp hf) (i 0) (i 1)
      have e2 := read7 t G (i 0) (i 1)
      refine Eq.trans ?_ ((e1.trans e2.symm).trans ?_)
      · exact congrArg (outsAt0 m c t.val t.isLt).2.1 ei
      · exact congrArg (((cfg0.win 7).blk t).view.read (Elt Ideal) G) ei.symm)
    fun i => by
      have h0 : (i 0 : Nat) < 4096 := (i 0).isLt
      have h1 : (i 1 : Nat) < 2048 := (i 1).isLt
      have hn : 4 * ((i 0 : Nat) / 512) + 3 < 32 := by omega
      refine ⟨pt _ hn, (flush0_7 _).mpr (by show (4 * ((i 0 : Nat) / 512) + 3) % 4 = 3; omega), ?_⟩
      show i ∈ ((View.whole main_v0_1).slice (win0_7.rect (pt _ hn))).set
      rw [View.set_slice_whole, Rect.mem_set_unit]
      intro a
      have hi := index7 (pt _ hn)
      have hx := xsize7 (pt _ hn)
      have hv : (pt _ hn).val = 4 * ((i 0 : Nat) / 512) + 3 := rfl
      match a with
      | ⟨0, _⟩ =>
        show win0_7.index (pt _ hn) 0 * 512 ≤ (i 0 : Nat) ∧ (i 0 : Nat) < win0_7.index (pt _ hn) 0 * 512 + win0_7.xsize (grid0.coords (pt _ hn)) 0
        rw [hi.1, hx.1, hv]; omega
      | ⟨1, _⟩ =>
        show win0_7.index (pt _ hn) 1 * 2048 ≤ (i 1 : Nat) ∧ (i 1 : Nat) < win0_7.index (pt _ hn) 1 * 2048 + win0_7.xsize (grid0.coords (pt _ hn)) 1
        rw [hi.2, hx.2]; omega

end Cert.FfnDownIdeal.Val

namespace Cert.FfnDownRefIdeal.Val

open Idealize.ShloMosaic Idealize.ShloMosaic.TcCoe Cert.FfnDownRefIdeal Cert.FfnDownRefIdeal.Read

/-- A product over hidden columns and shards, at an entry. -/
theorem dot_at (x : FVec Ideal S8x4096x704 .f32) (y : FVec Ideal S8x704x2048 .f32) (r : Fin 4096) (n : Fin 2048) :
    Host.dotGeneral dot_S8x4096x704_S8x704x2048_S4096x2048_20_10_1_2_n_n none x y (ValueIdx.ix2 r n)
      = ∑ s : Fin 8, ∑ f : Fin 704, x (ValueIdx.ix3 s r f) * y (ValueIdx.ix3 s f n) := by
  refine Eq.trans (b := 0 + ∑ f : Fin 704, ∑ s : Fin 8, x (ix3 s r f) * y (ix3 s f n)) ?_ ?_
  · show Host.dotGeneral dot_S8x4096x704_S8x704x2048_S4096x2048_20_10_1_2_n_n none x y (ix2 r n) = _
    simp only [Host.dotGeneral, pointwise]
  · exact (zero_add _).trans Finset.sum_comm

theorem v2_at (x : FVec Ideal S8x4096x704 .bf16) (y : FVec Ideal S8x704x2048 .bf16) (r : Fin 4096) (n : Fin 2048) :
    val_main_v2 (F := Ideal) x y (ValueIdx.ix2 r n) = ∑ s : Fin 8, ∑ f : Fin 704, x (ValueIdx.ix3 s r f) * y (ValueIdx.ix3 s f n) :=
  dot_at _ _ r n

/-- The reference's output before the residual sum. -/
theorem v3_at (x : FVec Ideal S8x4096x704 .bf16) (y : FVec Ideal S8x704x2048 .bf16) (r : Fin 4096) (n : Fin 2048) :
    val_main_v3 (F := Ideal) x y (ValueIdx.ix2 r n) = ∑ s : Fin 8, ∑ f : Fin 704, x (ValueIdx.ix3 s r f) * y (ValueIdx.ix3 s f n) :=
  (val_main_v3_apply (F := Ideal) x y _).trans (v2_at x y r n)

/-- The reference's residual sum. -/
theorem v6_at (x : FVec Ideal S8x4096x704 .bf16) (y : FVec Ideal S8x704x2048 .bf16) (z : FVec Ideal S4096x2048 .f32) (g : FVec Ideal S1x2048 .f32)
    (r : Fin 4096) (n : Fin 2048) :
    val_main_v6 (F := Ideal) x y z g (ValueIdx.ix2 r n)
      = z (ValueIdx.ix2 r n) + g (ValueIdx.ix2 (0 : Fin 1) n) * ∑ s : Fin 8, ∑ f : Fin 704, x (ValueIdx.ix3 s r f) * y (ValueIdx.ix3 s f n) := by
  refine (val_main_v6_apply (F := Ideal) x y z g _).trans ?_
  rw [val_main_v5_apply, val_main_v4_apply, v2_at]
  exact congrArg (z (ValueIdx.ix2 r n) + ·) (congrArg (· * _) (congrArg g (funext fun a => match a with | ⟨0, _⟩ => rfl | ⟨1, _⟩ => rfl)))

end Cert.FfnDownRefIdeal.Val

end
-- ==== Proof.QkvValue.lean ====
module

public import proofs.«01_k».proof.Proof.Gen.QkvIdeal.Value
public import proofs.«01_k».proof.Proof.Gen.QkvRefIdeal.Read
public import Idealize.ShloMosaic.Lib.Pointwise

@[expose] public section

set_option maxRecDepth 16384

noncomputable section

/-! # The projections of queries, keys and values

The grid point `6 i + j` holds rows `512 i …` and columns `1024 j …` of the results. -/

namespace Cert.QkvIdeal.Val

open Idealize.ShloMosaic Idealize.ShloMosaic.TcCoe Idealize.SL.Sem Cert.QkvIdeal Cert.QkvIdeal.Gen

theorem eta2 {n k : ℕ} (i : (⟨2, ![n, k]⟩ : Shape).Idx) : i = ix2 (i 0) (i 1) :=
  funext fun a => match a with | ⟨0, _⟩ => rfl | ⟨1, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val / 6 ∧ win0_0.index t 1 = 0 := by decide +kernel
theorem index1 : ∀ t : Fin grid0.N, win0_1.index t 0 = t.val % 6 ∧ win0_1.index t 1 = 0 := by decide +kernel
theorem index2 : ∀ t : Fin grid0.N, win0_2.index t 0 = t.val / 6 ∧ win0_2.index t 1 = t.val % 6 := by decide +kernel
theorem xsize2 : ∀ t : Fin grid0.N, win0_2.xsize (grid0.coords t) 0 = 512 ∧ win0_2.xsize (grid0.coords t) 1 = 1024 := by decide +kernel
theorem flush2 : ∀ t : Fin grid0.N, win0_2.flush t = true := by decide +kernel

def pt (n : ℕ) (h : n < 48) : Fin cfg0.N := ⟨n, lt_of_lt_of_eq h N_0.symm⟩
def row (t : Fin cfg0.N) (r : Fin 512) : Fin 4096 := ⟨t.val / 6 * 512 + r.val, by have : t.val < 48 := lt_of_lt_of_eq t.isLt N_0; omega⟩
def col (t : Fin cfg0.N) (n : Fin 1024) : Fin 6144 := ⟨t.val % 6 * 1024 + n.val, by omega⟩

/-! ## A block of any contents of a window's array, read at an entry -/

variable (t : Fin cfg0.N)

theorem read0 (W : FVec Ideal S4096x2048 .bf16) (p : Fin 512) (q : Fin 2048) :
    ((cfg0.win 0).blk t).view.read (Elt Ideal) W (ix2 p q) = W (ValueIdx.ix2 (row t p) q) := by
  have hi := index0 t
  rw [View.read_apply]
  refine congrArg W (funext fun a => Fin.ext ?_)
  match a with
  | ⟨0, _⟩ => show win0_0.index t 0 * 512 + 1 * p.val = t.val / 6 * 512 + p.val; rw [hi.1]; omega
  | ⟨1, _⟩ => show win0_0.index t 1 * 2048 + 1 * q.val = q.val; rw [hi.2]; omega

/-- A column of the results as a row of the weights. -/
def up (n : Fin 6144) : Fin 6160 := ⟨n.val, by omega⟩

theorem read1 (W : FVec Ideal S6160x2048 .bf16) (p : Fin 1024) (q : Fin 2048) :
    (cfg0.win 1).fill (cfg0.grid.coords t) (dflt0_1 (F := Ideal)) (((cfg0.win 1).blk t).view.read (Elt Ideal) W) (ix2 p q) = W (ValueIdx.ix2 (up (col t p)) q) := by
  have hi := index1 t
  unfold Pipeline.Window.fill
  rw [dif_pos (moved0_1 t _), View.read_apply]
  refine congrArg W (funext fun a => Fin.ext ?_)
  match a with
  | ⟨0, _⟩ => show win0_1.index t 0 * 1024 + 1 * p.val = t.val % 6 * 1024 + p.val; rw [hi.1]; omega
  | ⟨1, _⟩ => show win0_1.index t 1 * 2048 + 1 * q.val = q.val; rw [hi.2]; omega

theorem read2 (W : FVec Ideal S4096x6144 .bf16) (p : Fin 512) (q : Fin 1024) :
    ((cfg0.win 2).blk t).view.read (Elt Ideal) W (ix2 p q) = W (ValueIdx.ix2 (row t p) (col t q)) := by
  have hi := index2 t
  rw [View.read_apply]
  refine congrArg W (funext fun a => Fin.ext ?_)
  match a with
  | ⟨0, _⟩ => show win0_2.index t 0 * 512 + 1 * p.val = t.val / 6 * 512 + p.val; rw [hi.1]; omega
  | ⟨1, _⟩ => show win0_2.index t 1 * 1024 + 1 * q.val = t.val % 6 * 1024 + q.val; rw [hi.2]; omega

/-! ## What a point stores -/

/-- The product of two blocks at an entry. -/
def dot (a : Vec Ideal S512x2048 .bf16) (b : Vec Ideal S1024x2048 .bf16) (r : Fin 512) (n : Fin 1024) : EReal :=
  ∑ k : Fin 2048, a (ix2 r k) * b (ix2 n k)

theorem pay2 (x0 : Vec Ideal S512x2048 .bf16) (x1 : Vec Ideal S1024x2048 .bf16) (r : Fin 512) (n : Fin 1024) :
    k0_pay1 (F := Ideal) x0 x1 (ix2 r n) = dot x0 x1 r n := by
  refine Eq.trans (b := (0 + dot x0 x1 r n)) ?_ (by simp only [zero_add])
  simp only [k0_pay1, dot, pointwise]

theorem left2 (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S512x1024 .bf16) (harg4 : arg4.IsWhole)
    (x0 : Vec Ideal S512x2048 .bf16) (x1 : Vec Ideal S1024x2048 .bf16) :
    out0_A_2 (F := Ideal) c i arg2 harg2 arg3 harg3 arg4 harg4 x0 x1 = k0_pay1 x0 x1 := by
  unfold out0_A_2
  rw [View.read_writes_eq_canon _ _ _ (cover0_A_2 c i arg2 harg2 arg3 harg3 arg4 harg4 x0 x1)]
  unfold kernelRun0_A
  dsimp only
  sl_unfold_words
  rw [View.canon_unit_zero (S := S512x1024) off2]
  simp only [View.readAt_eq_ld, harg2.read_unread, harg3.read_unread, View.ld_unit_zero (S := S512x2048) off2, View.ld_unit_zero (S := S1024x2048) off2]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S6160x2048 .bf16 := m ((c : Thread nD τ).loc main_arg1)

/-- The product of two arrays at an entry. -/
def prod (x : FVec Ideal S4096x2048 .bf16) (y : FVec Ideal S6160x2048 .bf16) (r : Fin 4096) (n : Fin 6144) : EReal :=
  ∑ k : Fin 2048, x (ValueIdx.ix2 r k) * y (ValueIdx.ix2 (up n) k)

theorem dot_0_1 (r : Fin 512) (n : Fin 1024) : dot (iblk m c 0 t) (X0_1 m c t) r n = prod (a0 m c) (a1 m c) (row t r) (col t n) :=
  Finset.sum_congr rfl fun k _ => congrArg₂ (· * ·) ((read0 t (V m c main_arg0) r k).trans (congrFun (V_main_arg0 m c) _))
    ((read1 t (V m c main_arg1) n k).trans (congrFun (V_main_arg1 m c) _))

theorem point2 (G : FVec Ideal S4096x6144 .bf16)
    (hG : ∀ r n, G (ValueIdx.ix2 r n) = prod (a0 m c) (a1 m c) r n) (r : Fin 512) (n : Fin 1024) :
    outsAt0 m c t (ix2 r n) = G (ValueIdx.ix2 (row t r) (col t n)) := by
  unfold outsAt0
  rw [left2, pay2, hG, dot_0_1]

theorem final2 (G : FVec Ideal S4096x6144 .bf16)
    (hG : ∀ r n, G (ValueIdx.ix2 r n) = prod (a0 m c) (a1 m c) r n) :
    (dats m 0 c).arrAt 2 cfg0.N = G :=
  (dats m 0 c).arrAt_eq_of_cover 2 G
    (fun t _ => by
      show (cfg0.win 2).cut (grid0.coords t) ((dats m 0 c).after 2 t) = _
      rw [after0_2]
      funext i
      have ei := eta2 (n := 512) (k := 1024) i
      have e1 := point2 t m c G hG (i 0) (i 1)
      have e2 := read2 t G (i 0) (i 1)
      refine Eq.trans ?_ ((e1.trans e2.symm).trans ?_)
      · exact congrArg (outsAt0 m c t) ei
      · exact congrArg (((cfg0.win 2).blk t).view.read (Elt Ideal) G) ei.symm)
    fun i => by
      have h0 : (i 0 : Nat) < 4096 := (i 0).isLt
      have h1 : (i 1 : Nat) < 6144 := (i 1).isLt
      have hn : 6 * ((i 0 : Nat) / 512) + (i 1 : Nat) / 1024 < 48 := by omega
      refine ⟨pt _ hn, flush2 _, ?_⟩
      show i ∈ ((View.whole main_v0).slice (win0_2.rect (pt _ hn))).set
      rw [View.set_slice_whole, Rect.mem_set_unit]
      intro a
      have hi := index2 (pt _ hn)
      have hx := xsize2 (pt _ hn)
      have hv : (pt _ hn).val = 6 * ((i 0 : Nat) / 512) + (i 1 : Nat) / 1024 := rfl
      match a with
      | ⟨0, _⟩ =>
        show win0_2.index (pt _ hn) 0 * 512 ≤ (i 0 : Nat) ∧ (i 0 : Nat) < win0_2.index (pt _ hn) 0 * 512 + win0_2.xsize (grid0.coords (pt _ hn)) 0
        rw [hi.1, hx.1, hv]; omega
      | ⟨1, _⟩ =>
        show win0_2.index (pt _ hn) 1 * 1024 ≤ (i 1 : Nat) ∧ (i 1 : Nat) < win0_2.index (pt _ hn) 1 * 1024 + win0_2.xsize (grid0.coords (pt _ hn)) 1
        rw [hi.2, hx.2, hv]; omega

end Cert.QkvIdeal.Val

namespace Cert.QkvRefIdeal.Val

open Idealize.ShloMosaic Idealize.ShloMosaic.TcCoe Cert.QkvRefIdeal Cert.QkvRefIdeal.Read
open Cert.QkvIdeal.Val (prod)

theorem v4_at (x : FVec Ideal S4096x2048 .bf16) (y : FVec Ideal S6160x2048 .bf16) (r : Fin 4096) (n : Fin 6144) :
    val_main_v4 (F := Ideal) x y (ValueIdx.ix2 r n) = prod x y r n := by
  refine (val_main_v4_apply x y _).trans (Finset.sum_congr rfl fun k _ => ?_)
  rw [val_main_v0_apply, val_main_v3_apply, val_main_v2_apply, val_main_v1_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v5_at (x : FVec Ideal S4096x2048 .bf16) (y : FVec Ideal S6160x2048 .bf16) (r : Fin 4096) (n : Fin 6144) :
    val_main_v5 (F := Ideal) x y (ValueIdx.ix2 r n) = prod x y r n :=
  (val_main_v5_apply (F := Ideal) x y _).trans (v4_at x y r n)

end Cert.QkvRefIdeal.Val

end
-- ==== Proof.OutProjValue.lean ====
module

public import proofs.«01_k».proof.Proof.Gen.OutProjIdeal.Value
public import proofs.«01_k».proof.Proof.Gen.OutProjRefIdeal.Read
public import Idealize.ShloMosaic.Lib.Pointwise

@[expose] public section

set_option maxRecDepth 16384

noncomputable section

/-! # The output projection

The grid point `2 i + j` holds rows `512 i …` and columns `1024 j …` of the results. -/

namespace Cert.OutProjIdeal.Val

open Idealize.ShloMosaic Idealize.ShloMosaic.TcCoe Idealize.SL.Sem Cert.OutProjIdeal Cert.OutProjIdeal.Gen

theorem eta2 {n k : ℕ} (i : (⟨2, ![n, k]⟩ : Shape).Idx) : i = ix2 (i 0) (i 1) :=
  funext fun a => match a with | ⟨0, _⟩ => rfl | ⟨1, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val / 2 ∧ win0_0.index t 1 = 0 := by decide +kernel
theorem index1 : ∀ t : Fin grid0.N, win0_1.index t 0 = 0 ∧ win0_1.index t 1 = t.val % 2 := by decide +kernel
theorem index2 : ∀ t : Fin grid0.N, win0_2.index t 0 = t.val / 2 ∧ win0_2.index t 1 = t.val % 2 := by decide +kernel
theorem index3 : ∀ t : Fin grid0.N, win0_3.index t 0 = 0 ∧ win0_3.index t 1 = t.val % 2 := by decide +kernel
theorem index4 : ∀ t : Fin grid0.N, win0_4.index t 0 = t.val / 2 ∧ win0_4.index t 1 = t.val % 2 := by decide +kernel
theorem index5 : ∀ t : Fin grid0.N, win0_5.index t 0 = t.val / 2 ∧ win0_5.index t 1 = t.val % 2 := by decide +kernel
theorem xsize4 : ∀ t : Fin grid0.N, win0_4.xsize (grid0.coords t) 0 = 512 ∧ win0_4.xsize (grid0.coords t) 1 = 1024 := by decide +kernel
theorem flush4 : ∀ t : Fin grid0.N, win0_4.flush t = true := by decide +kernel
theorem xsize5 : ∀ t : Fin grid0.N, win0_5.xsize (grid0.coords t) 0 = 512 ∧ win0_5.xsize (grid0.coords t) 1 = 1024 := by decide +kernel
theorem flush5 : ∀ t : Fin grid0.N, win0_5.flush t = true := by decide +kernel

def pt (n : ℕ) (h : n < 16) : Fin cfg0.N := ⟨n, lt_of_lt_of_eq h N_0.symm⟩
def row (t : Fin cfg0.N) (r : Fin 512) : Fin 4096 := ⟨t.val / 2 * 512 + r.val, by have : t.val < 16 := lt_of_lt_of_eq t.isLt N_0; omega⟩
def col (t : Fin cfg0.N) (n : Fin 1024) : Fin 2048 := ⟨t.val % 2 * 1024 + n.val, by omega⟩

/-! ## A block of any contents of a window's array, read at an entry -/

variable (t : Fin cfg0.N)

theorem read0 (W : FVec Ideal S4096x2048 .bf16) (p : Fin 512) (q : Fin 2048) :
    ((cfg0.win 0).blk t).view.read (Elt Ideal) W (ix2 p q) = W (ValueIdx.ix2 (row t p) q) := by
  have hi := index0 t
  rw [View.read_apply]
  refine congrArg W (funext fun a => Fin.ext ?_)
  match a with
  | ⟨0, _⟩ => show win0_0.index t 0 * 512 + 1 * p.val = t.val / 2 * 512 + p.val; rw [hi.1]; omega
  | ⟨1, _⟩ => show win0_0.index t 1 * 2048 + 1 * q.val = q.val; rw [hi.2]; omega

theorem read1 (W : FVec Ideal S2048x2048 .bf16) (p : Fin 2048) (q : Fin 1024) :
    ((cfg0.win 1).blk t).view.read (Elt Ideal) W (ix2 p q) = W (ValueIdx.ix2 p (col t q)) := by
  have hi := index1 t
  rw [View.read_apply]
  refine congrArg W (funext fun a => Fin.ext ?_)
  match a with
  | ⟨0, _⟩ => show win0_1.index t 0 * 2048 + 1 * p.val = p.val; rw [hi.1]; omega
  | ⟨1, _⟩ => show win0_1.index t 1 * 1024 + 1 * q.val = t.val % 2 * 1024 + q.val; rw [hi.2]; omega

theorem read2 (W : FVec Ideal S4096x2048 .f32) (p : Fin 512) (q : Fin 1024) :
    ((cfg0.win 2).blk t).view.read (Elt Ideal) W (ix2 p q) = W (ValueIdx.ix2 (row t p) (col t q)) := by
  have hi := index2 t
  rw [View.read_apply]
  refine congrArg W (funext fun a => Fin.ext ?_)
  match a with
  | ⟨0, _⟩ => show win0_2.index t 0 * 512 + 1 * p.val = t.val / 2 * 512 + p.val; rw [hi.1]; omega
  | ⟨1, _⟩ => show win0_2.index t 1 * 1024 + 1 * q.val = t.val % 2 * 1024 + q.val; rw [hi.2]; omega

theorem read3 (W : FVec Ideal S1x2048 .f32) (p : Fin 1) (q : Fin 1024) :
    ((cfg0.win 3).blk t).view.read (Elt Ideal) W (ix2 p q) = W (ValueIdx.ix2 p (col t q)) := by
  have hi := index3 t
  rw [View.read_apply]
  refine congrArg W (funext fun a => Fin.ext ?_)
  match a with
  | ⟨0, _⟩ => show win0_3.index t 0 * 1 + 1 * p.val = p.val; rw [hi.1]; omega
  | ⟨1, _⟩ => show win0_3.index t 1 * 1024 + 1 * q.val = t.val % 2 * 1024 + q.val; rw [hi.2]; omega

theorem read4 (W : FVec Ideal S4096x2048 .bf16) (p : Fin 512) (q : Fin 1024) :
    ((cfg0.win 4).blk t).view.read (Elt Ideal) W (ix2 p q) = W (ValueIdx.ix2 (row t p) (col t q)) := by
  have hi := index4 t
  rw [View.read_apply]
  refine congrArg W (funext fun a => Fin.ext ?_)
  match a with
  | ⟨0, _⟩ => show win0_4.index t 0 * 512 + 1 * p.val = t.val / 2 * 512 + p.val; rw [hi.1]; omega
  | ⟨1, _⟩ => show win0_4.index t 1 * 1024 + 1 * q.val = t.val % 2 * 1024 + q.val; rw [hi.2]; omega

theorem read5 (W : FVec Ideal S4096x2048 .f32) (p : Fin 512) (q : Fin 1024) :
    ((cfg0.win 5).blk t).view.read (Elt Ideal) W (ix2 p q) = W (ValueIdx.ix2 (row t p) (col t q)) := by
  have hi := index5 t
  rw [View.read_apply]
  refine congrArg W (funext fun a => Fin.ext ?_)
  match a with
  | ⟨0, _⟩ => show win0_5.index t 0 * 512 + 1 * p.val = t.val / 2 * 512 + p.val; rw [hi.1]; omega
  | ⟨1, _⟩ => show win0_5.index t 1 * 1024 + 1 * q.val = t.val % 2 * 1024 + q.val; rw [hi.2]; omega

/-! ## What a point stores -/

/-- The product of two blocks at an entry. -/
def dot (a : Vec Ideal S512x2048 .bf16) (b : Vec Ideal S2048x1024 .bf16) (r : Fin 512) (n : Fin 1024) : EReal :=
  ∑ k : Fin 2048, a (ix2 r k) * b (ix2 k n)

theorem pay4 (x0 : Vec Ideal S512x2048 .bf16) (x1 : Vec Ideal S2048x1024 .bf16) (r : Fin 512) (n : Fin 1024) :
    k0_pay3 (F := Ideal) x0 x1 (ix2 r n) = dot x0 x1 r n := by
  refine Eq.trans (b := (0 + dot x0 x1 r n)) ?_ (by simp only [zero_add])
  simp only [k0_pay3, k0_pay1, dot, pointwise]

theorem out4_eq (x0 : Vec Ideal S512x2048 .bf16) (x1 : Vec Ideal S2048x1024 .bf16) (x2 : Vec Ideal S512x1024 .f32) (x3 : Vec Ideal S1x1024 .f32) : out0_4 (F := Ideal) x0 x1 x2 x3 = k0_pay3 x0 x1 := by
  unfold out0_4
  rw [View.canon_unit_zero off2]
  simp only [View.ld_unit_zero (S := S512x2048) off2, View.ld_unit_zero (S := S2048x1024) off2, View.ld_unit_zero (S := S512x1024) off2, View.ld_unit_zero (S := S1x1024) off2]

theorem pay5 (x0 : Vec Ideal S512x2048 .bf16) (x1 : Vec Ideal S2048x1024 .bf16) (x2 : Vec Ideal S512x1024 .f32) (x3 : Vec Ideal S1x1024 .f32) (r : Fin 512) (n : Fin 1024) :
    k0_pay2 (F := Ideal) x0 x1 x2 x3 (ix2 r n) = x2 (ix2 r n) + x3 (ix2 (0 : Fin 1) n) * (dot x0 x1 r n) := by
  refine Eq.trans (b := x2 (ix2 r n) + x3 (ix2 (0 : Fin 1) n) * ((0 + dot x0 x1 r n))) ?_ (by simp only [zero_add])
  simp only [k0_pay2, k0_pay1, dot, pointwise]
  rfl

theorem out5_eq (x0 : Vec Ideal S512x2048 .bf16) (x1 : Vec Ideal S2048x1024 .bf16) (x2 : Vec Ideal S512x1024 .f32) (x3 : Vec Ideal S1x1024 .f32) : out0_5 (F := Ideal) x0 x1 x2 x3 = k0_pay2 x0 x1 x2 x3 := by
  unfold out0_5
  rw [View.canon_unit_zero off2]
  simp only [View.ld_unit_zero (S := S512x2048) off2, View.ld_unit_zero (S := S2048x1024) off2, View.ld_unit_zero (S := S512x1024) off2, View.ld_unit_zero (S := S1x1024) off2]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S2048x2048 .bf16 := m ((c : Thread nD τ).loc main_arg1)
abbrev a2 : FVec Ideal S4096x2048 .f32 := m ((c : Thread nD τ).loc main_arg2)
abbrev a3 : FVec Ideal S1x2048 .f32 := m ((c : Thread nD τ).loc main_arg3)

/-- The product of two arrays at an entry. -/
def prod (x : FVec Ideal S4096x2048 .bf16) (y : FVec Ideal S2048x2048 .bf16) (r : Fin 4096) (n : Fin 2048) : EReal :=
  ∑ k : Fin 2048, x (ValueIdx.ix2 r k) * y (ValueIdx.ix2 k n)

theorem dot_0_1 (r : Fin 512) (n : Fin 1024) : dot (iblk m c 0 t) (iblk m c 1 t) r n = prod (a0 m c) (a1 m c) (row t r) (col t n) :=
  Finset.sum_congr rfl fun k _ => congrArg₂ (· * ·) ((read0 t (V m c main_arg0) r k).trans (congrFun (V_main_arg0 m c) _))
    ((read1 t (V m c main_arg1) k n).trans (congrFun (V_main_arg1 m c) _))

theorem point4 (G : FVec Ideal S4096x2048 .bf16)
    (hG : ∀ r n, G (ValueIdx.ix2 r n) = prod (a0 m c) (a1 m c) r n) (r : Fin 512) (n : Fin 1024) :
    out0_4 (F := Ideal) (iblk m c 0 t) (iblk m c 1 t) (iblk m c 2 t) (iblk m c 3 t) (ix2 r n) = G (ValueIdx.ix2 (row t r) (col t n)) := by
  rw [out4_eq, pay4, hG, dot_0_1]

theorem final4 (G : FVec Ideal S4096x2048 .bf16)
    (hG : ∀ r n, G (ValueIdx.ix2 r n) = prod (a0 m c) (a1 m c) r n) :
    (dats m 0 c).arrAt 4 cfg0.N = G :=
  (dats m 0 c).arrAt_eq_of_cover 4 G
    (fun t _ => by
      show (cfg0.win 4).cut (grid0.coords t) ((dats m 0 c).after 4 t) = _
      rw [after0_4]
      funext i
      have ei := eta2 (n := 512) (k := 1024) i
      have e1 := point4 t m c G hG (i 0) (i 1)
      have e2 := read4 t G (i 0) (i 1)
      refine Eq.trans ?_ ((e1.trans e2.symm).trans ?_)
      · exact congrArg (out0_4 (F := Ideal) (iblk m c 0 t) (iblk m c 1 t) (iblk m c 2 t) (iblk m c 3 t)) ei
      · exact congrArg (((cfg0.win 4).blk t).view.read (Elt Ideal) G) ei.symm)
    fun i => by
      have h0 : (i 0 : Nat) < 4096 := (i 0).isLt
      have h1 : (i 1 : Nat) < 2048 := (i 1).isLt
      have hn : 2 * ((i 0 : Nat) / 512) + (i 1 : Nat) / 1024 < 16 := by omega
      refine ⟨pt _ hn, flush4 _, ?_⟩
      show i ∈ ((View.whole main_v0_0).slice (win0_4.rect (pt _ hn))).set
      rw [View.set_slice_whole, Rect.mem_set_unit]
      intro a
      have hi := index4 (pt _ hn)
      have hx := xsize4 (pt _ hn)
      have hv : (pt _ hn).val = 2 * ((i 0 : Nat) / 512) + (i 1 : Nat) / 1024 := rfl
      match a with
      | ⟨0, _⟩ =>
        show win0_4.index (pt _ hn) 0 * 512 ≤ (i 0 : Nat) ∧ (i 0 : Nat) < win0_4.index (pt _ hn) 0 * 512 + win0_4.xsize (grid0.coords (pt _ hn)) 0
        rw [hi.1, hx.1, hv]; omega
      | ⟨1, _⟩ =>
        show win0_4.index (pt _ hn) 1 * 1024 ≤ (i 1 : Nat) ∧ (i 1 : Nat) < win0_4.index (pt _ hn) 1 * 1024 + win0_4.xsize (grid0.coords (pt _ hn)) 1
        rw [hi.2, hx.2, hv]; omega

theorem ext5_2 (r : Fin 512) (n : Fin 1024) : (iblk m c 2 t : Vec Ideal S512x1024 .f32) (ix2 r n) = a2 m c (ValueIdx.ix2 (row t r) (col t n)) :=
  ((read2 t (V m c main_arg2) r n).trans (congrFun (V_main_arg2 m c) _))

theorem ext5_3 (n : Fin 1024) : (iblk m c 3 t : Vec Ideal S1x1024 .f32) (ix2 (0 : Fin 1) n) = a3 m c (ValueIdx.ix2 (0 : Fin 1) (col t n)) :=
  ((read3 t (V m c main_arg3) (0 : Fin 1) n).trans (congrFun (V_main_arg3 m c) _))

theorem point5 (G : FVec Ideal S4096x2048 .f32)
    (hG : ∀ r n, G (ValueIdx.ix2 r n) = a2 m c (ValueIdx.ix2 r n) + a3 m c (ValueIdx.ix2 (0 : Fin 1) n) * (prod (a0 m c) (a1 m c) r n)) (r : Fin 512) (n : Fin 1024) :
    out0_5 (F := Ideal) (iblk m c 0 t) (iblk m c 1 t) (iblk m c 2 t) (iblk m c 3 t) (ix2 r n) = G (ValueIdx.ix2 (row t r) (col t n)) := by
  rw [out5_eq, pay5, hG, dot_0_1, ext5_2, ext5_3]

theorem final5 (G : FVec Ideal S4096x2048 .f32)
    (hG : ∀ r n, G (ValueIdx.ix2 r n) = a2 m c (ValueIdx.ix2 r n) + a3 m c (ValueIdx.ix2 (0 : Fin 1) n) * (prod (a0 m c) (a1 m c) r n)) :
    (dats m 0 c).arrAt 5 cfg0.N = G :=
  (dats m 0 c).arrAt_eq_of_cover 5 G
    (fun t _ => by
      show (cfg0.win 5).cut (grid0.coords t) ((dats m 0 c).after 5 t) = _
      rw [after0_5]
      funext i
      have ei := eta2 (n := 512) (k := 1024) i
      have e1 := point5 t m c G hG (i 0) (i 1)
      have e2 := read5 t G (i 0) (i 1)
      refine Eq.trans ?_ ((e1.trans e2.symm).trans ?_)
      · exact congrArg (out0_5 (F := Ideal) (iblk m c 0 t) (iblk m c 1 t) (iblk m c 2 t) (iblk m c 3 t)) ei
      · exact congrArg (((cfg0.win 5).blk t).view.read (Elt Ideal) G) ei.symm)
    fun i => by
      have h0 : (i 0 : Nat) < 4096 := (i 0).isLt
      have h1 : (i 1 : Nat) < 2048 := (i 1).isLt
      have hn : 2 * ((i 0 : Nat) / 512) + (i 1 : Nat) / 1024 < 16 := by omega
      refine ⟨pt _ hn, flush5 _, ?_⟩
      show i ∈ ((View.whole main_v0_1).slice (win0_5.rect (pt _ hn))).set
      rw [View.set_slice_whole, Rect.mem_set_unit]
      intro a
      have hi := index5 (pt _ hn)
      have hx := xsize5 (pt _ hn)
      have hv : (pt _ hn).val = 2 * ((i 0 : Nat) / 512) + (i 1 : Nat) / 1024 := rfl
      match a with
      | ⟨0, _⟩ =>
        show win0_5.index (pt _ hn) 0 * 512 ≤ (i 0 : Nat) ∧ (i 0 : Nat) < win0_5.index (pt _ hn) 0 * 512 + win0_5.xsize (grid0.coords (pt _ hn)) 0
        rw [hi.1, hx.1, hv]; omega
      | ⟨1, _⟩ =>
        show win0_5.index (pt _ hn) 1 * 1024 ≤ (i 1 : Nat) ∧ (i 1 : Nat) < win0_5.index (pt _ hn) 1 * 1024 + win0_5.xsize (grid0.coords (pt _ hn)) 1
        rw [hi.2, hx.2, hv]; omega

end Cert.OutProjIdeal.Val

namespace Cert.OutProjRefIdeal.Val

open Idealize.ShloMosaic Idealize.ShloMosaic.TcCoe Cert.OutProjRefIdeal Cert.OutProjRefIdeal.Read
open Cert.OutProjIdeal.Val (prod)

theorem v2_at (x : FVec Ideal S4096x2048 .bf16) (y : FVec Ideal S2048x2048 .bf16) (r : Fin 4096) (n : Fin 2048) :
    val_main_v2 (F := Ideal) x y (ValueIdx.ix2 r n) = prod x y r n := by
  refine (val_main_v2_apply x y _).trans (Finset.sum_congr rfl fun k _ => ?_)
  rw [val_main_v0_apply, val_main_v1_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v3_at (x : FVec Ideal S4096x2048 .bf16) (y : FVec Ideal S2048x2048 .bf16) (r : Fin 4096) (n : Fin 2048) :
    val_main_v3 (F := Ideal) x y (ValueIdx.ix2 r n) = prod x y r n :=
  (val_main_v3_apply (F := Ideal) x y _).trans (v2_at x y r n)

theorem v6_at (x : FVec Ideal S4096x2048 .bf16) (y : FVec Ideal S2048x2048 .bf16) (z : FVec Ideal S4096x2048 .f32) (g : FVec Ideal S1x2048 .f32) (r : Fin 4096) (n : Fin 2048) :
    val_main_v6 (F := Ideal) x y z g (ValueIdx.ix2 r n) = z (ValueIdx.ix2 r n) + g (ValueIdx.ix2 (0 : Fin 1) n) * prod x y r n := by
  refine (val_main_v6_apply (F := Ideal) x y z g _).trans ?_
  rw [val_main_v5_apply, val_main_v4_apply, v2_at]
  exact congrArg (z (ValueIdx.ix2 r n) + ·) (congrArg (· * _) (congrArg g (funext fun a => match a with | ⟨0, _⟩ => rfl | ⟨1, _⟩ => rfl)))

end Cert.OutProjRefIdeal.Val

end
-- ==== Proof.WoutGradValue.lean ====
module

public import proofs.«01_k».proof.Proof.Gen.WoutGradIdeal.Value
public import proofs.«01_k».proof.Proof.Gen.WoutGradRefIdeal.Read
public import Idealize.ShloMosaic.Lib.Pointwise

@[expose] public section

set_option maxRecDepth 16384

noncomputable section

/-! # The gradient of the output weights

The grid point `4 i + j` holds rows `512 i …` and columns `512 j …` of the results. -/

namespace Cert.WoutGradIdeal.Val

open Idealize.ShloMosaic Idealize.ShloMosaic.TcCoe Idealize.SL.Sem Cert.WoutGradIdeal Cert.WoutGradIdeal.Gen

theorem eta2 {n k : ℕ} (i : (⟨2, ![n, k]⟩ : Shape).Idx) : i = ix2 (i 0) (i 1) :=
  funext fun a => match a with | ⟨0, _⟩ => rfl | ⟨1, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = 0 ∧ win0_0.index t 1 = t.val / 4 := by decide +kernel
theorem index1 : ∀ t : Fin grid0.N, win0_1.index t 0 = 0 ∧ win0_1.index t 1 = t.val % 4 := by decide +kernel
theorem index2 : ∀ t : Fin grid0.N, win0_2.index t 0 = t.val / 4 ∧ win0_2.index t 1 = t.val % 4 := by decide +kernel
theorem xsize2 : ∀ t : Fin grid0.N, win0_2.xsize (grid0.coords t) 0 = 512 ∧ win0_2.xsize (grid0.coords t) 1 = 512 := by decide +kernel
theorem flush2 : ∀ t : Fin grid0.N, win0_2.flush t = true := by decide +kernel

def pt (n : ℕ) (h : n < 16) : Fin cfg0.N := ⟨n, lt_of_lt_of_eq h N_0.symm⟩
def row (t : Fin cfg0.N) (r : Fin 512) : Fin 2048 := ⟨t.val / 4 * 512 + r.val, by have : t.val < 16 := lt_of_lt_of_eq t.isLt N_0; omega⟩
def col (t : Fin cfg0.N) (n : Fin 512) : Fin 2048 := ⟨t.val % 4 * 512 + n.val, by omega⟩

/-! ## A block of any contents of a window's array, read at an entry -/

variable (t : Fin cfg0.N)

theorem read0 (W : FVec Ideal S4096x2048 .bf16) (p : Fin 4096) (q : Fin 512) :
    ((cfg0.win 0).blk t).view.read (Elt Ideal) W (ix2 p q) = W (ValueIdx.ix2 p (row t q)) := by
  have hi := index0 t
  rw [View.read_apply]
  refine congrArg W (funext fun a => Fin.ext ?_)
  match a with
  | ⟨0, _⟩ => show win0_0.index t 0 * 4096 + 1 * p.val = p.val; rw [hi.1]; omega
  | ⟨1, _⟩ => show win0_0.index t 1 * 512 + 1 * q.val = t.val / 4 * 512 + q.val; rw [hi.2]; omega

theorem read1 (W : FVec Ideal S4096x2048 .bf16) (p : Fin 4096) (q : Fin 512) :
    ((cfg0.win 1).blk t).view.read (Elt Ideal) W (ix2 p q) = W (ValueIdx.ix2 p (col t q)) := by
  have hi := index1 t
  rw [View.read_apply]
  refine congrArg W (funext fun a => Fin.ext ?_)
  match a with
  | ⟨0, _⟩ => show win0_1.index t 0 * 4096 + 1 * p.val = p.val; rw [hi.1]; omega
  | ⟨1, _⟩ => show win0_1.index t 1 * 512 + 1 * q.val = t.val % 4 * 512 + q.val; rw [hi.2]; omega

theorem read2 (W : FVec Ideal S2048x2048 .bf16) (p : Fin 512) (q : Fin 512) :
    ((cfg0.win 2).blk t).view.read (Elt Ideal) W (ix2 p q) = W (ValueIdx.ix2 (row t p) (col t q)) := by
  have hi := index2 t
  rw [View.read_apply]
  refine congrArg W (funext fun a => Fin.ext ?_)
  match a with
  | ⟨0, _⟩ => show win0_2.index t 0 * 512 + 1 * p.val = t.val / 4 * 512 + p.val; rw [hi.1]; omega
  | ⟨1, _⟩ => show win0_2.index t 1 * 512 + 1 * q.val = t.val % 4 * 512 + q.val; rw [hi.2]; omega

/-! ## What a point stores -/

/-- The product of two blocks at an entry. -/
def dot (a : Vec Ideal S4096x512 .bf16) (b : Vec Ideal S4096x512 .bf16) (r : Fin 512) (n : Fin 512) : EReal :=
  ∑ k : Fin 4096, a (ix2 k r) * b (ix2 k n)

theorem pay2 (x0 : Vec Ideal S4096x512 .bf16) (x1 : Vec Ideal S4096x512 .bf16) (r : Fin 512) (n : Fin 512) :
    k0_pay1 (F := Ideal) x0 x1 (ix2 r n) = dot x0 x1 r n := by
  refine Eq.trans (b := (0 + dot x0 x1 r n)) ?_ (by simp only [zero_add])
  simp only [k0_pay1, dot, pointwise]

theorem out2_eq (x0 : Vec Ideal S4096x512 .bf16) (x1 : Vec Ideal S4096x512 .bf16) : out0_2 (F := Ideal) x0 x1 = k0_pay1 x0 x1 := by
  unfold out0_2
  rw [View.canon_unit_zero off2]
  simp only [View.ld_unit_zero (S := S4096x512) off2]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S4096x2048 .bf16 := m ((c : Thread nD τ).loc main_arg1)

/-- The product of two arrays at an entry. -/
def prod (x : FVec Ideal S4096x2048 .bf16) (y : FVec Ideal S4096x2048 .bf16) (r : Fin 2048) (n : Fin 2048) : EReal :=
  ∑ k : Fin 4096, x (ValueIdx.ix2 k r) * y (ValueIdx.ix2 k n)

theorem dot_0_1 (r : Fin 512) (n : Fin 512) : dot (iblk m c 0 t) (iblk m c 1 t) r n = prod (a0 m c) (a1 m c) (row t r) (col t n) :=
  Finset.sum_congr rfl fun k _ => congrArg₂ (· * ·) ((read0 t (V m c main_arg0) k r).trans (congrFun (V_main_arg0 m c) _))
    ((read1 t (V m c main_arg1) k n).trans (congrFun (V_main_arg1 m c) _))

theorem point2 (G : FVec Ideal S2048x2048 .bf16)
    (hG : ∀ r n, G (ValueIdx.ix2 r n) = prod (a0 m c) (a1 m c) r n) (r : Fin 512) (n : Fin 512) :
    out0_2 (F := Ideal) (iblk m c 0 t) (iblk m c 1 t) (ix2 r n) = G (ValueIdx.ix2 (row t r) (col t n)) := by
  rw [out2_eq, pay2, hG, dot_0_1]

theorem final2 (G : FVec Ideal S2048x2048 .bf16)
    (hG : ∀ r n, G (ValueIdx.ix2 r n) = prod (a0 m c) (a1 m c) r n) :
    (dats m 0 c).arrAt 2 cfg0.N = G :=
  (dats m 0 c).arrAt_eq_of_cover 2 G
    (fun t _ => by
      show (cfg0.win 2).cut (grid0.coords t) ((dats m 0 c).after 2 t) = _
      rw [after0_2]
      funext i
      have ei := eta2 (n := 512) (k := 512) i
      have e1 := point2 t m c G hG (i 0) (i 1)
      have e2 := read2 t G (i 0) (i 1)
      refine Eq.trans ?_ ((e1.trans e2.symm).trans ?_)
      · exact congrArg (out0_2 (F := Ideal) (iblk m c 0 t) (iblk m c 1 t)) ei
      · exact congrArg (((cfg0.win 2).blk t).view.read (Elt Ideal) G) ei.symm)
    fun i => by
      have h0 : (i 0 : Nat) < 2048 := (i 0).isLt
      have h1 : (i 1 : Nat) < 2048 := (i 1).isLt
      have hn : 4 * ((i 0 : Nat) / 512) + (i 1 : Nat) / 512 < 16 := by omega
      refine ⟨pt _ hn, flush2 _, ?_⟩
      show i ∈ ((View.whole main_v0).slice (win0_2.rect (pt _ hn))).set
      rw [View.set_slice_whole, Rect.mem_set_unit]
      intro a
      have hi := index2 (pt _ hn)
      have hx := xsize2 (pt _ hn)
      have hv : (pt _ hn).val = 4 * ((i 0 : Nat) / 512) + (i 1 : Nat) / 512 := rfl
      match a with
      | ⟨0, _⟩ =>
        show win0_2.index (pt _ hn) 0 * 512 ≤ (i 0 : Nat) ∧ (i 0 : Nat) < win0_2.index (pt _ hn) 0 * 512 + win0_2.xsize (grid0.coords (pt _ hn)) 0
        rw [hi.1, hx.1, hv]; omega
      | ⟨1, _⟩ =>
        show win0_2.index (pt _ hn) 1 * 512 ≤ (i 1 : Nat) ∧ (i 1 : Nat) < win0_2.index (pt _ hn) 1 * 512 + win0_2.xsize (grid0.coords (pt _ hn)) 1
        rw [hi.2, hx.2, hv]; omega

end Cert.WoutGradIdeal.Val

namespace Cert.WoutGradRefIdeal.Val

open Idealize.ShloMosaic Idealize.ShloMosaic.TcCoe Cert.WoutGradRefIdeal Cert.WoutGradRefIdeal.Read
open Cert.WoutGradIdeal.Val (prod)

theorem v6_at (x : FVec Ideal S4096x2048 .bf16) (y : FVec Ideal S4096x2048 .bf16) (r : Fin 2048) (n : Fin 2048) :
    val_main_v6 (F := Ideal) x y (ValueIdx.ix2 r n) = prod x y r n := by
  refine (((val_main_v6_apply (F := Ideal) x y _).trans (val_main_v5_apply (F := Ideal) x y _)).trans (val_main_v4_apply x y _)).trans (Finset.sum_congr rfl fun k _ => ?_)
  rw [val_main_v3_apply, val_main_v1_apply]
  refine (mul_comm _ _).trans ?_
  exact congrArg₂ (· * ·) (congrArg x (funext fun a => match a with | ⟨0, _⟩ => rfl | ⟨1, _⟩ => rfl))
    (congrArg y (funext fun a => match a with | ⟨0, _⟩ => rfl | ⟨1, _⟩ => rfl))

end Cert.WoutGradRefIdeal.Val

end
-- ==== Proof.WqkvGradValue.lean ====
module

public import proofs.«01_k».proof.Proof.Gen.WqkvGradIdeal.Value
public import proofs.«01_k».proof.Proof.Gen.WqkvGradRefIdeal.Read
public import Idealize.ShloMosaic.Lib.Pointwise

@[expose] public section

set_option maxRecDepth 16384

noncomputable section

/-! # The gradients of the projections of queries, keys and values

The grid point `4 i + j` holds rows `512 i …` and columns `512 j …` of the results. -/

namespace Cert.WqkvGradIdeal.Val

open Idealize.ShloMosaic Idealize.ShloMosaic.TcCoe Idealize.SL.Sem Cert.WqkvGradIdeal Cert.WqkvGradIdeal.Gen

theorem eta2 {n k : ℕ} (i : (⟨2, ![n, k]⟩ : Shape).Idx) : i = ix2 (i 0) (i 1) :=
  funext fun a => match a with | ⟨0, _⟩ => rfl | ⟨1, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = 0 ∧ win0_0.index t 1 = t.val / 4 := by decide +kernel
theorem index1 : ∀ t : Fin grid0.N, win0_1.index t 0 = 0 ∧ win0_1.index t 1 = t.val / 4 := by decide +kernel
theorem index2 : ∀ t : Fin grid0.N, win0_2.index t 0 = 0 ∧ win0_2.index t 1 = t.val / 4 := by decide +kernel
theorem index3 : ∀ t : Fin grid0.N, win0_3.index t 0 = 0 ∧ win0_3.index t 1 = t.val % 4 := by decide +kernel
theorem index4 : ∀ t : Fin grid0.N, win0_4.index t 0 = t.val / 4 ∧ win0_4.index t 1 = t.val % 4 := by decide +kernel
theorem index5 : ∀ t : Fin grid0.N, win0_5.index t 0 = t.val / 4 ∧ win0_5.index t 1 = t.val % 4 := by decide +kernel
theorem index6 : ∀ t : Fin grid0.N, win0_6.index t 0 = t.val / 4 ∧ win0_6.index t 1 = t.val % 4 := by decide +kernel
theorem xsize4 : ∀ t : Fin grid0.N, win0_4.xsize (grid0.coords t) 0 = 512 ∧ win0_4.xsize (grid0.coords t) 1 = 512 := by decide +kernel
theorem flush4 : ∀ t : Fin grid0.N, win0_4.flush t = true := by decide +kernel
theorem xsize5 : ∀ t : Fin grid0.N, win0_5.xsize (grid0.coords t) 0 = 512 ∧ win0_5.xsize (grid0.coords t) 1 = 512 := by decide +kernel
theorem flush5 : ∀ t : Fin grid0.N, win0_5.flush t = true := by decide +kernel
theorem xsize6 : ∀ t : Fin grid0.N, win0_6.xsize (grid0.coords t) 0 = 512 ∧ win0_6.xsize (grid0.coords t) 1 = 512 := by decide +kernel
theorem flush6 : ∀ t : Fin grid0.N, win0_6.flush t = true := by decide +kernel

def pt (n : ℕ) (h : n < 16) : Fin cfg0.N := ⟨n, lt_of_lt_of_eq h N_0.symm⟩
def row (t : Fin cfg0.N) (r : Fin 512) : Fin 2048 := ⟨t.val / 4 * 512 + r.val, by have : t.val < 16 := lt_of_lt_of_eq t.isLt N_0; omega⟩
def col (t : Fin cfg0.N) (n : Fin 512) : Fin 2048 := ⟨t.val % 4 * 512 + n.val, by omega⟩

/-! ## A block of any contents of a window's array, read at an entry -/

variable (t : Fin cfg0.N)

theorem read0 (W : FVec Ideal S4096x2048 .bf16) (p : Fin 4096) (q : Fin 512) :
    ((cfg0.win 0).blk t).view.read (Elt Ideal) W (ix2 p q) = W (ValueIdx.ix2 p (row t q)) := by
  have hi := index0 t
  rw [View.read_apply]
  refine congrArg W (funext fun a => Fin.ext ?_)
  match a with
  | ⟨0, _⟩ => show win0_0.index t 0 * 4096 + 1 * p.val = p.val; rw [hi.1]; omega
  | ⟨1, _⟩ => show win0_0.index t 1 * 512 + 1 * q.val = t.val / 4 * 512 + q.val; rw [hi.2]; omega

theorem read1 (W : FVec Ideal S4096x2048 .bf16) (p : Fin 4096) (q : Fin 512) :
    ((cfg0.win 1).blk t).view.read (Elt Ideal) W (ix2 p q) = W (ValueIdx.ix2 p (row t q)) := by
  have hi := index1 t
  rw [View.read_apply]
  refine congrArg W (funext fun a => Fin.ext ?_)
  match a with
  | ⟨0, _⟩ => show win0_1.index t 0 * 4096 + 1 * p.val = p.val; rw [hi.1]; omega
  | ⟨1, _⟩ => show win0_1.index t 1 * 512 + 1 * q.val = t.val / 4 * 512 + q.val; rw [hi.2]; omega

theorem read2 (W : FVec Ideal S4096x2048 .bf16) (p : Fin 4096) (q : Fin 512) :
    ((cfg0.win 2).blk t).view.read (Elt Ideal) W (ix2 p q) = W (ValueIdx.ix2 p (row t q)) := by
  have hi := index2 t
  rw [View.read_apply]
  refine congrArg W (funext fun a => Fin.ext ?_)
  match a with
  | ⟨0, _⟩ => show win0_2.index t 0 * 4096 + 1 * p.val = p.val; rw [hi.1]; omega
  | ⟨1, _⟩ => show win0_2.index t 1 * 512 + 1 * q.val = t.val / 4 * 512 + q.val; rw [hi.2]; omega

theorem read3 (W : FVec Ideal S4096x2048 .bf16) (p : Fin 4096) (q : Fin 512) :
    ((cfg0.win 3).blk t).view.read (Elt Ideal) W (ix2 p q) = W (ValueIdx.ix2 p (col t q)) := by
  have hi := index3 t
  rw [View.read_apply]
  refine congrArg W (funext fun a => Fin.ext ?_)
  match a with
  | ⟨0, _⟩ => show win0_3.index t 0 * 4096 + 1 * p.val = p.val; rw [hi.1]; omega
  | ⟨1, _⟩ => show win0_3.index t 1 * 512 + 1 * q.val = t.val % 4 * 512 + q.val; rw [hi.2]; omega

theorem read4 (W : FVec Ideal S2048x2048 .bf16) (p : Fin 512) (q : Fin 512) :
    ((cfg0.win 4).blk t).view.read (Elt Ideal) W (ix2 p q) = W (ValueIdx.ix2 (row t p) (col t q)) := by
  have hi := index4 t
  rw [View.read_apply]
  refine congrArg W (funext fun a => Fin.ext ?_)
  match a with
  | ⟨0, _⟩ => show win0_4.index t 0 * 512 + 1 * p.val = t.val / 4 * 512 + p.val; rw [hi.1]; omega
  | ⟨1, _⟩ => show win0_4.index t 1 * 512 + 1 * q.val = t.val % 4 * 512 + q.val; rw [hi.2]; omega

theorem read5 (W : FVec Ideal S2048x2048 .bf16) (p : Fin 512) (q : Fin 512) :
    ((cfg0.win 5).blk t).view.read (Elt Ideal) W (ix2 p q) = W (ValueIdx.ix2 (row t p) (col t q)) := by
  have hi := index5 t
  rw [View.read_apply]
  refine congrArg W (funext fun a => Fin.ext ?_)
  match a with
  | ⟨0, _⟩ => show win0_5.index t 0 * 512 + 1 * p.val = t.val / 4 * 512 + p.val; rw [hi.1]; omega
  | ⟨1, _⟩ => show win0_5.index t 1 * 512 + 1 * q.val = t.val % 4 * 512 + q.val; rw [hi.2]; omega

theorem read6 (W : FVec Ideal S2048x2048 .bf16) (p : Fin 512) (q : Fin 512) :
    ((cfg0.win 6).blk t).view.read (Elt Ideal) W (ix2 p q) = W (ValueIdx.ix2 (row t p) (col t q)) := by
  have hi := index6 t
  rw [View.read_apply]
  refine congrArg W (funext fun a => Fin.ext ?_)
  match a with
  | ⟨0, _⟩ => show win0_6.index t 0 * 512 + 1 * p.val = t.val / 4 * 512 + p.val; rw [hi.1]; omega
  | ⟨1, _⟩ => show win0_6.index t 1 * 512 + 1 * q.val = t.val % 4 * 512 + q.val; rw [hi.2]; omega

/-! ## What a point stores -/

/-- The product of two blocks at an entry. -/
def dot (a : Vec Ideal S4096x512 .bf16) (b : Vec Ideal S4096x512 .bf16) (r : Fin 512) (n : Fin 512) : EReal :=
  ∑ k : Fin 4096, a (ix2 k r) * b (ix2 k n)

theorem pay4 (x0 : Vec Ideal S4096x512 .bf16) (x3 : Vec Ideal S4096x512 .bf16) (r : Fin 512) (n : Fin 512) :
    k0_pay1 (F := Ideal) x0 x3 (ix2 r n) = dot x0 x3 r n := by
  refine Eq.trans (b := (0 + dot x0 x3 r n)) ?_ (by simp only [zero_add])
  simp only [k0_pay1, dot, pointwise]

theorem out4_eq (x0 : Vec Ideal S4096x512 .bf16) (x1 : Vec Ideal S4096x512 .bf16) (x2 : Vec Ideal S4096x512 .bf16) (x3 : Vec Ideal S4096x512 .bf16) : out0_4 (F := Ideal) x0 x1 x2 x3 = k0_pay1 x0 x3 := by
  unfold out0_4
  rw [View.canon_unit_zero off2]
  simp only [View.ld_unit_zero (S := S4096x512) off2]

theorem pay5 (x1 : Vec Ideal S4096x512 .bf16) (x3 : Vec Ideal S4096x512 .bf16) (r : Fin 512) (n : Fin 512) :
    k0_pay2 (F := Ideal) x1 x3 (ix2 r n) = dot x1 x3 r n := by
  refine Eq.trans (b := (0 + dot x1 x3 r n)) ?_ (by simp only [zero_add])
  simp only [k0_pay2, dot, pointwise]

theorem out5_eq (x0 : Vec Ideal S4096x512 .bf16) (x1 : Vec Ideal S4096x512 .bf16) (x2 : Vec Ideal S4096x512 .bf16) (x3 : Vec Ideal S4096x512 .bf16) : out0_5 (F := Ideal) x0 x1 x2 x3 = k0_pay2 x1 x3 := by
  unfold out0_5
  rw [View.canon_unit_zero off2]
  simp only [View.ld_unit_zero (S := S4096x512) off2]

theorem pay6 (x2 : Vec Ideal S4096x512 .bf16) (x3 : Vec Ideal S4096x512 .bf16) (r : Fin 512) (n : Fin 512) :
    k0_pay3 (F := Ideal) x2 x3 (ix2 r n) = dot x2 x3 r n := by
  refine Eq.trans (b := (0 + dot x2 x3 r n)) ?_ (by simp only [zero_add])
  simp only [k0_pay3, dot, pointwise]

theorem out6_eq (x0 : Vec Ideal S4096x512 .bf16) (x1 : Vec Ideal S4096x512 .bf16) (x2 : Vec Ideal S4096x512 .bf16) (x3 : Vec Ideal S4096x512 .bf16) : out0_6 (F := Ideal) x0 x1 x2 x3 = k0_pay3 x2 x3 := by
  unfold out0_6
  rw [View.canon_unit_zero off2]
  simp only [View.ld_unit_zero (S := S4096x512) off2]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S4096x2048 .bf16 := m ((c : Thread nD τ).loc main_arg1)
abbrev a2 : FVec Ideal S4096x2048 .bf16 := m ((c : Thread nD τ).loc main_arg2)
abbrev a3 : FVec Ideal S4096x2048 .bf16 := m ((c : Thread nD τ).loc main_arg3)

/-- The product of two arrays at an entry. -/
def prod (x : FVec Ideal S4096x2048 .bf16) (y : FVec Ideal S4096x2048 .bf16) (r : Fin 2048) (n : Fin 2048) : EReal :=
  ∑ k : Fin 4096, x (ValueIdx.ix2 k r) * y (ValueIdx.ix2 k n)

theorem dot_0_3 (r : Fin 512) (n : Fin 512) : dot (iblk m c 0 t) (iblk m c 3 t) r n = prod (a0 m c) (a3 m c) (row t r) (col t n) :=
  Finset.sum_congr rfl fun k _ => congrArg₂ (· * ·) ((read0 t (V m c main_arg0) k r).trans (congrFun (V_main_arg0 m c) _))
    ((read3 t (V m c main_arg3) k n).trans (congrFun (V_main_arg3 m c) _))

theorem point4 (G : FVec Ideal S2048x2048 .bf16)
    (hG : ∀ r n, G (ValueIdx.ix2 r n) = prod (a0 m c) (a3 m c) r n) (r : Fin 512) (n : Fin 512) :
    out0_4 (F := Ideal) (iblk m c 0 t) (iblk m c 1 t) (iblk m c 2 t) (iblk m c 3 t) (ix2 r n) = G (ValueIdx.ix2 (row t r) (col t n)) := by
  rw [out4_eq, pay4, hG, dot_0_3]

theorem final4 (G : FVec Ideal S2048x2048 .bf16)
    (hG : ∀ r n, G (ValueIdx.ix2 r n) = prod (a0 m c) (a3 m c) r n) :
    (dats m 0 c).arrAt 4 cfg0.N = G :=
  (dats m 0 c).arrAt_eq_of_cover 4 G
    (fun t _ => by
      show (cfg0.win 4).cut (grid0.coords t) ((dats m 0 c).after 4 t) = _
      rw [after0_4]
      funext i
      have ei := eta2 (n := 512) (k := 512) i
      have e1 := point4 t m c G hG (i 0) (i 1)
      have e2 := read4 t G (i 0) (i 1)
      refine Eq.trans ?_ ((e1.trans e2.symm).trans ?_)
      · exact congrArg (out0_4 (F := Ideal) (iblk m c 0 t) (iblk m c 1 t) (iblk m c 2 t) (iblk m c 3 t)) ei
      · exact congrArg (((cfg0.win 4).blk t).view.read (Elt Ideal) G) ei.symm)
    fun i => by
      have h0 : (i 0 : Nat) < 2048 := (i 0).isLt
      have h1 : (i 1 : Nat) < 2048 := (i 1).isLt
      have hn : 4 * ((i 0 : Nat) / 512) + (i 1 : Nat) / 512 < 16 := by omega
      refine ⟨pt _ hn, flush4 _, ?_⟩
      show i ∈ ((View.whole main_v0_0).slice (win0_4.rect (pt _ hn))).set
      rw [View.set_slice_whole, Rect.mem_set_unit]
      intro a
      have hi := index4 (pt _ hn)
      have hx := xsize4 (pt _ hn)
      have hv : (pt _ hn).val = 4 * ((i 0 : Nat) / 512) + (i 1 : Nat) / 512 := rfl
      match a with
      | ⟨0, _⟩ =>
        show win0_4.index (pt _ hn) 0 * 512 ≤ (i 0 : Nat) ∧ (i 0 : Nat) < win0_4.index (pt _ hn) 0 * 512 + win0_4.xsize (grid0.coords (pt _ hn)) 0
        rw [hi.1, hx.1, hv]; omega
      | ⟨1, _⟩ =>
        show win0_4.index (pt _ hn) 1 * 512 ≤ (i 1 : Nat) ∧ (i 1 : Nat) < win0_4.index (pt _ hn) 1 * 512 + win0_4.xsize (grid0.coords (pt _ hn)) 1
        rw [hi.2, hx.2, hv]; omega

theorem dot_1_3 (r : Fin 512) (n : Fin 512) : dot (iblk m c 1 t) (iblk m c 3 t) r n = prod (a1 m c) (a3 m c) (row t r) (col t n) :=
  Finset.sum_congr rfl fun k _ => congrArg₂ (· * ·) ((read1 t (V m c main_arg1) k r).trans (congrFun (V_main_arg1 m c) _))
    ((read3 t (V m c main_arg3) k n).trans (congrFun (V_main_arg3 m c) _))

theorem point5 (G : FVec Ideal S2048x2048 .bf16)
    (hG : ∀ r n, G (ValueIdx.ix2 r n) = prod (a1 m c) (a3 m c) r n) (r : Fin 512) (n : Fin 512) :
    out0_5 (F := Ideal) (iblk m c 0 t) (iblk m c 1 t) (iblk m c 2 t) (iblk m c 3 t) (ix2 r n) = G (ValueIdx.ix2 (row t r) (col t n)) := by
  rw [out5_eq, pay5, hG, dot_1_3]

theorem final5 (G : FVec Ideal S2048x2048 .bf16)
    (hG : ∀ r n, G (ValueIdx.ix2 r n) = prod (a1 m c) (a3 m c) r n) :
    (dats m 0 c).arrAt 5 cfg0.N = G :=
  (dats m 0 c).arrAt_eq_of_cover 5 G
    (fun t _ => by
      show (cfg0.win 5).cut (grid0.coords t) ((dats m 0 c).after 5 t) = _
      rw [after0_5]
      funext i
      have ei := eta2 (n := 512) (k := 512) i
      have e1 := point5 t m c G hG (i 0) (i 1)
      have e2 := read5 t G (i 0) (i 1)
      refine Eq.trans ?_ ((e1.trans e2.symm).trans ?_)
      · exact congrArg (out0_5 (F := Ideal) (iblk m c 0 t) (iblk m c 1 t) (iblk m c 2 t) (iblk m c 3 t)) ei
      · exact congrArg (((cfg0.win 5).blk t).view.read (Elt Ideal) G) ei.symm)
    fun i => by
      have h0 : (i 0 : Nat) < 2048 := (i 0).isLt
      have h1 : (i 1 : Nat) < 2048 := (i 1).isLt
      have hn : 4 * ((i 0 : Nat) / 512) + (i 1 : Nat) / 512 < 16 := by omega
      refine ⟨pt _ hn, flush5 _, ?_⟩
      show i ∈ ((View.whole main_v0_1).slice (win0_5.rect (pt _ hn))).set
      rw [View.set_slice_whole, Rect.mem_set_unit]
      intro a
      have hi := index5 (pt _ hn)
      have hx := xsize5 (pt _ hn)
      have hv : (pt _ hn).val = 4 * ((i 0 : Nat) / 512) + (i 1 : Nat) / 512 := rfl
      match a with
      | ⟨0, _⟩ =>
        show win0_5.index (pt _ hn) 0 * 512 ≤ (i 0 : Nat) ∧ (i 0 : Nat) < win0_5.index (pt _ hn) 0 * 512 + win0_5.xsize (grid0.coords (pt _ hn)) 0
        rw [hi.1, hx.1, hv]; omega
      | ⟨1, _⟩ =>
        show win0_5.index (pt _ hn) 1 * 512 ≤ (i 1 : Nat) ∧ (i 1 : Nat) < win0_5.index (pt _ hn) 1 * 512 + win0_5.xsize (grid0.coords (pt _ hn)) 1
        rw [hi.2, hx.2, hv]; omega

theorem dot_2_3 (r : Fin 512) (n : Fin 512) : dot (iblk m c 2 t) (iblk m c 3 t) r n = prod (a2 m c) (a3 m c) (row t r) (col t n) :=
  Finset.sum_congr rfl fun k _ => congrArg₂ (· * ·) ((read2 t (V m c main_arg2) k r).trans (congrFun (V_main_arg2 m c) _))
    ((read3 t (V m c main_arg3) k n).trans (congrFun (V_main_arg3 m c) _))

theorem point6 (G : FVec Ideal S2048x2048 .bf16)
    (hG : ∀ r n, G (ValueIdx.ix2 r n) = prod (a2 m c) (a3 m c) r n) (r : Fin 512) (n : Fin 512) :
    out0_6 (F := Ideal) (iblk m c 0 t) (iblk m c 1 t) (iblk m c 2 t) (iblk m c 3 t) (ix2 r n) = G (ValueIdx.ix2 (row t r) (col t n)) := by
  rw [out6_eq, pay6, hG, dot_2_3]

theorem final6 (G : FVec Ideal S2048x2048 .bf16)
    (hG : ∀ r n, G (ValueIdx.ix2 r n) = prod (a2 m c) (a3 m c) r n) :
    (dats m 0 c).arrAt 6 cfg0.N = G :=
  (dats m 0 c).arrAt_eq_of_cover 6 G
    (fun t _ => by
      show (cfg0.win 6).cut (grid0.coords t) ((dats m 0 c).after 6 t) = _
      rw [after0_6]
      funext i
      have ei := eta2 (n := 512) (k := 512) i
      have e1 := point6 t m c G hG (i 0) (i 1)
      have e2 := read6 t G (i 0) (i 1)
      refine Eq.trans ?_ ((e1.trans e2.symm).trans ?_)
      · exact congrArg (out0_6 (F := Ideal) (iblk m c 0 t) (iblk m c 1 t) (iblk m c 2 t) (iblk m c 3 t)) ei
      · exact congrArg (((cfg0.win 6).blk t).view.read (Elt Ideal) G) ei.symm)
    fun i => by
      have h0 : (i 0 : Nat) < 2048 := (i 0).isLt
      have h1 : (i 1 : Nat) < 2048 := (i 1).isLt
      have hn : 4 * ((i 0 : Nat) / 512) + (i 1 : Nat) / 512 < 16 := by omega
      refine ⟨pt _ hn, flush6 _, ?_⟩
      show i ∈ ((View.whole main_v0_2).slice (win0_6.rect (pt _ hn))).set
      rw [View.set_slice_whole, Rect.mem_set_unit]
      intro a
      have hi := index6 (pt _ hn)
      have hx := xsize6 (pt _ hn)
      have hv : (pt _ hn).val = 4 * ((i 0 : Nat) / 512) + (i 1 : Nat) / 512 := rfl
      match a with
      | ⟨0, _⟩ =>
        show win0_6.index (pt _ hn) 0 * 512 ≤ (i 0 : Nat) ∧ (i 0 : Nat) < win0_6.index (pt _ hn) 0 * 512 + win0_6.xsize (grid0.coords (pt _ hn)) 0
        rw [hi.1, hx.1, hv]; omega
      | ⟨1, _⟩ =>
        show win0_6.index (pt _ hn) 1 * 512 ≤ (i 1 : Nat) ∧ (i 1 : Nat) < win0_6.index (pt _ hn) 1 * 512 + win0_6.xsize (grid0.coords (pt _ hn)) 1
        rw [hi.2, hx.2, hv]; omega

end Cert.WqkvGradIdeal.Val

namespace Cert.WqkvGradRefIdeal.Val

open Idealize.ShloMosaic Idealize.ShloMosaic.TcCoe Cert.WqkvGradRefIdeal Cert.WqkvGradRefIdeal.Read
open Cert.WqkvGradIdeal.Val (prod)

theorem v20_at (x : FVec Ideal S4096x2048 .bf16) (y : FVec Ideal S4096x2048 .bf16) (r : Fin 2048) (n : Fin 2048) :
    val_main_v20 (F := Ideal) x y (ValueIdx.ix2 r n) = prod x y r n := by
  refine ((((val_main_v20_apply (F := Ideal) x y _).trans (val_main_v19_apply (F := Ideal) x y _)).trans (val_main_v18_apply (F := Ideal) x y _)).trans (val_main_v17_apply x y _)).trans (Finset.sum_congr rfl fun k _ => ?_)
  rw [val_main_v8_apply, val_main_v1_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v21_at (x : FVec Ideal S4096x2048 .bf16) (y : FVec Ideal S4096x2048 .bf16) (r : Fin 2048) (n : Fin 2048) :
    val_main_v21 (F := Ideal) x y (ValueIdx.ix2 r n) = prod x y r n := by
  refine ((((val_main_v21_apply (F := Ideal) x y _).trans (val_main_v16_apply (F := Ideal) x y _)).trans (val_main_v15_apply (F := Ideal) x y _)).trans (val_main_v14_apply x y _)).trans (Finset.sum_congr rfl fun k _ => ?_)
  rw [val_main_v9_apply, val_main_v1_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v22_at (x : FVec Ideal S4096x2048 .bf16) (y : FVec Ideal S4096x2048 .bf16) (r : Fin 2048) (n : Fin 2048) :
    val_main_v22 (F := Ideal) x y (ValueIdx.ix2 r n) = prod x y r n := by
  refine ((((val_main_v22_apply (F := Ideal) x y _).trans (val_main_v13_apply (F := Ideal) x y _)).trans (val_main_v12_apply (F := Ideal) x y _)).trans (val_main_v11_apply x y _)).trans (Finset.sum_congr rfl fun k _ => ?_)
  rw [val_main_v10_apply, val_main_v1_apply]
  exact congrArg₂ (· * ·) (congrArg x (funext fun a => match a with | ⟨0, _⟩ => rfl | ⟨1, _⟩ => rfl))
    (congrArg y (funext fun a => match a with | ⟨0, _⟩ => rfl | ⟨1, _⟩ => rfl))

end Cert.WqkvGradRefIdeal.Val

end
-- ==== Proof.QkvBwdValue.lean ====
module

public import proofs.«01_k».proof.Proof.Gen.QkvBwdIdeal.Value
public import proofs.«01_k».proof.Proof.Gen.QkvBwdRefIdeal.Read
public import Idealize.ShloMosaic.Lib.Pointwise

@[expose] public section

set_option maxRecDepth 16384

noncomputable section

/-! # The gradient of the input of the projections

The grid point `4 i + j` holds rows `512 i …` and columns `512 j …` of the results. -/

namespace Cert.QkvBwdIdeal.Val

open Idealize.ShloMosaic Idealize.ShloMosaic.TcCoe Idealize.SL.Sem Cert.QkvBwdIdeal Cert.QkvBwdIdeal.Gen

theorem eta2 {n k : ℕ} (i : (⟨2, ![n, k]⟩ : Shape).Idx) : i = ix2 (i 0) (i 1) :=
  funext fun a => match a with | ⟨0, _⟩ => rfl | ⟨1, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val / 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = t.val / 4 ∧ win0_2.index t 1 = 0 := by decide +kernel
theorem index3 : ∀ t : Fin grid0.N, win0_3.index t 0 = t.val / 4 ∧ win0_3.index t 1 = 0 := by decide +kernel
theorem index4 : ∀ t : Fin grid0.N, win0_4.index t 0 = 0 ∧ win0_4.index t 1 = t.val % 4 := by decide +kernel
theorem index5 : ∀ t : Fin grid0.N, win0_5.index t 0 = 1 ∧ win0_5.index t 1 = t.val % 4 := by decide +kernel
theorem index6 : ∀ t : Fin grid0.N, win0_6.index t 0 = 2 ∧ win0_6.index t 1 = t.val % 4 := by decide +kernel
theorem index7 : ∀ t : Fin grid0.N, win0_7.index t 0 = 0 ∧ win0_7.index t 1 = t.val % 4 := by decide +kernel
theorem index8 : ∀ t : Fin grid0.N, win0_8.index t 0 = t.val / 4 ∧ win0_8.index t 1 = t.val % 4 := by decide +kernel
theorem xsize8 : ∀ t : Fin grid0.N, win0_8.xsize (grid0.coords t) 0 = 512 ∧ win0_8.xsize (grid0.coords t) 1 = 512 := by decide +kernel
theorem flush8 : ∀ t : Fin grid0.N, win0_8.flush t = true := by decide +kernel

def pt (n : ℕ) (h : n < 32) : Fin cfg0.N := ⟨n, lt_of_lt_of_eq h N_0.symm⟩
def row (t : Fin cfg0.N) (r : Fin 512) : Fin 4096 := ⟨t.val / 4 * 512 + r.val, by have : t.val < 32 := lt_of_lt_of_eq t.isLt N_0; omega⟩
def col (t : Fin cfg0.N) (n : Fin 512) : Fin 2048 := ⟨t.val % 4 * 512 + n.val, by omega⟩

/-! ## A block of any contents of a window's array, read at an entry -/

variable (t : Fin cfg0.N)

theorem read0 (W : FVec Ideal S4096x2048 .bf16) (p : Fin 512) (q : Fin 2048) :
    ((cfg0.win 0).blk t).view.read (Elt Ideal) W (ix2 p q) = W (ValueIdx.ix2 (row t p) q) := by
  have hi := index0 t
  rw [View.read_apply]
  refine congrArg W (funext fun a => Fin.ext ?_)
  match a with
  | ⟨0, _⟩ => show win0_0.index t 0 * 512 + 1 * p.val = t.val / 4 * 512 + p.val; rw [hi.1]; omega
  | ⟨1, _⟩ => show win0_0.index t 1 * 2048 + 1 * q.val = q.val; rw [hi.2]; omega

theorem read1 (W : FVec Ideal S4096x2048 .bf16) (p : Fin 512) (q : Fin 2048) :
    ((cfg0.win 1).blk t).view.read (Elt Ideal) W (ix2 p q) = W (ValueIdx.ix2 (row t p) q) := by
  have hi := index1 t
  rw [View.read_apply]
  refine congrArg W (funext fun a => Fin.ext ?_)
  match a with
  | ⟨0, _⟩ => show win0_1.index t 0 * 512 + 1 * p.val = t.val / 4 * 512 + p.val; rw [hi.1]; omega
  | ⟨1, _⟩ => show win0_1.index t 1 * 2048 + 1 * q.val = q.val; rw [hi.2]; omega

theorem read2 (W : FVec Ideal S4096x2048 .bf16) (p : Fin 512) (q : Fin 2048) :
    ((cfg0.win 2).blk t).view.read (Elt Ideal) W (ix2 p q) = W (ValueIdx.ix2 (row t p) q) := by
  have hi := index2 t
  rw [View.read_apply]
  refine congrArg W (funext fun a => Fin.ext ?_)
  match a with
  | ⟨0, _⟩ => show win0_2.index t 0 * 512 + 1 * p.val = t.val / 4 * 512 + p.val; rw [hi.1]; omega
  | ⟨1, _⟩ => show win0_2.index t 1 * 2048 + 1 * q.val = q.val; rw [hi.2]; omega

theorem read3 (W : FVec Ideal S4096x128 .bf16) (p : Fin 512) (q : Fin 128) :
    ((cfg0.win 3).blk t).view.read (Elt Ideal) W (ix2 p q) = W (ValueIdx.ix2 (row t p) q) := by
  have hi := index3 t
  rw [View.read_apply]
  refine congrArg W (funext fun a => Fin.ext ?_)
  match a with
  | ⟨0, _⟩ => show win0_3.index t 0 * 512 + 1 * p.val = t.val / 4 * 512 + p.val; rw [hi.1]; omega
  | ⟨1, _⟩ => show win0_3.index t 1 * 128 + 1 * q.val = q.val; rw [hi.2]; omega

/-! The three parts of the weights' rows. -/

def w0 (k : Fin 2048) : Fin 6160 := ⟨k.val, by omega⟩
def w1 (k : Fin 2048) : Fin 6160 := ⟨2048 + k.val, by omega⟩
def w2 (k : Fin 2048) : Fin 6160 := ⟨4096 + k.val, by omega⟩

theorem read4 (W : FVec Ideal S6160x2048 .bf16) (p : Fin 2048) (q : Fin 512) :
    (cfg0.win 4).fill (cfg0.grid.coords t) (dflt0_4 (F := Ideal)) (((cfg0.win 4).blk t).view.read (Elt Ideal) W) (ix2 p q) = W (ValueIdx.ix2 (w0 p) (col t q)) := by
  have hi := index4 t
  unfold Pipeline.Window.fill
  rw [dif_pos (moved0_4 t _), View.read_apply]
  refine congrArg W (funext fun a => Fin.ext ?_)
  match a with
  | ⟨0, _⟩ => show win0_4.index t 0 * 2048 + 1 * p.val = p.val; rw [hi.1]; omega
  | ⟨1, _⟩ => show win0_4.index t 1 * 512 + 1 * q.val = t.val % 4 * 512 + q.val; rw [hi.2]; omega

theorem read5 (W : FVec Ideal S6160x2048 .bf16) (p : Fin 2048) (q : Fin 512) :
    (cfg0.win 5).fill (cfg0.grid.coords t) (dflt0_5 (F := Ideal)) (((cfg0.win 5).blk t).view.read (Elt Ideal) W) (ix2 p q) = W (ValueIdx.ix2 (w1 p) (col t q)) := by
  have hi := index5 t
  unfold Pipeline.Window.fill
  rw [dif_pos (moved0_5 t _), View.read_apply]
  refine congrArg W (funext fun a => Fin.ext ?_)
  match a with
  | ⟨0, _⟩ => show win0_5.index t 0 * 2048 + 1 * p.val = 2048 + p.val; rw [hi.1]; omega
  | ⟨1, _⟩ => show win0_5.index t 1 * 512 + 1 * q.val = t.val % 4 * 512 + q.val; rw [hi.2]; omega

theorem read6 (W : FVec Ideal S6160x2048 .bf16) (p : Fin 2048) (q : Fin 512) :
    (cfg0.win 6).fill (cfg0.grid.coords t) (dflt0_6 (F := Ideal)) (((cfg0.win 6).blk t).view.read (Elt Ideal) W) (ix2 p q) = W (ValueIdx.ix2 (w2 p) (col t q)) := by
  have hi := index6 t
  unfold Pipeline.Window.fill
  rw [dif_pos (moved0_6 t _), View.read_apply]
  refine congrArg W (funext fun a => Fin.ext ?_)
  match a with
  | ⟨0, _⟩ => show win0_6.index t 0 * 2048 + 1 * p.val = 4096 + p.val; rw [hi.1]; omega
  | ⟨1, _⟩ => show win0_6.index t 1 * 512 + 1 * q.val = t.val % 4 * 512 + q.val; rw [hi.2]; omega

theorem read7 (W : FVec Ideal S128x2048 .bf16) (p : Fin 128) (q : Fin 512) :
    ((cfg0.win 7).blk t).view.read (Elt Ideal) W (ix2 p q) = W (ValueIdx.ix2 p (col t q)) := by
  have hi := index7 t
  rw [View.read_apply]
  refine congrArg W (funext fun a => Fin.ext ?_)
  match a with
  | ⟨0, _⟩ => show win0_7.index t 0 * 128 + 1 * p.val = p.val; rw [hi.1]; omega
  | ⟨1, _⟩ => show win0_7.index t 1 * 512 + 1 * q.val = t.val % 4 * 512 + q.val; rw [hi.2]; omega

theorem read8 (W : FVec Ideal S4096x2048 .f32) (p : Fin 512) (q : Fin 512) :
    ((cfg0.win 8).blk t).view.read (Elt Ideal) W (ix2 p q) = W (ValueIdx.ix2 (row t p) (col t q)) := by
  have hi := index8 t
  rw [View.read_apply]
  refine congrArg W (funext fun a => Fin.ext ?_)
  match a with
  | ⟨0, _⟩ => show win0_8.index t 0 * 512 + 1 * p.val = t.val / 4 * 512 + p.val; rw [hi.1]; omega
  | ⟨1, _⟩ => show win0_8.index t 1 * 512 + 1 * q.val = t.val % 4 * 512 + q.val; rw [hi.2]; omega

/-! ## What a point stores -/

/-- The product of two blocks at an entry. -/
def dot (a : Vec Ideal S512x2048 .bf16) (b : Vec Ideal S2048x512 .bf16) (r : Fin 512) (n : Fin 512) : EReal :=
  ∑ k : Fin 2048, a (ix2 r k) * b (ix2 k n)

/-- The product of the forget gate's blocks at an entry. -/
def dotf (a : Vec Ideal S512x128 .bf16) (b : Vec Ideal S128x512 .bf16) (r : Fin 512) (n : Fin 512) : EReal :=
  ∑ k : Fin 128, a (ix2 r k) * b (ix2 k n)

theorem pay8 (x0 : Vec Ideal S512x2048 .bf16) (x1 : Vec Ideal S512x2048 .bf16) (x2 : Vec Ideal S512x2048 .bf16) (x3 : Vec Ideal S512x128 .bf16) (x4 : Vec Ideal S2048x512 .bf16) (x5 : Vec Ideal S2048x512 .bf16) (x6 : Vec Ideal S2048x512 .bf16) (x7 : Vec Ideal S128x512 .bf16) (r : Fin 512) (n : Fin 512) :
    k0_pay1 (F := Ideal) x0 x1 x2 x3 x4 x5 x6 x7 (ix2 r n) = dot x0 x4 r n + dot x1 x5 r n + dot x2 x6 r n + dotf x3 x7 r n := by
  refine Eq.trans (b := (0 + dot x0 x4 r n) + (0 + dot x1 x5 r n) + (0 + dot x2 x6 r n) + (0 + dotf x3 x7 r n)) ?_ (by simp only [zero_add])
  simp only [k0_pay1, dot, dotf, pointwise]

theorem left8 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x128 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S128x512 .bf16) (harg9 : arg9.IsWhole) (arg10 : Memref sig .tc .vmem S512x512 .f32) (harg10 : arg10.IsWhole)
    (x0 : Vec Ideal S512x2048 .bf16) (x1 : Vec Ideal S512x2048 .bf16) (x2 : Vec Ideal S512x2048 .bf16) (x3 : Vec Ideal S512x128 .bf16) (x4 : Vec Ideal S2048x512 .bf16) (x5 : Vec Ideal S2048x512 .bf16) (x6 : Vec Ideal S2048x512 .bf16) (x7 : Vec Ideal S128x512 .bf16) :
    out0_A_8 (F := Ideal) c i arg2 harg2 arg3 harg3 arg4 harg4 arg5 harg5 arg6 harg6 arg7 harg7 arg8 harg8 arg9 harg9 arg10 harg10 x0 x1 x2 x3 x4 x5 x6 x7 = k0_pay1 x0 x1 x2 x3 x4 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero (S := S512x512) off2]
  simp only [View.readAt_eq_ld, harg2.read_unread, harg3.read_unread, harg4.read_unread, harg5.read_unread, harg6.read_unread, harg7.read_unread, harg8.read_unread, harg9.read_unread, View.ld_unit_zero (S := S512x2048) off2, View.ld_unit_zero (S := S512x128) off2, View.ld_unit_zero (S := S2048x512) off2, View.ld_unit_zero (S := S128x512) off2]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S4096x2048 .bf16 := m ((c : Thread nD τ).loc main_arg1)
abbrev a2 : FVec Ideal S4096x2048 .bf16 := m ((c : Thread nD τ).loc main_arg2)
abbrev a3 : FVec Ideal S4096x128 .bf16 := m ((c : Thread nD τ).loc main_arg3)
abbrev a4 : FVec Ideal S6160x2048 .bf16 := m ((c : Thread nD τ).loc main_arg4)
abbrev a5 : FVec Ideal S128x2048 .bf16 := m ((c : Thread nD τ).loc main_arg5)

/-- The product of an array by a part of the weights at an entry. -/
def prod (w : Fin 2048 → Fin 6160) (x : FVec Ideal S4096x2048 .bf16) (y : FVec Ideal S6160x2048 .bf16) (r : Fin 4096) (n : Fin 2048) : EReal :=
  ∑ k : Fin 2048, x (ValueIdx.ix2 r k) * y (ValueIdx.ix2 (w k) n)

/-- The forget gate's product at an entry. -/
def prodf (x : FVec Ideal S4096x128 .bf16) (y : FVec Ideal S128x2048 .bf16) (r : Fin 4096) (n : Fin 2048) : EReal :=
  ∑ k : Fin 128, x (ValueIdx.ix2 r k) * y (ValueIdx.ix2 k n)

theorem dot_0 (r : Fin 512) (n : Fin 512) : dot (iblk m c 0 t) (X0_4 m c t) r n = prod w0 (a0 m c) (a4 m c) (row t r) (col t n) :=
  Finset.sum_congr rfl fun k _ => congrArg₂ (· * ·) ((read0 t (V m c main_arg0) r k).trans (congrFun (V_main_arg0 m c) _))
    ((read4 t (V m c main_arg4) k n).trans (congrFun (V_main_arg4 m c) _))

theorem dot_1 (r : Fin 512) (n : Fin 512) : dot (iblk m c 1 t) (X0_5 m c t) r n = prod w1 (a1 m c) (a4 m c) (row t r) (col t n) :=
  Finset.sum_congr rfl fun k _ => congrArg₂ (· * ·) ((read1 t (V m c main_arg1) r k).trans (congrFun (V_main_arg1 m c) _))
    ((read5 t (V m c main_arg4) k n).trans (congrFun (V_main_arg4 m c) _))

theorem dot_2 (r : Fin 512) (n : Fin 512) : dot (iblk m c 2 t) (X0_6 m c t) r n = prod w2 (a2 m c) (a4 m c) (row t r) (col t n) :=
  Finset.sum_congr rfl fun k _ => congrArg₂ (· * ·) ((read2 t (V m c main_arg2) r k).trans (congrFun (V_main_arg2 m c) _))
    ((read6 t (V m c main_arg4) k n).trans (congrFun (V_main_arg4 m c) _))

theorem dot_3 (r : Fin 512) (n : Fin 512) : dotf (iblk m c 3 t) (iblk m c 7 t) r n = prodf (a3 m c) (a5 m c) (row t r) (col t n) :=
  Finset.sum_congr rfl fun k _ => congrArg₂ (· * ·) ((read3 t (V m c main_arg3) r k).trans (congrFun (V_main_arg3 m c) _))
    ((read7 t (V m c main_arg5) k n).trans (congrFun (V_main_arg5 m c) _))

theorem point8 (G : FVec Ideal S4096x2048 .f32)
    (hG : ∀ r n, G (ValueIdx.ix2 r n) = prod w0 (a0 m c) (a4 m c) r n + prod w1 (a1 m c) (a4 m c) r n + prod w2 (a2 m c) (a4 m c) r n + prodf (a3 m c) (a5 m c) r n) (r : Fin 512) (n : Fin 512) :
    outsAt0 m c t (ix2 r n) = G (ValueIdx.ix2 (row t r) (col t n)) := by
  unfold outsAt0
  rw [left8, pay8, hG, dot_0, dot_1, dot_2, dot_3]

theorem final8 (G : FVec Ideal S4096x2048 .f32)
    (hG : ∀ r n, G (ValueIdx.ix2 r n) = prod w0 (a0 m c) (a4 m c) r n + prod w1 (a1 m c) (a4 m c) r n + prod w2 (a2 m c) (a4 m c) r n + prodf (a3 m c) (a5 m c) r n) :
    (dats m 0 c).arrAt 8 cfg0.N = G :=
  (dats m 0 c).arrAt_eq_of_cover 8 G
    (fun t _ => by
      show (cfg0.win 8).cut (grid0.coords t) ((dats m 0 c).after 8 t) = _
      rw [after0_8]
      funext i
      have ei := eta2 (n := 512) (k := 512) i
      have e1 := point8 t m c G hG (i 0) (i 1)
      have e2 := read8 t G (i 0) (i 1)
      refine Eq.trans ?_ ((e1.trans e2.symm).trans ?_)
      · exact congrArg (outsAt0 m c t) ei
      · exact congrArg (((cfg0.win 8).blk t).view.read (Elt Ideal) G) ei.symm)
    fun i => by
      have h0 : (i 0 : Nat) < 4096 := (i 0).isLt
      have h1 : (i 1 : Nat) < 2048 := (i 1).isLt
      have hn : 4 * ((i 0 : Nat) / 512) + (i 1 : Nat) / 512 < 32 := by omega
      refine ⟨pt _ hn, flush8 _, ?_⟩
      show i ∈ ((View.whole main_v0).slice (win0_8.rect (pt _ hn))).set
      rw [View.set_slice_whole, Rect.mem_set_unit]
      intro a
      have hi := index8 (pt _ hn)
      have hx := xsize8 (pt _ hn)
      have hv : (pt _ hn).val = 4 * ((i 0 : Nat) / 512) + (i 1 : Nat) / 512 := rfl
      match a with
      | ⟨0, _⟩ =>
        show win0_8.index (pt _ hn) 0 * 512 ≤ (i 0 : Nat) ∧ (i 0 : Nat) < win0_8.index (pt _ hn) 0 * 512 + win0_8.xsize (grid0.coords (pt _ hn)) 0
        rw [hi.1, hx.1, hv]; omega
      | ⟨1, _⟩ =>
        show win0_8.index (pt _ hn) 1 * 512 ≤ (i 1 : Nat) ∧ (i 1 : Nat) < win0_8.index (pt _ hn) 1 * 512 + win0_8.xsize (grid0.coords (pt _ hn)) 1
        rw [hi.2, hx.2, hv]; omega

end Cert.QkvBwdIdeal.Val

namespace Cert.QkvBwdRefIdeal.Val

open Idealize.ShloMosaic Idealize.ShloMosaic.TcCoe Cert.QkvBwdRefIdeal Cert.QkvBwdRefIdeal.Read
open Cert.QkvBwdIdeal.Val (prod prodf w0 w1 w2)

theorem v25_at (x : FVec Ideal S4096x2048 .bf16) (y : FVec Ideal S6160x2048 .bf16) (r : Fin 4096) (n : Fin 2048) :
    val_main_v25 (F := Ideal) x y (ValueIdx.ix2 r n) = prod w0 x y r n := by
  refine (val_main_v25_apply x y _).trans (Finset.sum_congr rfl fun k _ => ?_)
  rw [val_main_v16_apply, val_main_v7_apply, val_main_v1_apply, val_main_v0_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v23_at (x : FVec Ideal S4096x2048 .bf16) (y : FVec Ideal S6160x2048 .bf16) (r : Fin 4096) (n : Fin 2048) :
    val_main_v23 (F := Ideal) x y (ValueIdx.ix2 r n) = prod w1 x y r n := by
  refine (val_main_v23_apply x y _).trans (Finset.sum_congr rfl fun k _ => ?_)
  rw [val_main_v17_apply, val_main_v9_apply, val_main_v3_apply, val_main_v2_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v21_at (x : FVec Ideal S4096x2048 .bf16) (y : FVec Ideal S6160x2048 .bf16) (r : Fin 4096) (n : Fin 2048) :
    val_main_v21 (F := Ideal) x y (ValueIdx.ix2 r n) = prod w2 x y r n := by
  refine (val_main_v21_apply x y _).trans (Finset.sum_congr rfl fun k _ => ?_)
  rw [val_main_v18_apply, val_main_v11_apply, val_main_v5_apply, val_main_v4_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v20_at (x : FVec Ideal S4096x128 .bf16) (y : FVec Ideal S128x2048 .bf16) (r : Fin 4096) (n : Fin 2048) :
    val_main_v20 (F := Ideal) x y (ValueIdx.ix2 r n) = prodf x y r n := by
  refine (val_main_v20_apply x y _).trans (Finset.sum_congr rfl fun k _ => ?_)
  rw [val_main_v19_apply, val_main_v14_apply, val_main_v13_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v26_at (x0 x1 x2 : FVec Ideal S4096x2048 .bf16) (x3 : FVec Ideal S4096x128 .bf16) (x4 : FVec Ideal S6160x2048 .bf16) (x5 : FVec Ideal S128x2048 .bf16) (r : Fin 4096) (n : Fin 2048) :
    val_main_v26 (F := Ideal) x0 x1 x2 x3 x4 x5 (ValueIdx.ix2 r n)
      = prod w0 x0 x4 r n + prod w1 x1 x4 r n + prod w2 x2 x4 r n + prodf x3 x5 r n := by
  refine (val_main_v26_apply (F := Ideal) x0 x1 x2 x3 x4 x5 _).trans ?_
  rw [val_main_v24_apply, val_main_v22_apply, v25_at, v23_at, v21_at, v20_at]
  show prodf x3 x5 r n + prod w2 x2 x4 r n + prod w1 x1 x4 r n + prod w0 x0 x4 r n = _
  ac_rfl

end Cert.QkvBwdRefIdeal.Val

end
-- ==== Proof.SguInValue.lean ====
module

public import proofs.«01_k».proof.Proof.Gen.SguInIdeal.Value
public import proofs.«01_k».proof.Proof.Gen.SguInRefIdeal.Read
public import Idealize.ShloMosaic.Lib.Pointwise

@[expose] public section

set_option maxRecDepth 16384

noncomputable section

/-! # The projection into the gating unit

The grid point `4 i + j` holds rows `512 i …` and columns `1024 j …` of the results. -/

namespace Cert.SguInIdeal.Val

open Idealize.ShloMosaic Idealize.ShloMosaic.TcCoe Idealize.SL.Sem Cert.SguInIdeal Cert.SguInIdeal.Gen

theorem eta2 {n k : ℕ} (i : (⟨2, ![n, k]⟩ : Shape).Idx) : i = ix2 (i 0) (i 1) :=
  funext fun a => match a with | ⟨0, _⟩ => rfl | ⟨1, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val / 4 ∧ win0_0.index t 1 = 0 := by decide +kernel
theorem index1 : ∀ t : Fin grid0.N, win0_1.index t 0 = 0 ∧ win0_1.index t 1 = t.val % 4 := by decide +kernel
theorem index2 : ∀ t : Fin grid0.N, win0_2.index t 0 = 0 ∧ win0_2.index t 1 = t.val % 4 := by decide +kernel
theorem index3 : ∀ t : Fin grid0.N, win0_3.index t 0 = t.val / 4 ∧ win0_3.index t 1 = t.val % 4 := by decide +kernel
theorem xsize3 : ∀ t : Fin grid0.N, win0_3.xsize (grid0.coords t) 0 = 512 ∧ win0_3.xsize (grid0.coords t) 1 = 1024 := by decide +kernel
theorem flush3 : ∀ t : Fin grid0.N, win0_3.flush t = true := by decide +kernel

def pt (n : ℕ) (h : n < 32) : Fin cfg0.N := ⟨n, lt_of_lt_of_eq h N_0.symm⟩
def row (t : Fin cfg0.N) (r : Fin 512) : Fin 4096 := ⟨t.val / 4 * 512 + r.val, by have : t.val < 32 := lt_of_lt_of_eq t.isLt N_0; omega⟩
def col (t : Fin cfg0.N) (n : Fin 1024) : Fin 4096 := ⟨t.val % 4 * 1024 + n.val, by omega⟩

/-! ## A block of any contents of a window's array, read at an entry -/

variable (t : Fin cfg0.N)

theorem read0 (W : FVec Ideal S4096x2048 .bf16) (p : Fin 512) (q : Fin 2048) :
    ((cfg0.win 0).blk t).view.read (Elt Ideal) W (ix2 p q) = W (ValueIdx.ix2 (row t p) q) := by
  have hi := index0 t
  rw [View.read_apply]
  refine congrArg W (funext fun a => Fin.ext ?_)
  match a with
  | ⟨0, _⟩ => show win0_0.index t 0 * 512 + 1 * p.val = t.val / 4 * 512 + p.val; rw [hi.1]; omega
  | ⟨1, _⟩ => show win0_0.index t 1 * 2048 + 1 * q.val = q.val; rw [hi.2]; omega

theorem read1 (W : FVec Ideal S2048x4096 .bf16) (p : Fin 2048) (q : Fin 1024) :
    ((cfg0.win 1).blk t).view.read (Elt Ideal) W (ix2 p q) = W (ValueIdx.ix2 p (col t q)) := by
  have hi := index1 t
  rw [View.read_apply]
  refine congrArg W (funext fun a => Fin.ext ?_)
  match a with
  | ⟨0, _⟩ => show win0_1.index t 0 * 2048 + 1 * p.val = p.val; rw [hi.1]; omega
  | ⟨1, _⟩ => show win0_1.index t 1 * 1024 + 1 * q.val = t.val % 4 * 1024 + q.val; rw [hi.2]; omega

theorem read2 (W : FVec Ideal S1x4096 .f32) (p : Fin 1) (q : Fin 1024) :
    ((cfg0.win 2).blk t).view.read (Elt Ideal) W (ix2 p q) = W (ValueIdx.ix2 p (col t q)) := by
  have hi := index2 t
  rw [View.read_apply]
  refine congrArg W (funext fun a => Fin.ext ?_)
  match a with
  | ⟨0, _⟩ => show win0_2.index t 0 * 1 + 1 * p.val = p.val; rw [hi.1]; omega
  | ⟨1, _⟩ => show win0_2.index t 1 * 1024 + 1 * q.val = t.val % 4 * 1024 + q.val; rw [hi.2]; omega

theorem read3 (W : FVec Ideal S4096x4096 .f32) (p : Fin 512) (q : Fin 1024) :
    ((cfg0.win 3).blk t).view.read (Elt Ideal) W (ix2 p q) = W (ValueIdx.ix2 (row t p) (col t q)) := by
  have hi := index3 t
  rw [View.read_apply]
  refine congrArg W (funext fun a => Fin.ext ?_)
  match a with
  | ⟨0, _⟩ => show win0_3.index t 0 * 512 + 1 * p.val = t.val / 4 * 512 + p.val; rw [hi.1]; omega
  | ⟨1, _⟩ => show win0_3.index t 1 * 1024 + 1 * q.val = t.val % 4 * 1024 + q.val; rw [hi.2]; omega

/-! ## What a point stores -/

/-- The product of two blocks at an entry. -/
def dot (a : Vec Ideal S512x2048 .bf16) (b : Vec Ideal S2048x1024 .bf16) (r : Fin 512) (n : Fin 1024) : EReal :=
  ∑ k : Fin 2048, a (ix2 r k) * b (ix2 k n)

theorem pay3 (x0 : Vec Ideal S512x2048 .bf16) (x1 : Vec Ideal S2048x1024 .bf16) (x2 : Vec Ideal S1x1024 .f32) (r : Fin 512) (n : Fin 1024) :
    k0_pay1 (F := Ideal) x0 x1 x2 (ix2 r n) = dot x0 x1 r n + x2 (ix2 (0 : Fin 1) n) := by
  refine Eq.trans (b := (0 + dot x0 x1 r n) + x2 (ix2 (0 : Fin 1) n)) ?_ (by simp only [zero_add])
  simp only [k0_pay1, dot, pointwise]
  rfl

theorem out3_eq (x0 : Vec Ideal S512x2048 .bf16) (x1 : Vec Ideal S2048x1024 .bf16) (x2 : Vec Ideal S1x1024 .f32) : out0_3 (F := Ideal) x0 x1 x2 = k0_pay1 x0 x1 x2 := by
  unfold out0_3
  rw [View.canon_unit_zero off2]
  simp only [View.ld_unit_zero (S := S512x2048) off2, View.ld_unit_zero (S := S2048x1024) off2, View.ld_unit_zero (S := S1x1024) off2]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S2048x4096 .bf16 := m ((c : Thread nD τ).loc main_arg1)
abbrev a2 : FVec Ideal S1x4096 .f32 := m ((c : Thread nD τ).loc main_arg2)

/-- The product of two arrays at an entry. -/
def prod (x : FVec Ideal S4096x2048 .bf16) (y : FVec Ideal S2048x4096 .bf16) (r : Fin 4096) (n : Fin 4096) : EReal :=
  ∑ k : Fin 2048, x (ValueIdx.ix2 r k) * y (ValueIdx.ix2 k n)

theorem dot_0_1 (r : Fin 512) (n : Fin 1024) : dot (iblk m c 0 t) (iblk m c 1 t) r n = prod (a0 m c) (a1 m c) (row t r) (col t n) :=
  Finset.sum_congr rfl fun k _ => congrArg₂ (· * ·) ((read0 t (V m c main_arg0) r k).trans (congrFun (V_main_arg0 m c) _))
    ((read1 t (V m c main_arg1) k n).trans (congrFun (V_main_arg1 m c) _))

theorem ext3_2 (n : Fin 1024) : (iblk m c 2 t : Vec Ideal S1x1024 .f32) (ix2 (0 : Fin 1) n) = a2 m c (ValueIdx.ix2 (0 : Fin 1) (col t n)) :=
  ((read2 t (V m c main_arg2) (0 : Fin 1) n).trans (congrFun (V_main_arg2 m c) _))

theorem point3 (G : FVec Ideal S4096x4096 .f32)
    (hG : ∀ r n, G (ValueIdx.ix2 r n) = prod (a0 m c) (a1 m c) r n + a2 m c (ValueIdx.ix2 (0 : Fin 1) n)) (r : Fin 512) (n : Fin 1024) :
    out0_3 (F := Ideal) (iblk m c 0 t) (iblk m c 1 t) (iblk m c 2 t) (ix2 r n) = G (ValueIdx.ix2 (row t r) (col t n)) := by
  rw [out3_eq, pay3, hG, dot_0_1, ext3_2]

theorem final3 (G : FVec Ideal S4096x4096 .f32)
    (hG : ∀ r n, G (ValueIdx.ix2 r n) = prod (a0 m c) (a1 m c) r n + a2 m c (ValueIdx.ix2 (0 : Fin 1) n)) :
    (dats m 0 c).arrAt 3 cfg0.N = G :=
  (dats m 0 c).arrAt_eq_of_cover 3 G
    (fun t _ => by
      show (cfg0.win 3).cut (grid0.coords t) ((dats m 0 c).after 3 t) = _
      rw [after0_3]
      funext i
      have ei := eta2 (n := 512) (k := 1024) i
      have e1 := point3 t m c G hG (i 0) (i 1)
      have e2 := read3 t G (i 0) (i 1)
      refine Eq.trans ?_ ((e1.trans e2.symm).trans ?_)
      · exact congrArg (out0_3 (F := Ideal) (iblk m c 0 t) (iblk m c 1 t) (iblk m c 2 t)) ei
      · exact congrArg (((cfg0.win 3).blk t).view.read (Elt Ideal) G) ei.symm)
    fun i => by
      have h0 : (i 0 : Nat) < 4096 := (i 0).isLt
      have h1 : (i 1 : Nat) < 4096 := (i 1).isLt
      have hn : 4 * ((i 0 : Nat) / 512) + (i 1 : Nat) / 1024 < 32 := by omega
      refine ⟨pt _ hn, flush3 _, ?_⟩
      show i ∈ ((View.whole main_v0).slice (win0_3.rect (pt _ hn))).set
      rw [View.set_slice_whole, Rect.mem_set_unit]
      intro a
      have hi := index3 (pt _ hn)
      have hx := xsize3 (pt _ hn)
      have hv : (pt _ hn).val = 4 * ((i 0 : Nat) / 512) + (i 1 : Nat) / 1024 := rfl
      match a with
      | ⟨0, _⟩ =>
        show win0_3.index (pt _ hn) 0 * 512 ≤ (i 0 : Nat) ∧ (i 0 : Nat) < win0_3.index (pt _ hn) 0 * 512 + win0_3.xsize (grid0.coords (pt _ hn)) 0
        rw [hi.1, hx.1, hv]; omega
      | ⟨1, _⟩ =>
        show win0_3.index (pt _ hn) 1 * 1024 ≤ (i 1 : Nat) ∧ (i 1 : Nat) < win0_3.index (pt _ hn) 1 * 1024 + win0_3.xsize (grid0.coords (pt _ hn)) 1
        rw [hi.2, hx.2, hv]; omega

end Cert.SguInIdeal.Val

namespace Cert.SguInRefIdeal.Val

open Idealize.ShloMosaic Idealize.ShloMosaic.TcCoe Cert.SguInRefIdeal Cert.SguInRefIdeal.Read
open Cert.SguInIdeal.Val (prod)

theorem v2_at (x : FVec Ideal S4096x2048 .bf16) (y : FVec Ideal S2048x4096 .bf16) (r : Fin 4096) (n : Fin 4096) :
    val_main_v2 (F := Ideal) x y (ValueIdx.ix2 r n) = prod x y r n := by
  refine (val_main_v2_apply x y _).trans (Finset.sum_congr rfl fun k _ => ?_)
  rw [val_main_v0_apply, val_main_v1_apply]
  exact congrArg₂ (· * ·) (congrArg x (funext fun a => match a with | ⟨0, _⟩ => rfl | ⟨1, _⟩ => rfl))
    (congrArg y (funext fun a => match a with | ⟨0, _⟩ => rfl | ⟨1, _⟩ => rfl))

theorem v4_at (x : FVec Ideal S4096x2048 .bf16) (y : FVec Ideal S2048x4096 .bf16) (g : FVec Ideal S1x4096 .f32) (r : Fin 4096) (n : Fin 4096) :
    val_main_v4 (F := Ideal) x y g (ValueIdx.ix2 r n) = prod x y r n + g (ValueIdx.ix2 (0 : Fin 1) n) := by
  refine (val_main_v4_apply (F := Ideal) x y g _).trans ?_
  rw [val_main_v3_apply, v2_at]
  exact congrArg (prod x y r n + ·) (congrArg g (funext fun a => match a with | ⟨0, _⟩ => rfl | ⟨1, _⟩ => rfl))

end Cert.SguInRefIdeal.Val

end
-- ==== Proof.SguInBwdValue.lean ====
module

public import proofs.«01_k».proof.Proof.Gen.SguInBwdIdeal.Value
public import proofs.«01_k».proof.Proof.Gen.SguInBwdRefIdeal.Read
public import Idealize.ShloMosaic.Lib.Pointwise

@[expose] public section

set_option maxRecDepth 16384

noncomputable section

/-! # The gradient of the input of the gating unit

The grid point `2 i + j` holds rows `512 i …` and columns `1024 j …` of the results. -/

namespace Cert.SguInBwdIdeal.Val

open Idealize.ShloMosaic Idealize.ShloMosaic.TcCoe Idealize.SL.Sem Cert.SguInBwdIdeal Cert.SguInBwdIdeal.Gen

theorem eta2 {n k : ℕ} (i : (⟨2, ![n, k]⟩ : Shape).Idx) : i = ix2 (i 0) (i 1) :=
  funext fun a => match a with | ⟨0, _⟩ => rfl | ⟨1, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val / 2 ∧ win0_0.index t 1 = 0 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = t.val % 2 := by decide +kernel
theorem xsize2 : ∀ t : Fin grid0.N, win0_2.xsize (grid0.coords t) 0 = 512 ∧ win0_2.xsize (grid0.coords t) 1 = 1024 := by decide +kernel
theorem flush2 : ∀ t : Fin grid0.N, win0_2.flush t = true := by decide +kernel

def pt (n : ℕ) (h : n < 16) : Fin cfg0.N := ⟨n, lt_of_lt_of_eq h N_0.symm⟩
def row (t : Fin cfg0.N) (r : Fin 512) : Fin 4096 := ⟨t.val / 2 * 512 + r.val, by have : t.val < 16 := lt_of_lt_of_eq t.isLt N_0; omega⟩
def col (t : Fin cfg0.N) (n : Fin 1024) : Fin 2048 := ⟨t.val % 2 * 1024 + n.val, by omega⟩

/-! ## A block of any contents of a window's array, read at an entry -/

variable (t : Fin cfg0.N)

theorem read0 (W : FVec Ideal S4096x4096 .bf16) (p : Fin 512) (q : Fin 4096) :
    ((cfg0.win 0).blk t).view.read (Elt Ideal) W (ix2 p q) = W (ValueIdx.ix2 (row t p) q) := by
  have hi := index0 t
  rw [View.read_apply]
  refine congrArg W (funext fun a => Fin.ext ?_)
  match a with
  | ⟨0, _⟩ => show win0_0.index t 0 * 512 + 1 * p.val = t.val / 2 * 512 + p.val; rw [hi.1]; omega
  | ⟨1, _⟩ => show win0_0.index t 1 * 4096 + 1 * q.val = q.val; rw [hi.2]; omega

theorem read1 (W : FVec Ideal S2048x4096 .bf16) (p : Fin 1024) (q : Fin 4096) :
    ((cfg0.win 1).blk t).view.read (Elt Ideal) W (ix2 p q) = W (ValueIdx.ix2 (col t p) q) := by
  have hi := index1 t
  rw [View.read_apply]
  refine congrArg W (funext fun a => Fin.ext ?_)
  match a with
  | ⟨0, _⟩ => show win0_1.index t 0 * 1024 + 1 * p.val = t.val % 2 * 1024 + p.val; rw [hi.1]; omega
  | ⟨1, _⟩ => show win0_1.index t 1 * 4096 + 1 * q.val = q.val; rw [hi.2]; omega

theorem read2 (W : FVec Ideal S4096x2048 .f32) (p : Fin 512) (q : Fin 1024) :
    ((cfg0.win 2).blk t).view.read (Elt Ideal) W (ix2 p q) = W (ValueIdx.ix2 (row t p) (col t q)) := by
  have hi := index2 t
  rw [View.read_apply]
  refine congrArg W (funext fun a => Fin.ext ?_)
  match a with
  | ⟨0, _⟩ => show win0_2.index t 0 * 512 + 1 * p.val = t.val / 2 * 512 + p.val; rw [hi.1]; omega
  | ⟨1, _⟩ => show win0_2.index t 1 * 1024 + 1 * q.val = t.val % 2 * 1024 + q.val; rw [hi.2]; omega

/-! ## What a point stores -/

/-- The product of two blocks at an entry. -/
def dot (a : Vec Ideal S512x4096 .bf16) (b : Vec Ideal S1024x4096 .bf16) (r : Fin 512) (n : Fin 1024) : EReal :=
  ∑ k : Fin 4096, a (ix2 r k) * b (ix2 n k)

theorem pay2 (x0 : Vec Ideal S512x4096 .bf16) (x1 : Vec Ideal S1024x4096 .bf16) (r : Fin 512) (n : Fin 1024) :
    k0_pay1 (F := Ideal) x0 x1 (ix2 r n) = dot x0 x1 r n := by
  refine Eq.trans (b := (0 + dot x0 x1 r n)) ?_ (by simp only [zero_add])
  simp only [k0_pay1, dot, pointwise]

theorem out2_eq (x0 : Vec Ideal S512x4096 .bf16) (x1 : Vec Ideal S1024x4096 .bf16) : out0_2 (F := Ideal) x0 x1 = k0_pay1 x0 x1 := by
  unfold out0_2
  rw [View.canon_unit_zero off2]
  simp only [View.ld_unit_zero (S := S512x4096) off2, View.ld_unit_zero (S := S1024x4096) off2]

/-! ## The arrays after the run -/

variable (m : (ℓ : Loc nD τ sig) → Buf (Elt Ideal) ℓ) (c : Dev nD)

abbrev a0 : FVec Ideal S4096x4096 .bf16 := m ((c : Thread nD τ).loc main_arg0)
abbrev a1 : FVec Ideal S2048x4096 .bf16 := m ((c : Thread nD τ).loc main_arg1)

/-- The product of two arrays at an entry. -/
def prod (x : FVec Ideal S4096x4096 .bf16) (y : FVec Ideal S2048x4096 .bf16) (r : Fin 4096) (n : Fin 2048) : EReal :=
  ∑ k : Fin 4096, x (ValueIdx.ix2 r k) * y (ValueIdx.ix2 n k)

theorem dot_0_1 (r : Fin 512) (n : Fin 1024) : dot (iblk m c 0 t) (iblk m c 1 t) r n = prod (a0 m c) (a1 m c) (row t r) (col t n) :=
  Finset.sum_congr rfl fun k _ => congrArg₂ (· * ·) ((read0 t (V m c main_arg0) r k).trans (congrFun (V_main_arg0 m c) _))
    ((read1 t (V m c main_arg1) n k).trans (congrFun (V_main_arg1 m c) _))

theorem point2 (G : FVec Ideal S4096x2048 .f32)
    (hG : ∀ r n, G (ValueIdx.ix2 r n) = prod (a0 m c) (a1 m c) r n) (r : Fin 512) (n : Fin 1024) :
    out0_2 (F := Ideal) (iblk m c 0 t) (iblk m c 1 t) (ix2 r n) = G (ValueIdx.ix2 (row t r) (col t n)) := by
  rw [out2_eq, pay2, hG, dot_0_1]

theorem final2 (G : FVec Ideal S4096x2048 .f32)
    (hG : ∀ r n, G (ValueIdx.ix2 r n) = prod (a0 m c) (a1 m c) r n) :
    (dats m 0 c).arrAt 2 cfg0.N = G :=
  (dats m 0 c).arrAt_eq_of_cover 2 G
    (fun t _ => by
      show (cfg0.win 2).cut (grid0.coords t) ((dats m 0 c).after 2 t) = _
      rw [after0_2]
      funext i
      have ei := eta2 (n := 512) (k := 1024) i
      have e1 := point2 t m c G hG (i 0) (i 1)
      have e2 := read2 t G (i 0) (i 1)
      refine Eq.trans ?_ ((e1.trans e2.symm).trans ?_)
      · exact congrArg (out0_2 (F := Ideal) (iblk m c 0 t) (iblk m c 1 t)) ei
      · exact congrArg (((cfg0.win 2).blk t).view.read (Elt Ideal) G) ei.symm)
    fun i => by
      have h0 : (i 0 : Nat) < 4096 := (i 0).isLt
      have h1 : (i 1 : Nat) < 2048 := (i 1).isLt
      have hn : 2 * ((i 0 : Nat) / 512) + (i 1 : Nat) / 1024 < 16 := by omega
      refine ⟨pt _ hn, flush2 _, ?_⟩
      show i ∈ ((View.whole main_v0).slice (win0_2.rect (pt _ hn))).set
      rw [View.set_slice_whole, Rect.mem_set_unit]
      intro a
      have hi := index2 (pt _ hn)
      have hx := xsize2 (pt _ hn)
      have hv : (pt _ hn).val = 2 * ((i 0 : Nat) / 512) + (i 1 : Nat) / 1024 := rfl
      match a with
      | ⟨0, _⟩ =>
        show win0_2.index (pt _ hn) 0 * 512 ≤ (i 0 : Nat) ∧ (i 0 : Nat) < win0_2.index (pt _ hn) 0 * 512 + win0_2.xsize (grid0.coords (pt _ hn)) 0
        rw [hi.1, hx.1, hv]; omega
      | ⟨1, _⟩ =>
        show win0_2.index (pt _ hn) 1 * 1024 ≤ (i 1 : Nat) ∧ (i 1 : Nat) < win0_2.index (pt _ hn) 1 * 1024 + win0_2.xsize (grid0.coords (pt _ hn)) 1
        rw [hi.2, hx.2, hv]; omega

end Cert.SguInBwdIdeal.Val

namespace Cert.SguInBwdRefIdeal.Val

open Idealize.ShloMosaic Idealize.ShloMosaic.TcCoe Cert.SguInBwdRefIdeal Cert.SguInBwdRefIdeal.Read
open Cert.SguInBwdIdeal.Val (prod)

theorem v4_at (x : FVec Ideal S4096x4096 .bf16) (y : FVec Ideal S2048x4096 .bf16) (r : Fin 4096) (n : Fin 2048) :
    val_main_v4 (F := Ideal) x y (ValueIdx.ix2 r n) = prod x y r n := by
  refine (val_main_v4_apply x y _).trans (Finset.sum_congr rfl fun k _ => ?_)
  rw [val_main_v3_apply, val_main_v1_apply]
  exact congrArg₂ (· * ·) (congrArg x (funext fun a => match a with | ⟨0, _⟩ => rfl | ⟨1, _⟩ => rfl))
    (congrArg y (funext fun a => match a with | ⟨0, _⟩ => rfl | ⟨1, _⟩ => rfl))

end Cert.SguInBwdRefIdeal.Val

end
-- ==== Proof.SguOutBwdValue.lean ====
module

public import proofs.«01_k».proof.Proof.Gen.SguOutBwdIdeal.Value
public import proofs.«01_k».proof.Proof.Gen.SguOutBwdRefIdeal.Read
public import Idealize.ShloMosaic.Lib.Pointwise

@[expose] public section

set_option maxRecDepth 16384

noncomputable section

/-! # The gradient of the output of the gating unit

The grid point `2 i + j` holds rows `512 i …` and columns `1024 j …` of the results. -/

namespace Cert.SguOutBwdIdeal.Val

open Idealize.ShloMosaic Idealize.ShloMosaic.TcCoe Idealize.SL.Sem Cert.SguOutBwdIdeal Cert.SguOutBwdIdeal.Gen

theorem eta2 {n k : ℕ} (i : (⟨2, ![n, k]⟩ : Shape).Idx) : i = ix2 (i 0) (i 1) :=
  funext fun a => match a with | ⟨0, _⟩ => rfl | ⟨1, _⟩ => rfl
theorem off2 : (![0, 0] : Fin 2 → ℕ) = fun _ => 0 := funext fun a => match a with | ⟨0, _⟩ => rfl | ⟨1, _⟩ => rfl

/-! ## The index maps -/

theorem index0 : ∀ t : Fin grid0.N, win0_0.index t 0 = t.val / 2 ∧ win0_0.index t 1 = 0 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = t.val % 2 := by decide +kernel
theorem xsize2 : ∀ t : Fin grid0.N, win0_2.xsize (grid0.coords t) 0 = 512 ∧ win0_2.xsize (grid0.coords t) 1 = 1024 := by decide +kernel
theorem flush2 : ∀ t : Fin grid0.N, win0_2.flush t = true := by decide +kernel

def pt (n : ℕ) (h : n < 16) : Fin cfg0.N := ⟨n, lt_of_lt_of_eq h N_0.symm⟩
def row (t : Fin cfg0.N) (r : Fin 512) : Fin 4096 := ⟨t.val / 2 * 512 + r.val, by have : t.val < 16 := lt_of_lt_of_eq t.isLt N_0; omega⟩
def col (t : Fin cfg0.N) (n : Fin 1024) : Fin 2048 := ⟨t.val % 2 * 1024 + n.val, by omega⟩

/-! ## A block of any contents of a window's array, read at an entry -/

variable (t : Fin cfg0.N)

theorem read0 (W : FVec Ideal S4096x2048 .bf16) (p : Fin 512) (q : Fin 2048) :
    ((cfg0.win 0).blk t).view.read (Elt Ideal) W (ix2 p q) = W (ValueIdx.ix2 (row t p) q) := by
  have hi := index0 t
  rw [View.read_apply]
  refine congrArg W (funext fun a => Fin.ext ?_)
  match a with
  | ⟨0, _⟩ => show win0_0.index t 0 * 512 + 1 * p.val = t.val / 2 * 512 + p.val; rw [hi.1]; omega
  | ⟨1, _⟩ => show win0_0.index t 1 * 2048 + 1 * q.val = q.val; rw [hi.2]; omega

theorem read1 (W : FVec Ideal S2048x2048 .bf16) (p : Fin 1024) (q : Fin 2048) :
    ((cfg0.win 1).blk t).view.read (Elt Ideal) W (ix2 p q) = W (ValueIdx.ix2 (col t p) q) := by
  have hi := index1 t
  rw [View.read_apply]
  refine congrArg W (funext fun a => Fin.ext ?_)
  match a with
  | ⟨0, _⟩ => show win0_1.index t 0 * 1024 + 1 * p.val = t.val % 2 * 1024 + p.val; rw [hi.1]; omega
  | ⟨1, _⟩ => show win0_1.index t 1 * 2048 + 1 * q.val = q.val; rw [hi.2]; omega

theorem read2 (W : FVec Ideal S4096x2048 .f32) (p : Fin 512) (q : Fin 1024) :
    ((cfg0.win 2).blk t).view.read (Elt Ideal) W (ix2 p q) = W (ValueIdx.ix2 (row t p) (col t q)) := by
  have hi := index2 t
  rw [View.read_apply]
  refine congrArg W (funext fun a => Fin.ext ?_)
  match a with
  | ⟨0, _⟩ => show win0_2.index t 0 * 512 + 1 * p.val = t.val / 2 * 512 + p.val; rw [hi.1]; omega
  | ⟨1, _⟩ => show win0_2.index t 1 * 1024 + 1 * q.val = t.val % 2 * 1024 + q.val; rw [hi.2]; omega

/-! ## What a point stores -/

/-- The product of two blocks at an entry. -/
def dot (a : Vec Ideal S512x2048 .bf16) (b : Vec Ideal S1024x2048 .bf16) (r : Fin 512) (n : Fin 1024) : EReal :=
  ∑ k : Fin 2048, a (ix2 r k) * b (ix2 n k)

theorem pay2 (x0 : Vec Ideal S512x2048 .bf16) (x1 : Vec Ideal S1024x2048 .bf16) (r : Fin 512) (n : Fin 1024) :
    k0_pay1 (F := Ideal) x0 x1 (ix2 r n) = dot x0 x1 r n := by
  refine Eq.trans (b := (0 + dot x0 x1 r n)) ?_ (by simp only [zero_add])
  simp only [k0_pay1, dot, pointwise]

theorem out2_eq (x0 : Vec Ideal S512x2048 .bf16) (x1 : Vec Ideal S1024x2048 .bf16) : out0_2 (F := Ideal) x0 x1 = k0_pay1 x0 x1 := by
  unfold out0_2
  rw [View.canon_unit_zero off2]
  simp only [View.ld_unit_zero (S := S512x2048) off2, View.ld_unit_zero (S := S1024x2048) off2]

/-! ## The arrays after the run -/

variable (m : (ℓ : Loc nD τ sig) → Buf (Elt Ideal) ℓ) (c : Dev nD)

abbrev a0 : FVec Ideal S4096x2048 .bf16 := m ((c : Thread nD τ).loc main_arg0)
abbrev a1 : FVec Ideal S2048x2048 .bf16 := m ((c : Thread nD τ).loc main_arg1)

/-- The product of two arrays at an entry. -/
def prod (x : FVec Ideal S4096x2048 .bf16) (y : FVec Ideal S2048x2048 .bf16) (r : Fin 4096) (n : Fin 2048) : EReal :=
  ∑ k : Fin 2048, x (ValueIdx.ix2 r k) * y (ValueIdx.ix2 n k)

theorem dot_0_1 (r : Fin 512) (n : Fin 1024) : dot (iblk m c 0 t) (iblk m c 1 t) r n = prod (a0 m c) (a1 m c) (row t r) (col t n) :=
  Finset.sum_congr rfl fun k _ => congrArg₂ (· * ·) ((read0 t (V m c main_arg0) r k).trans (congrFun (V_main_arg0 m c) _))
    ((read1 t (V m c main_arg1) n k).trans (congrFun (V_main_arg1 m c) _))

theorem point2 (G : FVec Ideal S4096x2048 .f32)
    (hG : ∀ r n, G (ValueIdx.ix2 r n) = prod (a0 m c) (a1 m c) r n) (r : Fin 512) (n : Fin 1024) :
    out0_2 (F := Ideal) (iblk m c 0 t) (iblk m c 1 t) (ix2 r n) = G (ValueIdx.ix2 (row t r) (col t n)) := by
  rw [out2_eq, pay2, hG, dot_0_1]

theorem final2 (G : FVec Ideal S4096x2048 .f32)
    (hG : ∀ r n, G (ValueIdx.ix2 r n) = prod (a0 m c) (a1 m c) r n) :
    (dats m 0 c).arrAt 2 cfg0.N = G :=
  (dats m 0 c).arrAt_eq_of_cover 2 G
    (fun t _ => by
      show (cfg0.win 2).cut (grid0.coords t) ((dats m 0 c).after 2 t) = _
      rw [after0_2]
      funext i
      have ei := eta2 (n := 512) (k := 1024) i
      have e1 := point2 t m c G hG (i 0) (i 1)
      have e2 := read2 t G (i 0) (i 1)
      refine Eq.trans ?_ ((e1.trans e2.symm).trans ?_)
      · exact congrArg (out0_2 (F := Ideal) (iblk m c 0 t) (iblk m c 1 t)) ei
      · exact congrArg (((cfg0.win 2).blk t).view.read (Elt Ideal) G) ei.symm)
    fun i => by
      have h0 : (i 0 : Nat) < 4096 := (i 0).isLt
      have h1 : (i 1 : Nat) < 2048 := (i 1).isLt
      have hn : 2 * ((i 0 : Nat) / 512) + (i 1 : Nat) / 1024 < 16 := by omega
      refine ⟨pt _ hn, flush2 _, ?_⟩
      show i ∈ ((View.whole main_v0).slice (win0_2.rect (pt _ hn))).set
      rw [View.set_slice_whole, Rect.mem_set_unit]
      intro a
      have hi := index2 (pt _ hn)
      have hx := xsize2 (pt _ hn)
      have hv : (pt _ hn).val = 2 * ((i 0 : Nat) / 512) + (i 1 : Nat) / 1024 := rfl
      match a with
      | ⟨0, _⟩ =>
        show win0_2.index (pt _ hn) 0 * 512 ≤ (i 0 : Nat) ∧ (i 0 : Nat) < win0_2.index (pt _ hn) 0 * 512 + win0_2.xsize (grid0.coords (pt _ hn)) 0
        rw [hi.1, hx.1, hv]; omega
      | ⟨1, _⟩ =>
        show win0_2.index (pt _ hn) 1 * 1024 ≤ (i 1 : Nat) ∧ (i 1 : Nat) < win0_2.index (pt _ hn) 1 * 1024 + win0_2.xsize (grid0.coords (pt _ hn)) 1
        rw [hi.2, hx.2, hv]; omega

end Cert.SguOutBwdIdeal.Val

namespace Cert.SguOutBwdRefIdeal.Val

open Idealize.ShloMosaic Idealize.ShloMosaic.TcCoe Cert.SguOutBwdRefIdeal Cert.SguOutBwdRefIdeal.Read
open Cert.SguOutBwdIdeal.Val (prod)

theorem v4_at (x : FVec Ideal S4096x2048 .bf16) (y : FVec Ideal S2048x2048 .bf16) (r : Fin 4096) (n : Fin 2048) :
    val_main_v4 (F := Ideal) x y (ValueIdx.ix2 r n) = prod x y r n := by
  refine (val_main_v4_apply x y _).trans (Finset.sum_congr rfl fun k _ => ?_)
  rw [val_main_v3_apply, val_main_v1_apply]
  exact congrArg₂ (· * ·) (congrArg x (funext fun a => match a with | ⟨0, _⟩ => rfl | ⟨1, _⟩ => rfl))
    (congrArg y (funext fun a => match a with | ⟨0, _⟩ => rfl | ⟨1, _⟩ => rfl))

end Cert.SguOutBwdRefIdeal.Val

end
-- ==== Proof.lean ====
/-
The certificate's proof: the frames of the calls, of their idealizations and of the references, the named constant, and the
equality of the gradients over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.WupGrad
public import proofs.«01_k».proof.Proof.Gen.WupGrad.Skeleton
public import proofs.«01_k».proof.Proof.Gen.WupGrad.Launch
public import proofs.«01_k».proof.Proof.Gen.WupGrad.Points
public import proofs.«01_k».proof.Proof.Gen.WupGrad.Frame
public import proofs.«01_k».proof.Proof.Gen.WupGradIdeal
public import proofs.«01_k».proof.Proof.Gen.WupGradIdeal.Skeleton
public import proofs.«01_k».proof.Proof.Gen.WupGradIdeal.Launch
public import proofs.«01_k».proof.Proof.Gen.WupGradIdeal.Points
public import proofs.«01_k».proof.Proof.Gen.WupGradIdeal.Frame
public import proofs.«01_k».proof.Proof.Gen.WupGradIdeal.Value
public import proofs.«01_k».proof.Proof.Gen.WupGradRefIdeal
public import proofs.«01_k».proof.Proof.Gen.WupGradRefIdeal.Run
public import proofs.«01_k».proof.Proof.Gen.WupGradRefIdeal.Read
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdIdeal.Value
public import proofs.«01_k».proof.Proof.Gen.UpBwdRefIdeal
public import proofs.«01_k».proof.Proof.Gen.UpBwdRefIdeal.Run
public import proofs.«01_k».proof.Proof.Gen.UpBwdRefIdeal.Read
public import proofs.«01_k».proof.Proof.Gen.WdownGrad
public import proofs.«01_k».proof.Proof.Gen.WdownGrad.Skeleton
public import proofs.«01_k».proof.Proof.Gen.WdownGrad.Launch
public import proofs.«01_k».proof.Proof.Gen.WdownGrad.Points
public import proofs.«01_k».proof.Proof.Gen.WdownGrad.Frame
public import proofs.«01_k».proof.Proof.Gen.WdownGradIdeal
public import proofs.«01_k».proof.Proof.Gen.WdownGradIdeal.Skeleton
public import proofs.«01_k».proof.Proof.Gen.WdownGradIdeal.Launch
public import proofs.«01_k».proof.Proof.Gen.WdownGradIdeal.Points
public import proofs.«01_k».proof.Proof.Gen.WdownGradIdeal.Frame
public import proofs.«01_k».proof.Proof.Gen.WdownGradIdeal.Value
public import proofs.«01_k».proof.Proof.Gen.WdownGradRefIdeal
public import proofs.«01_k».proof.Proof.Gen.WdownGradRefIdeal.Run
public import proofs.«01_k».proof.Proof.Gen.WdownGradRefIdeal.Read
public import proofs.«01_k».proof.Proof.Gen.DownBwd
public import proofs.«01_k».proof.Proof.Gen.DownBwd.Skeleton
public import proofs.«01_k».proof.Proof.Gen.DownBwd.Launch
public import proofs.«01_k».proof.Proof.Gen.DownBwd.Points
public import proofs.«01_k».proof.Proof.Gen.DownBwd.Frame
public import proofs.«01_k».proof.Proof.Gen.DownBwdIdeal
public import proofs.«01_k».proof.Proof.Gen.DownBwdIdeal.Skeleton
public import proofs.«01_k».proof.Proof.Gen.DownBwdIdeal.Launch
public import proofs.«01_k».proof.Proof.Gen.DownBwdIdeal.Points
public import proofs.«01_k».proof.Proof.Gen.DownBwdIdeal.Frame
public import proofs.«01_k».proof.Proof.Gen.DownBwdIdeal.Value
public import proofs.«01_k».proof.Proof.Gen.DownBwdRefIdeal
public import proofs.«01_k».proof.Proof.Gen.DownBwdRefIdeal.Run
public import proofs.«01_k».proof.Proof.Gen.DownBwdRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.Pre_finite_product
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.WoutGrad
public import proofs.«01_k».proof.Proof.Gen.WoutGrad.Skeleton
public import proofs.«01_k».proof.Proof.Gen.WoutGrad.Launch
public import proofs.«01_k».proof.Proof.Gen.WoutGrad.Points
public import proofs.«01_k».proof.Proof.Gen.WoutGrad.Frame
public import proofs.«01_k».proof.Proof.Gen.WoutGradIdeal
public import proofs.«01_k».proof.Proof.Gen.WoutGradIdeal.Skeleton
public import proofs.«01_k».proof.Proof.Gen.WoutGradIdeal.Launch
public import proofs.«01_k».proof.Proof.Gen.WoutGradIdeal.Points
public import proofs.«01_k».proof.Proof.Gen.WoutGradIdeal.Frame
public import proofs.«01_k».proof.Proof.Gen.WoutGradIdeal.Value
public import proofs.«01_k».proof.Proof.Gen.WoutGradRefIdeal
public import proofs.«01_k».proof.Proof.Gen.WoutGradRefIdeal.Run
public import proofs.«01_k».proof.Proof.Gen.WoutGradRefIdeal.Read
public import proofs.«01_k».proof.Proof.Gen.WqkvGrad
public import proofs.«01_k».proof.Proof.Gen.WqkvGrad.Skeleton
public import proofs.«01_k».proof.Proof.Gen.WqkvGrad.Launch
public import proofs.«01_k».proof.Proof.Gen.WqkvGrad.Points
public import proofs.«01_k».proof.Proof.Gen.WqkvGrad.Frame
public import proofs.«01_k».proof.Proof.Gen.WqkvGradIdeal
public import proofs.«01_k».proof.Proof.Gen.WqkvGradIdeal.Skeleton
public import proofs.«01_k».proof.Proof.Gen.WqkvGradIdeal.Launch
public import proofs.«01_k».proof.Proof.Gen.WqkvGradIdeal.Points
public import proofs.«01_k».proof.Proof.Gen.WqkvGradIdeal.Frame
public import proofs.«01_k».proof.Proof.Gen.WqkvGradIdeal.Value
public import proofs.«01_k».proof.Proof.Gen.WqkvGradRefIdeal
public import proofs.«01_k».proof.Proof.Gen.WqkvGradRefIdeal.Run
public import proofs.«01_k».proof.Proof.Gen.WqkvGradRefIdeal.Read
public import proofs.«01_k».proof.Proof.Gen.QkvBwd
public import proofs.«01_k».proof.Proof.Gen.QkvBwd.Skeleton
public import proofs.«01_k».proof.Proof.Gen.QkvBwd.Launch
public import proofs.«01_k».proof.Proof.Gen.QkvBwd.Points
public import proofs.«01_k».proof.Proof.Gen.QkvBwd.Frame
public import proofs.«01_k».proof.Proof.Gen.QkvBwdIdeal
public import proofs.«01_k».proof.Proof.Gen.QkvBwdIdeal.Skeleton
public import proofs.«01_k».proof.Proof.Gen.QkvBwdIdeal.Launch
public import proofs.«01_k».proof.Proof.Gen.QkvBwdIdeal.Points
public import proofs.«01_k».proof.Proof.Gen.QkvBwdIdeal.Frame
public import proofs.«01_k».proof.Proof.Gen.QkvBwdIdeal.Value
public import proofs.«01_k».proof.Proof.Gen.QkvBwdRefIdeal
public import proofs.«01_k».proof.Proof.Gen.QkvBwdRefIdeal.Run
public import proofs.«01_k».proof.Proof.Gen.QkvBwdRefIdeal.Read
public import proofs.«01_k».proof.Proof.Gen.SguIn
public import proofs.«01_k».proof.Proof.Gen.SguIn.Skeleton
public import proofs.«01_k».proof.Proof.Gen.SguIn.Launch
public import proofs.«01_k».proof.Proof.Gen.SguIn.Points
public import proofs.«01_k».proof.Proof.Gen.SguIn.Frame
public import proofs.«01_k».proof.Proof.Gen.SguInIdeal
public import proofs.«01_k».proof.Proof.Gen.SguInIdeal.Skeleton
public import proofs.«01_k».proof.Proof.Gen.SguInIdeal.Launch
public import proofs.«01_k».proof.Proof.Gen.SguInIdeal.Points
public import proofs.«01_k».proof.Proof.Gen.SguInIdeal.Frame
public import proofs.«01_k».proof.Proof.Gen.SguInIdeal.Value
public import proofs.«01_k».proof.Proof.Gen.SguInRefIdeal
public import proofs.«01_k».proof.Proof.Gen.SguInRefIdeal.Run
public import proofs.«01_k».proof.Proof.Gen.SguInRefIdeal.Read
public import proofs.«01_k».proof.Proof.Gen.SguInBwd
public import proofs.«01_k».proof.Proof.Gen.SguInBwd.Skeleton
public import proofs.«01_k».proof.Proof.Gen.SguInBwd.Launch
public import proofs.«01_k».proof.Proof.Gen.SguInBwd.Points
public import proofs.«01_k».proof.Proof.Gen.SguInBwd.Frame
public import proofs.«01_k».proof.Proof.Gen.SguInBwdIdeal
public import proofs.«01_k».proof.Proof.Gen.SguInBwdIdeal.Skeleton
public import proofs.«01_k».proof.Proof.Gen.SguInBwdIdeal.Launch
public import proofs.«01_k».proof.Proof.Gen.SguInBwdIdeal.Points
public import proofs.«01_k».proof.Proof.Gen.SguInBwdIdeal.Frame
public import proofs.«01_k».proof.Proof.Gen.SguInBwdIdeal.Value
public import proofs.«01_k».proof.Proof.Gen.SguInBwdRefIdeal
public import proofs.«01_k».proof.Proof.Gen.SguInBwdRefIdeal.Run
public import proofs.«01_k».proof.Proof.Gen.SguInBwdRefIdeal.Read
public import proofs.«01_k».proof.Proof.Gen.SguOutBwd
public import proofs.«01_k».proof.Proof.Gen.SguOutBwd.Skeleton
public import proofs.«01_k».proof.Proof.Gen.SguOutBwd.Launch
public import proofs.«01_k».proof.Proof.Gen.SguOutBwd.Points
public import proofs.«01_k».proof.Proof.Gen.SguOutBwd.Frame
public import proofs.«01_k».proof.Proof.Gen.SguOutBwdIdeal
public import proofs.«01_k».proof.Proof.Gen.SguOutBwdIdeal.Skeleton
public import proofs.«01_k».proof.Proof.Gen.SguOutBwdIdeal.Launch
public import proofs.«01_k».proof.Proof.Gen.SguOutBwdIdeal.Points
public import proofs.«01_k».proof.Proof.Gen.SguOutBwdIdeal.Frame
public import proofs.«01_k».proof.Proof.Gen.SguOutBwdIdeal.Value
public import proofs.«01_k».proof.Proof.Gen.SguOutBwdRefIdeal
public import proofs.«01_k».proof.Proof.Gen.SguOutBwdRefIdeal.Run
public import proofs.«01_k».proof.Proof.Gen.SguOutBwdRefIdeal.Read
public import proofs.«01_k».proof.Proof.AttnFrame
public import proofs.«01_k».proof.Proof.AttnKFrame
public import proofs.«01_k».proof.Proof.AttnRef
public import proofs.«01_k».proof.Proof.AttnPre
public import proofs.«01_k».proof.Proof.AttnValue
public import proofs.«01_k».proof.Proof.WupGradValue
public import proofs.«01_k».proof.Proof.UpBwdValue
public import proofs.«01_k».proof.Proof.WdownGradValue
public import proofs.«01_k».proof.Proof.DownBwdValue
public import proofs.«01_k».proof.Proof.FfnUpValue
public import proofs.«01_k».proof.Proof.FfnDownValue
public import proofs.«01_k».proof.Proof.QkvValue
public import proofs.«01_k».proof.Proof.OutProjValue
public import proofs.«01_k».proof.Proof.WoutGradValue
public import proofs.«01_k».proof.Proof.WqkvGradValue
public import proofs.«01_k».proof.Proof.QkvBwdValue
public import proofs.«01_k».proof.Proof.SguInValue
public import proofs.«01_k».proof.Proof.SguInBwdValue
public import proofs.«01_k».proof.Proof.SguOutBwdValue
public import Idealize.ShloMosaic.Adequacy
public import Idealize.ShloMosaic.Init

@[expose] public section

noncomputable section

namespace Cert.Proof

open Idealize.ShloMosaic Idealize.ShloMosaic.TcCoe Idealize.SL.Sem

theorem frame_Kernel : Cert.quiescent_Kernel (hKernel := Cert.Kernel.Gen.facts) := fun m ρ _ => Cert.Kernel.Attn.frame m ρ

theorem frame_KernelIdeal : Cert.quiescent_KernelIdeal (hKernelIdeal := Cert.KernelIdeal.Gen.facts) :=
  fun m ρ _ => Cert.KernelIdeal.Attn.frame m ρ

theorem frame_KernelIdeal_pre : Cert.quiescent_KernelIdeal_pre_finite (hKernelIdeal := Cert.KernelIdeal.Gen.facts)
    (hPre_finite := Cert.Pre_finite.Gen.facts) := fun m ρ _ => Cert.KernelIdeal.Attn.frame m ρ

/-- The reference has no counters, and its run leaves the arguments as they were. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem preserved : Cert.preserves_Kernel_KernelIdeal := IdealRules.named_const.statement Cert.KernelIdeal.κ "mask" .f32 0xF149F2CA#32 ⊥ rfl

section Values

open Cert.ReferenceIdeal.Read Cert.KernelIdeal.Attn Cert.Attn

variable (m : (ℓ : Loc Cert.KernelIdeal.nD Cert.KernelIdeal.τ Cert.KernelIdeal.sig) → Buf (Elt Ideal) ℓ)

/-- The values both programs end with. -/
def out0 (c : Dev Cert.KernelIdeal.nD) : FVec Ideal Cert.KernelIdeal.S4096x2048 .bf16 := val_main_v98 (F := Ideal) (a0 m c) (a1 m c) (a2 m c)
def out1 (c : Dev Cert.KernelIdeal.nD) : FVec Ideal Cert.KernelIdeal.S4096x2048 .bf16 := val_main_v99 (F := Ideal) (a0 m c) (a1 m c) (a2 m c)
def out2 (c : Dev Cert.KernelIdeal.nD) : FVec Ideal Cert.KernelIdeal.S4096x2048 .bf16 := val_main_v100 (F := Ideal) (a0 m c) (a1 m c) (a2 m c)
def out3 (c : Dev Cert.KernelIdeal.nD) : FVec Ideal Cert.KernelIdeal.S4096x128 .f32 := val_main_v101 (F := Ideal) (a0 m c) (a1 m c) (a2 m c)
def out4 (c : Dev Cert.KernelIdeal.nD) : FVec Ideal Cert.KernelIdeal.S16x1x4096 .f32 := val_main_v104 (F := Ideal) (a0 m c) (a1 m c) (a2 m c)

variable {m} {c : Dev Cert.KernelIdeal.nD} (hf : Finite (a0 m c) (a1 m c) (a2 m c))
include hf

theorem out0_at (h : Fin 16) (x : Fin 4096) (d : Fin 128) : out0 m c (ValueIdx.ix2 x (colG h d)) = ((nums m c).gq h x d : EReal) := by
  unfold out0; exact Cert.ReferenceIdeal.Attn.v98 hf _ h x d rfl
theorem out1_at (h : Fin 16) (y : Fin 4096) (d : Fin 128) : out1 m c (ValueIdx.ix2 y (colG h d)) = ((nums m c).gk h y d : EReal) := by
  unfold out1; exact Cert.ReferenceIdeal.Attn.v99 hf _ h y d rfl
theorem out2_at (h : Fin 16) (y : Fin 4096) (d : Fin 128) : out2 m c (ValueIdx.ix2 y (colG h d)) = ((nums m c).gv h y d : EReal) := by
  unfold out2; exact Cert.ReferenceIdeal.Attn.v100 hf _ h y d rfl
theorem out3_at (x : Fin 4096) (l : Fin 128) :
    out3 m c (ValueIdx.ix2 x l) = if hl : l.val < 16 then ((nums m c).fq ⟨l.val, hl⟩ x : EReal) else 0 := by
  unfold out3; exact Cert.ReferenceIdeal.Attn.v101 hf _
theorem out4_at (h : Fin 16) (y : Fin 4096) : out4 m c (ValueIdx.ix3 h 0 y) = ((nums m c).fk h y : EReal) := by
  unfold out4; exact Cert.ReferenceIdeal.Attn.v104 hf _

theorem end0 : (dats m 0 c).arrAt 8 Cert.KernelIdeal.cfg0.N = out0 m c := final8 hf _ (out0_at hf)
theorem end1 : (dats m 0 c).arrAt 9 Cert.KernelIdeal.cfg0.N = out1 m c := final9 hf _ (out1_at hf)
theorem end2 : (dats m 0 c).arrAt 10 Cert.KernelIdeal.cfg0.N = out2 m c := final10 hf _ (out2_at hf)
theorem end3 : (dats m 0 c).arrAt 11 Cert.KernelIdeal.cfg0.N = out3 m c := final11 hf _ (out3_at hf)
theorem end4 : (dats m 0 c).arrAt 12 Cert.KernelIdeal.cfg0.N = out4 m c := final12 hf _ (out4_at hf)

omit hf
variable (m)

set_option maxHeartbeats 1000000 in
/-- The kernel's run: every result array at its value, the arguments as they were. -/
theorem kernel_run (ρ : Dev Cert.KernelIdeal.nD → PrngReg) (hf : ∀ c, Finite (a0 m c) (a1 m c) (a2 m c)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        (r.2.mem ((c.tc : Thread Cert.KernelIdeal.nD Cert.KernelIdeal.τ).loc Cert.KernelIdeal.main_v88_0) = out0 m c
        ∧ r.2.mem ((c.tc : Thread Cert.KernelIdeal.nD Cert.KernelIdeal.τ).loc Cert.KernelIdeal.main_v88_1) = out1 m c
        ∧ r.2.mem ((c.tc : Thread Cert.KernelIdeal.nD Cert.KernelIdeal.τ).loc Cert.KernelIdeal.main_v88_2) = out2 m c
        ∧ r.2.mem ((c.tc : Thread Cert.KernelIdeal.nD Cert.KernelIdeal.τ).loc Cert.KernelIdeal.main_v88_3) = out3 m c
        ∧ r.2.mem ((c.tc : Thread Cert.KernelIdeal.nD Cert.KernelIdeal.τ).loc Cert.KernelIdeal.main_v88_4) = out4 m c)) :=
  (θ_run Cert.KernelIdeal.defs _ _).mono (fun _ h c =>
    ⟨((h c).1 8).trans (end0 (hf c)), ((h c).1 9).trans (end1 (hf c)), ((h c).1 10).trans (end2 (hf c)),
      ((h c).1 11).trans (end3 (hf c)), ((h c).1 12).trans (end4 (hf c))⟩)
    (Cert.KernelIdeal.Attn.run m ρ)

end Values

theorem equal_values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  have hf : ∀ c, Cert.Attn.Finite (Cert.KernelIdeal.Attn.a0 m c) (Cert.KernelIdeal.Attn.a1 m c) (Cert.KernelIdeal.Attn.a2 m c) :=
    fun c => Cert.Attn.finite_of_pre _ _ _ (hpre c)
  refine ⟨out0 m, out1 m, out2 m, out3 m, out4 m, ?_, ?_⟩
  · refine (θ_run Cert.KernelIdeal.defs _ _).mono (fun _ h c => ?_)
      (θ_run_and (kernel_run m ρ hf) (Cert.KernelIdeal.Attn.frame m ρ))
    obtain ⟨h0, h1, h2, h3, h4⟩ := h.1 c
    exact ⟨h0, h1, h2, h3, h4, h.2.1 c⟩
  · refine (θ_run Cert.ReferenceIdeal.defs _ _).mono (fun _ h c => ?_) (Cert.ReferenceIdeal.Value.run (F := Ideal) m' ρ')
    obtain ⟨h0, h1, h2, h3, h4, hu⟩ := h c
    obtain ⟨e0, e1, e2⟩ := hargs c
    refine ⟨h0.trans ((Cert.ReferenceIdeal.Read.val_main_v98_eq m' c).trans ?_), h1.trans ((Cert.ReferenceIdeal.Read.val_main_v99_eq m' c).trans ?_),
      h2.trans ((Cert.ReferenceIdeal.Read.val_main_v100_eq m' c).trans ?_), h3.trans ((Cert.ReferenceIdeal.Read.val_main_v101_eq m' c).trans ?_),
      h4.trans ((Cert.ReferenceIdeal.Read.val_main_v104_eq m' c).trans ?_), hu⟩
    · rw [e0, e1, e2]; rfl
    · rw [e0, e1, e2]; rfl
    · rw [e0, e1, e2]; rfl
    · rw [e0, e1, e2]; rfl
    · rw [e0, e1, e2]; rfl

/-! ## `wup_grad` -/

theorem wup_grad_reference_frame (m : (ℓ : Loc Cert.WupGradRefIdeal.nD Cert.WupGradRefIdeal.τ Cert.WupGradRefIdeal.sig) → Buf (Elt Ideal) ℓ) (ρ : Dev Cert.WupGradRefIdeal.nD → PrngReg) :
    θ_run (Cert.WupGradRefIdeal.defs (F := Ideal)) (onTc (τ := Cert.WupGradRefIdeal.τ) (Cert.WupGradRefIdeal.main (F := Ideal))) ⟨m, fun _ => 0, ρ⟩
      (fun r => (∀ c : Dev Cert.WupGradRefIdeal.nD,
        r.2.mem ((c.tc : Thread Cert.WupGradRefIdeal.nD Cert.WupGradRefIdeal.τ).loc Cert.WupGradRefIdeal.main_arg0) = m ((c.tc : Thread Cert.WupGradRefIdeal.nD Cert.WupGradRefIdeal.τ).loc Cert.WupGradRefIdeal.main_arg0)
        ∧ r.2.mem ((c.tc : Thread Cert.WupGradRefIdeal.nD Cert.WupGradRefIdeal.τ).loc Cert.WupGradRefIdeal.main_arg1) = m ((c.tc : Thread Cert.WupGradRefIdeal.nD Cert.WupGradRefIdeal.τ).loc Cert.WupGradRefIdeal.main_arg1)
        ∧ r.2.mem ((c.tc : Thread Cert.WupGradRefIdeal.nD Cert.WupGradRefIdeal.τ).loc Cert.WupGradRefIdeal.main_arg2) = m ((c.tc : Thread Cert.WupGradRefIdeal.nD Cert.WupGradRefIdeal.τ).loc Cert.WupGradRefIdeal.main_arg2))
        ∧ r.2.sem = fun _ => 0) :=
  (θ_run Cert.WupGradRefIdeal.defs _ _).mono
    (fun r h => ⟨fun c => (h c).2.2, Idealize.ShloMosaic.sem_eq_zero_of_no_sems (by decide) r.2⟩)
    (Cert.WupGradRefIdeal.Value.run (F := Ideal) m ρ)

section

open Cert.WupGradRefIdeal.Read Cert.WupGradIdeal.Val

variable (m : (ℓ : Loc Cert.WupGradIdeal.nD Cert.WupGradIdeal.τ Cert.WupGradIdeal.sig) → Buf (Elt Ideal) ℓ) (c : Dev Cert.WupGradIdeal.nD)

/-- The value both programs end with. -/
def wup_grad_out0 : FVec Ideal Cert.WupGradIdeal.S8x704x2048 .bf16 := val_main_v12 (F := Ideal) (a0 m c) (a2 m c)
/-- The value both programs end with. -/
def wup_grad_out1 : FVec Ideal Cert.WupGradIdeal.S8x704x2048 .bf16 := val_main_v13 (F := Ideal) (a1 m c) (a2 m c)

end

theorem wup_grad_equal : Cert.algebraic_WupGradIdeal_WupGradRefIdeal
    (hWupGradIdeal := Cert.WupGradIdeal.Gen.facts) (hWupGradRefIdeal := Cert.WupGradRefIdeal.Gen.facts) := by
  intro m ρ m' ρ' _ hargs
  refine ⟨wup_grad_out0 m, wup_grad_out1 m, ?_, ?_⟩
  · refine (θ_run Cert.WupGradIdeal.defs _ _).mono (fun _ h c => ?_) (Cert.WupGradIdeal.Value.run_blocks (F := Ideal) m ρ)
    obtain ⟨h0, h1, hu⟩ := h c
    exact ⟨h0.trans (Cert.WupGradIdeal.Val.final3 m c (wup_grad_out0 m c) fun _ _ _ => by unfold wup_grad_out0; exact Cert.WupGradRefIdeal.Val.v12_at _ _ _ _ _),
      h1.trans (Cert.WupGradIdeal.Val.final4 m c (wup_grad_out1 m c) fun _ _ _ => by unfold wup_grad_out1; exact Cert.WupGradRefIdeal.Val.v13_at _ _ _ _ _), hu⟩
  · refine (θ_run Cert.WupGradRefIdeal.defs _ _).mono (fun _ h c => ?_) (Cert.WupGradRefIdeal.Value.run (F := Ideal) m' ρ')
    obtain ⟨h0, h1, hu⟩ := h c
    obtain ⟨e0, e1, e2⟩ := hargs c
    refine ⟨h0.trans ((Cert.WupGradRefIdeal.Read.val_main_v12_eq _ _).trans ?_), h1.trans ((Cert.WupGradRefIdeal.Read.val_main_v13_eq _ _).trans ?_), hu⟩
    · rw [e0, e2]; rfl
    · rw [e1, e2]; rfl

/-! ## `up_bwd` -/

theorem up_bwd_reference_frame (m : (ℓ : Loc Cert.UpBwdRefIdeal.nD Cert.UpBwdRefIdeal.τ Cert.UpBwdRefIdeal.sig) → Buf (Elt Ideal) ℓ) (ρ : Dev Cert.UpBwdRefIdeal.nD → PrngReg) :
    θ_run (Cert.UpBwdRefIdeal.defs (F := Ideal)) (onTc (τ := Cert.UpBwdRefIdeal.τ) (Cert.UpBwdRefIdeal.main (F := Ideal))) ⟨m, fun _ => 0, ρ⟩
      (fun r => (∀ c : Dev Cert.UpBwdRefIdeal.nD,
        r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
        ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
        ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
        ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3))
        ∧ r.2.sem = fun _ => 0) :=
  (θ_run Cert.UpBwdRefIdeal.defs _ _).mono
    (fun r h => ⟨fun c => (h c).2, Idealize.ShloMosaic.sem_eq_zero_of_no_sems (by decide) r.2⟩)
    (Cert.UpBwdRefIdeal.Value.run (F := Ideal) m ρ)

section

open Cert.UpBwdRefIdeal.Read Cert.UpBwdIdeal.Val

variable (m : (ℓ : Loc Cert.UpBwdIdeal.nD Cert.UpBwdIdeal.τ Cert.UpBwdIdeal.sig) → Buf (Elt Ideal) ℓ) (c : Dev Cert.UpBwdIdeal.nD)

/-- The value both programs end with. -/
def up_bwd_out0 : FVec Ideal Cert.UpBwdIdeal.S4096x2048 .f32 := val_main_v13 (F := Ideal) (a0 m c) (a1 m c) (a2 m c) (a3 m c)

end

theorem up_bwd_equal : Cert.algebraic_UpBwdIdeal_UpBwdRefIdeal
    (hUpBwdIdeal := Cert.UpBwdIdeal.Gen.facts) (hUpBwdRefIdeal := Cert.UpBwdRefIdeal.Gen.facts) := by
  intro m ρ m' ρ' _ hargs
  refine ⟨up_bwd_out0 m, ?_, ?_⟩
  · refine (θ_run Cert.UpBwdIdeal.defs _ _).mono (fun _ h c => ?_) (Cert.UpBwdIdeal.Value.run_blocks (F := Ideal) m ρ)
    obtain ⟨h0, hu⟩ := h c
    exact ⟨h0.trans (Cert.UpBwdIdeal.Val.final8 m c (up_bwd_out0 m c) fun _ _ => by unfold up_bwd_out0; exact Cert.UpBwdRefIdeal.Val.v13_at _ _ _ _ _ _), hu⟩
  · refine (θ_run Cert.UpBwdRefIdeal.defs _ _).mono (fun _ h c => ?_) (Cert.UpBwdRefIdeal.Value.run (F := Ideal) m' ρ')
    obtain ⟨h0, hu⟩ := h c
    obtain ⟨e0, e1, e2, e3⟩ := hargs c
    refine ⟨h0.trans ((Cert.UpBwdRefIdeal.Read.val_main_v13_eq _ _ _ _).trans ?_), hu⟩
    · rw [e0, e1, e2, e3]; rfl

/-! ## `wdown_grad` -/

theorem wdown_grad_reference_frame (m : (ℓ : Loc Cert.WdownGradRefIdeal.nD Cert.WdownGradRefIdeal.τ Cert.WdownGradRefIdeal.sig) → Buf (Elt Ideal) ℓ) (ρ : Dev Cert.WdownGradRefIdeal.nD → PrngReg) :
    θ_run (Cert.WdownGradRefIdeal.defs (F := Ideal)) (onTc (τ := Cert.WdownGradRefIdeal.τ) (Cert.WdownGradRefIdeal.main (F := Ideal))) ⟨m, fun _ => 0, ρ⟩
      (fun r => (∀ c : Dev Cert.WdownGradRefIdeal.nD,
        r.2.mem ((c.tc : Thread Cert.WdownGradRefIdeal.nD Cert.WdownGradRefIdeal.τ).loc Cert.WdownGradRefIdeal.main_arg0) = m ((c.tc : Thread Cert.WdownGradRefIdeal.nD Cert.WdownGradRefIdeal.τ).loc Cert.WdownGradRefIdeal.main_arg0)
        ∧ r.2.mem ((c.tc : Thread Cert.WdownGradRefIdeal.nD Cert.WdownGradRefIdeal.τ).loc Cert.WdownGradRefIdeal.main_arg1) = m ((c.tc : Thread Cert.WdownGradRefIdeal.nD Cert.WdownGradRefIdeal.τ).loc Cert.WdownGradRefIdeal.main_arg1))
        ∧ r.2.sem = fun _ => 0) :=
  (θ_run Cert.WdownGradRefIdeal.defs _ _).mono
    (fun r h => ⟨fun c => (h c).2, Idealize.ShloMosaic.sem_eq_zero_of_no_sems (by decide) r.2⟩)
    (Cert.WdownGradRefIdeal.Value.run (F := Ideal) m ρ)

section

open Cert.WdownGradRefIdeal.Read Cert.WdownGradIdeal.Val

variable (m : (ℓ : Loc Cert.WdownGradIdeal.nD Cert.WdownGradIdeal.τ Cert.WdownGradIdeal.sig) → Buf (Elt Ideal) ℓ) (c : Dev Cert.WdownGradIdeal.nD)

/-- The value both programs end with. -/
def wdown_grad_out0 : FVec Ideal Cert.WdownGradIdeal.S8x704x2048 .bf16 := val_main_v6 (F := Ideal) (a0 m c) (a1 m c)

end

theorem wdown_grad_equal : Cert.algebraic_WdownGradIdeal_WdownGradRefIdeal
    (hWdownGradIdeal := Cert.WdownGradIdeal.Gen.facts) (hWdownGradRefIdeal := Cert.WdownGradRefIdeal.Gen.facts) := by
  intro m ρ m' ρ' _ hargs
  refine ⟨wdown_grad_out0 m, ?_, ?_⟩
  · refine (θ_run Cert.WdownGradIdeal.defs _ _).mono (fun _ h c => ?_) (Cert.WdownGradIdeal.Value.run_blocks (F := Ideal) m ρ)
    obtain ⟨h0, hu⟩ := h c
    exact ⟨h0.trans (Cert.WdownGradIdeal.Val.final2 m c (wdown_grad_out0 m c) fun _ _ _ => by unfold wdown_grad_out0; exact Cert.WdownGradRefIdeal.Val.v6_at _ _ _ _ _), hu⟩
  · refine (θ_run Cert.WdownGradRefIdeal.defs _ _).mono (fun _ h c => ?_) (Cert.WdownGradRefIdeal.Value.run (F := Ideal) m' ρ')
    obtain ⟨h0, hu⟩ := h c
    obtain ⟨e0, e1⟩ := hargs c
    refine ⟨h0.trans ((Cert.WdownGradRefIdeal.Read.val_main_v6_eq _ _).trans ?_), hu⟩
    · rw [e0, e1]; rfl

/-! ## `down_bwd` -/

theorem down_bwd_reference_frame (m : (ℓ : Loc Cert.DownBwdRefIdeal.nD Cert.DownBwdRefIdeal.τ Cert.DownBwdRefIdeal.sig) → Buf (Elt Ideal) ℓ) (ρ : Dev Cert.DownBwdRefIdeal.nD → PrngReg) :
    θ_run (Cert.DownBwdRefIdeal.defs (F := Ideal)) (onTc (τ := Cert.DownBwdRefIdeal.τ) (Cert.DownBwdRefIdeal.main (F := Ideal))) ⟨m, fun _ => 0, ρ⟩
      (fun r => (∀ c : Dev Cert.DownBwdRefIdeal.nD,
        r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
        ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
        ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
        ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
        ∧ r.2.sem = fun _ => 0) :=
  (θ_run Cert.DownBwdRefIdeal.defs _ _).mono
    (fun r h => ⟨fun c => (h c).2.2, Idealize.ShloMosaic.sem_eq_zero_of_no_sems (by decide) r.2⟩)
    (Cert.DownBwdRefIdeal.Value.run (F := Ideal) m ρ)

section

open Cert.DownBwdRefIdeal.Read Cert.DownBwdIdeal.Val

variable (m : (ℓ : Loc Cert.DownBwdIdeal.nD Cert.DownBwdIdeal.τ Cert.DownBwdIdeal.sig) → Buf (Elt Ideal) ℓ) (c : Dev Cert.DownBwdIdeal.nD)

/-- The value both programs end with. -/
def down_bwd_out0 : FVec Ideal Cert.DownBwdIdeal.S8x4096x704 .bf16 := val_main_v12 (F := Ideal) (a0 m c) (a1 m c) (a2 m c) (a3 m c)
/-- The value both programs end with. -/
def down_bwd_out1 : FVec Ideal Cert.DownBwdIdeal.S8x4096x704 .bf16 := val_main_v13 (F := Ideal) (a0 m c) (a1 m c) (a2 m c)

end

theorem down_bwd_equal : Cert.algebraic_DownBwdIdeal_DownBwdRefIdeal_pre_finite_product
    (hDownBwdIdeal := Cert.DownBwdIdeal.Gen.facts) (hDownBwdRefIdeal := Cert.DownBwdRefIdeal.Gen.facts) (hPre_finite_product := Cert.Pre_finite_product.Gen.facts) := by
  intro m ρ m' ρ' hpre hargs
  refine ⟨down_bwd_out0 m, down_bwd_out1 m, ?_, ?_⟩
  · refine (θ_run Cert.DownBwdIdeal.defs _ _).mono (fun _ h c => ?_) (Cert.DownBwdIdeal.Value.run_blocks (F := Ideal) m ρ)
    obtain ⟨h0, h1, hu⟩ := h c
    obtain ⟨hx, hy, hb⟩ := Cert.DownBwdRefIdeal.Val.real_of_pre _ _ _ _ (hpre c)
    exact ⟨h0.trans (Cert.DownBwdIdeal.Val.final4 m c (down_bwd_out0 m c) fun _ _ _ => by unfold down_bwd_out0; exact Cert.DownBwdRefIdeal.Val.v12_at _ _ _ _ hx hy hb _ _ _),
      h1.trans (Cert.DownBwdIdeal.Val.final5 m c (down_bwd_out1 m c) fun _ _ _ => by unfold down_bwd_out1; exact Cert.DownBwdRefIdeal.Val.v13_at _ _ _ _ _ _), hu⟩
  · refine (θ_run Cert.DownBwdRefIdeal.defs _ _).mono (fun _ h c => ?_) (Cert.DownBwdRefIdeal.Value.run (F := Ideal) m' ρ')
    obtain ⟨h0, h1, hu⟩ := h c
    obtain ⟨e0, e1, e2, e3⟩ := hargs c
    refine ⟨h0.trans ((Cert.DownBwdRefIdeal.Read.val_main_v12_eq _ _ _ _).trans ?_), h1.trans ((Cert.DownBwdRefIdeal.Read.val_main_v13_eq _ _ _).trans ?_), hu⟩
    · rw [e0, e1, e2, e3]; rfl
    · rw [e0, e1, e2]; rfl

/-! ## `ffn_up` -/

theorem ffn_up_reference_frame (m : (ℓ : Loc Cert.FfnUpRefIdeal.nD Cert.FfnUpRefIdeal.τ Cert.FfnUpRefIdeal.sig) → Buf (Elt Ideal) ℓ) (ρ : Dev Cert.FfnUpRefIdeal.nD → PrngReg) :
    θ_run (Cert.FfnUpRefIdeal.defs (F := Ideal)) (onTc (τ := Cert.FfnUpRefIdeal.τ) (Cert.FfnUpRefIdeal.main (F := Ideal))) ⟨m, fun _ => 0, ρ⟩
      (fun r => (∀ c : Dev Cert.FfnUpRefIdeal.nD,
        r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
        ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
        ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
        ∧ r.2.sem = fun _ => 0) :=
  (θ_run Cert.FfnUpRefIdeal.defs _ _).mono
    (fun r h => ⟨fun c => (h c).2.2.2, Idealize.ShloMosaic.sem_eq_zero_of_no_sems (by decide) r.2⟩)
    (Cert.FfnUpRefIdeal.Value.run (F := Ideal) m ρ)

section

open Cert.FfnUpRefIdeal.Read Cert.FfnUpIdeal.Val

variable (m : (ℓ : Loc Cert.FfnUpIdeal.nD Cert.FfnUpIdeal.τ Cert.FfnUpIdeal.sig) → Buf (Elt Ideal) ℓ) (c : Dev Cert.FfnUpIdeal.nD)

/-- The value both programs end with. -/
def ffn_up_out0 : FVec Ideal Cert.FfnUpIdeal.S8x4096x704 .bf16 := val_main_v7 (F := Ideal) (a0 m c) (a1 m c)
/-- The value both programs end with. -/
def ffn_up_out1 : FVec Ideal Cert.FfnUpIdeal.S8x4096x704 .bf16 := val_main_v8 (F := Ideal) (a0 m c) (a2 m c)
/-- The value both programs end with. -/
def ffn_up_out2 : FVec Ideal Cert.FfnUpIdeal.S8x4096x704 .bf16 := val_main_v11 (F := Ideal) (a0 m c) (a1 m c) (a2 m c)

end

theorem ffn_up_equal : Cert.algebraic_FfnUpIdeal_FfnUpRefIdeal
    (hFfnUpIdeal := Cert.FfnUpIdeal.Gen.facts) (hFfnUpRefIdeal := Cert.FfnUpRefIdeal.Gen.facts) := by
  intro m ρ m' ρ' _ hargs
  refine ⟨ffn_up_out0 m, ffn_up_out1 m, ffn_up_out2 m, ?_, ?_⟩
  · refine (θ_run Cert.FfnUpIdeal.defs _ _).mono (fun _ h c => ?_) (Cert.FfnUpIdeal.Value.run_blocks (F := Ideal) m ρ)
    obtain ⟨h0, h1, h2, hu⟩ := h c
    exact ⟨h0.trans (Cert.FfnUpIdeal.Val.final3 m c (ffn_up_out0 m c) fun _ _ _ => by unfold ffn_up_out0; exact Cert.FfnUpRefIdeal.Val.v7_at _ _ _ _ _),
      h1.trans (Cert.FfnUpIdeal.Val.final4 m c (ffn_up_out1 m c) fun _ _ _ => by unfold ffn_up_out1; exact Cert.FfnUpRefIdeal.Val.v8_at _ _ _ _ _),
      h2.trans (Cert.FfnUpIdeal.Val.final5 m c (ffn_up_out2 m c) fun _ _ _ => by unfold ffn_up_out2; exact Cert.FfnUpRefIdeal.Val.v11_at _ _ _ _ _ _), hu⟩
  · refine (θ_run Cert.FfnUpRefIdeal.defs _ _).mono (fun _ h c => ?_) (Cert.FfnUpRefIdeal.Value.run (F := Ideal) m' ρ')
    obtain ⟨h0, h1, h2, hu⟩ := h c
    obtain ⟨e0, e1, e2⟩ := hargs c
    refine ⟨h0.trans ((Cert.FfnUpRefIdeal.Read.val_main_v7_eq _ _).trans ?_), h1.trans ((Cert.FfnUpRefIdeal.Read.val_main_v8_eq _ _).trans ?_), h2.trans ((Cert.FfnUpRefIdeal.Read.val_main_v11_eq _ _ _).trans ?_), hu⟩
    · rw [e0, e1]; rfl
    · rw [e0, e2]; rfl
    · rw [e0, e1, e2]; rfl

/-! ## `ffn_down` -/

theorem ffn_down_reference_frame (m : (ℓ : Loc Cert.FfnDownRefIdeal.nD Cert.FfnDownRefIdeal.τ Cert.FfnDownRefIdeal.sig) → Buf (Elt Ideal) ℓ) (ρ : Dev Cert.FfnDownRefIdeal.nD → PrngReg) :
    θ_run (Cert.FfnDownRefIdeal.defs (F := Ideal)) (onTc (τ := Cert.FfnDownRefIdeal.τ) (Cert.FfnDownRefIdeal.main (F := Ideal))) ⟨m, fun _ => 0, ρ⟩
      (fun r => (∀ c : Dev Cert.FfnDownRefIdeal.nD,
        r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
        ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
        ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
        ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
        ∧ r.2.sem = fun _ => 0) :=
  (θ_run Cert.FfnDownRefIdeal.defs _ _).mono
    (fun r h => ⟨fun c => (h c).2.2, Idealize.ShloMosaic.sem_eq_zero_of_no_sems (by decide) r.2⟩)
    (Cert.FfnDownRefIdeal.Value.run (F := Ideal) m ρ)

section

open Cert.FfnDownRefIdeal.Read Cert.FfnDownIdeal.Val

variable (m : (ℓ : Loc Cert.FfnDownIdeal.nD Cert.FfnDownIdeal.τ Cert.FfnDownIdeal.sig) → Buf (Elt Ideal) ℓ) (c : Dev Cert.FfnDownIdeal.nD)

/-- The value both programs end with. -/
def ffn_down_out0 : FVec Ideal Cert.FfnDownIdeal.S4096x2048 .bf16 := val_main_v3 (F := Ideal) (a0 m c) (a1 m c)
/-- The value both programs end with. -/
def ffn_down_out1 : FVec Ideal Cert.FfnDownIdeal.S4096x2048 .f32 := val_main_v6 (F := Ideal) (a0 m c) (a1 m c) (a2 m c) (a3 m c)

end

theorem ffn_down_equal : Cert.algebraic_FfnDownIdeal_FfnDownRefIdeal
    (hFfnDownIdeal := Cert.FfnDownIdeal.Gen.facts) (hFfnDownRefIdeal := Cert.FfnDownRefIdeal.Gen.facts) := by
  intro m ρ m' ρ' _ hargs
  refine ⟨ffn_down_out0 m, ffn_down_out1 m, ?_, ?_⟩
  · refine (θ_run Cert.FfnDownIdeal.defs _ _).mono (fun _ h c => ?_) (Cert.FfnDownIdeal.Value.run_blocks (F := Ideal) m ρ)
    obtain ⟨h0, h1, hu⟩ := h c
    exact ⟨h0.trans (Cert.FfnDownIdeal.Val.final6 m c (ffn_down_out0 m c) fun _ _ => by unfold ffn_down_out0; exact Cert.FfnDownRefIdeal.Val.v3_at _ _ _ _),
      h1.trans (Cert.FfnDownIdeal.Val.final7 m c (ffn_down_out1 m c) fun _ _ => by unfold ffn_down_out1; exact Cert.FfnDownRefIdeal.Val.v6_at _ _ _ _ _ _), hu⟩
  · refine (θ_run Cert.FfnDownRefIdeal.defs _ _).mono (fun _ h c => ?_) (Cert.FfnDownRefIdeal.Value.run (F := Ideal) m' ρ')
    obtain ⟨h0, h1, hu⟩ := h c
    obtain ⟨e0, e1, e2, e3⟩ := hargs c
    refine ⟨h0.trans ((Cert.FfnDownRefIdeal.Read.val_main_v3_eq _ _).trans ?_), h1.trans ((Cert.FfnDownRefIdeal.Read.val_main_v6_eq _ _ _ _).trans ?_), hu⟩
    · rw [e0, e1]; rfl
    · rw [e0, e1, e2, e3]; rfl

/-! ## `qkv` -/

theorem qkv_reference_frame (m : (ℓ : Loc Cert.QkvRefIdeal.nD Cert.QkvRefIdeal.τ Cert.QkvRefIdeal.sig) → Buf (Elt Ideal) ℓ) (ρ : Dev Cert.QkvRefIdeal.nD → PrngReg) :
    θ_run (Cert.QkvRefIdeal.defs (F := Ideal)) (onTc (τ := Cert.QkvRefIdeal.τ) (Cert.QkvRefIdeal.main (F := Ideal))) ⟨m, fun _ => 0, ρ⟩
      (fun r => (∀ c : Dev Cert.QkvRefIdeal.nD,
        r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
        ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
        ∧ r.2.sem = fun _ => 0) :=
  (θ_run Cert.QkvRefIdeal.defs _ _).mono
    (fun r h => ⟨fun c => (h c).2, Idealize.ShloMosaic.sem_eq_zero_of_no_sems (by decide) r.2⟩)
    (Cert.QkvRefIdeal.Value.run (F := Ideal) m ρ)

section

open Cert.QkvRefIdeal.Read Cert.QkvIdeal.Val

variable (m : (ℓ : Loc Cert.QkvIdeal.nD Cert.QkvIdeal.τ Cert.QkvIdeal.sig) → Buf (Elt Ideal) ℓ) (c : Dev Cert.QkvIdeal.nD)

/-- The value both programs end with. -/
def qkv_out0 : FVec Ideal Cert.QkvIdeal.S4096x6144 .bf16 := val_main_v5 (F := Ideal) (a0 m c) (a1 m c)

end

theorem qkv_equal : Cert.algebraic_QkvIdeal_QkvRefIdeal
    (hQkvIdeal := Cert.QkvIdeal.Gen.facts) (hQkvRefIdeal := Cert.QkvRefIdeal.Gen.facts) := by
  intro m ρ m' ρ' _ hargs
  refine ⟨qkv_out0 m, ?_, ?_⟩
  · refine (θ_run Cert.QkvIdeal.defs _ _).mono (fun _ h c => ?_) (Cert.QkvIdeal.Value.run_blocks (F := Ideal) m ρ)
    obtain ⟨h0, hu⟩ := h c
    exact ⟨h0.trans (Cert.QkvIdeal.Val.final2 m c (qkv_out0 m c) fun _ _ => by unfold qkv_out0; exact Cert.QkvRefIdeal.Val.v5_at _ _ _ _), hu⟩
  · refine (θ_run Cert.QkvRefIdeal.defs _ _).mono (fun _ h c => ?_) (Cert.QkvRefIdeal.Value.run (F := Ideal) m' ρ')
    obtain ⟨h0, hu⟩ := h c
    obtain ⟨e0, e1⟩ := hargs c
    refine ⟨h0.trans ((Cert.QkvRefIdeal.Read.val_main_v5_eq _ _).trans ?_), hu⟩
    · rw [e0, e1]; rfl

/-! ## `out_proj` -/

theorem out_proj_reference_frame (m : (ℓ : Loc Cert.OutProjRefIdeal.nD Cert.OutProjRefIdeal.τ Cert.OutProjRefIdeal.sig) → Buf (Elt Ideal) ℓ) (ρ : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, ρ⟩
      (fun r => (∀ c : Dev Cert.OutProjRefIdeal.nD,
        r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
        ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
        ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
        ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
        ∧ r.2.sem = fun _ => 0) :=
  (θ_run Cert.OutProjRefIdeal.defs _ _).mono
    (fun r h => ⟨fun c => (h c).2.2, Idealize.ShloMosaic.sem_eq_zero_of_no_sems (by decide) r.2⟩)
    (Cert.OutProjRefIdeal.Value.run (F := Ideal) m ρ)

section

open Cert.OutProjRefIdeal.Read Cert.OutProjIdeal.Val

variable (m : (ℓ : Loc Cert.OutProjIdeal.nD Cert.OutProjIdeal.τ Cert.OutProjIdeal.sig) → Buf (Elt Ideal) ℓ) (c : Dev Cert.OutProjIdeal.nD)

/-- The value both programs end with. -/
def out_proj_out0 : FVec Ideal Cert.OutProjIdeal.S4096x2048 .bf16 := val_main_v3 (F := Ideal) (a0 m c) (a1 m c)
/-- The value both programs end with. -/
def out_proj_out1 : FVec Ideal Cert.OutProjIdeal.S4096x2048 .f32 := val_main_v6 (F := Ideal) (a0 m c) (a1 m c) (a2 m c) (a3 m c)

end

theorem out_proj_equal : Cert.algebraic_OutProjIdeal_OutProjRefIdeal
    (hOutProjIdeal := Cert.OutProjIdeal.Gen.facts) (hOutProjRefIdeal := Cert.OutProjRefIdeal.Gen.facts) := by
  intro m ρ m' ρ' _ hargs
  refine ⟨out_proj_out0 m, out_proj_out1 m, ?_, ?_⟩
  · refine (θ_run Cert.OutProjIdeal.defs _ _).mono (fun _ h c => ?_) (Cert.OutProjIdeal.Value.run_blocks (F := Ideal) m ρ)
    obtain ⟨h0, h1, hu⟩ := h c
    exact ⟨h0.trans (Cert.OutProjIdeal.Val.final4 m c (out_proj_out0 m c) fun _ _ => by unfold out_proj_out0; exact Cert.OutProjRefIdeal.Val.v3_at _ _ _ _),
      h1.trans (Cert.OutProjIdeal.Val.final5 m c (out_proj_out1 m c) fun _ _ => by unfold out_proj_out1; exact Cert.OutProjRefIdeal.Val.v6_at _ _ _ _ _ _), hu⟩
  · refine (θ_run Cert.OutProjRefIdeal.defs _ _).mono (fun _ h c => ?_) (Cert.OutProjRefIdeal.Value.run (F := Ideal) m' ρ')
    obtain ⟨h0, h1, hu⟩ := h c
    obtain ⟨e0, e1, e2, e3⟩ := hargs c
    refine ⟨h0.trans ((Cert.OutProjRefIdeal.Read.val_main_v3_eq _ _).trans ?_), h1.trans ((Cert.OutProjRefIdeal.Read.val_main_v6_eq _ _ _ _).trans ?_), hu⟩
    · rw [e0, e1]; rfl
    · rw [e0, e1, e2, e3]; rfl

/-! ## `wout_grad` -/

theorem wout_grad_reference_frame (m : (ℓ : Loc Cert.WoutGradRefIdeal.nD Cert.WoutGradRefIdeal.τ Cert.WoutGradRefIdeal.sig) → Buf (Elt Ideal) ℓ) (ρ : Dev Cert.WoutGradRefIdeal.nD → PrngReg) :
    θ_run (Cert.WoutGradRefIdeal.defs (F := Ideal)) (onTc (τ := Cert.WoutGradRefIdeal.τ) (Cert.WoutGradRefIdeal.main (F := Ideal))) ⟨m, fun _ => 0, ρ⟩
      (fun r => (∀ c : Dev Cert.WoutGradRefIdeal.nD,
        r.2.mem ((c.tc : Thread Cert.WoutGradRefIdeal.nD Cert.WoutGradRefIdeal.τ).loc Cert.WoutGradRefIdeal.main_arg0) = m ((c.tc : Thread Cert.WoutGradRefIdeal.nD Cert.WoutGradRefIdeal.τ).loc Cert.WoutGradRefIdeal.main_arg0)
        ∧ r.2.mem ((c.tc : Thread Cert.WoutGradRefIdeal.nD Cert.WoutGradRefIdeal.τ).loc Cert.WoutGradRefIdeal.main_arg1) = m ((c.tc : Thread Cert.WoutGradRefIdeal.nD Cert.WoutGradRefIdeal.τ).loc Cert.WoutGradRefIdeal.main_arg1))
        ∧ r.2.sem = fun _ => 0) :=
  (θ_run Cert.WoutGradRefIdeal.defs _ _).mono
    (fun r h => ⟨fun c => (h c).2, Idealize.ShloMosaic.sem_eq_zero_of_no_sems (by decide) r.2⟩)
    (Cert.WoutGradRefIdeal.Value.run (F := Ideal) m ρ)

section

open Cert.WoutGradRefIdeal.Read Cert.WoutGradIdeal.Val

variable (m : (ℓ : Loc Cert.WoutGradIdeal.nD Cert.WoutGradIdeal.τ Cert.WoutGradIdeal.sig) → Buf (Elt Ideal) ℓ) (c : Dev Cert.WoutGradIdeal.nD)

/-- The value both programs end with. -/
def wout_grad_out0 : FVec Ideal Cert.WoutGradIdeal.S2048x2048 .bf16 := val_main_v6 (F := Ideal) (a0 m c) (a1 m c)

end

theorem wout_grad_equal : Cert.algebraic_WoutGradIdeal_WoutGradRefIdeal
    (hWoutGradIdeal := Cert.WoutGradIdeal.Gen.facts) (hWoutGradRefIdeal := Cert.WoutGradRefIdeal.Gen.facts) := by
  intro m ρ m' ρ' _ hargs
  refine ⟨wout_grad_out0 m, ?_, ?_⟩
  · refine (θ_run Cert.WoutGradIdeal.defs _ _).mono (fun _ h c => ?_) (Cert.WoutGradIdeal.Value.run_blocks (F := Ideal) m ρ)
    obtain ⟨h0, hu⟩ := h c
    exact ⟨h0.trans (Cert.WoutGradIdeal.Val.final2 m c (wout_grad_out0 m c) fun _ _ => by unfold wout_grad_out0; exact Cert.WoutGradRefIdeal.Val.v6_at _ _ _ _), hu⟩
  · refine (θ_run Cert.WoutGradRefIdeal.defs _ _).mono (fun _ h c => ?_) (Cert.WoutGradRefIdeal.Value.run (F := Ideal) m' ρ')
    obtain ⟨h0, hu⟩ := h c
    obtain ⟨e0, e1⟩ := hargs c
    refine ⟨h0.trans ((Cert.WoutGradRefIdeal.Read.val_main_v6_eq _ _).trans ?_), hu⟩
    · rw [e0, e1]; rfl

/-! ## `wqkv_grad` -/

theorem wqkv_grad_reference_frame (m : (ℓ : Loc Cert.WqkvGradRefIdeal.nD Cert.WqkvGradRefIdeal.τ Cert.WqkvGradRefIdeal.sig) → Buf (Elt Ideal) ℓ) (ρ : Dev Cert.WqkvGradRefIdeal.nD → PrngReg) :
    θ_run (Cert.WqkvGradRefIdeal.defs (F := Ideal)) (onTc (τ := Cert.WqkvGradRefIdeal.τ) (Cert.WqkvGradRefIdeal.main (F := Ideal))) ⟨m, fun _ => 0, ρ⟩
      (fun r => (∀ c : Dev Cert.WqkvGradRefIdeal.nD,
        r.2.mem ((c.tc : Thread Cert.WqkvGradRefIdeal.nD Cert.WqkvGradRefIdeal.τ).loc Cert.WqkvGradRefIdeal.main_arg0) = m ((c.tc : Thread Cert.WqkvGradRefIdeal.nD Cert.WqkvGradRefIdeal.τ).loc Cert.WqkvGradRefIdeal.main_arg0)
        ∧ r.2.mem ((c.tc : Thread Cert.WqkvGradRefIdeal.nD Cert.WqkvGradRefIdeal.τ).loc Cert.WqkvGradRefIdeal.main_arg1) = m ((c.tc : Thread Cert.WqkvGradRefIdeal.nD Cert.WqkvGradRefIdeal.τ).loc Cert.WqkvGradRefIdeal.main_arg1)
        ∧ r.2.mem ((c.tc : Thread Cert.WqkvGradRefIdeal.nD Cert.WqkvGradRefIdeal.τ).loc Cert.WqkvGradRefIdeal.main_arg2) = m ((c.tc : Thread Cert.WqkvGradRefIdeal.nD Cert.WqkvGradRefIdeal.τ).loc Cert.WqkvGradRefIdeal.main_arg2)
        ∧ r.2.mem ((c.tc : Thread Cert.WqkvGradRefIdeal.nD Cert.WqkvGradRefIdeal.τ).loc Cert.WqkvGradRefIdeal.main_arg3) = m ((c.tc : Thread Cert.WqkvGradRefIdeal.nD Cert.WqkvGradRefIdeal.τ).loc Cert.WqkvGradRefIdeal.main_arg3))
        ∧ r.2.sem = fun _ => 0) :=
  (θ_run Cert.WqkvGradRefIdeal.defs _ _).mono
    (fun r h => ⟨fun c => (h c).2.2.2, Idealize.ShloMosaic.sem_eq_zero_of_no_sems (by decide) r.2⟩)
    (Cert.WqkvGradRefIdeal.Value.run (F := Ideal) m ρ)

section

open Cert.WqkvGradRefIdeal.Read Cert.WqkvGradIdeal.Val

variable (m : (ℓ : Loc Cert.WqkvGradIdeal.nD Cert.WqkvGradIdeal.τ Cert.WqkvGradIdeal.sig) → Buf (Elt Ideal) ℓ) (c : Dev Cert.WqkvGradIdeal.nD)

/-- The value both programs end with. -/
def wqkv_grad_out0 : FVec Ideal Cert.WqkvGradIdeal.S2048x2048 .bf16 := val_main_v20 (F := Ideal) (a0 m c) (a3 m c)
/-- The value both programs end with. -/
def wqkv_grad_out1 : FVec Ideal Cert.WqkvGradIdeal.S2048x2048 .bf16 := val_main_v21 (F := Ideal) (a1 m c) (a3 m c)
/-- The value both programs end with. -/
def wqkv_grad_out2 : FVec Ideal Cert.WqkvGradIdeal.S2048x2048 .bf16 := val_main_v22 (F := Ideal) (a2 m c) (a3 m c)

end

theorem wqkv_grad_equal : Cert.algebraic_WqkvGradIdeal_WqkvGradRefIdeal
    (hWqkvGradIdeal := Cert.WqkvGradIdeal.Gen.facts) (hWqkvGradRefIdeal := Cert.WqkvGradRefIdeal.Gen.facts) := by
  intro m ρ m' ρ' _ hargs
  refine ⟨wqkv_grad_out0 m, wqkv_grad_out1 m, wqkv_grad_out2 m, ?_, ?_⟩
  · refine (θ_run Cert.WqkvGradIdeal.defs _ _).mono (fun _ h c => ?_) (Cert.WqkvGradIdeal.Value.run_blocks (F := Ideal) m ρ)
    obtain ⟨h0, h1, h2, hu⟩ := h c
    exact ⟨h0.trans (Cert.WqkvGradIdeal.Val.final4 m c (wqkv_grad_out0 m c) fun _ _ => by unfold wqkv_grad_out0; exact Cert.WqkvGradRefIdeal.Val.v20_at _ _ _ _),
      h1.trans (Cert.WqkvGradIdeal.Val.final5 m c (wqkv_grad_out1 m c) fun _ _ => by unfold wqkv_grad_out1; exact Cert.WqkvGradRefIdeal.Val.v21_at _ _ _ _),
      h2.trans (Cert.WqkvGradIdeal.Val.final6 m c (wqkv_grad_out2 m c) fun _ _ => by unfold wqkv_grad_out2; exact Cert.WqkvGradRefIdeal.Val.v22_at _ _ _ _), hu⟩
  · refine (θ_run Cert.WqkvGradRefIdeal.defs _ _).mono (fun _ h c => ?_) (Cert.WqkvGradRefIdeal.Value.run (F := Ideal) m' ρ')
    obtain ⟨h0, h1, h2, hu⟩ := h c
    obtain ⟨e0, e1, e2, e3⟩ := hargs c
    refine ⟨h0.trans ((Cert.WqkvGradRefIdeal.Read.val_main_v20_eq _ _).trans ?_), h1.trans ((Cert.WqkvGradRefIdeal.Read.val_main_v21_eq _ _).trans ?_), h2.trans ((Cert.WqkvGradRefIdeal.Read.val_main_v22_eq _ _).trans ?_), hu⟩
    · rw [e0, e3]; rfl
    · rw [e1, e3]; rfl
    · rw [e2, e3]; rfl

/-! ## `qkv_bwd` -/

theorem qkv_bwd_reference_frame (m : (ℓ : Loc Cert.QkvBwdRefIdeal.nD Cert.QkvBwdRefIdeal.τ Cert.QkvBwdRefIdeal.sig) → Buf (Elt Ideal) ℓ) (ρ : Dev Cert.QkvBwdRefIdeal.nD → PrngReg) :
    θ_run (Cert.QkvBwdRefIdeal.defs (F := Ideal)) (onTc (τ := Cert.QkvBwdRefIdeal.τ) (Cert.QkvBwdRefIdeal.main (F := Ideal))) ⟨m, fun _ => 0, ρ⟩
      (fun r => (∀ c : Dev Cert.QkvBwdRefIdeal.nD,
        r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
        ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
        ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2)
        ∧ r.2.mem ((c.tc : Thread Cert.QkvBwdRefIdeal.nD Cert.QkvBwdRefIdeal.τ).loc Cert.QkvBwdRefIdeal.main_arg3) = m ((c.tc : Thread Cert.QkvBwdRefIdeal.nD Cert.QkvBwdRefIdeal.τ).loc Cert.QkvBwdRefIdeal.main_arg3)
        ∧ r.2.mem ((c.tc : Thread Cert.QkvBwdRefIdeal.nD Cert.QkvBwdRefIdeal.τ).loc Cert.QkvBwdRefIdeal.main_arg4) = m ((c.tc : Thread Cert.QkvBwdRefIdeal.nD Cert.QkvBwdRefIdeal.τ).loc Cert.QkvBwdRefIdeal.main_arg4)
        ∧ r.2.mem ((c.tc : Thread Cert.QkvBwdRefIdeal.nD Cert.QkvBwdRefIdeal.τ).loc Cert.QkvBwdRefIdeal.main_arg5) = m ((c.tc : Thread Cert.QkvBwdRefIdeal.nD Cert.QkvBwdRefIdeal.τ).loc Cert.QkvBwdRefIdeal.main_arg5))
        ∧ r.2.sem = fun _ => 0) :=
  (θ_run Cert.QkvBwdRefIdeal.defs _ _).mono
    (fun r h => ⟨fun c => (h c).2, Idealize.ShloMosaic.sem_eq_zero_of_no_sems (by decide) r.2⟩)
    (Cert.QkvBwdRefIdeal.Value.run (F := Ideal) m ρ)

section

open Cert.QkvBwdRefIdeal.Read Cert.QkvBwdIdeal.Val

variable (m : (ℓ : Loc Cert.QkvBwdIdeal.nD Cert.QkvBwdIdeal.τ Cert.QkvBwdIdeal.sig) → Buf (Elt Ideal) ℓ) (c : Dev Cert.QkvBwdIdeal.nD)

/-- The value both programs end with. -/
def qkv_bwd_out0 : FVec Ideal Cert.QkvBwdIdeal.S4096x2048 .f32 := val_main_v26 (F := Ideal) (a0 m c) (a1 m c) (a2 m c) (a3 m c) (a4 m c) (a5 m c)

end

theorem qkv_bwd_equal : Cert.algebraic_QkvBwdIdeal_QkvBwdRefIdeal
    (hQkvBwdIdeal := Cert.QkvBwdIdeal.Gen.facts) (hQkvBwdRefIdeal := Cert.QkvBwdRefIdeal.Gen.facts) := by
  intro m ρ m' ρ' _ hargs
  refine ⟨qkv_bwd_out0 m, ?_, ?_⟩
  · refine (θ_run Cert.QkvBwdIdeal.defs _ _).mono (fun _ h c => ?_) (Cert.QkvBwdIdeal.Value.run_blocks (F := Ideal) m ρ)
    obtain ⟨h0, hu⟩ := h c
    exact ⟨h0.trans (Cert.QkvBwdIdeal.Val.final8 m c (qkv_bwd_out0 m c) fun _ _ => by unfold qkv_bwd_out0; exact Cert.QkvBwdRefIdeal.Val.v26_at _ _ _ _ _ _ _ _), hu⟩
  · refine (θ_run Cert.QkvBwdRefIdeal.defs _ _).mono (fun _ h c => ?_) (Cert.QkvBwdRefIdeal.Value.run (F := Ideal) m' ρ')
    obtain ⟨h0, hu⟩ := h c
    obtain ⟨e0, e1, e2, e3, e4, e5⟩ := hargs c
    refine ⟨h0.trans ((Cert.QkvBwdRefIdeal.Read.val_main_v26_eq _ _ _ _ _ _).trans ?_), hu⟩
    · rw [e0, e1, e2, e3, e4, e5]; rfl

/-! ## `sgu_in` -/

theorem sgu_in_reference_frame (m : (ℓ : Loc Cert.SguInRefIdeal.nD Cert.SguInRefIdeal.τ Cert.SguInRefIdeal.sig) → Buf (Elt Ideal) ℓ) (ρ : Dev Cert.SguInRefIdeal.nD → PrngReg) :
    θ_run (Cert.SguInRefIdeal.defs (F := Ideal)) (onTc (τ := Cert.SguInRefIdeal.τ) (Cert.SguInRefIdeal.main (F := Ideal))) ⟨m, fun _ => 0, ρ⟩
      (fun r => (∀ c : Dev Cert.SguInRefIdeal.nD,
        r.2.mem ((c.tc : Thread Cert.SguInRefIdeal.nD Cert.SguInRefIdeal.τ).loc Cert.SguInRefIdeal.main_arg0) = m ((c.tc : Thread Cert.SguInRefIdeal.nD Cert.SguInRefIdeal.τ).loc Cert.SguInRefIdeal.main_arg0)
        ∧ r.2.mem ((c.tc : Thread Cert.SguInRefIdeal.nD Cert.SguInRefIdeal.τ).loc Cert.SguInRefIdeal.main_arg1) = m ((c.tc : Thread Cert.SguInRefIdeal.nD Cert.SguInRefIdeal.τ).loc Cert.SguInRefIdeal.main_arg1)
        ∧ r.2.mem ((c.tc : Thread Cert.SguInRefIdeal.nD Cert.SguInRefIdeal.τ).loc Cert.SguInRefIdeal.main_arg2) = m ((c.tc : Thread Cert.SguInRefIdeal.nD Cert.SguInRefIdeal.τ).loc Cert.SguInRefIdeal.main_arg2))
        ∧ r.2.sem = fun _ => 0) :=
  (θ_run Cert.SguInRefIdeal.defs _ _).mono
    (fun r h => ⟨fun c => (h c).2, Idealize.ShloMosaic.sem_eq_zero_of_no_sems (by decide) r.2⟩)
    (Cert.SguInRefIdeal.Value.run (F := Ideal) m ρ)

section

open Cert.SguInRefIdeal.Read Cert.SguInIdeal.Val

variable (m : (ℓ : Loc Cert.SguInIdeal.nD Cert.SguInIdeal.τ Cert.SguInIdeal.sig) → Buf (Elt Ideal) ℓ) (c : Dev Cert.SguInIdeal.nD)

/-- The value both programs end with. -/
def sgu_in_out0 : FVec Ideal Cert.SguInIdeal.S4096x4096 .f32 := val_main_v4 (F := Ideal) (a0 m c) (a1 m c) (a2 m c)

end

theorem sgu_in_equal : Cert.algebraic_SguInIdeal_SguInRefIdeal
    (hSguInIdeal := Cert.SguInIdeal.Gen.facts) (hSguInRefIdeal := Cert.SguInRefIdeal.Gen.facts) := by
  intro m ρ m' ρ' _ hargs
  refine ⟨sgu_in_out0 m, ?_, ?_⟩
  · refine (θ_run Cert.SguInIdeal.defs _ _).mono (fun _ h c => ?_) (Cert.SguInIdeal.Value.run_blocks (F := Ideal) m ρ)
    obtain ⟨h0, hu⟩ := h c
    exact ⟨h0.trans (Cert.SguInIdeal.Val.final3 m c (sgu_in_out0 m c) fun _ _ => by unfold sgu_in_out0; exact Cert.SguInRefIdeal.Val.v4_at _ _ _ _ _), hu⟩
  · refine (θ_run Cert.SguInRefIdeal.defs _ _).mono (fun _ h c => ?_) (Cert.SguInRefIdeal.Value.run (F := Ideal) m' ρ')
    obtain ⟨h0, hu⟩ := h c
    obtain ⟨e0, e1, e2⟩ := hargs c
    refine ⟨h0.trans ((Cert.SguInRefIdeal.Read.val_main_v4_eq _ _ _).trans ?_), hu⟩
    · rw [e0, e1, e2]; rfl

/-! ## `sgu_in_bwd` -/

theorem sgu_in_bwd_reference_frame (m : (ℓ : Loc Cert.SguInBwdRefIdeal.nD Cert.SguInBwdRefIdeal.τ Cert.SguInBwdRefIdeal.sig) → Buf (Elt Ideal) ℓ) (ρ : Dev Cert.SguInBwdRefIdeal.nD → PrngReg) :
    θ_run (Cert.SguInBwdRefIdeal.defs (F := Ideal)) (onTc (τ := Cert.SguInBwdRefIdeal.τ) (Cert.SguInBwdRefIdeal.main (F := Ideal))) ⟨m, fun _ => 0, ρ⟩
      (fun r => (∀ c : Dev Cert.SguInBwdRefIdeal.nD,
        r.2.mem ((c.tc : Thread Cert.SguInBwdRefIdeal.nD Cert.SguInBwdRefIdeal.τ).loc Cert.SguInBwdRefIdeal.main_arg0) = m ((c.tc : Thread Cert.SguInBwdRefIdeal.nD Cert.SguInBwdRefIdeal.τ).loc Cert.SguInBwdRefIdeal.main_arg0)
        ∧ r.2.mem ((c.tc : Thread Cert.SguInBwdRefIdeal.nD Cert.SguInBwdRefIdeal.τ).loc Cert.SguInBwdRefIdeal.main_arg1) = m ((c.tc : Thread Cert.SguInBwdRefIdeal.nD Cert.SguInBwdRefIdeal.τ).loc Cert.SguInBwdRefIdeal.main_arg1))
        ∧ r.2.sem = fun _ => 0) :=
  (θ_run Cert.SguInBwdRefIdeal.defs _ _).mono
    (fun r h => ⟨fun c => (h c).2, Idealize.ShloMosaic.sem_eq_zero_of_no_sems (by decide) r.2⟩)
    (Cert.SguInBwdRefIdeal.Value.run (F := Ideal) m ρ)

section

open Cert.SguInBwdRefIdeal.Read Cert.SguInBwdIdeal.Val

variable (m : (ℓ : Loc Cert.SguInBwdIdeal.nD Cert.SguInBwdIdeal.τ Cert.SguInBwdIdeal.sig) → Buf (Elt Ideal) ℓ) (c : Dev Cert.SguInBwdIdeal.nD)

/-- The value both programs end with. -/
def sgu_in_bwd_out0 : FVec Ideal Cert.SguInBwdIdeal.S4096x2048 .f32 := val_main_v4 (F := Ideal) (a0 m c) (a1 m c)

end

theorem sgu_in_bwd_equal : Cert.algebraic_SguInBwdIdeal_SguInBwdRefIdeal
    (hSguInBwdIdeal := Cert.SguInBwdIdeal.Gen.facts) (hSguInBwdRefIdeal := Cert.SguInBwdRefIdeal.Gen.facts) := by
  intro m ρ m' ρ' _ hargs
  refine ⟨sgu_in_bwd_out0 m, ?_, ?_⟩
  · refine (θ_run Cert.SguInBwdIdeal.defs _ _).mono (fun _ h c => ?_) (Cert.SguInBwdIdeal.Value.run_blocks (F := Ideal) m ρ)
    obtain ⟨h0, hu⟩ := h c
    exact ⟨h0.trans (Cert.SguInBwdIdeal.Val.final2 m c (sgu_in_bwd_out0 m c) fun _ _ => by unfold sgu_in_bwd_out0; exact Cert.SguInBwdRefIdeal.Val.v4_at _ _ _ _), hu⟩
  · refine (θ_run Cert.SguInBwdRefIdeal.defs _ _).mono (fun _ h c => ?_) (Cert.SguInBwdRefIdeal.Value.run (F := Ideal) m' ρ')
    obtain ⟨h0, hu⟩ := h c
    obtain ⟨e0, e1⟩ := hargs c
    refine ⟨h0.trans ((Cert.SguInBwdRefIdeal.Read.val_main_v4_eq _ _).trans ?_), hu⟩
    · rw [e0, e1]; rfl

/-! ## `sgu_out_bwd` -/

theorem sgu_out_bwd_reference_frame (m : (ℓ : Loc Cert.SguOutBwdRefIdeal.nD Cert.SguOutBwdRefIdeal.τ Cert.SguOutBwdRefIdeal.sig) → Buf (Elt Ideal) ℓ) (ρ : Dev Cert.SguOutBwdRefIdeal.nD → PrngReg) :
    θ_run (Cert.SguOutBwdRefIdeal.defs (F := Ideal)) (onTc (τ := Cert.SguOutBwdRefIdeal.τ) (Cert.SguOutBwdRefIdeal.main (F := Ideal))) ⟨m, fun _ => 0, ρ⟩
      (fun r => (∀ c : Dev Cert.SguOutBwdRefIdeal.nD,
        r.2.mem ((c.tc : Thread Cert.SguOutBwdRefIdeal.nD Cert.SguOutBwdRefIdeal.τ).loc Cert.SguOutBwdRefIdeal.main_arg0) = m ((c.tc : Thread Cert.SguOutBwdRefIdeal.nD Cert.SguOutBwdRefIdeal.τ).loc Cert.SguOutBwdRefIdeal.main_arg0)
        ∧ r.2.mem ((c.tc : Thread Cert.SguOutBwdRefIdeal.nD Cert.SguOutBwdRefIdeal.τ).loc Cert.SguOutBwdRefIdeal.main_arg1) = m ((c.tc : Thread Cert.SguOutBwdRefIdeal.nD Cert.SguOutBwdRefIdeal.τ).loc Cert.SguOutBwdRefIdeal.main_arg1))
        ∧ r.2.sem = fun _ => 0) :=
  (θ_run Cert.SguOutBwdRefIdeal.defs _ _).mono
    (fun r h => ⟨fun c => (h c).2, Idealize.ShloMosaic.sem_eq_zero_of_no_sems (by decide) r.2⟩)
    (Cert.SguOutBwdRefIdeal.Value.run (F := Ideal) m ρ)

section

open Cert.SguOutBwdRefIdeal.Read Cert.SguOutBwdIdeal.Val

variable (m : (ℓ : Loc Cert.SguOutBwdIdeal.nD Cert.SguOutBwdIdeal.τ Cert.SguOutBwdIdeal.sig) → Buf (Elt Ideal) ℓ) (c : Dev Cert.SguOutBwdIdeal.nD)

/-- The value both programs end with. -/
def sgu_out_bwd_out0 : FVec Ideal Cert.SguOutBwdIdeal.S4096x2048 .f32 := val_main_v4 (F := Ideal) (a0 m c) (a1 m c)

end

theorem sgu_out_bwd_equal : Cert.algebraic_SguOutBwdIdeal_SguOutBwdRefIdeal
    (hSguOutBwdIdeal := Cert.SguOutBwdIdeal.Gen.facts) (hSguOutBwdRefIdeal := Cert.SguOutBwdRefIdeal.Gen.facts) := by
  intro m ρ m' ρ' _ hargs
  refine ⟨sgu_out_bwd_out0 m, ?_, ?_⟩
  · refine (θ_run Cert.SguOutBwdIdeal.defs _ _).mono (fun _ h c => ?_) (Cert.SguOutBwdIdeal.Value.run_blocks (F := Ideal) m ρ)
    obtain ⟨h0, hu⟩ := h c
    exact ⟨h0.trans (Cert.SguOutBwdIdeal.Val.final2 m c (sgu_out_bwd_out0 m c) fun _ _ => by unfold sgu_out_bwd_out0; exact Cert.SguOutBwdRefIdeal.Val.v4_at _ _ _ _), hu⟩
  · refine (θ_run Cert.SguOutBwdRefIdeal.defs _ _).mono (fun _ h c => ?_) (Cert.SguOutBwdRefIdeal.Value.run (F := Ideal) m' ρ')
    obtain ⟨h0, hu⟩ := h c
    obtain ⟨e0, e1⟩ := hargs c
    refine ⟨h0.trans ((Cert.SguOutBwdRefIdeal.Read.val_main_v4_eq _ _).trans ?_), hu⟩
    · rw [e0, e1]; rfl

theorem claim : Cert.Claim := ⟨Cert.Kernel.Gen.facts,
  Cert.KernelIdeal.Gen.facts,
  Cert.ReferenceIdeal.Gen.facts,
  Cert.WupGrad.Gen.facts,
  Cert.WupGradIdeal.Gen.facts,
  Cert.WupGradRefIdeal.Gen.facts,
  Cert.UpBwd.Gen.facts,
  Cert.UpBwdIdeal.Gen.facts,
  Cert.UpBwdRefIdeal.Gen.facts,
  Cert.WdownGrad.Gen.facts,
  Cert.WdownGradIdeal.Gen.facts,
  Cert.WdownGradRefIdeal.Gen.facts,
  Cert.DownBwd.Gen.facts,
  Cert.DownBwdIdeal.Gen.facts,
  Cert.DownBwdRefIdeal.Gen.facts,
  Cert.FfnUp.Gen.facts,
  Cert.FfnUpIdeal.Gen.facts,
  Cert.FfnUpRefIdeal.Gen.facts,
  Cert.FfnDown.Gen.facts,
  Cert.FfnDownIdeal.Gen.facts,
  Cert.FfnDownRefIdeal.Gen.facts,
  Cert.Qkv.Gen.facts,
  Cert.QkvIdeal.Gen.facts,
  Cert.QkvRefIdeal.Gen.facts,
  Cert.OutProj.Gen.facts,
  Cert.OutProjIdeal.Gen.facts,
  Cert.OutProjRefIdeal.Gen.facts,
  Cert.WoutGrad.Gen.facts,
  Cert.WoutGradIdeal.Gen.facts,
  Cert.WoutGradRefIdeal.Gen.facts,
  Cert.WqkvGrad.Gen.facts,
  Cert.WqkvGradIdeal.Gen.facts,
  Cert.WqkvGradRefIdeal.Gen.facts,
  Cert.QkvBwd.Gen.facts,
  Cert.QkvBwdIdeal.Gen.facts,
  Cert.QkvBwdRefIdeal.Gen.facts,
  Cert.SguIn.Gen.facts,
  Cert.SguInIdeal.Gen.facts,
  Cert.SguInRefIdeal.Gen.facts,
  Cert.SguInBwd.Gen.facts,
  Cert.SguInBwdIdeal.Gen.facts,
  Cert.SguInBwdRefIdeal.Gen.facts,
  Cert.SguOutBwd.Gen.facts,
  Cert.SguOutBwdIdeal.Gen.facts,
  Cert.SguOutBwdRefIdeal.Gen.facts,
  Cert.Pre_finite.Gen.facts,
  Cert.Pre_finite_product.Gen.facts,
  frame_Kernel,
  frame_KernelIdeal,
  frame_KernelIdeal_pre,
  fun m ρ _ => reference_frame m ρ,
  fun m ρ _ => reference_frame m ρ,
  fun m ρ _ => Cert.WupGrad.Gen.frame m ρ,
  fun m ρ _ => Cert.WupGradIdeal.Gen.frame m ρ,
  fun m ρ _ => wup_grad_reference_frame m ρ,
  fun m ρ _ => Cert.UpBwd.Gen.frame m ρ,
  fun m ρ _ => Cert.UpBwdIdeal.Gen.frame m ρ,
  fun m ρ _ => up_bwd_reference_frame m ρ,
  fun m ρ _ => Cert.WdownGrad.Gen.frame m ρ,
  fun m ρ _ => Cert.WdownGradIdeal.Gen.frame m ρ,
  fun m ρ _ => wdown_grad_reference_frame m ρ,
  fun m ρ _ => Cert.DownBwd.Gen.frame m ρ,
  fun m ρ _ => Cert.DownBwdIdeal.Gen.frame m ρ,
  fun m ρ _ => Cert.DownBwdIdeal.Gen.frame m ρ,
  fun m ρ _ => down_bwd_reference_frame m ρ,
  fun m ρ _ => down_bwd_reference_frame m ρ,
  fun m ρ _ => Cert.FfnUp.Gen.frame m ρ,
  fun m ρ _ => Cert.FfnUpIdeal.Gen.frame m ρ,
  fun m ρ _ => ffn_up_reference_frame m ρ,
  fun m ρ _ => Cert.FfnDown.Gen.frame m ρ,
  fun m ρ _ => Cert.FfnDownIdeal.Gen.frame m ρ,
  fun m ρ _ => ffn_down_reference_frame m ρ,
  fun m ρ _ => Cert.Qkv.Gen.frame m ρ,
  fun m ρ _ => Cert.QkvIdeal.Gen.frame m ρ,
  fun m ρ _ => qkv_reference_frame m ρ,
  fun m ρ _ => Cert.OutProj.Gen.frame m ρ,
  fun m ρ _ => Cert.OutProjIdeal.Gen.frame m ρ,
  fun m ρ _ => out_proj_reference_frame m ρ,
  fun m ρ _ => Cert.WoutGrad.Gen.frame m ρ,
  fun m ρ _ => Cert.WoutGradIdeal.Gen.frame m ρ,
  fun m ρ _ => wout_grad_reference_frame m ρ,
  fun m ρ _ => Cert.WqkvGrad.Gen.frame m ρ,
  fun m ρ _ => Cert.WqkvGradIdeal.Gen.frame m ρ,
  fun m ρ _ => wqkv_grad_reference_frame m ρ,
  fun m ρ _ => Cert.QkvBwd.Gen.frame m ρ,
  fun m ρ _ => Cert.QkvBwdIdeal.Gen.frame m ρ,
  fun m ρ _ => qkv_bwd_reference_frame m ρ,
  fun m ρ _ => Cert.SguIn.Gen.frame m ρ,
  fun m ρ _ => Cert.SguInIdeal.Gen.frame m ρ,
  fun m ρ _ => sgu_in_reference_frame m ρ,
  fun m ρ _ => Cert.SguInBwd.Gen.frame m ρ,
  fun m ρ _ => Cert.SguInBwdIdeal.Gen.frame m ρ,
  fun m ρ _ => sgu_in_bwd_reference_frame m ρ,
  fun m ρ _ => Cert.SguOutBwd.Gen.frame m ρ,
  fun m ρ _ => Cert.SguOutBwdIdeal.Gen.frame m ρ,
  fun m ρ _ => sgu_out_bwd_reference_frame m ρ,
  preserved,
  equal_values,
  trivial,
  wup_grad_equal,
  trivial,
  up_bwd_equal,
  trivial,
  wdown_grad_equal,
  trivial,
  down_bwd_equal,
  trivial,
  ffn_up_equal,
  trivial,
  ffn_down_equal,
  trivial,
  qkv_equal,
  trivial,
  out_proj_equal,
  trivial,
  wout_grad_equal,
  trivial,
  wqkv_grad_equal,
  trivial,
  qkv_bwd_equal,
  trivial,
  sgu_in_equal,
  trivial,
  sgu_in_bwd_equal,
  trivial,
  sgu_out_bwd_equal⟩

end Cert.Proof

end
